-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_FfnMidS (m : (ℓ : Loc Cert.FfnMidS.nD Cert.FfnMidS.τ Cert.FfnMidS.sig) → Buf (Elt Bits) ℓ) : Prop :=
  True

def Pre_FfnMidSIdeal (m : (ℓ : Loc Cert.FfnMidSIdeal.nD Cert.FfnMidSIdeal.τ Cert.FfnMidSIdeal.sig) → Buf (Elt Ideal) ℓ) : Prop :=
  True

def Pre_FfnMidSRefIdeal (m : (ℓ : Loc Cert.FfnMidSRefIdeal.nD Cert.FfnMidSRefIdeal.τ Cert.FfnMidSRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_OutprojS (m : (ℓ : Loc Cert.OutprojS.nD Cert.OutprojS.τ Cert.OutprojS.sig) → Buf (Elt Bits) ℓ) : Prop :=
  True

def Pre_OutprojSIdeal (m : (ℓ : Loc Cert.OutprojSIdeal.nD Cert.OutprojSIdeal.τ Cert.OutprojSIdeal.sig) → Buf (Elt Ideal) ℓ) : Prop :=
  True

def Pre_OutprojSRefIdeal (m : (ℓ : Loc Cert.OutprojSRefIdeal.nD Cert.OutprojSRefIdeal.τ Cert.OutprojSRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def Pre_GconvS (m : (ℓ : Loc Cert.GconvS.nD Cert.GconvS.τ Cert.GconvS.sig) → Buf (Elt Bits) ℓ) : Prop :=
  True

def Pre_GconvSIdeal (m : (ℓ : Loc Cert.GconvSIdeal.nD Cert.GconvSIdeal.τ Cert.GconvSIdeal.sig) → Buf (Elt Ideal) ℓ) : Prop :=
  True

def Pre_GconvSRefIdeal (m : (ℓ : Loc Cert.GconvSRefIdeal.nD Cert.GconvSRefIdeal.τ Cert.GconvSRefIdeal.sig) → Buf (Elt Ideal) ℓ) : Prop :=
  True

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSRefIdeal (m : (ℓ : Loc Cert.PoolSRefIdeal.nD Cert.PoolSRefIdeal.τ Cert.PoolSRefIdeal.sig) → Buf (Elt Ideal) ℓ) : Prop :=
  True

def Pre_Gconv (m : (ℓ : Loc Cert.Gconv.nD Cert.Gconv.τ Cert.Gconv.sig) → Buf (Elt Bits) ℓ) : Prop :=
  True

def Pre_GconvIdeal (m : (ℓ : Loc Cert.GconvIdeal.nD Cert.GconvIdeal.τ Cert.GconvIdeal.sig) → Buf (Elt Ideal) ℓ) : Prop :=
  True

def Pre_GconvRefIdeal (m : (ℓ : Loc Cert.GconvRefIdeal.nD Cert.GconvRefIdeal.τ Cert.GconvRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_norm_finite [hPre_norm_finite : Cert.Pre_norm_finite.Facts] (m : (ℓ : Loc Cert.PoolIdeal.nD Cert.PoolIdeal.τ Cert.PoolIdeal.sig) → Buf (Elt Ideal) ℓ) : Prop :=
  ∀ c : Dev Cert.PoolIdeal.nD,
    (Cert.Pre_norm_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_norm_finite [hPre_norm_finite : Cert.Pre_norm_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_norm_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_FfnMidS [hFfnMidS : Cert.FfnMidS.Facts] : Prop :=
  ∀ (m : (ℓ : Loc Cert.FfnMidS.nD Cert.FfnMidS.τ Cert.FfnMidS.sig) → Buf (Elt Bits) ℓ) (g : Dev Cert.FfnMidS.nD → PrngReg), Pre_FfnMidS m →
    θ_run (Cert.FfnMidS.defs (F := Bits)) (onTc (τ := Cert.FfnMidS.τ) (Cert.FfnMidS.main (F := Bits))) ⟨m, fun _ => 0, g⟩ (fun r => (∀ c : Dev Cert.FfnMidS.nD,
      r.2.mem ((c.tc : Thread Cert.FfnMidS.nD Cert.FfnMidS.τ).loc Cert.FfnMidS.main_arg0) = m ((c.tc : Thread Cert.FfnMidS.nD Cert.FfnMidS.τ).loc Cert.FfnMidS.main_arg0)
      ∧ r.2.mem ((c.tc : Thread Cert.FfnMidS.nD Cert.FfnMidS.τ).loc Cert.FfnMidS.main_arg1) = m ((c.tc : Thread Cert.FfnMidS.nD Cert.FfnMidS.τ).loc Cert.FfnMidS.main_arg1)
      ∧ r.2.mem ((c.tc : Thread Cert.FfnMidS.nD Cert.FfnMidS.τ).loc Cert.FfnMidS.main_arg2) = m ((c.tc : Thread Cert.FfnMidS.nD Cert.FfnMidS.τ).loc Cert.FfnMidS.main_arg2)
      ∧ r.2.mem ((c.tc : Thread Cert.FfnMidS.nD Cert.FfnMidS.τ).loc Cert.FfnMidS.main_arg3) = m ((c.tc : Thread Cert.FfnMidS.nD Cert.FfnMidS.τ).loc Cert.FfnMidS.main_arg3)
      ∧ r.2.mem ((c.tc : Thread Cert.FfnMidS.nD Cert.FfnMidS.τ).loc Cert.FfnMidS.main_arg4) = m ((c.tc : Thread Cert.FfnMidS.nD Cert.FfnMidS.τ).loc Cert.FfnMidS.main_arg4)
      ∧ r.2.mem ((c.tc : Thread Cert.FfnMidS.nD Cert.FfnMidS.τ).loc Cert.FfnMidS.main_arg5) = m ((c.tc : Thread Cert.FfnMidS.nD Cert.FfnMidS.τ).loc Cert.FfnMidS.main_arg5))
      ∧ r.2.sem = fun _ => 0)

def quiescent_FfnMidSIdeal [hFfnMidSIdeal : Cert.FfnMidSIdeal.Facts] : Prop :=
  ∀ (m : (ℓ : Loc Cert.FfnMidSIdeal.nD Cert.FfnMidSIdeal.τ Cert.FfnMidSIdeal.sig) → Buf (Elt Ideal) ℓ) (g : Dev Cert.FfnMidSIdeal.nD → PrngReg), Pre_FfnMidSIdeal m →
    θ_run (Cert.FfnMidSIdeal.defs (F := Ideal)) (onTc (τ := Cert.FfnMidSIdeal.τ) (Cert.FfnMidSIdeal.main (F := Ideal))) ⟨m, fun _ => 0, g⟩ (fun r => (∀ c : Dev Cert.FfnMidSIdeal.nD,
      r.2.mem ((c.tc : Thread Cert.FfnMidSIdeal.nD Cert.FfnMidSIdeal.τ).loc Cert.FfnMidSIdeal.main_arg0) = m ((c.tc : Thread Cert.FfnMidSIdeal.nD Cert.FfnMidSIdeal.τ).loc Cert.FfnMidSIdeal.main_arg0)
      ∧ r.2.mem ((c.tc : Thread Cert.FfnMidSIdeal.nD Cert.FfnMidSIdeal.τ).loc Cert.FfnMidSIdeal.main_arg1) = m ((c.tc : Thread Cert.FfnMidSIdeal.nD Cert.FfnMidSIdeal.τ).loc Cert.FfnMidSIdeal.main_arg1)
      ∧ r.2.mem ((c.tc : Thread Cert.FfnMidSIdeal.nD Cert.FfnMidSIdeal.τ).loc Cert.FfnMidSIdeal.main_arg2) = m ((c.tc : Thread Cert.FfnMidSIdeal.nD Cert.FfnMidSIdeal.τ).loc Cert.FfnMidSIdeal.main_arg2)
      ∧ r.2.mem ((c.tc : Thread Cert.FfnMidSIdeal.nD Cert.FfnMidSIdeal.τ).loc Cert.FfnMidSIdeal.main_arg3) = m ((c.tc : Thread Cert.FfnMidSIdeal.nD Cert.FfnMidSIdeal.τ).loc Cert.FfnMidSIdeal.main_arg3)
      ∧ r.2.mem ((c.tc : Thread Cert.FfnMidSIdeal.nD Cert.FfnMidSIdeal.τ).loc Cert.FfnMidSIdeal.main_arg4) = m ((c.tc : Thread Cert.FfnMidSIdeal.nD Cert.FfnMidSIdeal.τ).loc Cert.FfnMidSIdeal.main_arg4)
      ∧ r.2.mem ((c.tc : Thread Cert.FfnMidSIdeal.nD Cert.FfnMidSIdeal.τ).loc Cert.FfnMidSIdeal.main_arg5) = m ((c.tc : Thread Cert.FfnMidSIdeal.nD Cert.FfnMidSIdeal.τ).loc Cert.FfnMidSIdeal.main_arg5))
      ∧ r.2.sem = fun _ => 0)

def quiescent_FfnMidSRefIdeal [hFfnMidSRefIdeal : Cert.FfnMidSRefIdeal.Facts] : Prop :=
  ∀ (m : (ℓ : Loc Cert.FfnMidSRefIdeal.nD Cert.FfnMidSRefIdeal.τ Cert.FfnMidSRefIdeal.sig) → Buf (Elt Ideal) ℓ) (g : Dev Cert.FfnMidSRefIdeal.nD → PrngReg), Pre_FfnMidSRefIdeal m →
    θ_run (Cert.FfnMidSRefIdeal.defs (F := Ideal)) (onTc (τ := Cert.FfnMidSRefIdeal.τ) (Cert.FfnMidSRefIdeal.main (F := Ideal))) ⟨m, fun _ => 0, g⟩ (fun r => (∀ c : Dev Cert.FfnMidSRefIdeal.nD,
      r.2.mem ((c.tc : Thread Cert.FfnMidSRefIdeal.nD Cert.FfnMidSRefIdeal.τ).loc Cert.FfnMidSRefIdeal.main_arg0) = m ((c.tc : Thread Cert.FfnMidSRefIdeal.nD Cert.FfnMidSRefIdeal.τ).loc Cert.FfnMidSRefIdeal.main_arg0)
      ∧ r.2.mem ((c.tc : Thread Cert.FfnMidSRefIdeal.nD Cert.FfnMidSRefIdeal.τ).loc Cert.FfnMidSRefIdeal.main_arg1) = m ((c.tc : Thread Cert.FfnMidSRefIdeal.nD Cert.FfnMidSRefIdeal.τ).loc Cert.FfnMidSRefIdeal.main_arg1)
      ∧ r.2.mem ((c.tc : Thread Cert.FfnMidSRefIdeal.nD Cert.FfnMidSRefIdeal.τ).loc Cert.FfnMidSRefIdeal.main_arg2) = m ((c.tc : Thread Cert.FfnMidSRefIdeal.nD Cert.FfnMidSRefIdeal.τ).loc Cert.FfnMidSRefIdeal.main_arg2)
      ∧ r.2.mem ((c.tc : Thread Cert.FfnMidSRefIdeal.nD Cert.FfnMidSRefIdeal.τ).loc Cert.FfnMidSRefIdeal.main_arg3) = m ((c.tc : Thread Cert.FfnMidSRefIdeal.nD Cert.FfnMidSRefIdeal.τ).loc Cert.FfnMidSRefIdeal.main_arg3)
      ∧ r.2.mem ((c.tc : Thread Cert.FfnMidSRefIdeal.nD Cert.FfnMidSRefIdeal.τ).loc Cert.FfnMidSRefIdeal.main_arg4) = m ((c.tc : Thread Cert.FfnMidSRefIdeal.nD Cert.FfnMidSRefIdeal.τ).loc Cert.FfnMidSRefIdeal.main_arg4)
      ∧ r.2.mem ((c.tc : Thread Cert.FfnMidSRefIdeal.nD Cert.FfnMidSRefIdeal.τ).loc Cert.FfnMidSRefIdeal.main_arg5) = m ((c.tc : Thread Cert.FfnMidSRefIdeal.nD Cert.FfnMidSRefIdeal.τ).loc Cert.FfnMidSRefIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_OutprojS [hOutprojS : Cert.OutprojS.Facts] : Prop :=
  ∀ (m : (ℓ : Loc Cert.OutprojS.nD Cert.OutprojS.τ Cert.OutprojS.sig) → Buf (Elt Bits) ℓ) (g : Dev Cert.OutprojS.nD → PrngReg), Pre_OutprojS m →
    θ_run (Cert.OutprojS.defs (F := Bits)) (onTc (τ := Cert.OutprojS.τ) (Cert.OutprojS.main (F := Bits))) ⟨m, fun _ => 0, g⟩ (fun r => (∀ c : Dev Cert.OutprojS.nD,
      r.2.mem ((c.tc : Thread Cert.OutprojS.nD Cert.OutprojS.τ).loc Cert.OutprojS.main_arg0) = m ((c.tc : Thread Cert.OutprojS.nD Cert.OutprojS.τ).loc Cert.OutprojS.main_arg0)
      ∧ r.2.mem ((c.tc : Thread Cert.OutprojS.nD Cert.OutprojS.τ).loc Cert.OutprojS.main_arg1) = m ((c.tc : Thread Cert.OutprojS.nD Cert.OutprojS.τ).loc Cert.OutprojS.main_arg1)
      ∧ r.2.mem ((c.tc : Thread Cert.OutprojS.nD Cert.OutprojS.τ).loc Cert.OutprojS.main_arg2) = m ((c.tc : Thread Cert.OutprojS.nD Cert.OutprojS.τ).loc Cert.OutprojS.main_arg2)
      ∧ r.2.mem ((c.tc : Thread Cert.OutprojS.nD Cert.OutprojS.τ).loc Cert.OutprojS.main_arg3) = m ((c.tc : Thread Cert.OutprojS.nD Cert.OutprojS.τ).loc Cert.OutprojS.main_arg3))
      ∧ r.2.sem = fun _ => 0)

def quiescent_OutprojSIdeal [hOutprojSIdeal : Cert.OutprojSIdeal.Facts] : Prop :=
  ∀ (m : (ℓ : Loc Cert.OutprojSIdeal.nD Cert.OutprojSIdeal.τ Cert.OutprojSIdeal.sig) → Buf (Elt Ideal) ℓ) (g : Dev Cert.OutprojSIdeal.nD → PrngReg), Pre_OutprojSIdeal m →
    θ_run (Cert.OutprojSIdeal.defs (F := Ideal)) (onTc (τ := Cert.OutprojSIdeal.τ) (Cert.OutprojSIdeal.main (F := Ideal))) ⟨m, fun _ => 0, g⟩ (fun r => (∀ c : Dev Cert.OutprojSIdeal.nD,
      r.2.mem ((c.tc : Thread Cert.OutprojSIdeal.nD Cert.OutprojSIdeal.τ).loc Cert.OutprojSIdeal.main_arg0) = m ((c.tc : Thread Cert.OutprojSIdeal.nD Cert.OutprojSIdeal.τ).loc Cert.OutprojSIdeal.main_arg0)
      ∧ r.2.mem ((c.tc : Thread Cert.OutprojSIdeal.nD Cert.OutprojSIdeal.τ).loc Cert.OutprojSIdeal.main_arg1) = m ((c.tc : Thread Cert.OutprojSIdeal.nD Cert.OutprojSIdeal.τ).loc Cert.OutprojSIdeal.main_arg1)
      ∧ r.2.mem ((c.tc : Thread Cert.OutprojSIdeal.nD Cert.OutprojSIdeal.τ).loc Cert.OutprojSIdeal.main_arg2) = m ((c.tc : Thread Cert.OutprojSIdeal.nD Cert.OutprojSIdeal.τ).loc Cert.OutprojSIdeal.main_arg2)
      ∧ r.2.mem ((c.tc : Thread Cert.OutprojSIdeal.nD Cert.OutprojSIdeal.τ).loc Cert.OutprojSIdeal.main_arg3) = m ((c.tc : Thread Cert.OutprojSIdeal.nD Cert.OutprojSIdeal.τ).loc Cert.OutprojSIdeal.main_arg3))
      ∧ r.2.sem = fun _ => 0)

def quiescent_OutprojSRefIdeal [hOutprojSRefIdeal : Cert.OutprojSRefIdeal.Facts] : Prop :=
  ∀ (m : (ℓ : Loc Cert.OutprojSRefIdeal.nD Cert.OutprojSRefIdeal.τ Cert.OutprojSRefIdeal.sig) → Buf (Elt Ideal) ℓ) (g : Dev Cert.OutprojSRefIdeal.nD → PrngReg), Pre_OutprojSRefIdeal m →
    θ_run (Cert.OutprojSRefIdeal.defs (F := Ideal)) (onTc (τ := Cert.OutprojSRefIdeal.τ) (Cert.OutprojSRefIdeal.main (F := Ideal))) ⟨m, fun _ => 0, g⟩ (fun r => (∀ c : Dev Cert.OutprojSRefIdeal.nD,
      r.2.mem ((c.tc : Thread Cert.OutprojSRefIdeal.nD Cert.OutprojSRefIdeal.τ).loc Cert.OutprojSRefIdeal.main_arg0) = m ((c.tc : Thread Cert.OutprojSRefIdeal.nD Cert.OutprojSRefIdeal.τ).loc Cert.OutprojSRefIdeal.main_arg0)
      ∧ r.2.mem ((c.tc : Thread Cert.OutprojSRefIdeal.nD Cert.OutprojSRefIdeal.τ).loc Cert.OutprojSRefIdeal.main_arg1) = m ((c.tc : Thread Cert.OutprojSRefIdeal.nD Cert.OutprojSRefIdeal.τ).loc Cert.OutprojSRefIdeal.main_arg1)
      ∧ r.2.mem ((c.tc : Thread Cert.OutprojSRefIdeal.nD Cert.OutprojSRefIdeal.τ).loc Cert.OutprojSRefIdeal.main_arg2) = m ((c.tc : Thread Cert.OutprojSRefIdeal.nD Cert.OutprojSRefIdeal.τ).loc Cert.OutprojSRefIdeal.main_arg2)
      ∧ r.2.mem ((c.tc : Thread Cert.OutprojSRefIdeal.nD Cert.OutprojSRefIdeal.τ).loc Cert.OutprojSRefIdeal.main_arg3) = m ((c.tc : Thread Cert.OutprojSRefIdeal.nD Cert.OutprojSRefIdeal.τ).loc Cert.OutprojSRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2))
      ∧ r.2.sem = fun _ => 0)

def quiescent_GconvS [hGconvS : Cert.GconvS.Facts] : Prop :=
  ∀ (m : (ℓ : Loc Cert.GconvS.nD Cert.GconvS.τ Cert.GconvS.sig) → Buf (Elt Bits) ℓ) (g : Dev Cert.GconvS.nD → PrngReg), Pre_GconvS m →
    θ_run (Cert.GconvS.defs (F := Bits)) (onTc (τ := Cert.GconvS.τ) (Cert.GconvS.main (F := Bits))) ⟨m, fun _ => 0, g⟩ (fun r => (∀ c : Dev Cert.GconvS.nD,
      r.2.mem ((c.tc : Thread Cert.GconvS.nD Cert.GconvS.τ).loc Cert.GconvS.main_arg0) = m ((c.tc : Thread Cert.GconvS.nD Cert.GconvS.τ).loc Cert.GconvS.main_arg0)
      ∧ r.2.mem ((c.tc : Thread Cert.GconvS.nD Cert.GconvS.τ).loc Cert.GconvS.main_arg1) = m ((c.tc : Thread Cert.GconvS.nD Cert.GconvS.τ).loc Cert.GconvS.main_arg1)
      ∧ r.2.mem ((c.tc : Thread Cert.GconvS.nD Cert.GconvS.τ).loc Cert.GconvS.main_arg2) = m ((c.tc : Thread Cert.GconvS.nD Cert.GconvS.τ).loc Cert.GconvS.main_arg2)
      ∧ r.2.mem ((c.tc : Thread Cert.GconvS.nD Cert.GconvS.τ).loc Cert.GconvS.main_arg3) = m ((c.tc : Thread Cert.GconvS.nD Cert.GconvS.τ).loc Cert.GconvS.main_arg3)
      ∧ r.2.mem ((c.tc : Thread Cert.GconvS.nD Cert.GconvS.τ).loc Cert.GconvS.main_arg4) = m ((c.tc : Thread Cert.GconvS.nD Cert.GconvS.τ).loc Cert.GconvS.main_arg4))
      ∧ r.2.sem = fun _ => 0)

def quiescent_GconvSIdeal [hGconvSIdeal : Cert.GconvSIdeal.Facts] : Prop :=
  ∀ (m : (ℓ : Loc Cert.GconvSIdeal.nD Cert.GconvSIdeal.τ Cert.GconvSIdeal.sig) → Buf (Elt Ideal) ℓ) (g : Dev Cert.GconvSIdeal.nD → PrngReg), Pre_GconvSIdeal m →
    θ_run (Cert.GconvSIdeal.defs (F := Ideal)) (onTc (τ := Cert.GconvSIdeal.τ) (Cert.GconvSIdeal.main (F := Ideal))) ⟨m, fun _ => 0, g⟩ (fun r => (∀ c : Dev Cert.GconvSIdeal.nD,
      r.2.mem ((c.tc : Thread Cert.GconvSIdeal.nD Cert.GconvSIdeal.τ).loc Cert.GconvSIdeal.main_arg0) = m ((c.tc : Thread Cert.GconvSIdeal.nD Cert.GconvSIdeal.τ).loc Cert.GconvSIdeal.main_arg0)
      ∧ r.2.mem ((c.tc : Thread Cert.GconvSIdeal.nD Cert.GconvSIdeal.τ).loc Cert.GconvSIdeal.main_arg1) = m ((c.tc : Thread Cert.GconvSIdeal.nD Cert.GconvSIdeal.τ).loc Cert.GconvSIdeal.main_arg1)
      ∧ r.2.mem ((c.tc : Thread Cert.GconvSIdeal.nD Cert.GconvSIdeal.τ).loc Cert.GconvSIdeal.main_arg2) = m ((c.tc : Thread Cert.GconvSIdeal.nD Cert.GconvSIdeal.τ).loc Cert.GconvSIdeal.main_arg2)
      ∧ r.2.mem ((c.tc : Thread Cert.GconvSIdeal.nD Cert.GconvSIdeal.τ).loc Cert.GconvSIdeal.main_arg3) = m ((c.tc : Thread Cert.GconvSIdeal.nD Cert.GconvSIdeal.τ).loc Cert.GconvSIdeal.main_arg3)
      ∧ r.2.mem ((c.tc : Thread Cert.GconvSIdeal.nD Cert.GconvSIdeal.τ).loc Cert.GconvSIdeal.main_arg4) = m ((c.tc : Thread Cert.GconvSIdeal.nD Cert.GconvSIdeal.τ).loc Cert.GconvSIdeal.main_arg4))
      ∧ r.2.sem = fun _ => 0)

def quiescent_GconvSRefIdeal [hGconvSRefIdeal : Cert.GconvSRefIdeal.Facts] : Prop :=
  ∀ (m : (ℓ : Loc Cert.GconvSRefIdeal.nD Cert.GconvSRefIdeal.τ Cert.GconvSRefIdeal.sig) → Buf (Elt Ideal) ℓ) (g : Dev Cert.GconvSRefIdeal.nD → PrngReg), Pre_GconvSRefIdeal m →
    θ_run (Cert.GconvSRefIdeal.defs (F := Ideal)) (onTc (τ := Cert.GconvSRefIdeal.τ) (Cert.GconvSRefIdeal.main (F := Ideal))) ⟨m, fun _ => 0, g⟩ (fun r => (∀ c : Dev Cert.GconvSRefIdeal.nD,
      r.2.mem ((c.tc : Thread Cert.GconvSRefIdeal.nD Cert.GconvSRefIdeal.τ).loc Cert.GconvSRefIdeal.main_arg0) = m ((c.tc : Thread Cert.GconvSRefIdeal.nD Cert.GconvSRefIdeal.τ).loc Cert.GconvSRefIdeal.main_arg0)
      ∧ r.2.mem ((c.tc : Thread Cert.GconvSRefIdeal.nD Cert.GconvSRefIdeal.τ).loc Cert.GconvSRefIdeal.main_arg1) = m ((c.tc : Thread Cert.GconvSRefIdeal.nD Cert.GconvSRefIdeal.τ).loc Cert.GconvSRefIdeal.main_arg1)
      ∧ r.2.mem ((c.tc : Thread Cert.GconvSRefIdeal.nD Cert.GconvSRefIdeal.τ).loc Cert.GconvSRefIdeal.main_arg2) = m ((c.tc : Thread Cert.GconvSRefIdeal.nD Cert.GconvSRefIdeal.τ).loc Cert.GconvSRefIdeal.main_arg2)
      ∧ r.2.mem ((c.tc : Thread Cert.GconvSRefIdeal.nD Cert.GconvSRefIdeal.τ).loc Cert.GconvSRefIdeal.main_arg3) = m ((c.tc : Thread Cert.GconvSRefIdeal.nD Cert.GconvSRefIdeal.τ).loc Cert.GconvSRefIdeal.main_arg3)
      ∧ r.2.mem ((c.tc : Thread Cert.GconvSRefIdeal.nD Cert.GconvSRefIdeal.τ).loc Cert.GconvSRefIdeal.main_arg4) = m ((c.tc : Thread Cert.GconvSRefIdeal.nD Cert.GconvSRefIdeal.τ).loc Cert.GconvSRefIdeal.main_arg4))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2)
      ∧ r.2.mem ((c.tc : Thread Cert.PoolS.nD Cert.PoolS.τ).loc Cert.PoolS.main_arg3) = m ((c.tc : Thread Cert.PoolS.nD Cert.PoolS.τ).loc Cert.PoolS.main_arg3)
      ∧ r.2.mem ((c.tc : Thread Cert.PoolS.nD Cert.PoolS.τ).loc Cert.PoolS.main_arg4) = m ((c.tc : Thread Cert.PoolS.nD Cert.PoolS.τ).loc Cert.PoolS.main_arg4))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3)
      ∧ r.2.mem ((c.tc : Thread Cert.PoolSIdeal.nD Cert.PoolSIdeal.τ).loc Cert.PoolSIdeal.main_arg4) = m ((c.tc : Thread Cert.PoolSIdeal.nD Cert.PoolSIdeal.τ).loc Cert.PoolSIdeal.main_arg4))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2)
      ∧ r.2.mem ((c.tc : Thread Cert.PoolSRefIdeal.nD Cert.PoolSRefIdeal.τ).loc Cert.PoolSRefIdeal.main_arg3) = m ((c.tc : Thread Cert.PoolSRefIdeal.nD Cert.PoolSRefIdeal.τ).loc Cert.PoolSRefIdeal.main_arg3)
      ∧ r.2.mem ((c.tc : Thread Cert.PoolSRefIdeal.nD Cert.PoolSRefIdeal.τ).loc Cert.PoolSRefIdeal.main_arg4) = m ((c.tc : Thread Cert.PoolSRefIdeal.nD Cert.PoolSRefIdeal.τ).loc Cert.PoolSRefIdeal.main_arg4))
      ∧ r.2.sem = fun _ => 0)

def quiescent_Gconv [hGconv : Cert.Gconv.Facts] : Prop :=
  ∀ (m : (ℓ : Loc Cert.Gconv.nD Cert.Gconv.τ Cert.Gconv.sig) → Buf (Elt Bits) ℓ) (g : Dev Cert.Gconv.nD → PrngReg), Pre_Gconv m →
    θ_run (Cert.Gconv.defs (F := Bits)) (onTc (τ := Cert.Gconv.τ) (Cert.Gconv.main (F := Bits))) ⟨m, fun _ => 0, g⟩ (fun r => (∀ c : Dev Cert.Gconv.nD,
      r.2.mem ((c.tc : Thread Cert.Gconv.nD Cert.Gconv.τ).loc Cert.Gconv.main_arg0) = m ((c.tc : Thread Cert.Gconv.nD Cert.Gconv.τ).loc Cert.Gconv.main_arg0)
      ∧ r.2.mem ((c.tc : Thread Cert.Gconv.nD Cert.Gconv.τ).loc Cert.Gconv.main_arg1) = m ((c.tc : Thread Cert.Gconv.nD Cert.Gconv.τ).loc Cert.Gconv.main_arg1)
      ∧ r.2.mem ((c.tc : Thread Cert.Gconv.nD Cert.Gconv.τ).loc Cert.Gconv.main_arg2) = m ((c.tc : Thread Cert.Gconv.nD Cert.Gconv.τ).loc Cert.Gconv.main_arg2)
      ∧ r.2.mem ((c.tc : Thread Cert.Gconv.nD Cert.Gconv.τ).loc Cert.Gconv.main_arg3) = m ((c.tc : Thread Cert.Gconv.nD Cert.Gconv.τ).loc Cert.Gconv.main_arg3)
      ∧ r.2.mem ((c.tc : Thread Cert.Gconv.nD Cert.Gconv.τ).loc Cert.Gconv.main_arg4) = m ((c.tc : Thread Cert.Gconv.nD Cert.Gconv.τ).loc Cert.Gconv.main_arg4)
      ∧ r.2.mem ((c.tc : Thread Cert.Gconv.nD Cert.Gconv.τ).loc Cert.Gconv.main_arg5) = m ((c.tc : Thread Cert.Gconv.nD Cert.Gconv.τ).loc Cert.Gconv.main_arg5)
      ∧ r.2.mem ((c.tc : Thread Cert.Gconv.nD Cert.Gconv.τ).loc Cert.Gconv.main_arg6) = m ((c.tc : Thread Cert.Gconv.nD Cert.Gconv.τ).loc Cert.Gconv.main_arg6))
      ∧ r.2.sem = fun _ => 0)

def quiescent_GconvIdeal [hGconvIdeal : Cert.GconvIdeal.Facts] : Prop :=
  ∀ (m : (ℓ : Loc Cert.GconvIdeal.nD Cert.GconvIdeal.τ Cert.GconvIdeal.sig) → Buf (Elt Ideal) ℓ) (g : Dev Cert.GconvIdeal.nD → PrngReg), Pre_GconvIdeal m →
    θ_run (Cert.GconvIdeal.defs (F := Ideal)) (onTc (τ := Cert.GconvIdeal.τ) (Cert.GconvIdeal.main (F := Ideal))) ⟨m, fun _ => 0, g⟩ (fun r => (∀ c : Dev Cert.GconvIdeal.nD,
      r.2.mem ((c.tc : Thread Cert.GconvIdeal.nD Cert.GconvIdeal.τ).loc Cert.GconvIdeal.main_arg0) = m ((c.tc : Thread Cert.GconvIdeal.nD Cert.GconvIdeal.τ).loc Cert.GconvIdeal.main_arg0)
      ∧ r.2.mem ((c.tc : Thread Cert.GconvIdeal.nD Cert.GconvIdeal.τ).loc Cert.GconvIdeal.main_arg1) = m ((c.tc : Thread Cert.GconvIdeal.nD Cert.GconvIdeal.τ).loc Cert.GconvIdeal.main_arg1)
      ∧ r.2.mem ((c.tc : Thread Cert.GconvIdeal.nD Cert.GconvIdeal.τ).loc Cert.GconvIdeal.main_arg2) = m ((c.tc : Thread Cert.GconvIdeal.nD Cert.GconvIdeal.τ).loc Cert.GconvIdeal.main_arg2)
      ∧ r.2.mem ((c.tc : Thread Cert.GconvIdeal.nD Cert.GconvIdeal.τ).loc Cert.GconvIdeal.main_arg3) = m ((c.tc : Thread Cert.GconvIdeal.nD Cert.GconvIdeal.τ).loc Cert.GconvIdeal.main_arg3)
      ∧ r.2.mem ((c.tc : Thread Cert.GconvIdeal.nD Cert.GconvIdeal.τ).loc Cert.GconvIdeal.main_arg4) = m ((c.tc : Thread Cert.GconvIdeal.nD Cert.GconvIdeal.τ).loc Cert.GconvIdeal.main_arg4)
      ∧ r.2.mem ((c.tc : Thread Cert.GconvIdeal.nD Cert.GconvIdeal.τ).loc Cert.GconvIdeal.main_arg5) = m ((c.tc : Thread Cert.GconvIdeal.nD Cert.GconvIdeal.τ).loc Cert.GconvIdeal.main_arg5)
      ∧ r.2.mem ((c.tc : Thread Cert.GconvIdeal.nD Cert.GconvIdeal.τ).loc Cert.GconvIdeal.main_arg6) = m ((c.tc : Thread Cert.GconvIdeal.nD Cert.GconvIdeal.τ).loc Cert.GconvIdeal.main_arg6))
      ∧ r.2.sem = fun _ => 0)

def quiescent_GconvRefIdeal [hGconvRefIdeal : Cert.GconvRefIdeal.Facts] : Prop :=
  ∀ (m : (ℓ : Loc Cert.GconvRefIdeal.nD Cert.GconvRefIdeal.τ Cert.GconvRefIdeal.sig) → Buf (Elt Ideal) ℓ) (g : Dev Cert.GconvRefIdeal.nD → PrngReg), Pre_GconvRefIdeal m →
    θ_run (Cert.GconvRefIdeal.defs (F := Ideal)) (onTc (τ := Cert.GconvRefIdeal.τ) (Cert.GconvRefIdeal.main (F := Ideal))) ⟨m, fun _ => 0, g⟩ (fun r => (∀ c : Dev Cert.GconvRefIdeal.nD,
      r.2.mem ((c.tc : Thread Cert.GconvRefIdeal.nD Cert.GconvRefIdeal.τ).loc Cert.GconvRefIdeal.main_arg0) = m ((c.tc : Thread Cert.GconvRefIdeal.nD Cert.GconvRefIdeal.τ).loc Cert.GconvRefIdeal.main_arg0)
      ∧ r.2.mem ((c.tc : Thread Cert.GconvRefIdeal.nD Cert.GconvRefIdeal.τ).loc Cert.GconvRefIdeal.main_arg1) = m ((c.tc : Thread Cert.GconvRefIdeal.nD Cert.GconvRefIdeal.τ).loc Cert.GconvRefIdeal.main_arg1)
      ∧ r.2.mem ((c.tc : Thread Cert.GconvRefIdeal.nD Cert.GconvRefIdeal.τ).loc Cert.GconvRefIdeal.main_arg2) = m ((c.tc : Thread Cert.GconvRefIdeal.nD Cert.GconvRefIdeal.τ).loc Cert.GconvRefIdeal.main_arg2)
      ∧ r.2.mem ((c.tc : Thread Cert.GconvRefIdeal.nD Cert.GconvRefIdeal.τ).loc Cert.GconvRefIdeal.main_arg3) = m ((c.tc : Thread Cert.GconvRefIdeal.nD Cert.GconvRefIdeal.τ).loc Cert.GconvRefIdeal.main_arg3)
      ∧ r.2.mem ((c.tc : Thread Cert.GconvRefIdeal.nD Cert.GconvRefIdeal.τ).loc Cert.GconvRefIdeal.main_arg4) = m ((c.tc : Thread Cert.GconvRefIdeal.nD Cert.GconvRefIdeal.τ).loc Cert.GconvRefIdeal.main_arg4)
      ∧ r.2.mem ((c.tc : Thread Cert.GconvRefIdeal.nD Cert.GconvRefIdeal.τ).loc Cert.GconvRefIdeal.main_arg5) = m ((c.tc : Thread Cert.GconvRefIdeal.nD Cert.GconvRefIdeal.τ).loc Cert.GconvRefIdeal.main_arg5)
      ∧ r.2.mem ((c.tc : Thread Cert.GconvRefIdeal.nD Cert.GconvRefIdeal.τ).loc Cert.GconvRefIdeal.main_arg6) = m ((c.tc : Thread Cert.GconvRefIdeal.nD Cert.GconvRefIdeal.τ).loc Cert.GconvRefIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_norm_finite [hPoolIdeal : Cert.PoolIdeal.Facts] [hPre_norm_finite : Cert.Pre_norm_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_norm_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_norm_finite [hPoolRefIdeal : Cert.PoolRefIdeal.Facts] [hPre_norm_finite : Cert.Pre_norm_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_norm_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v4)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v4) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v23) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v4)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v4) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v36) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_FfnMidS_FfnMidSIdeal : Prop :=
  True

def algebraic_FfnMidSIdeal_FfnMidSRefIdeal [hFfnMidSIdeal : Cert.FfnMidSIdeal.Facts] [hFfnMidSRefIdeal : Cert.FfnMidSRefIdeal.Facts] : Prop :=
  ∀ (m : (ℓ : Loc Cert.FfnMidSIdeal.nD Cert.FfnMidSIdeal.τ Cert.FfnMidSIdeal.sig) → Buf (Elt Ideal) ℓ) (g : Dev Cert.FfnMidSIdeal.nD → PrngReg)
    (m' : (ℓ : Loc Cert.FfnMidSRefIdeal.nD Cert.FfnMidSRefIdeal.τ Cert.FfnMidSRefIdeal.sig) → Buf (Elt Ideal) ℓ) (g' : Dev Cert.FfnMidSRefIdeal.nD → PrngReg), Pre_FfnMidSIdeal m →
    (∀ c : Dev Cert.FfnMidSIdeal.nD,
      m' ((c.tc : Thread Cert.FfnMidSRefIdeal.nD Cert.FfnMidSRefIdeal.τ).loc Cert.FfnMidSRefIdeal.main_arg0) = m ((c.tc : Thread Cert.FfnMidSIdeal.nD Cert.FfnMidSIdeal.τ).loc Cert.FfnMidSIdeal.main_arg0)
      ∧ m' ((c.tc : Thread Cert.FfnMidSRefIdeal.nD Cert.FfnMidSRefIdeal.τ).loc Cert.FfnMidSRefIdeal.main_arg1) = m ((c.tc : Thread Cert.FfnMidSIdeal.nD Cert.FfnMidSIdeal.τ).loc Cert.FfnMidSIdeal.main_arg1)
      ∧ m' ((c.tc : Thread Cert.FfnMidSRefIdeal.nD Cert.FfnMidSRefIdeal.τ).loc Cert.FfnMidSRefIdeal.main_arg2) = m ((c.tc : Thread Cert.FfnMidSIdeal.nD Cert.FfnMidSIdeal.τ).loc Cert.FfnMidSIdeal.main_arg2)
      ∧ m' ((c.tc : Thread Cert.FfnMidSRefIdeal.nD Cert.FfnMidSRefIdeal.τ).loc Cert.FfnMidSRefIdeal.main_arg3) = m ((c.tc : Thread Cert.FfnMidSIdeal.nD Cert.FfnMidSIdeal.τ).loc Cert.FfnMidSIdeal.main_arg3)
      ∧ m' ((c.tc : Thread Cert.FfnMidSRefIdeal.nD Cert.FfnMidSRefIdeal.τ).loc Cert.FfnMidSRefIdeal.main_arg4) = m ((c.tc : Thread Cert.FfnMidSIdeal.nD Cert.FfnMidSIdeal.τ).loc Cert.FfnMidSIdeal.main_arg4)
      ∧ m' ((c.tc : Thread Cert.FfnMidSRefIdeal.nD Cert.FfnMidSRefIdeal.τ).loc Cert.FfnMidSRefIdeal.main_arg5) = m ((c.tc : Thread Cert.FfnMidSIdeal.nD Cert.FfnMidSIdeal.τ).loc Cert.FfnMidSIdeal.main_arg5)) →
    ∃ (v0 : (c : Dev Cert.FfnMidSIdeal.nD) → Buf (Elt Ideal) ((c.tc : Thread Cert.FfnMidSIdeal.nD Cert.FfnMidSIdeal.τ).loc Cert.FfnMidSIdeal.main_v4)),
      θ_run (Cert.FfnMidSIdeal.defs (F := Ideal)) (onTc (τ := Cert.FfnMidSIdeal.τ) (Cert.FfnMidSIdeal.main (F := Ideal))) ⟨m, fun _ => 0, g⟩ (fun r => ∀ c : Dev Cert.FfnMidSIdeal.nD,
          r.2.mem ((c.tc : Thread Cert.FfnMidSIdeal.nD Cert.FfnMidSIdeal.τ).loc Cert.FfnMidSIdeal.main_v4) = v0 c
          ∧ r.2.mem ((c.tc : Thread Cert.FfnMidSIdeal.nD Cert.FfnMidSIdeal.τ).loc Cert.FfnMidSIdeal.main_arg0) = m ((c.tc : Thread Cert.FfnMidSIdeal.nD Cert.FfnMidSIdeal.τ).loc Cert.FfnMidSIdeal.main_arg0)
          ∧ r.2.mem ((c.tc : Thread Cert.FfnMidSIdeal.nD Cert.FfnMidSIdeal.τ).loc Cert.FfnMidSIdeal.main_arg1) = m ((c.tc : Thread Cert.FfnMidSIdeal.nD Cert.FfnMidSIdeal.τ).loc Cert.FfnMidSIdeal.main_arg1)
          ∧ r.2.mem ((c.tc : Thread Cert.FfnMidSIdeal.nD Cert.FfnMidSIdeal.τ).loc Cert.FfnMidSIdeal.main_arg2) = m ((c.tc : Thread Cert.FfnMidSIdeal.nD Cert.FfnMidSIdeal.τ).loc Cert.FfnMidSIdeal.main_arg2)
          ∧ r.2.mem ((c.tc : Thread Cert.FfnMidSIdeal.nD Cert.FfnMidSIdeal.τ).loc Cert.FfnMidSIdeal.main_arg3) = m ((c.tc : Thread Cert.FfnMidSIdeal.nD Cert.FfnMidSIdeal.τ).loc Cert.FfnMidSIdeal.main_arg3)
          ∧ r.2.mem ((c.tc : Thread Cert.FfnMidSIdeal.nD Cert.FfnMidSIdeal.τ).loc Cert.FfnMidSIdeal.main_arg4) = m ((c.tc : Thread Cert.FfnMidSIdeal.nD Cert.FfnMidSIdeal.τ).loc Cert.FfnMidSIdeal.main_arg4)
          ∧ r.2.mem ((c.tc : Thread Cert.FfnMidSIdeal.nD Cert.FfnMidSIdeal.τ).loc Cert.FfnMidSIdeal.main_arg5) = m ((c.tc : Thread Cert.FfnMidSIdeal.nD Cert.FfnMidSIdeal.τ).loc Cert.FfnMidSIdeal.main_arg5))
      ∧ θ_run (Cert.FfnMidSRefIdeal.defs (F := Ideal)) (onTc (τ := Cert.FfnMidSRefIdeal.τ) (Cert.FfnMidSRefIdeal.main (F := Ideal))) ⟨m', fun _ => 0, g'⟩ (fun r => ∀ c : Dev Cert.FfnMidSRefIdeal.nD,
          r.2.mem ((c.tc : Thread Cert.FfnMidSRefIdeal.nD Cert.FfnMidSRefIdeal.τ).loc Cert.FfnMidSRefIdeal.main_v23) = v0 c
          ∧ r.2.mem ((c.tc : Thread Cert.FfnMidSRefIdeal.nD Cert.FfnMidSRefIdeal.τ).loc Cert.FfnMidSRefIdeal.main_arg0) = m' ((c.tc : Thread Cert.FfnMidSRefIdeal.nD Cert.FfnMidSRefIdeal.τ).loc Cert.FfnMidSRefIdeal.main_arg0)
          ∧ r.2.mem ((c.tc : Thread Cert.FfnMidSRefIdeal.nD Cert.FfnMidSRefIdeal.τ).loc Cert.FfnMidSRefIdeal.main_arg1) = m' ((c.tc : Thread Cert.FfnMidSRefIdeal.nD Cert.FfnMidSRefIdeal.τ).loc Cert.FfnMidSRefIdeal.main_arg1)
          ∧ r.2.mem ((c.tc : Thread Cert.FfnMidSRefIdeal.nD Cert.FfnMidSRefIdeal.τ).loc Cert.FfnMidSRefIdeal.main_arg2) = m' ((c.tc : Thread Cert.FfnMidSRefIdeal.nD Cert.FfnMidSRefIdeal.τ).loc Cert.FfnMidSRefIdeal.main_arg2)
          ∧ r.2.mem ((c.tc : Thread Cert.FfnMidSRefIdeal.nD Cert.FfnMidSRefIdeal.τ).loc Cert.FfnMidSRefIdeal.main_arg3) = m' ((c.tc : Thread Cert.FfnMidSRefIdeal.nD Cert.FfnMidSRefIdeal.τ).loc Cert.FfnMidSRefIdeal.main_arg3)
          ∧ r.2.mem ((c.tc : Thread Cert.FfnMidSRefIdeal.nD Cert.FfnMidSRefIdeal.τ).loc Cert.FfnMidSRefIdeal.main_arg4) = m' ((c.tc : Thread Cert.FfnMidSRefIdeal.nD Cert.FfnMidSRefIdeal.τ).loc Cert.FfnMidSRefIdeal.main_arg4)
          ∧ r.2.mem ((c.tc : Thread Cert.FfnMidSRefIdeal.nD Cert.FfnMidSRefIdeal.τ).loc Cert.FfnMidSRefIdeal.main_arg5) = m' ((c.tc : Thread Cert.FfnMidSRefIdeal.nD Cert.FfnMidSRefIdeal.τ).loc Cert.FfnMidSRefIdeal.main_arg5))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v5) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_OutprojS_OutprojSIdeal : Prop :=
  True

def algebraic_OutprojSIdeal_OutprojSRefIdeal [hOutprojSIdeal : Cert.OutprojSIdeal.Facts] [hOutprojSRefIdeal : Cert.OutprojSRefIdeal.Facts] : Prop :=
  ∀ (m : (ℓ : Loc Cert.OutprojSIdeal.nD Cert.OutprojSIdeal.τ Cert.OutprojSIdeal.sig) → Buf (Elt Ideal) ℓ) (g : Dev Cert.OutprojSIdeal.nD → PrngReg)
    (m' : (ℓ : Loc Cert.OutprojSRefIdeal.nD Cert.OutprojSRefIdeal.τ Cert.OutprojSRefIdeal.sig) → Buf (Elt Ideal) ℓ) (g' : Dev Cert.OutprojSRefIdeal.nD → PrngReg), Pre_OutprojSIdeal m →
    (∀ c : Dev Cert.OutprojSIdeal.nD,
      m' ((c.tc : Thread Cert.OutprojSRefIdeal.nD Cert.OutprojSRefIdeal.τ).loc Cert.OutprojSRefIdeal.main_arg0) = m ((c.tc : Thread Cert.OutprojSIdeal.nD Cert.OutprojSIdeal.τ).loc Cert.OutprojSIdeal.main_arg0)
      ∧ m' ((c.tc : Thread Cert.OutprojSRefIdeal.nD Cert.OutprojSRefIdeal.τ).loc Cert.OutprojSRefIdeal.main_arg1) = m ((c.tc : Thread Cert.OutprojSIdeal.nD Cert.OutprojSIdeal.τ).loc Cert.OutprojSIdeal.main_arg1)
      ∧ m' ((c.tc : Thread Cert.OutprojSRefIdeal.nD Cert.OutprojSRefIdeal.τ).loc Cert.OutprojSRefIdeal.main_arg2) = m ((c.tc : Thread Cert.OutprojSIdeal.nD Cert.OutprojSIdeal.τ).loc Cert.OutprojSIdeal.main_arg2)
      ∧ m' ((c.tc : Thread Cert.OutprojSRefIdeal.nD Cert.OutprojSRefIdeal.τ).loc Cert.OutprojSRefIdeal.main_arg3) = m ((c.tc : Thread Cert.OutprojSIdeal.nD Cert.OutprojSIdeal.τ).loc Cert.OutprojSIdeal.main_arg3)) →
    ∃ (v0 : (c : Dev Cert.OutprojSIdeal.nD) → Buf (Elt Ideal) ((c.tc : Thread Cert.OutprojSIdeal.nD Cert.OutprojSIdeal.τ).loc Cert.OutprojSIdeal.main_v1)),
      θ_run (Cert.OutprojSIdeal.defs (F := Ideal)) (onTc (τ := Cert.OutprojSIdeal.τ) (Cert.OutprojSIdeal.main (F := Ideal))) ⟨m, fun _ => 0, g⟩ (fun r => ∀ c : Dev Cert.OutprojSIdeal.nD,
          r.2.mem ((c.tc : Thread Cert.OutprojSIdeal.nD Cert.OutprojSIdeal.τ).loc Cert.OutprojSIdeal.main_v1) = v0 c
          ∧ r.2.mem ((c.tc : Thread Cert.OutprojSIdeal.nD Cert.OutprojSIdeal.τ).loc Cert.OutprojSIdeal.main_arg0) = m ((c.tc : Thread Cert.OutprojSIdeal.nD Cert.OutprojSIdeal.τ).loc Cert.OutprojSIdeal.main_arg0)
          ∧ r.2.mem ((c.tc : Thread Cert.OutprojSIdeal.nD Cert.OutprojSIdeal.τ).loc Cert.OutprojSIdeal.main_arg1) = m ((c.tc : Thread Cert.OutprojSIdeal.nD Cert.OutprojSIdeal.τ).loc Cert.OutprojSIdeal.main_arg1)
          ∧ r.2.mem ((c.tc : Thread Cert.OutprojSIdeal.nD Cert.OutprojSIdeal.τ).loc Cert.OutprojSIdeal.main_arg2) = m ((c.tc : Thread Cert.OutprojSIdeal.nD Cert.OutprojSIdeal.τ).loc Cert.OutprojSIdeal.main_arg2)
          ∧ r.2.mem ((c.tc : Thread Cert.OutprojSIdeal.nD Cert.OutprojSIdeal.τ).loc Cert.OutprojSIdeal.main_arg3) = m ((c.tc : Thread Cert.OutprojSIdeal.nD Cert.OutprojSIdeal.τ).loc Cert.OutprojSIdeal.main_arg3))
      ∧ θ_run (Cert.OutprojSRefIdeal.defs (F := Ideal)) (onTc (τ := Cert.OutprojSRefIdeal.τ) (Cert.OutprojSRefIdeal.main (F := Ideal))) ⟨m', fun _ => 0, g'⟩ (fun r => ∀ c : Dev Cert.OutprojSRefIdeal.nD,
          r.2.mem ((c.tc : Thread Cert.OutprojSRefIdeal.nD Cert.OutprojSRefIdeal.τ).loc Cert.OutprojSRefIdeal.main_v4) = v0 c
          ∧ r.2.mem ((c.tc : Thread Cert.OutprojSRefIdeal.nD Cert.OutprojSRefIdeal.τ).loc Cert.OutprojSRefIdeal.main_arg0) = m' ((c.tc : Thread Cert.OutprojSRefIdeal.nD Cert.OutprojSRefIdeal.τ).loc Cert.OutprojSRefIdeal.main_arg0)
          ∧ r.2.mem ((c.tc : Thread Cert.OutprojSRefIdeal.nD Cert.OutprojSRefIdeal.τ).loc Cert.OutprojSRefIdeal.main_arg1) = m' ((c.tc : Thread Cert.OutprojSRefIdeal.nD Cert.OutprojSRefIdeal.τ).loc Cert.OutprojSRefIdeal.main_arg1)
          ∧ r.2.mem ((c.tc : Thread Cert.OutprojSRefIdeal.nD Cert.OutprojSRefIdeal.τ).loc Cert.OutprojSRefIdeal.main_arg2) = m' ((c.tc : Thread Cert.OutprojSRefIdeal.nD Cert.OutprojSRefIdeal.τ).loc Cert.OutprojSRefIdeal.main_arg2)
          ∧ r.2.mem ((c.tc : Thread Cert.OutprojSRefIdeal.nD Cert.OutprojSRefIdeal.τ).loc Cert.OutprojSRefIdeal.main_arg3) = m' ((c.tc : Thread Cert.OutprojSRefIdeal.nD Cert.OutprojSRefIdeal.τ).loc Cert.OutprojSRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v23_0)) (v1 : (c : Dev Cert.QkvIdeal.nD) → Buf (Elt Ideal) ((c.tc : Thread Cert.QkvIdeal.nD Cert.QkvIdeal.τ).loc Cert.QkvIdeal.main_v23_1)) (v2 : (c : Dev Cert.QkvIdeal.nD) → Buf (Elt Ideal) ((c.tc : Thread Cert.QkvIdeal.nD Cert.QkvIdeal.τ).loc Cert.QkvIdeal.main_v23_2)) (v3 : (c : Dev Cert.QkvIdeal.nD) → Buf (Elt Ideal) ((c.tc : Thread Cert.QkvIdeal.nD Cert.QkvIdeal.τ).loc Cert.QkvIdeal.main_v23_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v23_0) = v0 c
          ∧ r.2.mem ((c.tc : Thread Cert.QkvIdeal.nD Cert.QkvIdeal.τ).loc Cert.QkvIdeal.main_v23_1) = v1 c
          ∧ r.2.mem ((c.tc : Thread Cert.QkvIdeal.nD Cert.QkvIdeal.τ).loc Cert.QkvIdeal.main_v23_2) = v2 c
          ∧ r.2.mem ((c.tc : Thread Cert.QkvIdeal.nD Cert.QkvIdeal.τ).loc Cert.QkvIdeal.main_v23_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v84) = v0 c
          ∧ r.2.mem ((c.tc : Thread Cert.QkvRefIdeal.nD Cert.QkvRefIdeal.τ).loc Cert.QkvRefIdeal.main_v85) = v1 c
          ∧ r.2.mem ((c.tc : Thread Cert.QkvRefIdeal.nD Cert.QkvRefIdeal.τ).loc Cert.QkvRefIdeal.main_v86) = v2 c
          ∧ r.2.mem ((c.tc : Thread Cert.QkvRefIdeal.nD Cert.QkvRefIdeal.τ).loc Cert.QkvRefIdeal.main_v89) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_QkvS_QkvSIdeal : Prop :=
  True

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)
      ∧ m' ((c.tc : Thread Cert.QkvSRefIdeal.nD Cert.QkvSRefIdeal.τ).loc Cert.QkvSRefIdeal.main_arg2) = m ((c.tc : Thread Cert.QkvSIdeal.nD Cert.QkvSIdeal.τ).loc Cert.QkvSIdeal.main_arg2)) →
    ∃ (v0 : (c : Dev Cert.QkvSIdeal.nD) → Buf (Elt Ideal) ((c.tc : Thread Cert.QkvSIdeal.nD Cert.QkvSIdeal.τ).loc Cert.QkvSIdeal.main_v28_0)) (v1 : (c : Dev Cert.QkvSIdeal.nD) → Buf (Elt Ideal) ((c.tc : Thread Cert.QkvSIdeal.nD Cert.QkvSIdeal.τ).loc Cert.QkvSIdeal.main_v28_1)) (v2 : (c : Dev Cert.QkvSIdeal.nD) → Buf (Elt Ideal) ((c.tc : Thread Cert.QkvSIdeal.nD Cert.QkvSIdeal.τ).loc Cert.QkvSIdeal.main_v28_2)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v28_0) = v0 c
          ∧ r.2.mem ((c.tc : Thread Cert.QkvSIdeal.nD Cert.QkvSIdeal.τ).loc Cert.QkvSIdeal.main_v28_1) = v1 c
          ∧ r.2.mem ((c.tc : Thread Cert.QkvSIdeal.nD Cert.QkvSIdeal.τ).loc Cert.QkvSIdeal.main_v28_2) = v2 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v93) = v0 c
          ∧ r.2.mem ((c.tc : Thread Cert.QkvSRefIdeal.nD Cert.QkvSRefIdeal.τ).loc Cert.QkvSRefIdeal.main_v90) = v1 c
          ∧ r.2.mem ((c.tc : Thread Cert.QkvSRefIdeal.nD Cert.QkvSRefIdeal.τ).loc Cert.QkvSRefIdeal.main_v92) = v2 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1)
          ∧ r.2.mem ((c.tc : Thread Cert.QkvSRefIdeal.nD Cert.QkvSRefIdeal.τ).loc Cert.QkvSRefIdeal.main_arg2) = m' ((c.tc : Thread Cert.QkvSRefIdeal.nD Cert.QkvSRefIdeal.τ).loc Cert.QkvSRefIdeal.main_arg2))

def preserves_GconvS_GconvSIdeal : Prop :=
  True

def algebraic_GconvSIdeal_GconvSRefIdeal [hGconvSIdeal : Cert.GconvSIdeal.Facts] [hGconvSRefIdeal : Cert.GconvSRefIdeal.Facts] : Prop :=
  ∀ (m : (ℓ : Loc Cert.GconvSIdeal.nD Cert.GconvSIdeal.τ Cert.GconvSIdeal.sig) → Buf (Elt Ideal) ℓ) (g : Dev Cert.GconvSIdeal.nD → PrngReg)
    (m' : (ℓ : Loc Cert.GconvSRefIdeal.nD Cert.GconvSRefIdeal.τ Cert.GconvSRefIdeal.sig) → Buf (Elt Ideal) ℓ) (g' : Dev Cert.GconvSRefIdeal.nD → PrngReg), Pre_GconvSIdeal m →
    (∀ c : Dev Cert.GconvSIdeal.nD,
      m' ((c.tc : Thread Cert.GconvSRefIdeal.nD Cert.GconvSRefIdeal.τ).loc Cert.GconvSRefIdeal.main_arg0) = m ((c.tc : Thread Cert.GconvSIdeal.nD Cert.GconvSIdeal.τ).loc Cert.GconvSIdeal.main_arg0)
      ∧ m' ((c.tc : Thread Cert.GconvSRefIdeal.nD Cert.GconvSRefIdeal.τ).loc Cert.GconvSRefIdeal.main_arg1) = m ((c.tc : Thread Cert.GconvSIdeal.nD Cert.GconvSIdeal.τ).loc Cert.GconvSIdeal.main_arg1)
      ∧ m' ((c.tc : Thread Cert.GconvSRefIdeal.nD Cert.GconvSRefIdeal.τ).loc Cert.GconvSRefIdeal.main_arg2) = m ((c.tc : Thread Cert.GconvSIdeal.nD Cert.GconvSIdeal.τ).loc Cert.GconvSIdeal.main_arg2)
      ∧ m' ((c.tc : Thread Cert.GconvSRefIdeal.nD Cert.GconvSRefIdeal.τ).loc Cert.GconvSRefIdeal.main_arg3) = m ((c.tc : Thread Cert.GconvSIdeal.nD Cert.GconvSIdeal.τ).loc Cert.GconvSIdeal.main_arg3)
      ∧ m' ((c.tc : Thread Cert.GconvSRefIdeal.nD Cert.GconvSRefIdeal.τ).loc Cert.GconvSRefIdeal.main_arg4) = m ((c.tc : Thread Cert.GconvSIdeal.nD Cert.GconvSIdeal.τ).loc Cert.GconvSIdeal.main_arg4)) →
    ∃ (v0 : (c : Dev Cert.GconvSIdeal.nD) → Buf (Elt Ideal) ((c.tc : Thread Cert.GconvSIdeal.nD Cert.GconvSIdeal.τ).loc Cert.GconvSIdeal.main_v10_0)) (v1 : (c : Dev Cert.GconvSIdeal.nD) → Buf (Elt Ideal) ((c.tc : Thread Cert.GconvSIdeal.nD Cert.GconvSIdeal.τ).loc Cert.GconvSIdeal.main_v10_1)),
      θ_run (Cert.GconvSIdeal.defs (F := Ideal)) (onTc (τ := Cert.GconvSIdeal.τ) (Cert.GconvSIdeal.main (F := Ideal))) ⟨m, fun _ => 0, g⟩ (fun r => ∀ c : Dev Cert.GconvSIdeal.nD,
          r.2.mem ((c.tc : Thread Cert.GconvSIdeal.nD Cert.GconvSIdeal.τ).loc Cert.GconvSIdeal.main_v10_0) = v0 c
          ∧ r.2.mem ((c.tc : Thread Cert.GconvSIdeal.nD Cert.GconvSIdeal.τ).loc Cert.GconvSIdeal.main_v10_1) = v1 c
          ∧ r.2.mem ((c.tc : Thread Cert.GconvSIdeal.nD Cert.GconvSIdeal.τ).loc Cert.GconvSIdeal.main_arg0) = m ((c.tc : Thread Cert.GconvSIdeal.nD Cert.GconvSIdeal.τ).loc Cert.GconvSIdeal.main_arg0)
          ∧ r.2.mem ((c.tc : Thread Cert.GconvSIdeal.nD Cert.GconvSIdeal.τ).loc Cert.GconvSIdeal.main_arg1) = m ((c.tc : Thread Cert.GconvSIdeal.nD Cert.GconvSIdeal.τ).loc Cert.GconvSIdeal.main_arg1)
          ∧ r.2.mem ((c.tc : Thread Cert.GconvSIdeal.nD Cert.GconvSIdeal.τ).loc Cert.GconvSIdeal.main_arg2) = m ((c.tc : Thread Cert.GconvSIdeal.nD Cert.GconvSIdeal.τ).loc Cert.GconvSIdeal.main_arg2)
          ∧ r.2.mem ((c.tc : Thread Cert.GconvSIdeal.nD Cert.GconvSIdeal.τ).loc Cert.GconvSIdeal.main_arg3) = m ((c.tc : Thread Cert.GconvSIdeal.nD Cert.GconvSIdeal.τ).loc Cert.GconvSIdeal.main_arg3)
          ∧ r.2.mem ((c.tc : Thread Cert.GconvSIdeal.nD Cert.GconvSIdeal.τ).loc Cert.GconvSIdeal.main_arg4) = m ((c.tc : Thread Cert.GconvSIdeal.nD Cert.GconvSIdeal.τ).loc Cert.GconvSIdeal.main_arg4))
      ∧ θ_run (Cert.GconvSRefIdeal.defs (F := Ideal)) (onTc (τ := Cert.GconvSRefIdeal.τ) (Cert.GconvSRefIdeal.main (F := Ideal))) ⟨m', fun _ => 0, g'⟩ (fun r => ∀ c : Dev Cert.GconvSRefIdeal.nD,
          r.2.mem ((c.tc : Thread Cert.GconvSRefIdeal.nD Cert.GconvSRefIdeal.τ).loc Cert.GconvSRefIdeal.main_v48) = v0 c
          ∧ r.2.mem ((c.tc : Thread Cert.GconvSRefIdeal.nD Cert.GconvSRefIdeal.τ).loc Cert.GconvSRefIdeal.main_v50) = v1 c
          ∧ r.2.mem ((c.tc : Thread Cert.GconvSRefIdeal.nD Cert.GconvSRefIdeal.τ).loc Cert.GconvSRefIdeal.main_arg0) = m' ((c.tc : Thread Cert.GconvSRefIdeal.nD Cert.GconvSRefIdeal.τ).loc Cert.GconvSRefIdeal.main_arg0)
          ∧ r.2.mem ((c.tc : Thread Cert.GconvSRefIdeal.nD Cert.GconvSRefIdeal.τ).loc Cert.GconvSRefIdeal.main_arg1) = m' ((c.tc : Thread Cert.GconvSRefIdeal.nD Cert.GconvSRefIdeal.τ).loc Cert.GconvSRefIdeal.main_arg1)
          ∧ r.2.mem ((c.tc : Thread Cert.GconvSRefIdeal.nD Cert.GconvSRefIdeal.τ).loc Cert.GconvSRefIdeal.main_arg2) = m' ((c.tc : Thread Cert.GconvSRefIdeal.nD Cert.GconvSRefIdeal.τ).loc Cert.GconvSRefIdeal.main_arg2)
          ∧ r.2.mem ((c.tc : Thread Cert.GconvSRefIdeal.nD Cert.GconvSRefIdeal.τ).loc Cert.GconvSRefIdeal.main_arg3) = m' ((c.tc : Thread Cert.GconvSRefIdeal.nD Cert.GconvSRefIdeal.τ).loc Cert.GconvSRefIdeal.main_arg3)
          ∧ r.2.mem ((c.tc : Thread Cert.GconvSRefIdeal.nD Cert.GconvSRefIdeal.τ).loc Cert.GconvSRefIdeal.main_arg4) = m' ((c.tc : Thread Cert.GconvSRefIdeal.nD Cert.GconvSRefIdeal.τ).loc Cert.GconvSRefIdeal.main_arg4))

def preserves_PoolS_PoolSIdeal : Prop :=
  True

def algebraic_PoolSIdeal_PoolSRefIdeal [hPoolSIdeal : Cert.PoolSIdeal.Facts] [hPoolSRefIdeal : Cert.PoolSRefIdeal.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)
      ∧ m' ((c.tc : Thread Cert.PoolSRefIdeal.nD Cert.PoolSRefIdeal.τ).loc Cert.PoolSRefIdeal.main_arg3) = m ((c.tc : Thread Cert.PoolSIdeal.nD Cert.PoolSIdeal.τ).loc Cert.PoolSIdeal.main_arg3)
      ∧ m' ((c.tc : Thread Cert.PoolSRefIdeal.nD Cert.PoolSRefIdeal.τ).loc Cert.PoolSRefIdeal.main_arg4) = m ((c.tc : Thread Cert.PoolSIdeal.nD Cert.PoolSIdeal.τ).loc Cert.PoolSIdeal.main_arg4)) →
    ∃ (v0 : (c : Dev Cert.PoolSIdeal.nD) → Buf (Elt Ideal) ((c.tc : Thread Cert.PoolSIdeal.nD Cert.PoolSIdeal.τ).loc Cert.PoolSIdeal.main_v9_0)) (v1 : (c : Dev Cert.PoolSIdeal.nD) → Buf (Elt Ideal) ((c.tc : Thread Cert.PoolSIdeal.nD Cert.PoolSIdeal.τ).loc Cert.PoolSIdeal.main_v9_1)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v9_0) = v0 c
          ∧ r.2.mem ((c.tc : Thread Cert.PoolSIdeal.nD Cert.PoolSIdeal.τ).loc Cert.PoolSIdeal.main_v9_1) = v1 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
          ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3)
          ∧ r.2.mem ((c.tc : Thread Cert.PoolSIdeal.nD Cert.PoolSIdeal.τ).loc Cert.PoolSIdeal.main_arg4) = m ((c.tc : Thread Cert.PoolSIdeal.nD Cert.PoolSIdeal.τ).loc Cert.PoolSIdeal.main_arg4))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v139) = v0 c
          ∧ r.2.mem ((c.tc : Thread Cert.PoolSRefIdeal.nD Cert.PoolSRefIdeal.τ).loc Cert.PoolSRefIdeal.main_v141) = v1 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2)
          ∧ r.2.mem ((c.tc : Thread Cert.PoolSRefIdeal.nD Cert.PoolSRefIdeal.τ).loc Cert.PoolSRefIdeal.main_arg3) = m' ((c.tc : Thread Cert.PoolSRefIdeal.nD Cert.PoolSRefIdeal.τ).loc Cert.PoolSRefIdeal.main_arg3)
          ∧ r.2.mem ((c.tc : Thread Cert.PoolSRefIdeal.nD Cert.PoolSRefIdeal.τ).loc Cert.PoolSRefIdeal.main_arg4) = m' ((c.tc : Thread Cert.PoolSRefIdeal.nD Cert.PoolSRefIdeal.τ).loc Cert.PoolSRefIdeal.main_arg4))

def preserves_Gconv_GconvIdeal : Prop :=
  True

def algebraic_GconvIdeal_GconvRefIdeal [hGconvIdeal : Cert.GconvIdeal.Facts] [hGconvRefIdeal : Cert.GconvRefIdeal.Facts] : Prop :=
  ∀ (m : (ℓ : Loc Cert.GconvIdeal.nD Cert.GconvIdeal.τ Cert.GconvIdeal.sig) → Buf (Elt Ideal) ℓ) (g : Dev Cert.GconvIdeal.nD → PrngReg)
    (m' : (ℓ : Loc Cert.GconvRefIdeal.nD Cert.GconvRefIdeal.τ Cert.GconvRefIdeal.sig) → Buf (Elt Ideal) ℓ) (g' : Dev Cert.GconvRefIdeal.nD → PrngReg), Pre_GconvIdeal m →
    (∀ c : Dev Cert.GconvIdeal.nD,
      m' ((c.tc : Thread Cert.GconvRefIdeal.nD Cert.GconvRefIdeal.τ).loc Cert.GconvRefIdeal.main_arg0) = m ((c.tc : Thread Cert.GconvIdeal.nD Cert.GconvIdeal.τ).loc Cert.GconvIdeal.main_arg0)
      ∧ m' ((c.tc : Thread Cert.GconvRefIdeal.nD Cert.GconvRefIdeal.τ).loc Cert.GconvRefIdeal.main_arg1) = m ((c.tc : Thread Cert.GconvIdeal.nD Cert.GconvIdeal.τ).loc Cert.GconvIdeal.main_arg1)
      ∧ m' ((c.tc : Thread Cert.GconvRefIdeal.nD Cert.GconvRefIdeal.τ).loc Cert.GconvRefIdeal.main_arg2) = m ((c.tc : Thread Cert.GconvIdeal.nD Cert.GconvIdeal.τ).loc Cert.GconvIdeal.main_arg2)
      ∧ m' ((c.tc : Thread Cert.GconvRefIdeal.nD Cert.GconvRefIdeal.τ).loc Cert.GconvRefIdeal.main_arg3) = m ((c.tc : Thread Cert.GconvIdeal.nD Cert.GconvIdeal.τ).loc Cert.GconvIdeal.main_arg3)
      ∧ m' ((c.tc : Thread Cert.GconvRefIdeal.nD Cert.GconvRefIdeal.τ).loc Cert.GconvRefIdeal.main_arg4) = m ((c.tc : Thread Cert.GconvIdeal.nD Cert.GconvIdeal.τ).loc Cert.GconvIdeal.main_arg4)
      ∧ m' ((c.tc : Thread Cert.GconvRefIdeal.nD Cert.GconvRefIdeal.τ).loc Cert.GconvRefIdeal.main_arg5) = m ((c.tc : Thread Cert.GconvIdeal.nD Cert.GconvIdeal.τ).loc Cert.GconvIdeal.main_arg5)
      ∧ m' ((c.tc : Thread Cert.GconvRefIdeal.nD Cert.GconvRefIdeal.τ).loc Cert.GconvRefIdeal.main_arg6) = m ((c.tc : Thread Cert.GconvIdeal.nD Cert.GconvIdeal.τ).loc Cert.GconvIdeal.main_arg6)) →
    ∃ (v0 : (c : Dev Cert.GconvIdeal.nD) → Buf (Elt Ideal) ((c.tc : Thread Cert.GconvIdeal.nD Cert.GconvIdeal.τ).loc Cert.GconvIdeal.main_v7_0)) (v1 : (c : Dev Cert.GconvIdeal.nD) → Buf (Elt Ideal) ((c.tc : Thread Cert.GconvIdeal.nD Cert.GconvIdeal.τ).loc Cert.GconvIdeal.main_v7_1)) (v2 : (c : Dev Cert.GconvIdeal.nD) → Buf (Elt Ideal) ((c.tc : Thread Cert.GconvIdeal.nD Cert.GconvIdeal.τ).loc Cert.GconvIdeal.main_v7_2)) (v3 : (c : Dev Cert.GconvIdeal.nD) → Buf (Elt Ideal) ((c.tc : Thread Cert.GconvIdeal.nD Cert.GconvIdeal.τ).loc Cert.GconvIdeal.main_v7_3)) (v4 : (c : Dev Cert.GconvIdeal.nD) → Buf (Elt Ideal) ((c.tc : Thread Cert.GconvIdeal.nD Cert.GconvIdeal.τ).loc Cert.GconvIdeal.main_v7_4)),
      θ_run (Cert.GconvIdeal.defs (F := Ideal)) (onTc (τ := Cert.GconvIdeal.τ) (Cert.GconvIdeal.main (F := Ideal))) ⟨m, fun _ => 0, g⟩ (fun r => ∀ c : Dev Cert.GconvIdeal.nD,
          r.2.mem ((c.tc : Thread Cert.GconvIdeal.nD Cert.GconvIdeal.τ).loc Cert.GconvIdeal.main_v7_0) = v0 c
          ∧ r.2.mem ((c.tc : Thread Cert.GconvIdeal.nD Cert.GconvIdeal.τ).loc Cert.GconvIdeal.main_v7_1) = v1 c
          ∧ r.2.mem ((c.tc : Thread Cert.GconvIdeal.nD Cert.GconvIdeal.τ).loc Cert.GconvIdeal.main_v7_2) = v2 c
          ∧ r.2.mem ((c.tc : Thread Cert.GconvIdeal.nD Cert.GconvIdeal.τ).loc Cert.GconvIdeal.main_v7_3) = v3 c
          ∧ r.2.mem ((c.tc : Thread Cert.GconvIdeal.nD Cert.GconvIdeal.τ).loc Cert.GconvIdeal.main_v7_4) = v4 c
          ∧ r.2.mem ((c.tc : Thread Cert.GconvIdeal.nD Cert.GconvIdeal.τ).loc Cert.GconvIdeal.main_arg0) = m ((c.tc : Thread Cert.GconvIdeal.nD Cert.GconvIdeal.τ).loc Cert.GconvIdeal.main_arg0)
          ∧ r.2.mem ((c.tc : Thread Cert.GconvIdeal.nD Cert.GconvIdeal.τ).loc Cert.GconvIdeal.main_arg1) = m ((c.tc : Thread Cert.GconvIdeal.nD Cert.GconvIdeal.τ).loc Cert.GconvIdeal.main_arg1)
          ∧ r.2.mem ((c.tc : Thread Cert.GconvIdeal.nD Cert.GconvIdeal.τ).loc Cert.GconvIdeal.main_arg2) = m ((c.tc : Thread Cert.GconvIdeal.nD Cert.GconvIdeal.τ).loc Cert.GconvIdeal.main_arg2)
          ∧ r.2.mem ((c.tc : Thread Cert.GconvIdeal.nD Cert.GconvIdeal.τ).loc Cert.GconvIdeal.main_arg3) = m ((c.tc : Thread Cert.GconvIdeal.nD Cert.GconvIdeal.τ).loc Cert.GconvIdeal.main_arg3)
          ∧ r.2.mem ((c.tc : Thread Cert.GconvIdeal.nD Cert.GconvIdeal.τ).loc Cert.GconvIdeal.main_arg4) = m ((c.tc : Thread Cert.GconvIdeal.nD Cert.GconvIdeal.τ).loc Cert.GconvIdeal.main_arg4)
          ∧ r.2.mem ((c.tc : Thread Cert.GconvIdeal.nD Cert.GconvIdeal.τ).loc Cert.GconvIdeal.main_arg5) = m ((c.tc : Thread Cert.GconvIdeal.nD Cert.GconvIdeal.τ).loc Cert.GconvIdeal.main_arg5)
          ∧ r.2.mem ((c.tc : Thread Cert.GconvIdeal.nD Cert.GconvIdeal.τ).loc Cert.GconvIdeal.main_arg6) = m ((c.tc : Thread Cert.GconvIdeal.nD Cert.GconvIdeal.τ).loc Cert.GconvIdeal.main_arg6))
      ∧ θ_run (Cert.GconvRefIdeal.defs (F := Ideal)) (onTc (τ := Cert.GconvRefIdeal.τ) (Cert.GconvRefIdeal.main (F := Ideal))) ⟨m', fun _ => 0, g'⟩ (fun r => ∀ c : Dev Cert.GconvRefIdeal.nD,
          r.2.mem ((c.tc : Thread Cert.GconvRefIdeal.nD Cert.GconvRefIdeal.τ).loc Cert.GconvRefIdeal.main_v47) = v0 c
          ∧ r.2.mem ((c.tc : Thread Cert.GconvRefIdeal.nD Cert.GconvRefIdeal.τ).loc Cert.GconvRefIdeal.main_v45) = v1 c
          ∧ r.2.mem ((c.tc : Thread Cert.GconvRefIdeal.nD Cert.GconvRefIdeal.τ).loc Cert.GconvRefIdeal.main_v49) = v2 c
          ∧ r.2.mem ((c.tc : Thread Cert.GconvRefIdeal.nD Cert.GconvRefIdeal.τ).loc Cert.GconvRefIdeal.main_v52) = v3 c
          ∧ r.2.mem ((c.tc : Thread Cert.GconvRefIdeal.nD Cert.GconvRefIdeal.τ).loc Cert.GconvRefIdeal.main_v55) = v4 c
          ∧ r.2.mem ((c.tc : Thread Cert.GconvRefIdeal.nD Cert.GconvRefIdeal.τ).loc Cert.GconvRefIdeal.main_arg0) = m' ((c.tc : Thread Cert.GconvRefIdeal.nD Cert.GconvRefIdeal.τ).loc Cert.GconvRefIdeal.main_arg0)
          ∧ r.2.mem ((c.tc : Thread Cert.GconvRefIdeal.nD Cert.GconvRefIdeal.τ).loc Cert.GconvRefIdeal.main_arg1) = m' ((c.tc : Thread Cert.GconvRefIdeal.nD Cert.GconvRefIdeal.τ).loc Cert.GconvRefIdeal.main_arg1)
          ∧ r.2.mem ((c.tc : Thread Cert.GconvRefIdeal.nD Cert.GconvRefIdeal.τ).loc Cert.GconvRefIdeal.main_arg2) = m' ((c.tc : Thread Cert.GconvRefIdeal.nD Cert.GconvRefIdeal.τ).loc Cert.GconvRefIdeal.main_arg2)
          ∧ r.2.mem ((c.tc : Thread Cert.GconvRefIdeal.nD Cert.GconvRefIdeal.τ).loc Cert.GconvRefIdeal.main_arg3) = m' ((c.tc : Thread Cert.GconvRefIdeal.nD Cert.GconvRefIdeal.τ).loc Cert.GconvRefIdeal.main_arg3)
          ∧ r.2.mem ((c.tc : Thread Cert.GconvRefIdeal.nD Cert.GconvRefIdeal.τ).loc Cert.GconvRefIdeal.main_arg4) = m' ((c.tc : Thread Cert.GconvRefIdeal.nD Cert.GconvRefIdeal.τ).loc Cert.GconvRefIdeal.main_arg4)
          ∧ r.2.mem ((c.tc : Thread Cert.GconvRefIdeal.nD Cert.GconvRefIdeal.τ).loc Cert.GconvRefIdeal.main_arg5) = m' ((c.tc : Thread Cert.GconvRefIdeal.nD Cert.GconvRefIdeal.τ).loc Cert.GconvRefIdeal.main_arg5)
          ∧ r.2.mem ((c.tc : Thread Cert.GconvRefIdeal.nD Cert.GconvRefIdeal.τ).loc Cert.GconvRefIdeal.main_arg6) = m' ((c.tc : Thread Cert.GconvRefIdeal.nD Cert.GconvRefIdeal.τ).loc Cert.GconvRefIdeal.main_arg6))

def preserves_Pool_PoolIdeal : Prop :=
  True

def algebraic_PoolIdeal_PoolRefIdeal_pre_norm_finite [hPoolIdeal : Cert.PoolIdeal.Facts] [hPoolRefIdeal : Cert.PoolRefIdeal.Facts] [hPre_norm_finite : Cert.Pre_norm_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_norm_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v7_0)) (v1 : (c : Dev Cert.PoolIdeal.nD) → Buf (Elt Ideal) ((c.tc : Thread Cert.PoolIdeal.nD Cert.PoolIdeal.τ).loc Cert.PoolIdeal.main_v7_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v7_0) = v0 c
          ∧ r.2.mem ((c.tc : Thread Cert.PoolIdeal.nD Cert.PoolIdeal.τ).loc Cert.PoolIdeal.main_v7_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v135) = v0 c
          ∧ r.2.mem ((c.tc : Thread Cert.PoolRefIdeal.nD Cert.PoolRefIdeal.τ).loc Cert.PoolRefIdeal.main_v133) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def Claim : Prop :=
  ∃ (hFfn : Cert.Ffn.Facts) (hFfnIdeal : Cert.FfnIdeal.Facts) (hFfnRefIdeal : Cert.FfnRefIdeal.Facts) (hFfnMid : Cert.FfnMid.Facts) (hFfnMidIdeal : Cert.FfnMidIdeal.Facts) (hFfnMidRefIdeal : Cert.FfnMidRefIdeal.Facts) (hFfnS : Cert.FfnS.Facts) (hFfnSIdeal : Cert.FfnSIdeal.Facts) (hFfnSRefIdeal : Cert.FfnSRefIdeal.Facts) (hFfnMidS : Cert.FfnMidS.Facts) (hFfnMidSIdeal : Cert.FfnMidSIdeal.Facts) (hFfnMidSRefIdeal : Cert.FfnMidSRefIdeal.Facts) (hOutproj : Cert.Outproj.Facts) (hOutprojIdeal : Cert.OutprojIdeal.Facts) (hOutprojRefIdeal : Cert.OutprojRefIdeal.Facts) (hOutprojS : Cert.OutprojS.Facts) (hOutprojSIdeal : Cert.OutprojSIdeal.Facts) (hOutprojSRefIdeal : Cert.OutprojSRefIdeal.Facts) (hQkv : Cert.Qkv.Facts) (hQkvIdeal : Cert.QkvIdeal.Facts) (hQkvRefIdeal : Cert.QkvRefIdeal.Facts) (hQkvS : Cert.QkvS.Facts) (hQkvSIdeal : Cert.QkvSIdeal.Facts) (hQkvSRefIdeal : Cert.QkvSRefIdeal.Facts) (hGconvS : Cert.GconvS.Facts) (hGconvSIdeal : Cert.GconvSIdeal.Facts) (hGconvSRefIdeal : Cert.GconvSRefIdeal.Facts) (hPoolS : Cert.PoolS.Facts) (hPoolSIdeal : Cert.PoolSIdeal.Facts) (hPoolSRefIdeal : Cert.PoolSRefIdeal.Facts) (hGconv : Cert.Gconv.Facts) (hGconvIdeal : Cert.GconvIdeal.Facts) (hGconvRefIdeal : Cert.GconvRefIdeal.Facts) (hPool : Cert.Pool.Facts) (hPoolIdeal : Cert.PoolIdeal.Facts) (hPoolRefIdeal : Cert.PoolRefIdeal.Facts) (hPre_norm_finite : Cert.Pre_norm_finite.Facts),
    quiescent_Ffn (hFfn := hFfn)
    ∧ quiescent_FfnIdeal (hFfnIdeal := hFfnIdeal)
    ∧ quiescent_FfnRefIdeal (hFfnRefIdeal := hFfnRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_FfnMidS (hFfnMidS := hFfnMidS)
    ∧ quiescent_FfnMidSIdeal (hFfnMidSIdeal := hFfnMidSIdeal)
    ∧ quiescent_FfnMidSRefIdeal (hFfnMidSRefIdeal := hFfnMidSRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_OutprojS (hOutprojS := hOutprojS)
    ∧ quiescent_OutprojSIdeal (hOutprojSIdeal := hOutprojSIdeal)
    ∧ quiescent_OutprojSRefIdeal (hOutprojSRefIdeal := hOutprojSRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ quiescent_GconvS (hGconvS := hGconvS)
    ∧ quiescent_GconvSIdeal (hGconvSIdeal := hGconvSIdeal)
    ∧ quiescent_GconvSRefIdeal (hGconvSRefIdeal := hGconvSRefIdeal)
    ∧ quiescent_PoolS (hPoolS := hPoolS)
    ∧ quiescent_PoolSIdeal (hPoolSIdeal := hPoolSIdeal)
    ∧ quiescent_PoolSRefIdeal (hPoolSRefIdeal := hPoolSRefIdeal)
    ∧ quiescent_Gconv (hGconv := hGconv)
    ∧ quiescent_GconvIdeal (hGconvIdeal := hGconvIdeal)
    ∧ quiescent_GconvRefIdeal (hGconvRefIdeal := hGconvRefIdeal)
    ∧ quiescent_Pool (hPool := hPool)
    ∧ quiescent_PoolIdeal (hPoolIdeal := hPoolIdeal)
    ∧ quiescent_PoolIdeal_pre_norm_finite (hPoolIdeal := hPoolIdeal) (hPre_norm_finite := hPre_norm_finite)
    ∧ quiescent_PoolRefIdeal (hPoolRefIdeal := hPoolRefIdeal)
    ∧ quiescent_PoolRefIdeal_pre_norm_finite (hPoolRefIdeal := hPoolRefIdeal) (hPre_norm_finite := hPre_norm_finite)
    ∧ preserves_Ffn_FfnIdeal
    ∧ algebraic_FfnIdeal_FfnRefIdeal (hFfnIdeal := hFfnIdeal) (hFfnRefIdeal := hFfnRefIdeal)
    ∧ preserves_FfnMid_FfnMidIdeal
    ∧ algebraic_FfnMidIdeal_FfnMidRefIdeal (hFfnMidIdeal := hFfnMidIdeal) (hFfnMidRefIdeal := hFfnMidRefIdeal)
    ∧ preserves_FfnS_FfnSIdeal
    ∧ algebraic_FfnSIdeal_FfnSRefIdeal (hFfnSIdeal := hFfnSIdeal) (hFfnSRefIdeal := hFfnSRefIdeal)
    ∧ preserves_FfnMidS_FfnMidSIdeal
    ∧ algebraic_FfnMidSIdeal_FfnMidSRefIdeal (hFfnMidSIdeal := hFfnMidSIdeal) (hFfnMidSRefIdeal := hFfnMidSRefIdeal)
    ∧ preserves_Outproj_OutprojIdeal
    ∧ algebraic_OutprojIdeal_OutprojRefIdeal (hOutprojIdeal := hOutprojIdeal) (hOutprojRefIdeal := hOutprojRefIdeal)
    ∧ preserves_OutprojS_OutprojSIdeal
    ∧ algebraic_OutprojSIdeal_OutprojSRefIdeal (hOutprojSIdeal := hOutprojSIdeal) (hOutprojSRefIdeal := hOutprojSRefIdeal)
    ∧ preserves_Qkv_QkvIdeal
    ∧ algebraic_QkvIdeal_QkvRefIdeal (hQkvIdeal := hQkvIdeal) (hQkvRefIdeal := hQkvRefIdeal)
    ∧ preserves_QkvS_QkvSIdeal
    ∧ algebraic_QkvSIdeal_QkvSRefIdeal (hQkvSIdeal := hQkvSIdeal) (hQkvSRefIdeal := hQkvSRefIdeal)
    ∧ preserves_GconvS_GconvSIdeal
    ∧ algebraic_GconvSIdeal_GconvSRefIdeal (hGconvSIdeal := hGconvSIdeal) (hGconvSRefIdeal := hGconvSRefIdeal)
    ∧ preserves_PoolS_PoolSIdeal
    ∧ algebraic_PoolSIdeal_PoolSRefIdeal (hPoolSIdeal := hPoolSIdeal) (hPoolSRefIdeal := hPoolSRefIdeal)
    ∧ preserves_Gconv_GconvIdeal
    ∧ algebraic_GconvIdeal_GconvRefIdeal (hGconvIdeal := hGconvIdeal) (hGconvRefIdeal := hGconvRefIdeal)
    ∧ preserves_Pool_PoolIdeal
    ∧ algebraic_PoolIdeal_PoolRefIdeal_pre_norm_finite (hPoolIdeal := hPoolIdeal) (hPoolRefIdeal := hPoolRefIdeal) (hPre_norm_finite := hPre_norm_finite)
-- ==== Pre_norm_finite.lean ====
abbrev S8192x2048 : Shape := ⟨2, ![8192, 2048]⟩
abbrev S2x2048 : Shape := ⟨2, ![2, 2048]⟩
abbrev S1x4x512x512 : Shape := ⟨4, ![1, 4, 512, 512]⟩
abbrev S1x2048 : Shape := ⟨2, ![1, 2048]⟩
abbrev S2048 : Shape := ⟨1, ![2048]⟩
abbrev S_ : Shape := ⟨0, ![]⟩

class Facts : Prop where
  slices_S2x2048_S1x2048_1_0 : S2x2048.Slices ![1, 0] S1x2048
  shapeCasts_S1x2048_S2048 : S1x2048.ShapeCasts S2048
  bcast_S_S2048 : S_.BroadcastsInDim S2048 (![] : Fin 0 → Fin S2048.rank)

variable [Facts]

def fn {F : FTy → Type} [FloatOps F] (main_arg0 : FVec F S8192x2048 .f32) (main_arg1 : FVec F S2x2048 .f32) (main_arg2 : FVec F S1x4x512x512 .f32) (main_arg3 : FVec F S1x2048 .f32) : IVec S2048 1 :=
  let main_v0 : FVec F S1x2048 .f32 := (extractStridedSlice S1x2048 ![1, 0] · slices_S2x2048_S1x2048_1_0) main_arg1
  let main_v1 : FVec F S2048 .f32 := shapeCast S2048 main_v0 shapeCasts_S1x2048_S2048
  let main_v2 : FVec F S2048 .f32 := Host.absf main_v1
  let main_cst : FVec F S_ .f32 := constant S_ .f32 0x7F800000#32
  let main_v3 : FVec F S2048 .f32 := broadcastInDim S2048 ![] bcast_S_S2048 main_cst
  let main_v4 : IVec S2048 1 := cmpf .olt main_v2 main_v3
  main_v4
-- ==== Ffn.lean ====
abbrev S8192x2048 : Shape := ⟨2, ![8192, 2048]⟩
abbrev S2x2048 : Shape := ⟨2, ![2, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S2x2048 : Shape := ⟨2, ![2, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== FfnMid.lean ====
abbrev S8192x2048 : Shape := ⟨2, ![8192, 2048]⟩
abbrev S2x2048 : Shape := ⟨2, ![2, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnMidRefIdeal.lean ====
abbrev S8192x2048 : Shape := ⟨2, ![8192, 2048]⟩
abbrev S2x2048 : Shape := ⟨2, ![2, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x2048, .f32⟩
  | .hbm, ⟨40, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== FfnS.lean ====
abbrev S32x2048 : Shape := ⟨2, ![32, 2048]⟩
abbrev S2x2048 : Shape := ⟨2, ![2, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S2048x1408 : Shape := ⟨2, ![2048, 1408]⟩
abbrev S1408x2048 : Shape := ⟨2, ![1408, 2048]⟩
abbrev S32 : Shape := ⟨1, ![32]⟩
abbrev S32x1 : Shape := ⟨2, ![32, 1]⟩
abbrev S32x1408 : Shape := ⟨2, ![32, 1408]⟩

abbrev nBuf : Space → Nat
  | .hbm => 11
  | .vmem => 11
  | .smem => 0
  | _ => 0

abbrev bufTy : (tb : Table) → Fin (tcTables nBuf tb) → BufTy
  | .hbm, ⟨0, _⟩ => ⟨S32x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1408x2048, .bf16⟩
  | .local _ .vmem, ⟨7, _⟩ => ⟨S1408x2048, .bf16⟩
  | .local _ .vmem, ⟨8, _⟩ => ⟨S1x2048, .f32⟩
  | .local _ .vmem, ⟨9, _⟩ => ⟨S32x2048, .f32⟩
  | .local _ .vmem, ⟨10, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSRefIdeal.lean ====
abbrev S32x2048 : Shape := ⟨2, ![32, 2048]⟩
abbrev S2x2048 : Shape := ⟨2, ![2, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S_ : Shape := ⟨0, ![]⟩
abbrev S32 : Shape := ⟨1, ![32]⟩
abbrev S32x1 : Shape := ⟨2, ![32, 1]⟩
abbrev S32x5632 : Shape := ⟨2, ![32, 5632]⟩

abbrev nBuf : Space → Nat
  | .hbm => 57
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S32x2048, .f32⟩
  | .hbm, ⟨9, _⟩ => ⟨S_, .f32⟩
  | .hbm, ⟨10, _⟩ => ⟨S32, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S32x1, .f32⟩
  | .hbm, ⟨19, _⟩ => ⟨S32x2048, .f32⟩
  | .hbm, ⟨20, _⟩ => ⟨S32x2048, .f32⟩
  | .hbm, ⟨21, _⟩ => ⟨S1x2048, .f32⟩
  | .hbm, ⟨22, _⟩ => ⟨S32x2048, .f32⟩
  | .hbm, ⟨23, _⟩ => ⟨S32x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S32x5632, .f32⟩
  | .hbm, ⟨28, _⟩ => ⟨S32x5632, .f32⟩
  | .hbm, ⟨29, _⟩ => ⟨S32x5632, .f32⟩
  | .hbm, ⟨30, _⟩ => ⟨S_, .f32⟩
  | .hbm, ⟨31, _⟩ => ⟨S32x5632, .f32⟩
  | .hbm, ⟨32, _⟩ => ⟨S32x5632, .f32⟩
  | .hbm, ⟨33, _⟩ => ⟨S_, .f32⟩
  | .hbm, ⟨34, _⟩ => ⟨S32x5632, .f32⟩
  | .hbm, ⟨35, _⟩ => ⟨S32x5632, .f32⟩
  | .hbm, ⟨36, _⟩ => ⟨S32x5632, .f32⟩
  | .hbm, ⟨37, _⟩ => ⟨S32x5632, .f32⟩
  | .hbm, ⟨38, _⟩ => ⟨S32x5632, .f32⟩
  | .hbm, ⟨39, _⟩ => ⟨S32x2048, .f32⟩
  | .hbm, ⟨40, _⟩ => ⟨S32x2048, .f32⟩
  | .hbm, ⟨41, _⟩ => ⟨S32x2048, .f32⟩
  | .hbm, ⟨42, _⟩ => ⟨S_, .f32⟩
  | .hbm, ⟨43, _⟩ => ⟨S32, .f32⟩
  | .hbm, ⟨44, _⟩ => ⟨S32x1, .f32⟩
  | .hbm, ⟨45, _⟩ => ⟨S_, .f32⟩
  | .hbm, ⟨46, _⟩ => ⟨S32x1, .f32⟩
  | .hbm, ⟨47, _⟩ => ⟨S32x1, .f32⟩
  | .hbm, ⟨48, _⟩ => ⟨S_, .f32⟩
  | .hbm, ⟨49, _⟩ => ⟨S32x1, .f32⟩
  | .hbm, ⟨50, _⟩ => ⟨S32x1, .f32⟩
  | .hbm, ⟨51, _⟩ => ⟨S32x1, .f32⟩
  | .hbm, ⟨52, _⟩ => ⟨S32x2048, .f32⟩
  | .hbm, ⟨53, _⟩ => ⟨S32x2048, .f32⟩
  | .hbm, ⟨54, _⟩ => ⟨S1x2048, .f32⟩
  | .hbm, ⟨55, _⟩ => ⟨S32x2048, .f32⟩
  | .hbm, ⟨56, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== FfnMidS.lean ====
abbrev S32x2048 : Shape := ⟨2, ![32, 2048]⟩
abbrev S2x2048 : Shape := ⟨2, ![2, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S2048x1408 : Shape := ⟨2, ![2048, 1408]⟩
abbrev S1408x2048 : Shape := ⟨2, ![1408, 2048]⟩
abbrev S32 : Shape := ⟨1, ![32]⟩
abbrev S32x1 : Shape := ⟨2, ![32, 1]⟩
abbrev S32x1408 : Shape := ⟨2, ![32, 1408]⟩

abbrev nBuf : Space → Nat
  | .hbm => 11
  | .vmem => 11
  | .smem => 0
  | _ => 0

abbrev bufTy : (tb : Table) → Fin (tcTables nBuf tb) → BufTy
  | .hbm, ⟨0, _⟩ => ⟨S32x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1408x2048, .bf16⟩
  | .local _ .vmem, ⟨7, _⟩ => ⟨S1408x2048, .bf16⟩
  | .local _ .vmem, ⟨8, _⟩ => ⟨S1x2048, .f32⟩
  | .local _ .vmem, ⟨9, _⟩ => ⟨S32x2048, .f32⟩
  | .local _ .vmem, ⟨10, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnMidSRefIdeal.lean ====
abbrev S32x2048 : Shape := ⟨2, ![32, 2048]⟩
abbrev S2x2048 : Shape := ⟨2, ![2, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S_ : Shape := ⟨0, ![]⟩
abbrev S32 : Shape := ⟨1, ![32]⟩
abbrev S32x1 : Shape := ⟨2, ![32, 1]⟩
abbrev S32x5632 : Shape := ⟨2, ![32, 5632]⟩

abbrev nBuf : Space → Nat
  | .hbm => 41
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S32x2048, .f32⟩
  | .hbm, ⟨9, _⟩ => ⟨S_, .f32⟩
  | .hbm, ⟨10, _⟩ => ⟨S32, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S32x1, .f32⟩
  | .hbm, ⟨19, _⟩ => ⟨S32x2048, .f32⟩
  | .hbm, ⟨20, _⟩ => ⟨S32x2048, .f32⟩
  | .hbm, ⟨21, _⟩ => ⟨S1x2048, .f32⟩
  | .hbm, ⟨22, _⟩ => ⟨S32x2048, .f32⟩
  | .hbm, ⟨23, _⟩ => ⟨S32x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S32x5632, .f32⟩
  | .hbm, ⟨28, _⟩ => ⟨S32x5632, .f32⟩
  | .hbm, ⟨29, _⟩ => ⟨S32x5632, .f32⟩
  | .hbm, ⟨30, _⟩ => ⟨S_, .f32⟩
  | .hbm, ⟨31, _⟩ => ⟨S32x5632, .f32⟩
  | .hbm, ⟨32, _⟩ => ⟨S32x5632, .f32⟩
  | .hbm, ⟨33, _⟩ => ⟨S_, .f32⟩
  | .hbm, ⟨34, _⟩ => ⟨S32x5632, .f32⟩
  | .hbm, ⟨35, _⟩ => ⟨S32x5632, .f32⟩
  | .hbm, ⟨36, _⟩ => ⟨S32x5632, .f32⟩
  | .hbm, ⟨37, _⟩ => ⟨S32x5632, .f32⟩
  | .hbm, ⟨38, _⟩ => ⟨S32x5632, .f32⟩
  | .hbm, ⟨39, _⟩ => ⟨S32x2048, .f32⟩
  | .hbm, ⟨40, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Outproj.lean ====
abbrev S8192x1024 : Shape := ⟨2, ![8192, 1024]⟩
abbrev S2048x2048 : Shape := ⟨2, ![2048, 2048]⟩
abbrev S8192x2048 : Shape := ⟨2, ![8192, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutprojRefIdeal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutprojS.lean ====
abbrev S32x1024 : Shape := ⟨2, ![32, 1024]⟩
abbrev S2048x2048 : Shape := ⟨2, ![2048, 2048]⟩
abbrev S32x2048 : Shape := ⟨2, ![32, 2048]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S32x1024, .f32⟩
  | .hbm, ⟨1, _⟩ => ⟨S32x1024, .bf16⟩
  | .hbm, ⟨2, _⟩ => ⟨S2048x2048, .bf16⟩
  | .hbm, ⟨3, _⟩ => ⟨S32x2048, .f32⟩
  | .hbm, ⟨4, _⟩ => ⟨S32x1024, .bf16⟩
  | .hbm, ⟨5, _⟩ => ⟨S32x2048, .f32⟩
  | .local _ .vmem, ⟨0, _⟩ => ⟨S32x1024, .bf16⟩
  | .local _ .vmem, ⟨1, _⟩ => ⟨S32x1024, .bf16⟩
  | .local _ .vmem, ⟨2, _⟩ => ⟨S1024x2048, .bf16⟩
  | .local _ .vmem, ⟨3, _⟩ => ⟨S1024x2048, .bf16⟩
  | .local _ .vmem, ⟨4, _⟩ => ⟨S32x2048, .f32⟩
  | .local _ .vmem, ⟨5, _⟩ => ⟨S32x2048, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== OutprojSRefIdeal.lean ====
abbrev S32x1024 : Shape := ⟨2, ![32, 1024]⟩
abbrev S2048x2048 : Shape := ⟨2, ![2048, 2048]⟩
abbrev S32x2048 : Shape := ⟨2, ![32, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .bf16⟩
  | .hbm, ⟨2, _⟩ => ⟨S2048x2048, .bf16⟩
  | .hbm, ⟨3, _⟩ => ⟨S32x2048, .f32⟩
  | .hbm, ⟨4, _⟩ => ⟨S32x1024, .f32⟩
  | .hbm, ⟨5, _⟩ => ⟨S32x2048, .f32⟩
  | .hbm, ⟨6, _⟩ => ⟨S2048x2048, .f32⟩
  | .hbm, ⟨7, _⟩ => ⟨S32x2048, .f32⟩
  | .hbm, ⟨8, _⟩ => ⟨S32x2048, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Qkv.lean ====
abbrev S2x4096x2048 : Shape := ⟨3, ![2, 4096, 2048]⟩
abbrev S2x2048 : Shape := ⟨2, ![2, 2048]⟩
abbrev S1x2048x6144 : Shape := ⟨3, ![1, 2048, 6144]⟩
abbrev S2x2048x5632 : Shape := ⟨3, ![2, 2048, 5632]⟩
abbrev S8192x2048 : Shape := ⟨2, ![8192, 2048]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x2048 : Shape := ⟨2, ![1, 2048]⟩
abbrev S2048 : Shape := ⟨1, ![2048]⟩
abbrev S8192x1024 : Shape := ⟨2, ![8192, 1024]⟩
abbrev S2048x5632 : Shape := ⟨2, ![2048, 5632]⟩
abbrev S512x2048 : Shape := ⟨2, ![512, 2048]⟩
abbrev S1x2048x3072 : Shape := ⟨3, ![1, 2048, 3072]⟩
abbrev S512x128 : Shape := ⟨2, ![512, 128]⟩
abbrev S1x128x5632 : Shape := ⟨3, ![1, 128, 5632]⟩
abbrev S512x1024 : Shape := ⟨2, ![512, 1024]⟩
abbrev S128x5632 : Shape := ⟨2, ![128, 5632]⟩
abbrev S512 : Shape := ⟨1, ![512]⟩
abbrev S512x1 : Shape := ⟨2, ![512, 1]⟩
abbrev S1x2048x1024 : Shape := ⟨3, ![1, 2048, 1024]⟩
abbrev S2048x1024 : Shape := ⟨2, ![2048, 1024]⟩

abbrev nBuf : Space → Nat
  | .hbm => 33
  | .vmem => 18
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x6144, .f32⟩
  | .hbm, ⟨3, _⟩ => ⟨S2x2048x5632, .f32⟩
  | .hbm, ⟨4, _⟩ => ⟨S8192x2048, .f32⟩
  | .hbm, ⟨5, _⟩ => ⟨S4096, .i32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S4096, .f32⟩
  | .hbm, ⟨15, _⟩ => ⟨S4096x1, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x128, .f32⟩
  | .hbm, ⟨23, _⟩ => ⟨S4096x64, .f32⟩
  | .hbm, ⟨24, _⟩ => ⟨S4096x128, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S1x2048x6144, .bf16⟩
  | .hbm, ⟨29, _⟩ => ⟨S8192x1024, .bf16⟩
  | .hbm, ⟨30, _⟩ => ⟨S8192x1024, .f32⟩
  | .hbm, ⟨31, _⟩ => ⟨S8192x1024, .f32⟩
  | .hbm, ⟨32, _⟩ => ⟨S2048x5632, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128x5632, .f32⟩
  | .local _ .vmem, ⟨9, _⟩ => ⟨S1x128x5632, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S128x5632, .bf16⟩
  | .local _ .vmem, ⟨17, _⟩ => ⟨S128x5632, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev main_v23_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S2x4096x2048 : Shape := ⟨3, ![2, 4096, 2048]⟩
abbrev S2x2048 : Shape := ⟨2, ![2, 2048]⟩
abbrev S1x2048x6144 : Shape := ⟨3, ![1, 2048, 6144]⟩
abbrev S2x2048x5632 : Shape := ⟨3, ![2, 2048, 5632]⟩
abbrev S4096 : Shape := ⟨1, ![4096]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x6144 : Shape := ⟨2, ![2048, 6144]⟩
abbrev S2x4096x6144 : Shape := ⟨3, ![2, 4096, 6144]⟩
abbrev S2x4096x1024 : Shape := ⟨3, ![2, 4096, 1024]⟩
abbrev S2x4096x8x128 : Shape := ⟨4, ![2, 4096, 8, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x8x64 : Shape := ⟨4, ![2, 4096, 8, 64]⟩
abbrev S8192x1024 : Shape := ⟨2, ![8192, 1024]⟩
abbrev S1x2048x5632 : Shape := ⟨3, ![1, 2048, 5632]⟩
abbrev S2048x5632 : Shape := ⟨2, ![2048, 5632]⟩

abbrev nBuf : Space → Nat
  | .hbm => 102
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x6144, .f32⟩
  | .hbm, ⟨3, _⟩ => ⟨S2x2048x5632, .f32⟩
  | .hbm, ⟨4, _⟩ => ⟨S4096, .i32⟩
  | .hbm, ⟨5, _⟩ => ⟨S1x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2048x6144, .f32⟩
  | .hbm, ⟨24, _⟩ => ⟨S2x4096x6144, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x8x128, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S4096, .f32⟩
  | .hbm, ⟨38, _⟩ => ⟨S4096x1, .f32⟩
  | .hbm, ⟨39, _⟩ => ⟨S1x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S1x4096x1x64, .f32⟩
  | .hbm, ⟨45, _⟩ => ⟨S4096x64, .f32⟩
  | .hbm, ⟨46, _⟩ => ⟨S1x4096x1x64, .f32⟩
  | .hbm, ⟨47, _⟩ => ⟨S2x4096x8x64, .f32⟩
  | .hbm, ⟨48, _⟩ => ⟨S2x4096x8x64, .f32⟩
  | .hbm, ⟨49, _⟩ => ⟨S2x4096x8x64, .f32⟩
  | .hbm, ⟨50, _⟩ => ⟨S2x4096x8x64, .f32⟩
  | .hbm, ⟨51, _⟩ => ⟨S2x4096x8x64, .f32⟩
  | .hbm, ⟨52, _⟩ => ⟨S2x4096x8x64, .f32⟩
  | .hbm, ⟨53, _⟩ => ⟨S2x4096x8x64, .f32⟩
  | .hbm, ⟨54, _⟩ => ⟨S2x4096x8x64, .f32⟩
  | .hbm, ⟨55, _⟩ => ⟨S2x4096x8x64, .f32⟩
  | .hbm, ⟨56, _⟩ => ⟨S2x4096x8x64, .f32⟩
  | .hbm, ⟨57, _⟩ => ⟨S2x4096x8x64, .f32⟩
  | .hbm, ⟨58, _⟩ => ⟨S2x4096x8x64, .f32⟩
  | .hbm, ⟨59, _⟩ => ⟨S2x4096x8x128, .f32⟩
  | .hbm, ⟨60, _⟩ => ⟨S_, .f32⟩
  | .hbm, ⟨61, _⟩ => ⟨S2x4096x8x128, .f32⟩
  | .hbm, ⟨62, _⟩ => ⟨S2x4096x8x128, .f32⟩
  | .hbm, ⟨63, _⟩ => ⟨S2x4096x8x128, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S4096, .f32⟩
  | .hbm, ⟨73, _⟩ => ⟨S4096x1, .f32⟩
  | .hbm, ⟨74, _⟩ => ⟨S1x64, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S4096x64, .f32⟩
  | .hbm, ⟨79, _⟩ => ⟨S1x4096x1x64, .f32⟩
  | .hbm, ⟨80, _⟩ => ⟨S4096x64, .f32⟩
  | .hbm, ⟨81, _⟩ => ⟨S1x4096x1x64, .f32⟩
  | .hbm, ⟨82, _⟩ => ⟨S2x4096x8x64, .f32⟩
  | .hbm, ⟨83, _⟩ => ⟨S2x4096x8x64, .f32⟩
  | .hbm, ⟨84, _⟩ => ⟨S2x4096x8x64, .f32⟩
  | .hbm, ⟨85, _⟩ => ⟨S2x4096x8x64, .f32⟩
  | .hbm, ⟨86, _⟩ => ⟨S2x4096x8x64, .f32⟩
  | .hbm, ⟨87, _⟩ => ⟨S2x4096x8x64, .f32⟩
  | .hbm, ⟨88, _⟩ => ⟨S2x4096x8x64, .f32⟩
  | .hbm, ⟨89, _⟩ => ⟨S2x4096x8x64, .f32⟩
  | .hbm, ⟨90, _⟩ => ⟨S2x4096x8x64, .f32⟩
  | .hbm, ⟨91, _⟩ => ⟨S2x4096x8x64, .f32⟩
  | .hbm, ⟨92, _⟩ => ⟨S2x4096x8x64, .f32⟩
  | .hbm, ⟨93, _⟩ => ⟨S2x4096x8x64, .f32⟩
  | .hbm, ⟨94, _⟩ => ⟨S2x4096x8x128, .f32⟩
  | .hbm, ⟨95, _⟩ => ⟨S8192x1024, .f32⟩
  | .hbm, ⟨96, _⟩ => ⟨S8192x1024, .bf16⟩
  | .hbm, ⟨97, _⟩ => ⟨S8192x1024, .f32⟩
  | .hbm, ⟨98, _⟩ => ⟨S8192x1024, .f32⟩
  | .hbm, ⟨99, _⟩ => ⟨S1x2048x5632, .f32⟩
  | .hbm, ⟨100, _⟩ => ⟨S2048x5632, .f32⟩
  | .hbm, ⟨101, _⟩ => ⟨S2048x5632, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩

abbrev nD : Nat := 1
abbrev τ : Topo := Topo.v7x

variable {F : FTy → Type} [FloatOps F]
-- ==== QkvS.lean ====
abbrev S8x4x2048 : Shape := ⟨3, ![8, 4, 2048]⟩
abbrev S2x2048 : Shape := ⟨2, ![2, 2048]⟩
abbrev S1x2048x6144 : Shape := ⟨3, ![1, 2048, 6144]⟩
abbrev S4x8x2048 : Shape := ⟨3, ![4, 8, 2048]⟩
abbrev S32x2048 : Shape := ⟨2, ![32, 2048]⟩
abbrev S4 : Shape := ⟨1, ![4]⟩
abbrev S4x8 : Shape := ⟨2, ![4, 8]⟩
abbrev S32 : Shape := ⟨1, ![32]⟩
abbrev S_ : Shape := ⟨0, ![]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x2048 : Shape := ⟨2, ![1, 2048]⟩
abbrev S2048 : Shape := ⟨1, ![2048]⟩
abbrev S32x1024 : Shape := ⟨2, ![32, 1024]⟩
abbrev S1x2048x3072 : Shape := ⟨3, ![1, 2048, 3072]⟩
abbrev S1x2048x1024 : Shape := ⟨3, ![1, 2048, 1024]⟩
abbrev S2048x1024 : Shape := ⟨2, ![2048, 1024]⟩

abbrev nBuf : Space → Nat
  | .hbm => 37
  | .vmem => 8
  | .smem => 0
  | _ => 0

abbrev bufTy : (tb : Table) → Fin (tcTables nBuf tb) → BufTy
  | .hbm, ⟨0, _⟩ => ⟨S8x4x2048, .f32⟩
  | .hbm, ⟨1, _⟩ => ⟨S2x2048, .f32⟩
  | .hbm, ⟨2, _⟩ => ⟨S1x2048x6144, .f32⟩
  | .hbm, ⟨3, _⟩ => ⟨S4x8x2048, .f32⟩
  | .hbm, ⟨4, _⟩ => ⟨S32x2048, .f32⟩
  | .hbm, ⟨5, _⟩ => ⟨S4, .i32⟩
  | .hbm, ⟨6, _⟩ => ⟨S4x8, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S32, .f32⟩
  | .hbm, ⟨20, _⟩ => ⟨S32x1, .f32⟩
  | .hbm, ⟨21, _⟩ => ⟨S1x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x128, .f32⟩
  | .hbm, ⟨28, _⟩ => ⟨S32x64, .f32⟩
  | .hbm, ⟨29, _⟩ => ⟨S32x128, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S1x2048x6144, .bf16⟩
  | .hbm, ⟨34, _⟩ => ⟨S32x1024, .bf16⟩
  | .hbm, ⟨35, _⟩ => ⟨S32x1024, .f32⟩
  | .hbm, ⟨36, _⟩ => ⟨S32x1024, .f32⟩
  | .local _ .vmem, ⟨0, _⟩ => ⟨S32x2048, .f32⟩
  | .local _ .vmem, ⟨1, _⟩ => ⟨S1x2048, .f32⟩
  | .local _ .vmem, ⟨2, _⟩ => ⟨S1x2048x3072, .bf16⟩
  | .local _ .vmem, ⟨3, _⟩ => ⟨S32x128, .f32⟩
  | .local _ .vmem, ⟨4, _⟩ => ⟨S32x128, .f32⟩
  | .local _ .vmem, ⟨5, _⟩ => ⟨S32x1024, .bf16⟩
  | .local _ .vmem, ⟨6, _⟩ => ⟨S32x1024, .f32⟩
  | .local _ .vmem, ⟨7, _⟩ => ⟨S32x1024, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28_0 : Ref sig .tc := ⟨.hbm, 34, rfl⟩
abbrev main_v28_1 : Ref sig .tc := ⟨.hbm, 35, rfl⟩
abbrev main_v28_2 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== QkvSRefIdeal.lean ====
abbrev S8x4x2048 : Shape := ⟨3, ![8, 4, 2048]⟩
abbrev S2x2048 : Shape := ⟨2, ![2, 2048]⟩
abbrev S1x2048x6144 : Shape := ⟨3, ![1, 2048, 6144]⟩
abbrev S4 : Shape := ⟨1, ![4]⟩
abbrev S_ : Shape := ⟨0, ![]⟩
abbrev S1x2048 : Shape := ⟨2, ![1, 2048]⟩
abbrev S2048 : Shape := ⟨1, ![2048]⟩
abbrev S8x4 : Shape := ⟨2, ![8, 4]⟩
abbrev S8x4x1 : Shape := ⟨3, ![8, 4, 1]⟩
abbrev S1x1x2048 : Shape := ⟨3, ![1, 1, 2048]⟩
abbrev S2048x6144 : Shape := ⟨2, ![2048, 6144]⟩
abbrev S8x4x6144 : Shape := ⟨3, ![8, 4, 6144]⟩
abbrev S8x4x1024 : Shape := ⟨3, ![8, 4, 1024]⟩
abbrev S8x4x8x128 : Shape := ⟨4, ![8, 4, 8, 128]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S1x4x1x64 : Shape := ⟨4, ![1, 4, 1, 64]⟩
abbrev S8x4x8x64 : Shape := ⟨4, ![8, 4, 8, 64]⟩
abbrev S4x8x1024 : Shape := ⟨3, ![4, 8, 1024]⟩
abbrev S32x1024 : Shape := ⟨2, ![32, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S2x2048, .f32⟩
  | .hbm, ⟨2, _⟩ => ⟨S1x2048x6144, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x2048, .f32⟩
  | .hbm, ⟨8, _⟩ => ⟨S2048, .f32⟩
  | .hbm, ⟨9, _⟩ => ⟨S8x4x2048, .f32⟩
  | .hbm, ⟨10, _⟩ => ⟨S_, .f32⟩
  | .hbm, ⟨11, _⟩ => ⟨S8x4, .f32⟩
  | .hbm, ⟨12, _⟩ => ⟨S8x4x1, .f32⟩
  | .hbm, ⟨13, _⟩ => ⟨S_, .f32⟩
  | .hbm, ⟨14, _⟩ => ⟨S8x4x1, .f32⟩
  | .hbm, ⟨15, _⟩ => ⟨S8x4x1, .f32⟩
  | .hbm, ⟨16, _⟩ => ⟨S_, .f32⟩
  | .hbm, ⟨17, _⟩ => ⟨S8x4x1, .f32⟩
  | .hbm, ⟨18, _⟩ => ⟨S8x4x1, .f32⟩
  | .hbm, ⟨19, _⟩ => ⟨S8x4x1, .f32⟩
  | .hbm, ⟨20, _⟩ => ⟨S8x4x2048, .f32⟩
  | .hbm, ⟨21, _⟩ => ⟨S8x4x2048, .f32⟩
  | .hbm, ⟨22, _⟩ => ⟨S1x1x2048, .f32⟩
  | .hbm, ⟨23, _⟩ => ⟨S8x4x2048, .f32⟩
  | .hbm, ⟨24, _⟩ => ⟨S8x4x2048, .f32⟩
  | .hbm, ⟨25, _⟩ => ⟨S2048x6144, .f32⟩
  | .hbm, ⟨26, _⟩ => ⟨S8x4x6144, .f32⟩
  | .hbm, ⟨27, _⟩ => ⟨S8x4x1024, .f32⟩
  | .hbm, ⟨28, _⟩ => ⟨S8x4x1024, .f32⟩
  | .hbm, ⟨29, _⟩ => ⟨S8x4x1024, .f32⟩
  | .hbm, ⟨30, _⟩ => ⟨S8x4x8x128, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S4, .f32⟩
  | .hbm, ⟨40, _⟩ => ⟨S4x1, .f32⟩
  | .hbm, ⟨41, _⟩ => ⟨S1x64, .f32⟩
  | .hbm, ⟨42, _⟩ => ⟨S4x64, .f32⟩
  | .hbm, ⟨43, _⟩ => ⟨S4x64, .f32⟩
  | .hbm, ⟨44, _⟩ => ⟨S4x64, .f32⟩
  | .hbm, ⟨45, _⟩ => ⟨S4x64, .f32⟩
  | .hbm, ⟨46, _⟩ => ⟨S1x4x1x64, .f32⟩
  | .hbm, ⟨47, _⟩ => ⟨S4x64, .f32⟩
  | .hbm, ⟨48, _⟩ => ⟨S1x4x1x64, .f32⟩
  | .hbm, ⟨49, _⟩ => ⟨S8x4x8x64, .f32⟩
  | .hbm, ⟨50, _⟩ => ⟨S8x4x8x64, .f32⟩
  | .hbm, ⟨51, _⟩ => ⟨S8x4x8x64, .f32⟩
  | .hbm, ⟨52, _⟩ => ⟨S8x4x8x64, .f32⟩
  | .hbm, ⟨53, _⟩ => ⟨S8x4x8x64, .f32⟩
  | .hbm, ⟨54, _⟩ => ⟨S8x4x8x64, .f32⟩
  | .hbm, ⟨55, _⟩ => ⟨S8x4x8x64, .f32⟩
  | .hbm, ⟨56, _⟩ => ⟨S8x4x8x64, .f32⟩
  | .hbm, ⟨57, _⟩ => ⟨S8x4x8x64, .f32⟩
  | .hbm, ⟨58, _⟩ => ⟨S8x4x8x64, .f32⟩
  | .hbm, ⟨59, _⟩ => ⟨S8x4x8x64, .f32⟩
  | .hbm, ⟨60, _⟩ => ⟨S8x4x8x64, .f32⟩
  | .hbm, ⟨61, _⟩ => ⟨S8x4x8x128, .f32⟩
  | .hbm, ⟨62, _⟩ => ⟨S_, .f32⟩
  | .hbm, ⟨63, _⟩ => ⟨S8x4x8x128, .f32⟩
  | .hbm, ⟨64, _⟩ => ⟨S8x4x8x128, .f32⟩
  | .hbm, ⟨65, _⟩ => ⟨S8x4x8x128, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S4, .f32⟩
  | .hbm, ⟨75, _⟩ => ⟨S4x1, .f32⟩
  | .hbm, ⟨76, _⟩ => ⟨S1x64, .f32⟩
  | .hbm, ⟨77, _⟩ => ⟨S4x64, .f32⟩
  | .hbm, ⟨78, _⟩ => ⟨S4x64, .f32⟩
  | .hbm, ⟨79, _⟩ => ⟨S4x64, .f32⟩
  | .hbm, ⟨80, _⟩ => ⟨S4x64, .f32⟩
  | .hbm, ⟨81, _⟩ => ⟨S1x4x1x64, .f32⟩
  | .hbm, ⟨82, _⟩ => ⟨S4x64, .f32⟩
  | .hbm, ⟨83, _⟩ => ⟨S1x4x1x64, .f32⟩
  | .hbm, ⟨84, _⟩ => ⟨S8x4x8x64, .f32⟩
  | .hbm, ⟨85, _⟩ => ⟨S8x4x8x64, .f32⟩
  | .hbm, ⟨86, _⟩ => ⟨S8x4x8x64, .f32⟩
  | .hbm, ⟨87, _⟩ => ⟨S8x4x8x64, .f32⟩
  | .hbm, ⟨88, _⟩ => ⟨S8x4x8x64, .f32⟩
  | .hbm, ⟨89, _⟩ => ⟨S8x4x8x64, .f32⟩
  | .hbm, ⟨90, _⟩ => ⟨S8x4x8x64, .f32⟩
  | .hbm, ⟨91, _⟩ => ⟨S8x4x8x64, .f32⟩
  | .hbm, ⟨92, _⟩ => ⟨S8x4x8x64, .f32⟩
  | .hbm, ⟨93, _⟩ => ⟨S8x4x8x64, .f32⟩
  | .hbm, ⟨94, _⟩ => ⟨S8x4x8x64, .f32⟩
  | .hbm, ⟨95, _⟩ => ⟨S8x4x8x64, .f32⟩
  | .hbm, ⟨96, _⟩ => ⟨S8x4x8x128, .f32⟩
  | .hbm, ⟨97, _⟩ => ⟨S8x4x1024, .f32⟩
  | .hbm, ⟨98, _⟩ => ⟨S8x4x1024, .f32⟩
  | .hbm, ⟨99, _⟩ => ⟨S4x8x1024, .f32⟩
  | .hbm, ⟨100, _⟩ => ⟨S32x1024, .f32⟩
  | .hbm, ⟨101, _⟩ => ⟨S4x8x1024, .f32⟩
  | .hbm, ⟨102, _⟩ => ⟨S32x1024, .f32⟩
  | .hbm, ⟨103, _⟩ => ⟨S4x8x1024, .f32⟩
  | .hbm, ⟨104, _⟩ => ⟨S32x1024, .f32⟩
  | .hbm, ⟨105, _⟩ => ⟨S32x1024, .bf16⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩

abbrev nD : Nat := 1
abbrev τ : Topo := Topo.v7x

variable {F : FTy → Type} [FloatOps F]
-- ==== GconvS.lean ====
abbrev S8x4x2048 : Shape := ⟨3, ![8, 4, 2048]⟩
abbrev S2x2048 : Shape := ⟨2, ![2, 2048]⟩
abbrev S1x2048x6144 : Shape := ⟨3, ![1, 2048, 6144]⟩
abbrev S1x3x1024 : Shape := ⟨3, ![1, 3, 1024]⟩
abbrev S1x8x2x1024 : Shape := ⟨4, ![1, 8, 2, 1024]⟩
abbrev S4x8x2048 : Shape := ⟨3, ![4, 8, 2048]⟩
abbrev S32x2048 : Shape := ⟨2, ![32, 2048]⟩
abbrev S1x2048 : Shape := ⟨2, ![1, 2048]⟩
abbrev S2048 : Shape := ⟨1, ![2048]⟩
abbrev S3x1024 : Shape := ⟨2, ![3, 1024]⟩
abbrev S8x2x1024 : Shape := ⟨3, ![8, 2, 1024]⟩
abbrev S2x8x1024 : Shape := ⟨3, ![2, 8, 1024]⟩
abbrev S1x16x1024 : Shape := ⟨3, ![1, 16, 1024]⟩
abbrev S32x1024 : Shape := ⟨2, ![32, 1024]⟩
abbrev S1x2048x3072 : Shape := ⟨3, ![1, 2048, 3072]⟩
abbrev S48x1024 : Shape := ⟨2, ![48, 1024]⟩
abbrev S32 : Shape := ⟨1, ![32]⟩
abbrev S32x1 : Shape := ⟨2, ![32, 1]⟩
abbrev S1x2048x1024 : Shape := ⟨3, ![1, 2048, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 17
  | .vmem => 8
  | .smem => 0
  | _ => 0

abbrev bufTy : (tb : Table) → Fin (tcTables nBuf tb) → BufTy
  | .hbm, ⟨0, _⟩ => ⟨S8x4x2048, .f32⟩
  | .hbm, ⟨1, _⟩ => ⟨S2x2048, .f32⟩
  | .hbm, ⟨2, _⟩ => ⟨S1x2048x6144, .f32⟩
  | .hbm, ⟨3, _⟩ => ⟨S1x3x1024, .f32⟩
  | .hbm, ⟨4, _⟩ => ⟨S1x8x2x1024, .f32⟩
  | .hbm, ⟨5, _⟩ => ⟨S4x8x2048, .f32⟩
  | .hbm, ⟨6, _⟩ => ⟨S32x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048x6144, .bf16⟩
  | .hbm, ⟨11, _⟩ => ⟨S3x1024, .f32⟩
  | .hbm, ⟨12, _⟩ => ⟨S8x2x1024, .f32⟩
  | .hbm, ⟨13, _⟩ => ⟨S2x8x1024, .f32⟩
  | .hbm, ⟨14, _⟩ => ⟨S1x16x1024, .f32⟩
  | .hbm, ⟨15, _⟩ => ⟨S32x1024, .bf16⟩
  | .hbm, ⟨16, _⟩ => ⟨S1x16x1024, .f32⟩
  | .local _ .vmem, ⟨0, _⟩ => ⟨S32x2048, .f32⟩
  | .local _ .vmem, ⟨1, _⟩ => ⟨S1x2048, .f32⟩
  | .local _ .vmem, ⟨2, _⟩ => ⟨S1x2048x3072, .bf16⟩
  | .local _ .vmem, ⟨3, _⟩ => ⟨S3x1024, .f32⟩
  | .local _ .vmem, ⟨4, _⟩ => ⟨S1x16x1024, .f32⟩
  | .local _ .vmem, ⟨5, _⟩ => ⟨S32x1024, .bf16⟩
  | .local _ .vmem, ⟨6, _⟩ => ⟨S1x16x1024, .f32⟩
  | .local _ .vmem, ⟨7, _⟩ => ⟨S48x1024, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GconvSRefIdeal.lean ====
abbrev S8x4x2048 : Shape := ⟨3, ![8, 4, 2048]⟩
abbrev S2x2048 : Shape := ⟨2, ![2, 2048]⟩
abbrev S1x2048x6144 : Shape := ⟨3, ![1, 2048, 6144]⟩
abbrev S1x3x1024 : Shape := ⟨3, ![1, 3, 1024]⟩
abbrev S1x8x2x1024 : Shape := ⟨4, ![1, 8, 2, 1024]⟩
abbrev S1x2048 : Shape := ⟨2, ![1, 2048]⟩
abbrev S2048 : Shape := ⟨1, ![2048]⟩
abbrev S_ : Shape := ⟨0, ![]⟩
abbrev S8x4 : Shape := ⟨2, ![8, 4]⟩
abbrev S8x4x1 : Shape := ⟨3, ![8, 4, 1]⟩
abbrev S1x1x2048 : Shape := ⟨3, ![1, 1, 2048]⟩
abbrev S8x2x1024 : Shape := ⟨3, ![8, 2, 1024]⟩
abbrev S2048x6144 : Shape := ⟨2, ![2048, 6144]⟩
abbrev S3x1024 : Shape := ⟨2, ![3, 1024]⟩
abbrev S8x4x6144 : Shape := ⟨3, ![8, 4, 6144]⟩
abbrev S8x4x1024 : Shape := ⟨3, ![8, 4, 1024]⟩
abbrev S8x6x1024 : Shape := ⟨3, ![8, 6, 1024]⟩
abbrev S1x1024 : Shape := ⟨2, ![1, 1024]⟩
abbrev S1024 : Shape := ⟨1, ![1024]⟩
abbrev S1x1x1024 : Shape := ⟨3, ![1, 1, 1024]⟩
abbrev S4x8x1024 : Shape := ⟨3, ![4, 8, 1024]⟩
abbrev S32x1024 : Shape := ⟨2, ![32, 1024]⟩
abbrev S2x8x1024 : Shape := ⟨3, ![2, 8, 1024]⟩
abbrev S1x16x1024 : Shape := ⟨3, ![1, 16, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S2x2048, .f32⟩
  | .hbm, ⟨2, _⟩ => ⟨S1x2048x6144, .f32⟩
  | .hbm, ⟨3, _⟩ => ⟨S1x3x1024, .f32⟩
  | .hbm, ⟨4, _⟩ => ⟨S1x8x2x1024, .f32⟩
  | .hbm, ⟨5, _⟩ => ⟨S1x2048, .f32⟩
  | .hbm, ⟨6, _⟩ => ⟨S2048, .f32⟩
  | .hbm, ⟨7, _⟩ => ⟨S8x4x2048, .f32⟩
  | .hbm, ⟨8, _⟩ => ⟨S_, .f32⟩
  | .hbm, ⟨9, _⟩ => ⟨S8x4, .f32⟩
  | .hbm, ⟨10, _⟩ => ⟨S8x4x1, .f32⟩
  | .hbm, ⟨11, _⟩ => ⟨S_, .f32⟩
  | .hbm, ⟨12, _⟩ => ⟨S8x4x1, .f32⟩
  | .hbm, ⟨13, _⟩ => ⟨S8x4x1, .f32⟩
  | .hbm, ⟨14, _⟩ => ⟨S_, .f32⟩
  | .hbm, ⟨15, _⟩ => ⟨S8x4x1, .f32⟩
  | .hbm, ⟨16, _⟩ => ⟨S8x4x1, .f32⟩
  | .hbm, ⟨17, _⟩ => ⟨S8x4x1, .f32⟩
  | .hbm, ⟨18, _⟩ => ⟨S8x4x2048, .f32⟩
  | .hbm, ⟨19, _⟩ => ⟨S8x4x2048, .f32⟩
  | .hbm, ⟨20, _⟩ => ⟨S1x1x2048, .f32⟩
  | .hbm, ⟨21, _⟩ => ⟨S8x4x2048, .f32⟩
  | .hbm, ⟨22, _⟩ => ⟨S8x4x2048, .f32⟩
  | .hbm, ⟨23, _⟩ => ⟨S8x2x1024, .f32⟩
  | .hbm, ⟨24, _⟩ => ⟨S2048x6144, .f32⟩
  | .hbm, ⟨25, _⟩ => ⟨S3x1024, .f32⟩
  | .hbm, ⟨26, _⟩ => ⟨S8x4x6144, .f32⟩
  | .hbm, ⟨27, _⟩ => ⟨S8x4x1024, .f32⟩
  | .hbm, ⟨28, _⟩ => ⟨S8x4x1024, .f32⟩
  | .hbm, ⟨29, _⟩ => ⟨S8x4x1024, .f32⟩
  | .hbm, ⟨30, _⟩ => ⟨S8x4x1024, .f32⟩
  | .hbm, ⟨31, _⟩ => ⟨S8x6x1024, .f32⟩
  | .hbm, ⟨32, _⟩ => ⟨S8x4x1024, .f32⟩
  | .hbm, ⟨33, _⟩ => ⟨S1x1024, .f32⟩
  | .hbm, ⟨34, _⟩ => ⟨S1024, .f32⟩
  | .hbm, ⟨35, _⟩ => ⟨S1x1x1024, .f32⟩
  | .hbm, ⟨36, _⟩ => ⟨S8x4x1024, .f32⟩
  | .hbm, ⟨37, _⟩ => ⟨S8x4x1024, .f32⟩
  | .hbm, ⟨38, _⟩ => ⟨S8x4x1024, .f32⟩
  | .hbm, ⟨39, _⟩ => ⟨S1x1024, .f32⟩
  | .hbm, ⟨40, _⟩ => ⟨S1024, .f32⟩
  | .hbm, ⟨41, _⟩ => ⟨S1x1x1024, .f32⟩
  | .hbm, ⟨42, _⟩ => ⟨S8x4x1024, .f32⟩
  | .hbm, ⟨43, _⟩ => ⟨S8x4x1024, .f32⟩
  | .hbm, ⟨44, _⟩ => ⟨S8x4x1024, .f32⟩
  | .hbm, ⟨45, _⟩ => ⟨S8x4x1024, .f32⟩
  | .hbm, ⟨46, _⟩ => ⟨S1x1024, .f32⟩
  | .hbm, ⟨47, _⟩ => ⟨S1024, .f32⟩
  | .hbm, ⟨48, _⟩ => ⟨S1x1x1024, .f32⟩
  | .hbm, ⟨49, _⟩ => ⟨S8x4x1024, .f32⟩
  | .hbm, ⟨50, _⟩ => ⟨S8x4x1024, .f32⟩
  | .hbm, ⟨51, _⟩ => ⟨S8x4x1024, .f32⟩
  | .hbm, ⟨52, _⟩ => ⟨S8x4x1024, .f32⟩
  | .hbm, ⟨53, _⟩ => ⟨S8x2x1024, .f32⟩
  | .hbm, ⟨54, _⟩ => ⟨S4x8x1024, .f32⟩
  | .hbm, ⟨55, _⟩ => ⟨S32x1024, .f32⟩
  | .hbm, ⟨56, _⟩ => ⟨S32x1024, .bf16⟩
  | .hbm, ⟨57, _⟩ => ⟨S2x8x1024, .f32⟩
  | .hbm, ⟨58, _⟩ => ⟨S1x16x1024, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== PoolS.lean ====
abbrev S32x2048 : Shape := ⟨2, ![32, 2048]⟩
abbrev S2x2048 : Shape := ⟨2, ![2, 2048]⟩
abbrev S1x4x512x512 : Shape := ⟨4, ![1, 4, 512, 512]⟩
abbrev S1x2048 : Shape := ⟨2, ![1, 2048]⟩
abbrev S1x8x15x2048 : Shape := ⟨4, ![1, 8, 15, 2048]⟩
abbrev S2048 : Shape := ⟨1, ![2048]⟩
abbrev S8x15x2048 : Shape := ⟨3, ![8, 15, 2048]⟩
abbrev S15x8x2048 : Shape := ⟨3, ![15, 8, 2048]⟩
abbrev S1x120x2048 : Shape := ⟨3, ![1, 120, 2048]⟩
abbrev S152x2048 : Shape := ⟨2, ![152, 2048]⟩
abbrev S4x32x32 : Shape := ⟨3, ![4, 32, 32]⟩
abbrev S120x2048 : Shape := ⟨2, ![120, 2048]⟩
abbrev S32 : Shape := ⟨1, ![32]⟩
abbrev S32x1 : Shape := ⟨2, ![32, 1]⟩
abbrev S32x512 : Shape := ⟨2, ![32, 512]⟩
abbrev S1x1x512x512 : Shape := ⟨4, ![1, 1, 512, 512]⟩
abbrev S512x512 : Shape := ⟨2, ![512, 512]⟩
abbrev S1x512 : Shape := ⟨2, ![1, 512]⟩

abbrev nBuf : Space → Nat
  | .hbm => 16
  | .vmem => 9
  | .smem => 0
  | _ => 0

abbrev bufTy : (tb : Table) → Fin (tcTables nBuf tb) → BufTy
  | .hbm, ⟨0, _⟩ => ⟨S32x2048, .f32⟩
  | .hbm, ⟨1, _⟩ => ⟨S2x2048, .f32⟩
  | .hbm, ⟨2, _⟩ => ⟨S1x4x512x512, .f32⟩
  | .hbm, ⟨3, _⟩ => ⟨S1x2048, .f32⟩
  | .hbm, ⟨4, _⟩ => ⟨S1x8x15x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x4x512x512, .bf16⟩
  | .hbm, ⟨9, _⟩ => ⟨S2048, .f32⟩
  | .hbm, ⟨10, _⟩ => ⟨S1x2048, .f32⟩
  | .hbm, ⟨11, _⟩ => ⟨S8x15x2048, .f32⟩
  | .hbm, ⟨12, _⟩ => ⟨S15x8x2048, .f32⟩
  | .hbm, ⟨13, _⟩ => ⟨S1x120x2048, .f32⟩
  | .hbm, ⟨14, _⟩ => ⟨S32x2048, .f32⟩
  | .hbm, ⟨15, _⟩ => ⟨S1x120x2048, .f32⟩
  | .local _ .vmem, ⟨0, _⟩ => ⟨S32x2048, .f32⟩
  | .local _ .vmem, ⟨1, _⟩ => ⟨S1x2048, .f32⟩
  | .local _ .vmem, ⟨2, _⟩ => ⟨S1x4x512x512, .bf16⟩
  | .local _ .vmem, ⟨3, _⟩ => ⟨S1x2048, .f32⟩
  | .local _ .vmem, ⟨4, _⟩ => ⟨S1x120x2048, .f32⟩
  | .local _ .vmem, ⟨5, _⟩ => ⟨S32x2048, .f32⟩
  | .local _ .vmem, ⟨6, _⟩ => ⟨S1x120x2048, .f32⟩
  | .local _ .vmem, ⟨7, _⟩ => ⟨S152x2048, .f32⟩
  | .local _ .vmem, ⟨8, _⟩ => ⟨S4x32x32, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x120x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x120x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PoolSRefIdeal.lean ====
abbrev S32x2048 : Shape := ⟨2, ![32, 2048]⟩
abbrev S2x2048 : Shape := ⟨2, ![2, 2048]⟩
abbrev S1x4x512x512 : Shape := ⟨4, ![1, 4, 512, 512]⟩
abbrev S1x2048 : Shape := ⟨2, ![1, 2048]⟩
abbrev S1x8x15x2048 : Shape := ⟨4, ![1, 8, 15, 2048]⟩
abbrev S4x8x2048 : Shape := ⟨3, ![4, 8, 2048]⟩
abbrev S8x4x2048 : Shape := ⟨3, ![8, 4, 2048]⟩
abbrev S4 : Shape := ⟨1, ![4]⟩
abbrev S_ : Shape := ⟨0, ![]⟩
abbrev S2048 : Shape := ⟨1, ![2048]⟩
abbrev S8x4 : Shape := ⟨2, ![8, 4]⟩
abbrev S8x4x1 : Shape := ⟨3, ![8, 4, 1]⟩
abbrev S1x1x2048 : Shape := ⟨3, ![1, 1, 2048]⟩
abbrev S8x15x2048 : Shape := ⟨3, ![8, 15, 2048]⟩
abbrev S4x512x512 : Shape := ⟨3, ![4, 512, 512]⟩
abbrev S8x19x2048 : Shape := ⟨3, ![8, 19, 2048]⟩
abbrev S8x4x512 : Shape := ⟨3, ![8, 4, 512]⟩
abbrev S1x4x1 : Shape := ⟨3, ![1, 4, 1]⟩
abbrev S1x512x512 : Shape := ⟨3, ![1, 512, 512]⟩
abbrev S512x512 : Shape := ⟨2, ![512, 512]⟩
abbrev S15x8x2048 : Shape := ⟨3, ![15, 8, 2048]⟩
abbrev S1x120x2048 : Shape := ⟨3, ![1, 120, 2048]⟩

abbrev nBuf : Space → Nat
  | .hbm => 159
  | .vmem => 0
  | .smem => 0
  | _ => 0

abbrev hbmTy0_0 (i : Nat) : BufTy := match i % 128 with
  | 0 => ⟨S32x2048, .f32⟩
  | 1 => ⟨S2x2048, .f32⟩
  | 2 => ⟨S1x4x512x512, .f32⟩
  | 3 => ⟨S1x2048, .f32⟩
  | 4 => ⟨S1x8x15x2048, .f32⟩
  | 5 => ⟨S4x8x2048, .f32⟩
  | 6 => ⟨S8x4x2048, .f32⟩
  | 7 => ⟨S4, .i32⟩
  | 8 => ⟨S_, .i32⟩
  | 9 => ⟨S4, .i32⟩
  | 10 => ⟨S4, .i32⟩
  | 11 => ⟨S1x2048, .f32⟩
  | 12 => ⟨S2048, .f32⟩
  | 13 => ⟨S8x4x2048, .f32⟩
  | 14 => ⟨S_, .f32⟩
  | 15 => ⟨S8x4, .f32⟩
  | 16 => ⟨S8x4x1, .f32⟩
  | 17 => ⟨S_, .f32⟩
  | 18 => ⟨S8x4x1, .f32⟩
  | 19 => ⟨S8x4x1, .f32⟩
  | 20 => ⟨S_, .f32⟩
  | 21 => ⟨S8x4x1, .f32⟩
  | 22 => ⟨S8x4x1, .f32⟩
  | 23 => ⟨S8x4x1, .f32⟩
  | 24 => ⟨S8x4x2048, .f32⟩
  | 25 => ⟨S8x4x2048, .f32⟩
  | 26 => ⟨S1x1x2048, .f32⟩
  | 27 => ⟨S8x4x2048, .f32⟩
  | 28 => ⟨S8x4x2048, .f32⟩
  | 29 => ⟨S8x15x2048, .f32⟩
  | 30 => ⟨S4x512x512, .f32⟩
  | 31 => ⟨S2048, .f32⟩
  | 32 => ⟨S8x19x2048, .f32⟩
  | 33 => ⟨S8x4x512, .f32⟩
  | 34 => ⟨S8x4x512, .f32⟩
  | 35 => ⟨S8x4x512, .f32⟩
  | 36 => ⟨S_, .i32⟩
  | 37 => ⟨S4, .i32⟩
  | 38 => ⟨S4, .i32⟩
  | 39 => ⟨S_, .i32⟩
  | 40 => ⟨S4, .i32⟩
  | 41 => ⟨S4, .i32⟩
  | 42 => ⟨S4, .f32⟩
  | 43 => ⟨S1x4x1, .f32⟩
  | 44 => ⟨S8x4x512, .f32⟩
  | 45 => ⟨S8x4x512, .f32⟩
  | 46 => ⟨S8x4x512, .f32⟩
  | 47 => ⟨S8x4x512, .f32⟩
  | 48 => ⟨S1x512x512, .f32⟩
  | 49 => ⟨S512x512, .f32⟩
  | 50 => ⟨S8x4x512, .f32⟩
  | 51 => ⟨S8x4x512, .f32⟩
  | 52 => ⟨S8x4x512, .f32⟩
  | 53 => ⟨S8x4x512, .f32⟩
  | 54 => ⟨S8x4x512, .f32⟩
  | 55 => ⟨S8x4x512, .f32⟩
  | 56 => ⟨S8x4x512, .f32⟩
  | 57 => ⟨S8x4x512, .f32⟩
  | 58 => ⟨S_, .i32⟩
  | 59 => ⟨S4, .i32⟩
  | 60 => ⟨S4, .i32⟩
  | 61 => ⟨S_, .i32⟩
  | 62 => ⟨S4, .i32⟩
  | 63 => ⟨S4, .i32⟩
  | 64 => ⟨S4, .f32⟩
  | 65 => ⟨S1x4x1, .f32⟩
  | 66 => ⟨S8x4x512, .f32⟩
  | 67 => ⟨S8x4x512, .f32⟩
  | 68 => ⟨S8x4x512, .f32⟩
  | 69 => ⟨S8x4x512, .f32⟩
  | 70 => ⟨S1x512x512, .f32⟩
  | 71 => ⟨S512x512, .f32⟩
  | 72 => ⟨S8x4x512, .f32⟩
  | 73 => ⟨S8x4x512, .f32⟩
  | 74 => ⟨S8x4x512, .f32⟩
  | 75 => ⟨S8x4x512, .f32⟩
  | 76 => ⟨S8x4x512, .f32⟩
  | 77 => ⟨S8x4x512, .f32⟩
  | 78 => ⟨S8x4x512, .f32⟩
  | 79 => ⟨S8x4x512, .f32⟩
  | 80 => ⟨S8x4x512, .f32⟩
  | 81 => ⟨S8x4x512, .f32⟩
  | 82 => ⟨S8x4x512, .f32⟩
  | 83 => ⟨S8x4x512, .f32⟩
  | 84 => ⟨S8x4x512, .f32⟩
  | 85 => ⟨S8x4x512, .f32⟩
  | 86 => ⟨S8x4x512, .f32⟩
  | 87 => ⟨S8x4x512, .f32⟩
  | 88 => ⟨S_, .i32⟩
  | 89 => ⟨S4, .i32⟩
  | 90 => ⟨S4, .i32⟩
  | 91 => ⟨S_, .i32⟩
  | 92 => ⟨S4, .i32⟩
  | 93 => ⟨S4, .i32⟩
  | 94 => ⟨S4, .f32⟩
  | 95 => ⟨S1x4x1, .f32⟩
  | 96 => ⟨S8x4x512, .f32⟩
  | 97 => ⟨S8x4x512, .f32⟩
  | 98 => ⟨S8x4x512, .f32⟩
  | 99 => ⟨S8x4x512, .f32⟩
  | 100 => ⟨S1x512x512, .f32⟩
  | 101 => ⟨S512x512, .f32⟩
  | 102 => ⟨S8x4x512, .f32⟩
  | 103 => ⟨S8x4x512, .f32⟩
  | 104 => ⟨S8x4x512, .f32⟩
  | 105 => ⟨S8x4x512, .f32⟩
  | 106 => ⟨S8x4x512, .f32⟩
  | 107 => ⟨S8x4x512, .f32⟩
  | 108 => ⟨S8x4x512, .f32⟩
  | 109 => ⟨S8x4x512, .f32⟩
  | 110 => ⟨S8x4x512, .f32⟩
  | 111 => ⟨S8x4x512, .f32⟩
  | 112 => ⟨S8x4x512, .f32⟩
  | 113 => ⟨S8x4x512, .f32⟩
  | 114 => ⟨S8x4x512, .f32⟩
  | 115 => ⟨S8x4x512, .f32⟩
  | 116 => ⟨S8x4x512, .f32⟩
  | 117 => ⟨S8x4x512, .f32⟩
  | 118 => ⟨S8x4x512, .f32⟩
  | 119 => ⟨S8x4x512, .f32⟩
  | 120 => ⟨S8x4x512, .f32⟩
  | 121 => ⟨S8x4x512, .f32⟩
  | 122 => ⟨S8x4x512, .f32⟩
  | 123 => ⟨S8x4x512, .f32⟩
  | 124 => ⟨S8x4x512, .f32⟩
  | 125 => ⟨S8x4x512, .f32⟩
  | 126 => ⟨S8x4x512, .f32⟩
  | 127 => ⟨S8x4x512, .f32⟩
  | _ => ⟨S32x2048, .f32⟩

abbrev hbmTy0_1 (i : Nat) : BufTy := match i % 128 with
  | 0 => ⟨S8x4x512, .f32⟩
  | 1 => ⟨S8x4x512, .f32⟩
  | 2 => ⟨S8x4x512, .f32⟩
  | 3 => ⟨S8x4x512, .f32⟩
  | 4 => ⟨S8x4x512, .f32⟩
  | 5 => ⟨S8x4x512, .f32⟩
  | 6 => ⟨S_, .i32⟩
  | 7 => ⟨S4, .i32⟩
  | 8 => ⟨S4, .i32⟩
  | 9 => ⟨S_, .i32⟩
  | 10 => ⟨S4, .i32⟩
  | 11 => ⟨S4, .i32⟩
  | 12 => ⟨S4, .f32⟩
  | 13 => ⟨S1x4x1, .f32⟩
  | 14 => ⟨S8x4x512, .f32⟩
  | 15 => ⟨S8x4x512, .f32⟩
  | 16 => ⟨S8x4x512, .f32⟩
  | 17 => ⟨S8x4x512, .f32⟩
  | 18 => ⟨S1x512x512, .f32⟩
  | 19 => ⟨S512x512, .f32⟩
  | 20 => ⟨S8x4x512, .f32⟩
  | 21 => ⟨S8x4x2048, .f32⟩
  | 22 => ⟨S1x1x2048, .f32⟩
  | 23 => ⟨S8x4x2048, .f32⟩
  | 24 => ⟨S8x4x2048, .f32⟩
  | 25 => ⟨S8x15x2048, .f32⟩
  | 26 => ⟨S8x4x2048, .f32⟩
  | 27 => ⟨S4x8x2048, .f32⟩
  | 28 => ⟨S32x2048, .f32⟩
  | 29 => ⟨S15x8x2048, .f32⟩
  | 30 => ⟨S1x120x2048, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_4 : Ref sig .tc := ⟨.hbm, 58, rfl⟩
abbrev main_v47 : Ref sig .tc := ⟨.hbm, 59, rfl⟩
abbrev main_v48 : Ref sig .tc := ⟨.hbm, 60, rfl⟩
abbrev main_c_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_c_6 : Ref sig .tc := ⟨.hbm, 88, rfl⟩
abbrev main_v75 : Ref sig .tc := ⟨.hbm, 89, rfl⟩
abbrev main_v76 : Ref sig .tc := ⟨.hbm, 90, rfl⟩
abbrev main_c_7 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_c_8 : Ref sig .tc := ⟨.hbm, 134, rfl⟩
abbrev main_v119 : Ref sig .tc := ⟨.hbm, 135, rfl⟩
abbrev main_v120 : Ref sig .tc := ⟨.hbm, 136, rfl⟩
abbrev main_c_9 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩

abbrev nD : Nat := 1
abbrev τ : Topo := Topo.v7x

variable {F : FTy → Type} [FloatOps F]
-- ==== Gconv.lean ====
abbrev S2x4096x2048 : Shape := ⟨3, ![2, 4096, 2048]⟩
abbrev S2x2048 : Shape := ⟨2, ![2, 2048]⟩
abbrev S1x2048x6144 : Shape := ⟨3, ![1, 2048, 6144]⟩
abbrev S1x3x1024 : Shape := ⟨3, ![1, 3, 1024]⟩
abbrev S1x2048x2048 : Shape := ⟨3, ![1, 2048, 2048]⟩
abbrev S2x2048x5632 : Shape := ⟨3, ![2, 2048, 5632]⟩
abbrev S2x5632x2048 : Shape := ⟨3, ![2, 5632, 2048]⟩
abbrev S8192x2048 : Shape := ⟨2, ![8192, 2048]⟩
abbrev S1x2048 : Shape := ⟨2, ![1, 2048]⟩
abbrev S2048 : Shape := ⟨1, ![2048]⟩
abbrev S3x1024 : Shape := ⟨2, ![3, 1024]⟩
abbrev S_ : Shape := ⟨0, ![]⟩
abbrev S2x2x1024 : Shape := ⟨3, ![2, 2, 1024]⟩
abbrev S8192x1024 : Shape := ⟨2, ![8192, 1024]⟩
abbrev S2048x2048 : Shape := ⟨2, ![2048, 2048]⟩
abbrev S2048x5632 : Shape := ⟨2, ![2048, 5632]⟩
abbrev S5632x2048 : Shape := ⟨2, ![5632, 2048]⟩
abbrev S512x2048 : Shape := ⟨2, ![512, 2048]⟩
abbrev S1x2048x3072 : Shape := ⟨3, ![1, 2048, 3072]⟩
abbrev S1x2x1024 : Shape := ⟨3, ![1, 2, 1024]⟩
abbrev S1x128x2048 : Shape := ⟨3, ![1, 128, 2048]⟩
abbrev S1x128x5632 : Shape := ⟨3, ![1, 128, 5632]⟩
abbrev S1x352x2048 : Shape := ⟨3, ![1, 352, 2048]⟩
abbrev S512x1024 : Shape := ⟨2, ![512, 1024]⟩
abbrev S128x2048 : Shape := ⟨2, ![128, 2048]⟩
abbrev S128x5632 : Shape := ⟨2, ![128, 5632]⟩
abbrev S352x2048 : Shape := ⟨2, ![352, 2048]⟩
abbrev S520x1024 : Shape := ⟨2, ![520, 1024]⟩
abbrev S512 : Shape := ⟨1, ![512]⟩
abbrev S512x1 : Shape := ⟨2, ![512, 1]⟩
abbrev S1x2048x1024 : Shape := ⟨3, ![1, 2048, 1024]⟩
abbrev S2048x1024 : Shape := ⟨2, ![2048, 1024]⟩
abbrev S2x1024 : Shape := ⟨2, ![2, 1024]⟩
abbrev S1x1024 : Shape := ⟨2, ![1, 1024]⟩

abbrev nBuf : Space → Nat
  | .hbm => 20
  | .vmem => 24
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x6144, .f32⟩
  | .hbm, ⟨3, _⟩ => ⟨S1x3x1024, .f32⟩
  | .hbm, ⟨4, _⟩ => ⟨S1x2048x2048, .f32⟩
  | .hbm, ⟨5, _⟩ => ⟨S2x2048x5632, .f32⟩
  | .hbm, ⟨6, _⟩ => ⟨S2x5632x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048x6144, .bf16⟩
  | .hbm, ⟨12, _⟩ => ⟨S3x1024, .f32⟩
  | .hbm, ⟨13, _⟩ => ⟨S_, .f32⟩
  | .hbm, ⟨14, _⟩ => ⟨S2x2x1024, .f32⟩
  | .hbm, ⟨15, _⟩ => ⟨S8192x1024, .bf16⟩
  | .hbm, ⟨16, _⟩ => ⟨S2x2x1024, .f32⟩
  | .hbm, ⟨17, _⟩ => ⟨S2048x2048, .bf16⟩
  | .hbm, ⟨18, _⟩ => ⟨S2048x5632, .bf16⟩
  | .hbm, ⟨19, _⟩ => ⟨S5632x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x3072, .bf16⟩
  | .local _ .vmem, ⟨4, _⟩ => ⟨S3x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x128x2048, .f32⟩
  | .local _ .vmem, ⟨8, _⟩ => ⟨S1x128x2048, .f32⟩
  | .local _ .vmem, ⟨9, _⟩ => ⟨S1x128x5632, .f32⟩
  | .local _ .vmem, ⟨10, _⟩ => ⟨S1x128x5632, .f32⟩
  | .local _ .vmem, ⟨11, _⟩ => ⟨S1x352x2048, .f32⟩
  | .local _ .vmem, ⟨12, _⟩ => ⟨S1x352x2048, .f32⟩
  | .local _ .vmem, ⟨13, _⟩ => ⟨S512x1024, .bf16⟩
  | .local _ .vmem, ⟨14, _⟩ => ⟨S512x1024, .bf16⟩
  | .local _ .vmem, ⟨15, _⟩ => ⟨S1x2x1024, .f32⟩
  | .local _ .vmem, ⟨16, _⟩ => ⟨S1x2x1024, .f32⟩
  | .local _ .vmem, ⟨17, _⟩ => ⟨S128x2048, .bf16⟩
  | .local _ .vmem, ⟨18, _⟩ => ⟨S128x2048, .bf16⟩
  | .local _ .vmem, ⟨19, _⟩ => ⟨S128x5632, .bf16⟩
  | .local _ .vmem, ⟨20, _⟩ => ⟨S128x5632, .bf16⟩
  | .local _ .vmem, ⟨21, _⟩ => ⟨S352x2048, .bf16⟩
  | .local _ .vmem, ⟨22, _⟩ => ⟨S352x2048, .bf16⟩
  | .local _ .vmem, ⟨23, _⟩ => ⟨S520x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_7 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S352x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== GconvRefIdeal.lean ====
abbrev S2x4096x2048 : Shape := ⟨3, ![2, 4096, 2048]⟩
abbrev S2x2048 : Shape := ⟨2, ![2, 2048]⟩
abbrev S1x2048x6144 : Shape := ⟨3, ![1, 2048, 6144]⟩
abbrev S1x3x1024 : Shape := ⟨3, ![1, 3, 1024]⟩
abbrev S1x2048x2048 : Shape := ⟨3, ![1, 2048, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x2x1024 : Shape := ⟨3, ![2, 2, 1024]⟩
abbrev S2048x6144 : Shape := ⟨2, ![2048, 6144]⟩
abbrev S3x1024 : Shape := ⟨2, ![3, 1024]⟩
abbrev S2x4096x6144 : Shape := ⟨3, ![2, 4096, 6144]⟩
abbrev S2x4096x1024 : Shape := ⟨3, ![2, 4096, 1024]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩
abbrev S2048x2048 : Shape := ⟨2, ![2048, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x6144, .f32⟩
  | .hbm, ⟨3, _⟩ => ⟨S1x3x1024, .f32⟩
  | .hbm, ⟨4, _⟩ => ⟨S1x2048x2048, .f32⟩
  | .hbm, ⟨5, _⟩ => ⟨S2x2048x5632, .f32⟩
  | .hbm, ⟨6, _⟩ => ⟨S2x5632x2048, .f32⟩
  | .hbm, ⟨7, _⟩ => ⟨S1x2048, .f32⟩
  | .hbm, ⟨8, _⟩ => ⟨S2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x2048, .f32⟩
  | .hbm, ⟨21, _⟩ => ⟨S2x4096x2048, .f32⟩
  | .hbm, ⟨22, _⟩ => ⟨S1x1x2048, .f32⟩
  | .hbm, ⟨23, _⟩ => ⟨S2x4096x2048, .f32⟩
  | .hbm, ⟨24, _⟩ => ⟨S2x4096x2048, .f32⟩
  | .hbm, ⟨25, _⟩ => ⟨S_, .f32⟩
  | .hbm, ⟨26, _⟩ => ⟨S2x2x1024, .f32⟩
  | .hbm, ⟨27, _⟩ => ⟨S2048x6144, .f32⟩
  | .hbm, ⟨28, _⟩ => ⟨S3x1024, .f32⟩
  | .hbm, ⟨29, _⟩ => ⟨S2x4096x6144, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4098x1024, .f32⟩
  | .hbm, ⟨35, _⟩ => ⟨S2x4096x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S2x4096x1024, .f32⟩
  | .hbm, ⟨56, _⟩ => ⟨S2x2x1024, .f32⟩
  | .hbm, ⟨57, _⟩ => ⟨S8192x1024, .f32⟩
  | .hbm, ⟨58, _⟩ => ⟨S8192x1024, .bf16⟩
  | .hbm, ⟨59, _⟩ => ⟨S2048x2048, .f32⟩
  | .hbm, ⟨60, _⟩ => ⟨S2048x2048, .bf16⟩
  | .hbm, ⟨61, _⟩ => ⟨S1x2048x5632, .f32⟩
  | .hbm, ⟨62, _⟩ => ⟨S2048x5632, .f32⟩
  | .hbm, ⟨63, _⟩ => ⟨S2048x5632, .bf16⟩
  | .hbm, ⟨64, _⟩ => ⟨S1x5632x2048, .f32⟩
  | .hbm, ⟨65, _⟩ => ⟨S5632x2048, .f32⟩
  | .hbm, ⟨66, _⟩ => ⟨S5632x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Pool.lean ====
abbrev S8192x2048 : Shape := ⟨2, ![8192, 2048]⟩
abbrev S2x2048 : Shape := ⟨2, ![2, 2048]⟩
abbrev S1x4x512x512 : Shape := ⟨4, ![1, 4, 512, 512]⟩
abbrev S1x2048 : Shape := ⟨2, ![1, 2048]⟩
abbrev S2048 : Shape := ⟨1, ![2048]⟩
abbrev S_ : Shape := ⟨0, ![]⟩
abbrev S2x15x2048 : Shape := ⟨3, ![2, 15, 2048]⟩
abbrev S512x2048 : Shape := ⟨2, ![512, 2048]⟩
abbrev S1x15x2048 : Shape := ⟨3, ![1, 15, 2048]⟩
abbrev S528x2048 : Shape := ⟨2, ![528, 2048]⟩
abbrev S4x256x256 : Shape := ⟨3, ![4, 256, 256]⟩
abbrev S256x256 : Shape := ⟨2, ![256, 256]⟩
abbrev S1x256x256 : Shape := ⟨3, ![1, 256, 256]⟩
abbrev S15x2048 : Shape := ⟨2, ![15, 2048]⟩
abbrev S512 : Shape := ⟨1, ![512]⟩
abbrev S512x1 : Shape := ⟨2, ![512, 1]⟩
abbrev S16x1 : Shape := ⟨2, ![16, 1]⟩
abbrev S256x512 : Shape := ⟨2, ![256, 512]⟩
abbrev S16x512 : Shape := ⟨2, ![16, 512]⟩
abbrev S240x512 : Shape := ⟨2, ![240, 512]⟩
abbrev S1x1x512x512 : Shape := ⟨4, ![1, 1, 512, 512]⟩
abbrev S512x512 : Shape := ⟨2, ![512, 512]⟩
abbrev S1x512 : Shape := ⟨2, ![1, 512]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x4x512x512, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S1x4x512x512, .bf16⟩
  | .hbm, ⟨8, _⟩ => ⟨S2048, .f32⟩
  | .hbm, ⟨9, _⟩ => ⟨S1x2048, .f32⟩
  | .hbm, ⟨10, _⟩ => ⟨S_, .f32⟩
  | .hbm, ⟨11, _⟩ => ⟨S2x15x2048, .f32⟩
  | .hbm, ⟨12, _⟩ => ⟨S8192x2048, .f32⟩
  | .hbm, ⟨13, _⟩ => ⟨S2x15x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x4x512x512, .bf16⟩
  | .local _ .vmem, ⟨4, _⟩ => ⟨S1x2048, .f32⟩
  | .local _ .vmem, ⟨5, _⟩ => ⟨S1x15x2048, .f32⟩
  | .local _ .vmem, ⟨6, _⟩ => ⟨S1x15x2048, .f32⟩
  | .local _ .vmem, ⟨7, _⟩ => ⟨S512x2048, .f32⟩
  | .local _ .vmem, ⟨8, _⟩ => ⟨S512x2048, .f32⟩
  | .local _ .vmem, ⟨9, _⟩ => ⟨S1x15x2048, .f32⟩
  | .local _ .vmem, ⟨10, _⟩ => ⟨S1x15x2048, .f32⟩
  | .local _ .vmem, ⟨11, _⟩ => ⟨S528x2048, .f32⟩
  | .local _ .vmem, ⟨12, _⟩ => ⟨S4x256x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x15x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x15x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolRefIdeal.lean ====
abbrev S8192x2048 : Shape := ⟨2, ![8192, 2048]⟩
abbrev S2x2048 : Shape := ⟨2, ![2, 2048]⟩
abbrev S1x4x512x512 : Shape := ⟨4, ![1, 4, 512, 512]⟩
abbrev S1x2048 : Shape := ⟨2, ![1, 2048]⟩
abbrev S2x4096x2048 : Shape := ⟨3, ![2, 4096, 2048]⟩
abbrev S4096 : Shape := ⟨1, ![4096]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x15x2048 : Shape := ⟨3, ![2, 15, 2048]⟩
abbrev S4x512x512 : Shape := ⟨3, ![4, 512, 512]⟩
abbrev S2x4111x2048 : Shape := ⟨3, ![2, 4111, 2048]⟩
abbrev S2x4096x512 : Shape := ⟨3, ![2, 4096, 512]⟩
abbrev S1x4096x1 : Shape := ⟨3, ![1, 4096, 1]⟩
abbrev S1x512x512 : Shape := ⟨3, ![1, 512, 512]⟩
abbrev S512x512 : Shape := ⟨2, ![512, 512]⟩

abbrev nBuf : Space → Nat
  | .hbm => 152
  | .vmem => 0
  | .smem => 0
  | _ => 0

abbrev hbmTy0_0 (i : Nat) : BufTy := match i % 128 with
  | 0 => ⟨S8192x2048, .f32⟩
  | 1 => ⟨S2x2048, .f32⟩
  | 2 => ⟨S1x4x512x512, .f32⟩
  | 3 => ⟨S1x2048, .f32⟩
  | 4 => ⟨S2x4096x2048, .f32⟩
  | 5 => ⟨S4096, .i32⟩
  | 6 => ⟨S1x2048, .f32⟩
  | 7 => ⟨S2048, .f32⟩
  | 8 => ⟨S2x4096x2048, .f32⟩
  | 9 => ⟨S_, .f32⟩
  | 10 => ⟨S2x4096, .f32⟩
  | 11 => ⟨S2x4096x1, .f32⟩
  | 12 => ⟨S_, .f32⟩
  | 13 => ⟨S2x4096x1, .f32⟩
  | 14 => ⟨S2x4096x1, .f32⟩
  | 15 => ⟨S_, .f32⟩
  | 16 => ⟨S2x4096x1, .f32⟩
  | 17 => ⟨S2x4096x1, .f32⟩
  | 18 => ⟨S2x4096x1, .f32⟩
  | 19 => ⟨S2x4096x2048, .f32⟩
  | 20 => ⟨S2x4096x2048, .f32⟩
  | 21 => ⟨S1x1x2048, .f32⟩
  | 22 => ⟨S2x4096x2048, .f32⟩
  | 23 => ⟨S2x4096x2048, .f32⟩
  | 24 => ⟨S_, .f32⟩
  | 25 => ⟨S2x15x2048, .f32⟩
  | 26 => ⟨S4x512x512, .f32⟩
  | 27 => ⟨S2048, .f32⟩
  | 28 => ⟨S2x4111x2048, .f32⟩
  | 29 => ⟨S2x4096x512, .f32⟩
  | 30 => ⟨S2x4096x512, .f32⟩
  | 31 => ⟨S2x4096x512, .f32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096, .f32⟩
  | 39 => ⟨S1x4096x1, .f32⟩
  | 40 => ⟨S2x4096x512, .f32⟩
  | 41 => ⟨S2x4096x512, .f32⟩
  | 42 => ⟨S2x4096x512, .f32⟩
  | 43 => ⟨S2x4096x512, .f32⟩
  | 44 => ⟨S1x512x512, .f32⟩
  | 45 => ⟨S512x512, .f32⟩
  | 46 => ⟨S2x4096x512, .f32⟩
  | 47 => ⟨S2x4096x512, .f32⟩
  | 48 => ⟨S2x4096x512, .f32⟩
  | 49 => ⟨S2x4096x512, .f32⟩
  | 50 => ⟨S2x4096x512, .f32⟩
  | 51 => ⟨S2x4096x512, .f32⟩
  | 52 => ⟨S2x4096x512, .f32⟩
  | 53 => ⟨S2x4096x512, .f32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S4096, .f32⟩
  | 61 => ⟨S1x4096x1, .f32⟩
  | 62 => ⟨S2x4096x512, .f32⟩
  | 63 => ⟨S2x4096x512, .f32⟩
  | 64 => ⟨S2x4096x512, .f32⟩
  | 65 => ⟨S2x4096x512, .f32⟩
  | 66 => ⟨S1x512x512, .f32⟩
  | 67 => ⟨S512x512, .f32⟩
  | 68 => ⟨S2x4096x512, .f32⟩
  | 69 => ⟨S2x4096x512, .f32⟩
  | 70 => ⟨S2x4096x512, .f32⟩
  | 71 => ⟨S2x4096x512, .f32⟩
  | 72 => ⟨S2x4096x512, .f32⟩
  | 73 => ⟨S2x4096x512, .f32⟩
  | 74 => ⟨S2x4096x512, .f32⟩
  | 75 => ⟨S2x4096x512, .f32⟩
  | 76 => ⟨S2x4096x512, .f32⟩
  | 77 => ⟨S2x4096x512, .f32⟩
  | 78 => ⟨S2x4096x512, .f32⟩
  | 79 => ⟨S2x4096x512, .f32⟩
  | 80 => ⟨S2x4096x512, .f32⟩
  | 81 => ⟨S2x4096x512, .f32⟩
  | 82 => ⟨S2x4096x512, .f32⟩
  | 83 => ⟨S2x4096x512, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S1x4096x1, .f32⟩
  | 92 => ⟨S2x4096x512, .f32⟩
  | 93 => ⟨S2x4096x512, .f32⟩
  | 94 => ⟨S2x4096x512, .f32⟩
  | 95 => ⟨S2x4096x512, .f32⟩
  | 96 => ⟨S1x512x512, .f32⟩
  | 97 => ⟨S512x512, .f32⟩
  | 98 => ⟨S2x4096x512, .f32⟩
  | 99 => ⟨S2x4096x512, .f32⟩
  | 100 => ⟨S2x4096x512, .f32⟩
  | 101 => ⟨S2x4096x512, .f32⟩
  | 102 => ⟨S2x4096x512, .f32⟩
  | 103 => ⟨S2x4096x512, .f32⟩
  | 104 => ⟨S2x4096x512, .f32⟩
  | 105 => ⟨S2x4096x512, .f32⟩
  | 106 => ⟨S2x4096x512, .f32⟩
  | 107 => ⟨S2x4096x512, .f32⟩
  | 108 => ⟨S2x4096x512, .f32⟩
  | 109 => ⟨S2x4096x512, .f32⟩
  | 110 => ⟨S2x4096x512, .f32⟩
  | 111 => ⟨S2x4096x512, .f32⟩
  | 112 => ⟨S2x4096x512, .f32⟩
  | 113 => ⟨S2x4096x512, .f32⟩
  | 114 => ⟨S2x4096x512, .f32⟩
  | 115 => ⟨S2x4096x512, .f32⟩
  | 116 => ⟨S2x4096x512, .f32⟩
  | 117 => ⟨S2x4096x512, .f32⟩
  | 118 => ⟨S2x4096x512, .f32⟩
  | 119 => ⟨S2x4096x512, .f32⟩
  | 120 => ⟨S2x4096x512, .f32⟩
  | 121 => ⟨S2x4096x512, .f32⟩
  | 122 => ⟨S2x4096x512, .f32⟩
  | 123 => ⟨S2x4096x512, .f32⟩
  | 124 => ⟨S2x4096x512, .f32⟩
  | 125 => ⟨S2x4096x512, .f32⟩
  | 126 => ⟨S2x4096x512, .f32⟩
  | 127 => ⟨S2x4096x512, .f32⟩
  | _ => ⟨S8192x2048, .f32⟩

abbrev hbmTy0_1 (i : Nat) : BufTy := match i % 128 with
  | 0 => ⟨S2x4096x512, .f32⟩
  | 1 => ⟨S2x4096x512, .f32⟩
  | 2 => ⟨S_, .i32⟩
  | 3 => ⟨S4096, .i32⟩
  | 4 => ⟨S4096, .i32⟩
  | 5 => ⟨S_, .i32⟩
  | 6 => ⟨S4096, .i32⟩
  | 7 => ⟨S4096, .i32⟩
  | 8 => ⟨S4096, .f32⟩
  | 9 => ⟨S1x4096x1, .f32⟩
  | 10 => ⟨S2x4096x512, .f32⟩
  | 11 => ⟨S2x4096x512, .f32⟩
  | 12 => ⟨S2x4096x512, .f32⟩
  | 13 => ⟨S2x4096x512, .f32⟩
  | 14 => ⟨S1x512x512, .f32⟩
  | 15 => ⟨S512x512, .f32⟩
  | 16 => ⟨S2x4096x512, .f32⟩
  | 17 => ⟨S2x4096x2048, .f32⟩
  | 18 => ⟨S1x1x2048, .f32⟩
  | 19 => ⟨S2x4096x2048, .f32⟩
  | 20 => ⟨S2x4096x2048, .f32⟩
  | 21 => ⟨S2x15x2048, .f32⟩
  | 22 => ⟨S2x4096x2048, .f32⟩
  | 23 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_4 : Ref sig .tc := ⟨.hbm, 54, rfl⟩
abbrev main_v44 : Ref sig .tc := ⟨.hbm, 55, rfl⟩
abbrev main_v45 : Ref sig .tc := ⟨.hbm, 56, rfl⟩
abbrev main_c_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_c_6 : Ref sig .tc := ⟨.hbm, 84, rfl⟩
abbrev main_v72 : Ref sig .tc := ⟨.hbm, 85, rfl⟩
abbrev main_v73 : Ref sig .tc := ⟨.hbm, 86, rfl⟩
abbrev main_c_7 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_c_8 : Ref sig .tc := ⟨.hbm, 130, rfl⟩
abbrev main_v116 : Ref sig .tc := ⟨.hbm, 131, rfl⟩
abbrev main_v117 : Ref sig .tc := ⟨.hbm, 132, rfl⟩
abbrev main_c_9 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩

abbrev nD : Nat := 1
abbrev τ : Topo := Topo.v7x

variable {F : FTy → Type} [FloatOps F]
-- ==== Proof.Common.lean ====
module

public import Idealize.ShloMosaic.Lib.Pointwise

@[expose] public section

noncomputable section

namespace Cert.Layer

open Idealize.ShloMosaic

/-- Entry `j` of the RMS norm of the row `x`, scaled by `g`: `n` is the row's length as a float constant and `e` the
    constant added to the mean of the squares. -/
def rms (n e : EReal) {k : ℕ} (x g : Fin k → EReal) (j : Fin k) : EReal :=
  x j * Ideal.rsqrt (Ideal.div (∑ l, x l * x l) n + e) * g j

/-- Two rows that agree entry by entry, with scales that do, have one RMS norm. -/
theorem rms_congr (n e : EReal) {k : ℕ} {x x' g g' : Fin k → EReal} (hx : ∀ l, x l = x' l) (hg : ∀ l, g l = g' l)
    (j : Fin k) : rms n e x g j = rms n e x' g' j := by
  rw [funext hx, funext hg]

/-- The product of a row and a matrix, at column `j`. -/
def vecMat {k n : ℕ} (x : Fin k → EReal) (w : Fin k → Fin n → EReal) (j : Fin n) : EReal := ∑ l, x l * w l j

/-- The gated unit's value at hidden column `f`: the gate times its logistic, times the up projection. -/
def gated {k n : ℕ} (h : Fin k → EReal) (wg wu : Fin k → Fin n → EReal) (f : Fin n) : EReal :=
  vecMat h wg f * Ideal.logistic (vecMat h wg f) * vecMat h wu f

/-- The rotary angle of pair `i` at position `t`: the position times a power of the base constant. -/
def angle (t : BitVec 32) (i : ℕ) : EReal :=
  FloatOps.sitofp (F := Ideal) .f32 t * Ideal.pow (Ideal.ofBits .f32 0x461C4000#32)
    (Ideal.div (-FloatOps.sitofp (F := Ideal) .f32 (BitVec.ofNat 32 i)) (Ideal.ofBits .f32 0x42800000#32))

/-- The cosine table at coordinate `d` of a head. -/
def cosAt (t : BitVec 32) (d : ℕ) : EReal := Ideal.cos (angle t (if d < 64 then d else d - 64))

/-- The signed sine table at coordinate `d` of a head: negative in the first half. -/
def sinAt (t : BitVec 32) (d : ℕ) : EReal := if d < 64 then -Ideal.sin (angle t d) else Ideal.sin (angle t (d - 64))

theorem pair_lt (j : Fin 1024) : j.val / 128 * 128 + (j.val % 128 + 64) % 128 < 1024 := by
  have := j.isLt; omega

/-- The other coordinate of the pair that column `j` belongs to, in the same head. -/
def pairOf (j : Fin 1024) : Fin 1024 := ⟨j.val / 128 * 128 + (j.val % 128 + 64) % 128, pair_lt j⟩

/-- Column `j` of eight heads, turned with one row `c` of a cosine table and one row `s` of a signed sine table. -/
def turnBy (p : Fin 1024 → EReal) (c s : Fin 128 → EReal) (j : Fin 1024) : EReal :=
  p j * c ⟨j.val % 128, Nat.mod_lt _ (by decide)⟩ + p (pairOf j) * s ⟨j.val % 128, Nat.mod_lt _ (by decide)⟩

/-- One head's 128 columns, beginning at column `o`, turned with the columns swapped half against half. -/
theorem turnBy_head (p : Fin 1024 → EReal) (c s : Fin 128 → EReal) (o : ℕ) (ho : o % 128 = 0) (d : Fin 128) (u v j : Fin 1024)
    (hj : j.val = o + d.val) (hu : u.val = o + d.val) (hv : v.val = o + (d.val + 128 - 64) % 128) :
    p u * c d + p v * s d = turnBy p c s j := by
  have hd := d.isLt
  have e1 : u = j := Fin.ext (hu.trans hj.symm)
  have e2 : v = pairOf j := Fin.ext (by show v.val = j.val / 128 * 128 + (j.val % 128 + 64) % 128; omega)
  have e3 : d = ⟨j.val % 128, Nat.mod_lt _ (by decide)⟩ := Fin.ext (by show d.val = j.val % 128; omega)
  unfold turnBy
  rw [e1, e2, ← e3]

/-- Rows that agree entry by entry are turned alike. -/
theorem turnBy_congr {p p' : Fin 1024 → EReal} {c c' s s' : Fin 128 → EReal} (hp : ∀ j, p j = p' j) (hc : ∀ d, c d = c' d)
    (hs : ∀ d, s d = s' d) (j : Fin 1024) : turnBy p c s j = turnBy p' c' s' j := by
  rw [funext hp, funext hc, funext hs]

/-- Column `j` of eight heads turned by position `t`. -/
def turned (p : Fin 1024 → EReal) (t : BitVec 32) (j : Fin 1024) : EReal :=
  p j * cosAt t (j.val % 128) + p (pairOf j) * sinAt t (j.val % 128)

theorem turned_congr {p p' : Fin 1024 → EReal} (h : ∀ j, p j = p' j) (t : BitVec 32) (j : Fin 1024) : turned p t j = turned p' t j := by
  rw [funext h]

/-- The turn written half by half: `x₁ cos − x₂ sin` and `x₂ cos + x₁ sin`. -/
theorem turned_halves (p : Fin 1024 → EReal) (t : BitVec 32) (j : Fin 1024) :
    turned p t j = if j.val % 128 < 64 then p j * Ideal.cos (angle t (j.val % 128)) - p (pairOf j) * Ideal.sin (angle t (j.val % 128))
      else p j * Ideal.cos (angle t (j.val % 128 - 64)) + p (pairOf j) * Ideal.sin (angle t (j.val % 128 - 64)) := by
  unfold turned cosAt sinAt
  split
  · rw [mul_neg, sub_eq_add_neg]
  · rfl

/-- Row `R` of the `h` rows of a history followed by `n` new rows. -/
def extend {h n : ℕ} (hist : Fin h → EReal) (new : Fin n → EReal) (R : ℕ) : EReal :=
  if hR : R < h then hist ⟨R, hR⟩ else if hu : R - h < n then new ⟨R - h, hu⟩ else 0

end Cert.Layer

end
-- ==== Proof.FfnCase.lean ====
module

public import proofs.«01_k».proof.Proof.Gen.FfnIdeal.Value
public import proofs.«01_k».proof.Proof.Common
public import Idealize.ShloMosaic.Lib.Tactic

@[expose] public section

noncomputable section

namespace Cert.FfnIdeal.Hand

open Cert.FfnIdeal Cert.FfnIdeal.Gen Cert.FfnIdeal.Value Idealize.ShloMosaic Idealize.ShloMosaic.TcCoe Idealize.SL.Sem
open Cert.Layer

/-- The stores and loads of whole blocks start at the origin. -/
theorem hz : (![0, 0] : Fin 2 → Nat) = fun _ => 0 := by
  funext a; match a with | ⟨0, _⟩ => rfl | ⟨1, _⟩ => rfl

section cases
variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
  (x0 : Vec F S1024x2048 .f32) (x1 : Vec F S1x2048 .f32) (x2 : Vec F S2048x512 .bf16) (x3 : Vec F S2048x512 .bf16) (x4 : Vec F S512x2048 .bf16) (x5 : Vec F S1x2048 .f32)

/-- The first hidden block leaves in the carried scratch the normalised rows. -/
theorem sout_A (hc0 : cond0_0 i) (hc1 : ¬cond0_1 i) :
    sout0_A_0 c i _ harg2 _ harg3 _ harg4 _ harg5 _ harg6 _ harg7 _ harg8 _ harg9 hc0 hc1 x0 x1 x2 x3 x4 x5 = k0_pay1 x0 x1 := by
  unfold sout0_A_0
  rw [View.read_writes_eq_canon _ _ _ (fun _ => scover0_A_0 ..)]
  unfold kernelRun0_A
  dsimp only
  sl_unfold_words
  rw [View.canon_unit_zero (S := S1024x2048) hz]
  simp only [View.readAt_eq_ld, harg2.read_unread, harg3.read_unread, View.ld_unit_zero (S := S1024x2048) hz, View.ld_unit_zero (S := S1x2048) hz]

/-- The first hidden block leaves in the result's buffer the rows plus that block's share. -/
theorem out_A (hc0 : cond0_0 i) (hc1 : ¬cond0_1 i) :
    out0_A_6 c i _ harg2 _ harg3 _ harg4 _ harg5 _ harg6 _ harg7 _ harg8 _ harg9 hc0 hc1 x0 x1 x2 x3 x4 x5 = k0_pay2 (k0_pay1 x0 x1) x2 x3 x0 x4 := by
  unfold out0_A_6
  rw [View.read_writes_eq_canon _ _ _ (fun _ => cover0_A_6 ..)]
  unfold kernelRun0_A
  dsimp only
  sl_unfold_words
  rw [View.canon_cons_unit_zero (S := S1024x2048) hz]
  simp only [View.readCov_unit_zero (S := S1024x2048) _ hz, View.readAt_eq_ld, harg2.read_unread, harg3.read_unread, harg4.read_unread, harg5.read_unread, harg6.read_unread, View.ld_unit_zero (S := S1024x2048) hz, View.ld_unit_zero (S := S1x2048) hz, View.ld_unit_zero (S := S2048x512) hz, View.ld_unit_zero (S := S512x2048) hz]

/-- A later hidden block adds its share to what the result's buffer held. -/
theorem out_B (hc0 : ¬cond0_0 i) (hc1 : ¬cond0_1 i) (xo6 : Vec F S1024x2048 .f32) (xs0 : Vec F S1024x2048 .bf16) :
    out0_B_6 c i _ harg2 _ harg3 _ harg4 _ harg5 _ harg6 _ harg7 _ harg8 _ harg9 hc0 hc1 x0 x1 x2 x3 x4 x5 xo6 xs0 = k0_pay2 xs0 x2 x3 xo6 x4 := by
  unfold out0_B_6
  rw [View.read_writes_eq_canon _ _ _ (fun _ => cover0_B_6 ..)]
  unfold kernelRun0_B
  dsimp only
  sl_unfold_words
  rw [View.canon_unit_zero (S := S1024x2048) hz]
  simp only [View.readAt_eq_ld, harg4.read_unread, harg5.read_unread, harg6.read_unread, harg8.read_unread, harg9.read_unread, View.ld_unit_zero (S := S1024x2048) hz, View.ld_unit_zero (S := S2048x512) hz, View.ld_unit_zero (S := S512x2048) hz]

/-- The last hidden block adds its share and then takes the closing RMS norm of the rows. -/
theorem out_C (hc0 : ¬cond0_0 i) (hc1 : cond0_1 i) (xo6 : Vec F S1024x2048 .f32) (xs0 : Vec F S1024x2048 .bf16) :
    out0_C_6 c i _ harg2 _ harg3 _ harg4 _ harg5 _ harg6 _ harg7 _ harg8 _ harg9 hc0 hc1 x0 x1 x2 x3 x4 x5 xo6 xs0 = k0_pay3 (k0_pay2 xs0 x2 x3 xo6 x4) x5 := by
  unfold out0_C_6
  rw [View.read_writes_eq_canon _ _ _ (fun _ => cover0_C_6 ..)]
  unfold kernelRun0_C
  dsimp only
  sl_unfold_words
  rw [View.canon_cons_unit_zero (S := S1024x2048) hz]
  simp only [View.readCov_unit_zero (S := S1024x2048) _ hz, View.readAt_eq_ld, harg4.read_unread, harg5.read_unread, harg6.read_unread, harg7.read_unread, harg8.read_unread, harg9.read_unread, View.ld_unit_zero (S := S1024x2048) hz, View.ld_unit_zero (S := S1x2048) hz, View.ld_unit_zero (S := S2048x512) hz, View.ld_unit_zero (S := S512x2048) hz]

end cases

/-! ## The payloads at an index -/

theorem pay1_apply (x : Vec Ideal S1024x2048 .f32) (g : Vec Ideal S1x2048 .f32) (r : Fin 1024) (j : Fin 2048) :
    k0_pay1 (F := Ideal) x g (ix2 r j) = rms (Ideal.ofBits .f32 0x45000000#32) (Ideal.ofBits .f32 0x358637BD#32) (fun l => x (ix2 r l)) (fun l => g (ix2 0 l)) j := by
  pointwise [k0_pay1, rms]

theorem pay2_apply (h : Vec Ideal S1024x2048 .bf16) (wg wu : Vec Ideal S2048x512 .bf16) (o : Vec Ideal S1024x2048 .f32) (wd : Vec Ideal S512x2048 .bf16) (r : Fin 1024) (j : Fin 2048) :
    k0_pay2 (F := Ideal) h wg wu o wd (ix2 r j) = o (ix2 r j) + ∑ f : Fin 512, gated (fun k => h (ix2 r k)) (fun k f => wg (ix2 k f)) (fun k f => wu (ix2 k f)) f * wd (ix2 f j) := by
  pointwise [k0_pay2, gated, vecMat]

theorem pay3_apply (x : Vec Ideal S1024x2048 .f32) (g : Vec Ideal S1x2048 .f32) (r : Fin 1024) (j : Fin 2048) :
    k0_pay3 (F := Ideal) x g (ix2 r j) = rms (Ideal.ofBits .f32 0x45000000#32) (Ideal.ofBits .f32 0x358637BD#32) (fun l => x (ix2 r l)) (fun l => g (ix2 0 l)) j := by
  pointwise [k0_pay3, rms]

end Cert.FfnIdeal.Hand

end
-- ==== Proof.FfnFold.lean ====
module

public import proofs.«01_k».proof.Proof.FfnCase
public import Idealize.ShloMosaic.Lib.StableHlo.Run

@[expose] public section

noncomputable section

namespace Cert.FfnIdeal.Hand

open Cert.FfnIdeal Cert.FfnIdeal.Gen Cert.FfnIdeal.Value Idealize.ShloMosaic Idealize.ShloMosaic.TcCoe Idealize.SL.Sem
open Cert.Layer

variable (m : (ℓ : Loc nD τ sig) → Buf (Elt Ideal) ℓ)

/-! ## The arguments as rows and matrices -/

abbrev X (c : Dev nD) (R : Fin 8192) (l : Fin 2048) : EReal := m ((c : Thread nD τ).loc main_arg0) (ix2 R l)
abbrev G1 (c : Dev nD) (l : Fin 2048) : EReal := m ((c : Thread nD τ).loc main_arg1) (ix2 1 l)
abbrev Wg (c : Dev nD) (k : Fin 2048) (f : Fin 5632) : EReal := m ((c : Thread nD τ).loc main_arg2) (ix2 k f)
abbrev Wu (c : Dev nD) (k : Fin 2048) (f : Fin 5632) : EReal := m ((c : Thread nD τ).loc main_arg3) (ix2 k f)
abbrev Wd (c : Dev nD) (f : Fin 5632) (l : Fin 2048) : EReal := m ((c : Thread nD τ).loc main_arg4) (ix2 f l)
abbrev G2 (c : Dev nD) (l : Fin 2048) : EReal := m ((c : Thread nD τ).loc main_arg5) (ix1 l)

/-! ## What the region finds in the scales, which the host reshapes before it -/

set_option maxRecDepth 16384 in
theorem V_g1 (c : Dev nD) (l : Fin 2048) : V m c main_v2 (ix2 0 l) = G1 m c l := by
  have e : V m c main_v2 = shapeCast S1x2048 (shapeCast S2048 (extractStridedSlice S1x2048 ![1, 0] (m ((c : Thread nD τ).loc main_arg1)) slices_S2x2048_S1x2048_1_0) shapeCasts_S1x2048_S2048) shapeCasts_S2048_S1x2048 := by
    unfold V
    after_results
    rfl
  rw [e]
  pointwise

set_option maxRecDepth 16384 in
theorem V_g2 (c : Dev nD) (l : Fin 2048) : V m c main_v3 (ix2 0 l) = G2 m c l := by
  have e : V m c main_v3 = shapeCast S1x2048 (m ((c : Thread nD τ).loc main_arg5)) shapeCasts_S2048_S1x2048 := by
    unfold V
    after_results
    rfl
  rw [e]
  pointwise

/-! ## The input blocks at an index -/

theorem N_eq : cfg0.N = 88 := N_0

theorem row_lt (t : Fin cfg0.N) (r : Fin 1024) : 1024 * (t.val / 11) + r.val < 8192 := by
  have := lt_of_lt_of_eq t.isLt N_0; have := r.isLt; omega

theorem col_lt (n : ℕ) (f : Fin 512) : 512 * (n % 11) + f.val < 5632 := by
  have := f.isLt; omega

/-- The row of the whole array that row `r` of point `t`'s block is. -/
abbrev rowOf (t : Fin cfg0.N) (r : Fin 1024) : Fin 8192 := ⟨1024 * (t.val / 11) + r.val, row_lt t r⟩

/-- The hidden column that column `f` of hidden block `n` is. -/
abbrev colOf (n : ℕ) (f : Fin 512) : Fin 5632 := ⟨512 * (n % 11) + f.val, col_lt n f⟩

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem blk0 (c : Dev nD) (t : Fin cfg0.N) (r : Fin 1024) (l : Fin 2048) :
    (iblk m c 0 t : Vec Ideal S1024x2048 .f32) (ix2 r l) = X m c (rowOf t r) l := by
  have hi := idx0 t
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 11) + r.val; rw [hi.1]; omega
  | ⟨1, _⟩ => show win0_0.index t 1 * 2048 + 1 * l.val = l.val; rw [hi.2]; omega

theorem blk1 (c : Dev nD) (t : Fin cfg0.N) (l : Fin 2048) :
    (iblk m c 1 t : Vec Ideal S1x2048 .f32) (ix2 0 l) = G1 m c l := by
  have hi := idx1 t
  rw [← V_g1]
  unfold iblk
  rw [View.read_apply]
  show V m c main_v2 _ = _
  congr 1
  funext a
  apply Fin.ext
  match a with
  | ⟨0, _⟩ => show win0_1.index t 0 * 1 + 1 * 0 = 0; rw [hi.1]
  | ⟨1, _⟩ => show win0_1.index t 1 * 2048 + 1 * l.val = l.val; rw [hi.2]; omega

theorem blk2 (c : Dev nD) (t : Fin cfg0.N) (k : Fin 2048) (f : Fin 512) :
    (iblk m c 2 t : Vec Ideal S2048x512 .bf16) (ix2 k f) = Wg m c k (colOf t.val f) := by
  have hi := idx2 t
  unfold iblk
  rw [View.read_apply]
  show V m c main_arg2 _ = _
  rw [V_main_arg2]
  congr 1
  funext a
  apply Fin.ext
  match a with
  | ⟨0, _⟩ => show win0_2.index t 0 * 2048 + 1 * k.val = k.val; rw [hi.1]; omega
  | ⟨1, _⟩ => show win0_2.index t 1 * 512 + 1 * f.val = 512 * (t.val % 11) + f.val; rw [hi.2]; omega

theorem blk3 (c : Dev nD) (t : Fin cfg0.N) (k : Fin 2048) (f : Fin 512) :
    (iblk m c 3 t : Vec Ideal S2048x512 .bf16) (ix2 k f) = Wu m c k (colOf t.val f) := by
  have hi := idx3 t
  unfold iblk
  rw [View.read_apply]
  show V m c main_arg3 _ = _
  rw [V_main_arg3]
  congr 1
  funext a
  apply Fin.ext
  match a with
  | ⟨0, _⟩ => show win0_3.index t 0 * 2048 + 1 * k.val = k.val; rw [hi.1]; omega
  | ⟨1, _⟩ => show win0_3.index t 1 * 512 + 1 * f.val = 512 * (t.val % 11) + f.val; rw [hi.2]; omega

theorem blk4 (c : Dev nD) (t : Fin cfg0.N) (f : Fin 512) (l : Fin 2048) :
    (iblk m c 4 t : Vec Ideal S512x2048 .bf16) (ix2 f l) = Wd m c (colOf t.val f) l := by
  have hi := idx4 t
  unfold iblk
  rw [View.read_apply]
  show V m c main_arg4 _ = _
  rw [V_main_arg4]
  congr 1
  funext a
  apply Fin.ext
  match a with
  | ⟨0, _⟩ => show win0_4.index t 0 * 512 + 1 * f.val = 512 * (t.val % 11) + f.val; rw [hi.1]; omega
  | ⟨1, _⟩ => show win0_4.index t 1 * 2048 + 1 * l.val = l.val; rw [hi.2]; omega

theorem blk5 (c : Dev nD) (t : Fin cfg0.N) (l : Fin 2048) :
    (iblk m c 5 t : Vec Ideal S1x2048 .f32) (ix2 0 l) = G2 m c l := by
  have hi := idx5 t
  rw [← V_g2]
  unfold iblk
  rw [View.read_apply]
  show V m c main_v3 _ = _
  congr 1
  funext a
  apply Fin.ext
  match a with
  | ⟨0, _⟩ => show win0_5.index t 0 * 1 + 1 * 0 = 0; rw [hi.1]
  | ⟨1, _⟩ => show win0_5.index t 1 * 2048 + 1 * l.val = l.val; rw [hi.2]; omega

/-! ## The fold: normalised rows kept, the hidden blocks' shares added in order -/

abbrev nC : EReal := Ideal.ofBits .f32 0x45000000#32
abbrev eC : EReal := Ideal.ofBits .f32 0x358637BD#32

/-- The normalised rows. -/
def H (c : Dev nD) (R : Fin 8192) (k : Fin 2048) : EReal := rms nC eC (X m c R) (G1 m c) k

/-- Hidden column `f`'s contribution to entry `(R, l)`. -/
def term (c : Dev nD) (R : Fin 8192) (l : Fin 2048) (f : Fin 5632) : EReal :=
  gated (H m c R) (Wg m c) (Wu m c) f * Wd m c f l

/-- Hidden block `s`'s share of entry `(R, l)`. -/
def share (c : Dev nD) (R : Fin 8192) (l : Fin 2048) (s : ℕ) : EReal := ∑ f : Fin 512, term m c R l (colOf s f)

/-- The rows and the shares of the first `k` hidden blocks. -/
def part (c : Dev nD) (R : Fin 8192) (l : Fin 2048) (k : ℕ) : EReal := X m c R l + ∑ s ∈ Finset.range k, share m c R l s

theorem pay1_blk (c : Dev nD) (t : Fin cfg0.N) (r : Fin 1024) (k : Fin 2048) :
    k0_pay1 (F := Ideal) (iblk m c 0 t : Vec Ideal S1024x2048 .f32) (iblk m c 1 t : Vec Ideal S1x2048 .f32) (ix2 r k) = H m c (rowOf t r) k := by
  rw [pay1_apply]
  exact rms_congr _ _ (fun l => blk0 m c t r l) (fun l => blk1 m c t l) k

theorem pay2_blk (c : Dev nD) (t : Fin cfg0.N) (h : Vec Ideal S1024x2048 .bf16) (o : Vec Ideal S1024x2048 .f32) (r : Fin 1024) (l : Fin 2048)
    (hh : ∀ k, h (ix2 r k) = H m c (rowOf t r) k) (k : ℕ) (ho : o (ix2 r l) = part m c (rowOf t r) l k) (hk : t.val % 11 = k) :
    k0_pay2 (F := Ideal) h (iblk m c 2 t : Vec Ideal S2048x512 .bf16) (iblk m c 3 t : Vec Ideal S2048x512 .bf16) o (iblk m c 4 t : Vec Ideal S512x2048 .bf16) (ix2 r l)
      = part m c (rowOf t r) l (k + 1) := by
  rw [pay2_apply, ho]
  unfold part
  rw [Finset.sum_range_succ, ← add_assoc]
  congr 1
  unfold share term
  refine Finset.sum_congr rfl fun f _ => ?_
  have hc : colOf k f = colOf t.val f := by apply Fin.ext; show 512 * (k % 11) + f.val = 512 * (t.val % 11) + f.val; omega
  rw [hc, blk4]
  unfold gated vecMat
  simp only [hh, blk2, blk3]

/-- After point `t` the scratch holds the normalised rows of `t`'s row block, and before the last hidden block the
    result's buffer the rows plus the shares so far. -/
theorem fold (c : Dev nD) : ∀ (n : ℕ) (hn : n < cfg0.N),
    (∀ (r : Fin 1024) (k : Fin 2048), (outsAt0 m c n hn).2 (ix2 r k) = H m c (rowOf ⟨n, hn⟩ r) k)
    ∧ (n % 11 < 10 → ∀ (r : Fin 1024) (l : Fin 2048), (outsAt0 m c n hn).1 (ix2 r l) = part m c (rowOf ⟨n, hn⟩ r) l (n % 11 + 1)) := by
  intro n
  induction n with
  | zero =>
    intro hn
    have e := outsAt0_A m c ⟨0, hn⟩ (by rfl) (by show ¬ (0 % 11 = 10); decide)
    dsimp only at e
    rw [e, out_A, sout_A]
    refine ⟨fun r k => pay1_blk m c _ r k, fun _ r l => ?_⟩
    refine pay2_blk m c ⟨0, hn⟩ _ _ r l (fun k => pay1_blk m c _ r k) 0 ?_ rfl
    rw [blk0]; unfold part; simp
  | succ n ih =>
    intro hn
    obtain ⟨ih2, ih1⟩ := ih (Nat.lt_of_succ_lt hn)
    have hN := lt_of_lt_of_eq hn N_0
    by_cases h0 : (n + 1) % 11 = 0
    · have e := outsAt0_A m c ⟨n + 1, hn⟩ h0 (by show ¬ ((n + 1) % 11 = 10); omega)
      dsimp only at e
      rw [e, out_A, sout_A]
      refine ⟨fun r k => pay1_blk m c _ r k, fun _ r l => ?_⟩
      have := pay2_blk m c ⟨n + 1, hn⟩ (k0_pay1 (F := Ideal) (iblk m c 0 ⟨n + 1, hn⟩ : Vec Ideal S1024x2048 .f32) (iblk m c 1 ⟨n + 1, hn⟩ : Vec Ideal S1x2048 .f32)) (iblk m c 0 ⟨n + 1, hn⟩ : Vec Ideal S1024x2048 .f32) r l (fun k => pay1_blk m c _ r k) 0 (by rw [blk0]; unfold part; simp) h0
      rw [h0]; exact this
    · have hrow : ∀ r, rowOf ⟨n + 1, hn⟩ r = rowOf ⟨n, Nat.lt_of_succ_lt hn⟩ r := by
        intro r; apply Fin.ext; show 1024 * ((n + 1) / 11) + r.val = 1024 * (n / 11) + r.val; omega
      by_cases h1 : (n + 1) % 11 = 10
      · have e := outsAt0_C m c ⟨n + 1, hn⟩ h0 h1
        dsimp only at e
        rw [e]
        refine ⟨fun r k => ?_, fun h => by omega⟩
        unfold sout0_C_0
        rw [hrow]; exact ih2 r k
      · have e := outsAt0_B m c ⟨n + 1, hn⟩ h0 h1
        dsimp only at e
        rw [e, out_B]
        refine ⟨fun r k => ?_, fun h r l => ?_⟩
        · unfold sout0_B_0
          rw [hrow]; exact ih2 r k
        · refine pay2_blk m c ⟨n + 1, hn⟩ _ _ r l (fun k => ?_) _ ?_ rfl
          · rw [hrow]; exact ih2 r k
          · rw [hrow]
            refine (ih1 (by omega) r l).trans ?_
            congr 1; show n % 11 + 1 = (n + 1) % 11; omega

/-- At the last hidden block of a row block the result's buffer holds the finished rows. -/
theorem last (c : Dev nD) (n : ℕ) (hn : n < cfg0.N) (h1 : n % 11 = 10) (r : Fin 1024) (l : Fin 2048) :
    (outsAt0 m c n hn).1 (ix2 r l) = rms nC eC (fun l => part m c (rowOf ⟨n, hn⟩ r) l 11) (G2 m c) l := by
  have hN := lt_of_lt_of_eq hn N_0
  obtain ⟨n, rfl⟩ : ∃ k, n = k + 1 := ⟨n - 1, by omega⟩
  obtain ⟨ih2, ih1⟩ := fold m c n (Nat.lt_of_succ_lt hn)
  have hrow : ∀ r, rowOf ⟨n + 1, hn⟩ r = rowOf ⟨n, Nat.lt_of_succ_lt hn⟩ r := by
    intro r; apply Fin.ext; show 1024 * ((n + 1) / 11) + r.val = 1024 * (n / 11) + r.val; omega
  have e := outsAt0_C m c ⟨n + 1, hn⟩ (by show ¬ ((n + 1) % 11 = 0); omega) h1
  dsimp only at e
  rw [e, out_C]
  dsimp only
  rw [pay3_apply]
  refine rms_congr _ _ (fun l => ?_) (fun l => blk5 m c _ l) l
  refine pay2_blk m c ⟨n + 1, hn⟩ _ _ r l (fun k => ?_) 10 ?_ h1
  · rw [hrow]; exact ih2 r k
  · rw [hrow]
    refine (ih1 (by omega) r l).trans ?_
    congr 1; omega

set_option maxRecDepth 16384 in
/-- The shares of all eleven hidden blocks are the sum over the hidden columns. -/
theorem part_all (c : Dev nD) (R : Fin 8192) (l : Fin 2048) : part m c R l 11 = X m c R l + ∑ f : Fin 5632, term m c R l f := by
  unfold part
  congr 1
  unfold share
  rw [Finset.sum_range, ← Fintype.sum_prod_type' (fun (s : Fin 11) (f : Fin 512) => term m c R l (colOf s.val f))]
  refine Fintype.sum_equiv finProdFinEquiv _ _ fun p => ?_
  congr 1
  apply Fin.ext
  show 512 * (p.1.val % 11) + p.2.val = p.2.val + 512 * p.1.val
  have := p.1.isLt
  omega

/-- The result array, entry by entry. -/
theorem G6_apply (c : Dev nD) (R : Fin 8192) (l : Fin 2048) :
    G6 m c (ix2 R l) = rms nC eC (fun l => X m c R l + ∑ f : Fin 5632, term m c R l f) (G2 m c) l := by
  have hp : pt6Of (ix2 R l) = 11 * (R.val / 1024) + 10 := by
    show 11 * run6Of (ix2 R l) + 10 = _
    unfold run6Of
    show 11 * (1 * (R.val / 1024 - 0) + 1 * (l.val / 2048 - 0)) + 10 = _
    have := l.isLt; omega
  have hlt : pt6Of (ix2 R l) < cfg0.N := lt_of_lt_of_eq (show pt6Of (ix2 R l) < 88 by rw [hp]; have := R.isLt; omega) N_0.symm
  unfold G6
  rw [dif_pos hlt, ← outsAt0_sweep m c _ hlt]
  have hl : loc6Of (ix2 R l) = ix2 (⟨R.val % 1024, Nat.mod_lt _ (by decide)⟩ : Fin 1024) l := by
    funext a; apply Fin.ext
    match a with
    | ⟨0, _⟩ => rfl
    | ⟨1, _⟩ => exact Nat.mod_eq_of_lt l.isLt
  rw [hl, last m c _ hlt (by rw [hp]; omega)]
  have hR : rowOf ⟨pt6Of (ix2 R l), hlt⟩ (⟨R.val % 1024, Nat.mod_lt _ (by decide)⟩ : Fin 1024) = R := by
    apply Fin.ext
    show 1024 * (pt6Of (ix2 R l) / 11) + R.val % 1024 = R.val
    rw [hp]; omega
  rw [hR]
  exact rms_congr _ _ (fun l => part_all m c R l) (fun _ => rfl) l

end Cert.FfnIdeal.Hand

end
-- ==== Proof.FfnRefVal.lean ====
module

public import proofs.«01_k».proof.Proof.Gen.FfnRefIdeal.Run
public import proofs.«01_k».proof.Proof.Gen.FfnRefIdeal.Read
public import proofs.«01_k».proof.Proof.Common

@[expose] public section

noncomputable section

namespace Cert.FfnRefIdeal.Hand

open Cert.FfnRefIdeal Cert.FfnRefIdeal.Read Idealize.ShloMosaic Idealize.ShloMosaic.TcCoe Idealize.SL.Sem
open Cert.Layer

variable (x0 : FVec Ideal S8192x2048 .f32) (x1 : FVec Ideal S2x2048 .f32) (x2 x3 : FVec Ideal S2048x5632 .bf16)
  (x4 : FVec Ideal S5632x2048 .bf16) (x5 : FVec Ideal S2048 .f32)

abbrev nC : EReal := Ideal.ofBits .f32 0x45000000#32
abbrev eC : EReal := Ideal.ofBits .f32 0x358637BD#32

/-- The reference's normalised rows. -/
theorem h_apply (R : Fin 8192) (k : Fin 2048) :
    val_main_v14 (F := Ideal) x0 x1 (ix2 R k) = rms nC eC (fun l => x0 (ix2 R l)) (fun l => x1 (ix2 1 l)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

/-- The reference's gated hidden columns: its logistic is spelt `1 / (1 + exp (-x))`. -/
theorem a_apply (R : Fin 8192) (f : Fin 5632) :
    val_main_v21 (F := Ideal) x0 x1 x2 x3 (ix2 R f)
      = gated (rms nC eC (fun l => x0 (ix2 R l)) (fun l => x1 (ix2 1 l))) (fun k f => x2 (ix2 k f)) (fun k f => x3 (ix2 k f)) f := by
  pointwise [val_main_v21, val_main_v20, val_main_v19, val_main_call0_v5, val_main_call0_v4, val_main_call0_v3, val_main_call0_v2, val_main_call0_v1, val_main_call0_v0, val_main_call0_cst, val_main_call0_cst_0, val_main_v18, val_main_v16, val_main_v15, h_apply, gated, vecMat, Ideal.logistic]

/-- The reference's rows before the closing norm. -/
theorem y_apply (R : Fin 8192) (l : Fin 2048) :
    val_main_v23 (F := Ideal) x0 x1 x2 x3 x4 (ix2 R l)
      = x0 (ix2 R l) + ∑ f : Fin 5632, gated (rms nC eC (fun l => x0 (ix2 R l)) (fun l => x1 (ix2 1 l))) (fun k f => x2 (ix2 k f)) (fun k f => x3 (ix2 k f)) f * x4 (ix2 f l) := by
  pointwise [val_main_v23, val_main_v22, val_main_v17, a_apply]

/-- The reference's result, entry by entry. -/
theorem out_apply (R : Fin 8192) (l : Fin 2048) :
    val_main_v36 (F := Ideal) x0 x1 x2 x3 x4 x5 (ix2 R l)
      = rms nC eC (fun l => x0 (ix2 R l) + ∑ f : Fin 5632, gated (rms nC eC (fun l => x0 (ix2 R l)) (fun l => x1 (ix2 1 l))) (fun k f => x2 (ix2 k f)) (fun k f => x3 (ix2 k f)) f * x4 (ix2 f l))
          (fun l => x5 (ix1 l)) l := by
  pointwise [val_main_v36, val_main_v35, val_main_v34, val_main_v33, val_main_v32, val_main_v31, val_main_v30, val_main_v29, val_main_v28, val_main_v27, val_main_v26, val_main_v25, val_main_v24, val_main_cst_2, val_main_cst_3, val_main_cst_4, y_apply, rms]

end Cert.FfnRefIdeal.Hand

end
-- ==== Proof.FfnClaim.lean ====
module

public import proofs.«01_k».proof.Defs
public import proofs.«01_k».proof.Proof.FfnFold
public import proofs.«01_k».proof.Proof.FfnRefVal
public import proofs.«01_k».proof.Proof.Gen.FfnRefIdeal.Run
public import proofs.«01_k».proof.Proof.Gen.FfnRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  obtain ⟨e0, e1, e2, e3, e4, e5⟩ := hagree c
  rw [Cert.FfnRefIdeal.Read.val_main_v36_eq]
  funext i
  obtain ⟨R, l, rfl⟩ : ∃ (R : Fin 8192) (l : Fin 2048), i = ix2 R l := ⟨i 0, i 1, eq_ix2 i⟩
  refine (Cert.FfnRefIdeal.Hand.out_apply _ _ _ _ _ _ R l).trans ?_
  refine Eq.trans ?_ (Cert.FfnIdeal.Hand.G6_apply m c R l).symm
  unfold Cert.FfnIdeal.Hand.term Cert.FfnIdeal.Hand.H
  rw [e0, e1, e2, e3, e4, e5]

end Cert.Proof

end
-- ==== Proof.FfnMidCase.lean ====
module

public import proofs.«01_k».proof.Proof.Gen.FfnMidIdeal.Value
public import proofs.«01_k».proof.Proof.Common
public import Idealize.ShloMosaic.Lib.Tactic

@[expose] public section

noncomputable section

namespace Cert.FfnMidIdeal.Hand

open Cert.FfnMidIdeal Cert.FfnMidIdeal.Gen Cert.FfnMidIdeal.Value Idealize.ShloMosaic Idealize.ShloMosaic.TcCoe Idealize.SL.Sem
open Cert.Layer

/-- The stores and loads of whole blocks start at the origin. -/
theorem hz : (![0, 0] : Fin 2 → Nat) = fun _ => 0 := by
  funext a; match a with | ⟨0, _⟩ => rfl | ⟨1, _⟩ => rfl

section cases
variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
  (x0 : Vec F S1024x2048 .f32) (x1 : Vec F S1x2048 .f32) (x2 : Vec F S2048x512 .bf16) (x3 : Vec F S2048x512 .bf16) (x4 : Vec F S512x2048 .bf16) (x5 : Vec F S1x2048 .f32)

/-- The first hidden block leaves in the carried scratch the normalised rows. -/
theorem sout_A (hc0 : cond0_0 i) :
    sout0_A_0 c i _ harg2 _ harg3 _ harg4 _ harg5 _ harg6 _ harg7 _ harg8 _ harg9 hc0 x0 x1 x2 x3 x4 x5 = k0_pay1 x0 x1 := by
  unfold sout0_A_0
  rw [View.read_writes_eq_canon _ _ _ (fun _ => scover0_A_0 ..)]
  unfold kernelRun0_A
  dsimp only
  sl_unfold_words
  rw [View.canon_unit_zero (S := S1024x2048) hz]
  simp only [View.readAt_eq_ld, harg2.read_unread, harg3.read_unread, View.ld_unit_zero (S := S1024x2048) hz, View.ld_unit_zero (S := S1x2048) hz]

/-- The first hidden block leaves in the result's buffer the rows plus that block's share. -/
theorem out_A (hc0 : cond0_0 i) :
    out0_A_6 c i _ harg2 _ harg3 _ harg4 _ harg5 _ harg6 _ harg7 _ harg8 _ harg9 hc0 x0 x1 x2 x3 x4 x5 = k0_pay2 (k0_pay1 x0 x1) x2 x3 x0 x4 := by
  unfold out0_A_6
  rw [View.read_writes_eq_canon _ _ _ (fun _ => cover0_A_6 ..)]
  unfold kernelRun0_A
  dsimp only
  sl_unfold_words
  rw [View.canon_cons_unit_zero (S := S1024x2048) hz]
  simp only [View.readCov_unit_zero (S := S1024x2048) _ hz, View.readAt_eq_ld, harg2.read_unread, harg3.read_unread, harg4.read_unread, harg5.read_unread, harg6.read_unread, View.ld_unit_zero (S := S1024x2048) hz, View.ld_unit_zero (S := S1x2048) hz, View.ld_unit_zero (S := S2048x512) hz, View.ld_unit_zero (S := S512x2048) hz]

/-- A later hidden block adds its share to what the result's buffer held. -/
theorem out_B (hc0 : ¬cond0_0 i) (xo6 : Vec F S1024x2048 .f32) (xs0 : Vec F S1024x2048 .bf16) :
    out0_B_6 c i _ harg2 _ harg3 _ harg4 _ harg5 _ harg6 _ harg7 _ harg8 _ harg9 hc0 x0 x1 x2 x3 x4 x5 xo6 xs0 = k0_pay2 xs0 x2 x3 xo6 x4 := by
  unfold out0_B_6
  rw [View.read_writes_eq_canon _ _ _ (fun _ => cover0_B_6 ..)]
  unfold kernelRun0_B
  dsimp only
  sl_unfold_words
  rw [View.canon_unit_zero (S := S1024x2048) hz]
  simp only [View.readAt_eq_ld, harg4.read_unread, harg5.read_unread, harg6.read_unread, harg8.read_unread, harg9.read_unread, View.ld_unit_zero (S := S1024x2048) hz, View.ld_unit_zero (S := S2048x512) hz, View.ld_unit_zero (S := S512x2048) hz]

end cases

/-! ## The payloads at an index -/

theorem pay1_apply (x : Vec Ideal S1024x2048 .f32) (g : Vec Ideal S1x2048 .f32) (r : Fin 1024) (j : Fin 2048) :
    k0_pay1 (F := Ideal) x g (ix2 r j) = rms (Ideal.ofBits .f32 0x45000000#32) (Ideal.ofBits .f32 0x358637BD#32) (fun l => x (ix2 r l)) (fun l => g (ix2 0 l)) j := by
  pointwise [k0_pay1, rms]

theorem pay2_apply (h : Vec Ideal S1024x2048 .bf16) (wg wu : Vec Ideal S2048x512 .bf16) (o : Vec Ideal S1024x2048 .f32) (wd : Vec Ideal S512x2048 .bf16) (r : Fin 1024) (j : Fin 2048) :
    k0_pay2 (F := Ideal) h wg wu o wd (ix2 r j) = o (ix2 r j) + ∑ f : Fin 512, gated (fun k => h (ix2 r k)) (fun k f => wg (ix2 k f)) (fun k f => wu (ix2 k f)) f * wd (ix2 f j) := by
  pointwise [k0_pay2, gated, vecMat]

end Cert.FfnMidIdeal.Hand

end
-- ==== Proof.FfnMidFold.lean ====
module

public import proofs.«01_k».proof.Proof.FfnMidCase
public import Idealize.ShloMosaic.Lib.StableHlo.Run

@[expose] public section

noncomputable section

namespace Cert.FfnMidIdeal.Hand

open Cert.FfnMidIdeal Cert.FfnMidIdeal.Gen Cert.FfnMidIdeal.Value Idealize.ShloMosaic Idealize.ShloMosaic.TcCoe Idealize.SL.Sem
open Cert.Layer

variable (m : (ℓ : Loc nD τ sig) → Buf (Elt Ideal) ℓ)

/-! ## The arguments as rows and matrices -/

abbrev X (c : Dev nD) (R : Fin 8192) (l : Fin 2048) : EReal := m ((c : Thread nD τ).loc main_arg0) (ix2 R l)
abbrev G1 (c : Dev nD) (l : Fin 2048) : EReal := m ((c : Thread nD τ).loc main_arg1) (ix2 (0 : Fin 2) l)
abbrev Wg (c : Dev nD) (k : Fin 2048) (f : Fin 5632) : EReal := m ((c : Thread nD τ).loc main_arg2) (ix2 k f)
abbrev Wu (c : Dev nD) (k : Fin 2048) (f : Fin 5632) : EReal := m ((c : Thread nD τ).loc main_arg3) (ix2 k f)
abbrev Wd (c : Dev nD) (f : Fin 5632) (l : Fin 2048) : EReal := m ((c : Thread nD τ).loc main_arg4) (ix2 f l)

/-! ## What the region finds in the scales, which the host reshapes before it -/

set_option maxRecDepth 16384 in
theorem V_g1 (c : Dev nD) (l : Fin 2048) : V m c main_v2 (ix2 0 l) = G1 m c l := by
  have e : V m c main_v2 = shapeCast S1x2048 (shapeCast S2048 (extractStridedSlice S1x2048 ![0, 0] (m ((c : Thread nD τ).loc main_arg1)) slices_S2x2048_S1x2048_0_0) shapeCasts_S1x2048_S2048) shapeCasts_S2048_S1x2048 := by
    unfold V
    after_results
    rfl
  rw [e]
  pointwise

/-! ## The input blocks at an index -/

theorem N_eq : cfg0.N = 88 := N_0

theorem row_lt (t : Fin cfg0.N) (r : Fin 1024) : 1024 * (t.val / 11) + r.val < 8192 := by
  have := lt_of_lt_of_eq t.isLt N_0; have := r.isLt; omega

theorem col_lt (n : ℕ) (f : Fin 512) : 512 * (n % 11) + f.val < 5632 := by
  have := f.isLt; omega

/-- The row of the whole array that row `r` of point `t`'s block is. -/
abbrev rowOf (t : Fin cfg0.N) (r : Fin 1024) : Fin 8192 := ⟨1024 * (t.val / 11) + r.val, row_lt t r⟩

/-- The hidden column that column `f` of hidden block `n` is. -/
abbrev colOf (n : ℕ) (f : Fin 512) : Fin 5632 := ⟨512 * (n % 11) + f.val, col_lt n f⟩

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)

theorem blk0 (c : Dev nD) (t : Fin cfg0.N) (r : Fin 1024) (l : Fin 2048) :
    (iblk m c 0 t : Vec Ideal S1024x2048 .f32) (ix2 r l) = X m c (rowOf t r) l := by
  have hi := idx0 t
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 11) + r.val; rw [hi.1]; omega
  | ⟨1, _⟩ => show win0_0.index t 1 * 2048 + 1 * l.val = l.val; rw [hi.2]; omega

theorem blk1 (c : Dev nD) (t : Fin cfg0.N) (l : Fin 2048) :
    (iblk m c 1 t : Vec Ideal S1x2048 .f32) (ix2 0 l) = G1 m c l := by
  have hi := idx1 t
  rw [← V_g1]
  unfold iblk
  rw [View.read_apply]
  show V m c main_v2 _ = _
  congr 1
  funext a
  apply Fin.ext
  match a with
  | ⟨0, _⟩ => show win0_1.index t 0 * 1 + 1 * 0 = 0; rw [hi.1]
  | ⟨1, _⟩ => show win0_1.index t 1 * 2048 + 1 * l.val = l.val; rw [hi.2]; omega

theorem blk2 (c : Dev nD) (t : Fin cfg0.N) (k : Fin 2048) (f : Fin 512) :
    (iblk m c 2 t : Vec Ideal S2048x512 .bf16) (ix2 k f) = Wg m c k (colOf t.val f) := by
  have hi := idx2 t
  unfold iblk
  rw [View.read_apply]
  show V m c main_arg2 _ = _
  rw [V_main_arg2]
  congr 1
  funext a
  apply Fin.ext
  match a with
  | ⟨0, _⟩ => show win0_2.index t 0 * 2048 + 1 * k.val = k.val; rw [hi.1]; omega
  | ⟨1, _⟩ => show win0_2.index t 1 * 512 + 1 * f.val = 512 * (t.val % 11) + f.val; rw [hi.2]; omega

theorem blk3 (c : Dev nD) (t : Fin cfg0.N) (k : Fin 2048) (f : Fin 512) :
    (iblk m c 3 t : Vec Ideal S2048x512 .bf16) (ix2 k f) = Wu m c k (colOf t.val f) := by
  have hi := idx3 t
  unfold iblk
  rw [View.read_apply]
  show V m c main_arg3 _ = _
  rw [V_main_arg3]
  congr 1
  funext a
  apply Fin.ext
  match a with
  | ⟨0, _⟩ => show win0_3.index t 0 * 2048 + 1 * k.val = k.val; rw [hi.1]; omega
  | ⟨1, _⟩ => show win0_3.index t 1 * 512 + 1 * f.val = 512 * (t.val % 11) + f.val; rw [hi.2]; omega

theorem blk4 (c : Dev nD) (t : Fin cfg0.N) (f : Fin 512) (l : Fin 2048) :
    (iblk m c 4 t : Vec Ideal S512x2048 .bf16) (ix2 f l) = Wd m c (colOf t.val f) l := by
  have hi := idx4 t
  unfold iblk
  rw [View.read_apply]
  show V m c main_arg4 _ = _
  rw [V_main_arg4]
  congr 1
  funext a
  apply Fin.ext
  match a with
  | ⟨0, _⟩ => show win0_4.index t 0 * 512 + 1 * f.val = 512 * (t.val % 11) + f.val; rw [hi.1]; omega
  | ⟨1, _⟩ => show win0_4.index t 1 * 2048 + 1 * l.val = l.val; rw [hi.2]; omega

/-! ## The fold: normalised rows kept, the hidden blocks' shares added in order -/

abbrev nC : EReal := Ideal.ofBits .f32 0x45000000#32
abbrev eC : EReal := Ideal.ofBits .f32 0x358637BD#32

/-- The normalised rows. -/
def H (c : Dev nD) (R : Fin 8192) (k : Fin 2048) : EReal := rms nC eC (X m c R) (G1 m c) k

/-- Hidden column `f`'s contribution to entry `(R, l)`. -/
def term (c : Dev nD) (R : Fin 8192) (l : Fin 2048) (f : Fin 5632) : EReal :=
  gated (H m c R) (Wg m c) (Wu m c) f * Wd m c f l

/-- Hidden block `s`'s share of entry `(R, l)`. -/
def share (c : Dev nD) (R : Fin 8192) (l : Fin 2048) (s : ℕ) : EReal := ∑ f : Fin 512, term m c R l (colOf s f)

/-- The rows and the shares of the first `k` hidden blocks. -/
def part (c : Dev nD) (R : Fin 8192) (l : Fin 2048) (k : ℕ) : EReal := X m c R l + ∑ s ∈ Finset.range k, share m c R l s

theorem pay1_blk (c : Dev nD) (t : Fin cfg0.N) (r : Fin 1024) (k : Fin 2048) :
    k0_pay1 (F := Ideal) (iblk m c 0 t : Vec Ideal S1024x2048 .f32) (iblk m c 1 t : Vec Ideal S1x2048 .f32) (ix2 r k) = H m c (rowOf t r) k := by
  rw [pay1_apply]
  exact rms_congr _ _ (fun l => blk0 m c t r l) (fun l => blk1 m c t l) k

theorem pay2_blk (c : Dev nD) (t : Fin cfg0.N) (h : Vec Ideal S1024x2048 .bf16) (o : Vec Ideal S1024x2048 .f32) (r : Fin 1024) (l : Fin 2048)
    (hh : ∀ k, h (ix2 r k) = H m c (rowOf t r) k) (k : ℕ) (ho : o (ix2 r l) = part m c (rowOf t r) l k) (hk : t.val % 11 = k) :
    k0_pay2 (F := Ideal) h (iblk m c 2 t : Vec Ideal S2048x512 .bf16) (iblk m c 3 t : Vec Ideal S2048x512 .bf16) o (iblk m c 4 t : Vec Ideal S512x2048 .bf16) (ix2 r l)
      = part m c (rowOf t r) l (k + 1) := by
  rw [pay2_apply, ho]
  unfold part
  rw [Finset.sum_range_succ, ← add_assoc]
  congr 1
  unfold share term
  refine Finset.sum_congr rfl fun f _ => ?_
  have hc : colOf k f = colOf t.val f := by apply Fin.ext; show 512 * (k % 11) + f.val = 512 * (t.val % 11) + f.val; omega
  rw [hc, blk4]
  unfold gated vecMat
  simp only [hh, blk2, blk3]

/-- After point `t` the scratch holds the normalised rows of `t`'s row block, and the result's buffer the rows plus the
    shares so far. -/
theorem fold (c : Dev nD) : ∀ (n : ℕ) (hn : n < cfg0.N),
    (∀ (r : Fin 1024) (k : Fin 2048), (outsAt0 m c n hn).2 (ix2 r k) = H m c (rowOf ⟨n, hn⟩ r) k)
    ∧ (∀ (r : Fin 1024) (l : Fin 2048), (outsAt0 m c n hn).1 (ix2 r l) = part m c (rowOf ⟨n, hn⟩ r) l (n % 11 + 1)) := by
  intro n
  induction n with
  | zero =>
    intro hn
    have e := outsAt0_A m c ⟨0, hn⟩ (by rfl)
    dsimp only at e
    rw [e, out_A, sout_A]
    refine ⟨fun r k => pay1_blk m c _ r k, fun r l => ?_⟩
    refine pay2_blk m c ⟨0, hn⟩ _ _ r l (fun k => pay1_blk m c _ r k) 0 ?_ rfl
    rw [blk0]; unfold part; simp
  | succ n ih =>
    intro hn
    obtain ⟨ih2, ih1⟩ := ih (Nat.lt_of_succ_lt hn)
    have hN := lt_of_lt_of_eq hn N_0
    by_cases h0 : (n + 1) % 11 = 0
    · have e := outsAt0_A m c ⟨n + 1, hn⟩ h0
      dsimp only at e
      rw [e, out_A, sout_A]
      refine ⟨fun r k => pay1_blk m c _ r k, fun r l => ?_⟩
      have := pay2_blk m c ⟨n + 1, hn⟩ (k0_pay1 (F := Ideal) (iblk m c 0 ⟨n + 1, hn⟩ : Vec Ideal S1024x2048 .f32) (iblk m c 1 ⟨n + 1, hn⟩ : Vec Ideal S1x2048 .f32)) (iblk m c 0 ⟨n + 1, hn⟩ : Vec Ideal S1024x2048 .f32) r l (fun k => pay1_blk m c _ r k) 0 (by rw [blk0]; unfold part; simp) h0
      rw [h0]; exact this
    · have hrow : ∀ r, rowOf ⟨n + 1, hn⟩ r = rowOf ⟨n, Nat.lt_of_succ_lt hn⟩ r := by
        intro r; apply Fin.ext; show 1024 * ((n + 1) / 11) + r.val = 1024 * (n / 11) + r.val; omega
      have e := outsAt0_B m c ⟨n + 1, hn⟩ h0
      dsimp only at e
      rw [e, out_B]
      refine ⟨fun r k => ?_, fun r l => ?_⟩
      · unfold sout0_B_0
        rw [hrow]; exact ih2 r k
      · refine pay2_blk m c ⟨n + 1, hn⟩ _ _ r l (fun k => ?_) _ ?_ rfl
        · rw [hrow]; exact ih2 r k
        · rw [hrow]
          refine (ih1 r l).trans ?_
          congr 1; show n % 11 + 1 = (n + 1) % 11; omega

set_option maxRecDepth 16384 in
/-- The shares of all eleven hidden blocks are the sum over the hidden columns. -/
theorem part_all (c : Dev nD) (R : Fin 8192) (l : Fin 2048) : part m c R l 11 = X m c R l + ∑ f : Fin 5632, term m c R l f := by
  unfold part
  congr 1
  unfold share
  rw [Finset.sum_range, ← Fintype.sum_prod_type' (fun (s : Fin 11) (f : Fin 512) => term m c R l (colOf s.val f))]
  refine Fintype.sum_equiv finProdFinEquiv _ _ fun p => ?_
  congr 1
  apply Fin.ext
  show 512 * (p.1.val % 11) + p.2.val = p.2.val + 512 * p.1.val
  have := p.1.isLt
  omega

/-- The result array, entry by entry. -/
theorem G6_apply (c : Dev nD) (R : Fin 8192) (l : Fin 2048) :
    G6 m c (ix2 R l) = X m c R l + ∑ f : Fin 5632, term m c R l f := by
  have hp : pt6Of (ix2 R l) = 11 * (R.val / 1024) + 10 := by
    show 11 * run6Of (ix2 R l) + 10 = _
    unfold run6Of
    show 11 * (1 * (R.val / 1024 - 0) + 1 * (l.val / 2048 - 0)) + 10 = _
    have := l.isLt; omega
  have hlt : pt6Of (ix2 R l) < cfg0.N := lt_of_lt_of_eq (show pt6Of (ix2 R l) < 88 by rw [hp]; have := R.isLt; omega) N_0.symm
  unfold G6
  rw [dif_pos hlt, ← outsAt0_sweep m c _ hlt]
  have hl : loc6Of (ix2 R l) = ix2 (⟨R.val % 1024, Nat.mod_lt _ (by decide)⟩ : Fin 1024) l := by
    funext a; apply Fin.ext
    match a with
    | ⟨0, _⟩ => rfl
    | ⟨1, _⟩ => exact Nat.mod_eq_of_lt l.isLt
  have hm : pt6Of (ix2 R l) % 11 + 1 = 11 := by rw [hp]; omega
  rw [hl, (fold m c _ hlt).2, hm]
  have hR : rowOf ⟨pt6Of (ix2 R l), hlt⟩ (⟨R.val % 1024, Nat.mod_lt _ (by decide)⟩ : Fin 1024) = R := by
    apply Fin.ext
    show 1024 * (pt6Of (ix2 R l) / 11) + R.val % 1024 = R.val
    rw [hp]; omega
  rw [hR]
  exact part_all m c R l

end Cert.FfnMidIdeal.Hand

end
-- ==== Proof.FfnMidRefVal.lean ====
module

public import proofs.«01_k».proof.Proof.Gen.FfnMidRefIdeal.Run
public import proofs.«01_k».proof.Proof.Gen.FfnMidRefIdeal.Read
public import proofs.«01_k».proof.Proof.Common

@[expose] public section

noncomputable section

namespace Cert.FfnMidRefIdeal.Hand

open Cert.FfnMidRefIdeal Cert.FfnMidRefIdeal.Read Idealize.ShloMosaic Idealize.ShloMosaic.TcCoe Idealize.SL.Sem
open Cert.Layer

variable (x0 : FVec Ideal S8192x2048 .f32) (x1 : FVec Ideal S2x2048 .f32) (x2 x3 : FVec Ideal S2048x5632 .bf16)
  (x4 : FVec Ideal S5632x2048 .bf16)

abbrev nC : EReal := Ideal.ofBits .f32 0x45000000#32
abbrev eC : EReal := Ideal.ofBits .f32 0x358637BD#32

/-- The reference's normalised rows. -/
theorem h_apply (R : Fin 8192) (k : Fin 2048) :
    val_main_v14 (F := Ideal) x0 x1 (ix2 R k) = rms nC eC (fun l => x0 (ix2 R l)) (fun l => x1 (ix2 (0 : Fin 2) l)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

/-- The reference's gated hidden columns: its logistic is spelt `1 / (1 + exp (-x))`. -/
theorem a_apply (R : Fin 8192) (f : Fin 5632) :
    val_main_v21 (F := Ideal) x0 x1 x2 x3 (ix2 R f)
      = gated (rms nC eC (fun l => x0 (ix2 R l)) (fun l => x1 (ix2 (0 : Fin 2) l))) (fun k f => x2 (ix2 k f)) (fun k f => x3 (ix2 k f)) f := by
  pointwise [val_main_v21, val_main_v20, val_main_v19, val_main_call0_v5, val_main_call0_v4, val_main_call0_v3, val_main_call0_v2, val_main_call0_v1, val_main_call0_v0, val_main_call0_cst, val_main_call0_cst_0, val_main_v18, val_main_v16, val_main_v15, h_apply, gated, vecMat, Ideal.logistic]

/-- The reference's result, entry by entry. -/
theorem out_apply (R : Fin 8192) (l : Fin 2048) :
    val_main_v23 (F := Ideal) x0 x1 x2 x3 x4 (ix2 R l)
      = x0 (ix2 R l) + ∑ f : Fin 5632, gated (rms nC eC (fun l => x0 (ix2 R l)) (fun l => x1 (ix2 (0 : Fin 2) l))) (fun k f => x2 (ix2 k f)) (fun k f => x3 (ix2 k f)) f * x4 (ix2 f l) := by
  pointwise [val_main_v23, val_main_v22, val_main_v17, a_apply]

end Cert.FfnMidRefIdeal.Hand

end
-- ==== Proof.FfnMidClaim.lean ====
module

public import proofs.«01_k».proof.Defs
public import proofs.«01_k».proof.Proof.FfnMidFold
public import proofs.«01_k».proof.Proof.FfnMidRefVal
public import proofs.«01_k».proof.Proof.Gen.FfnMidRefIdeal.Run
public import proofs.«01_k».proof.Proof.Gen.FfnMidRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FfnMidRefIdeal : quiescent_FfnMidRefIdeal := fun m ρ _ =>
  (θ_run Cert.FfnMidRefIdeal.defs _ _).mono (fun r h => ⟨fun c => (h c).2, sem_eq_zero_of_no_sems (by decide) r.2⟩)
    (Cert.FfnMidRefIdeal.Value.run (F := Ideal) m ρ)

theorem algebraic_FfnMidIdeal_FfnMidRefIdeal : algebraic_FfnMidIdeal_FfnMidRefIdeal := by
  intro m ρ m' ρ' _ hagree
  refine ⟨_, Cert.FfnMidIdeal.Value.run (F := Ideal) m ρ, ?_⟩
  refine (θ_run Cert.FfnMidRefIdeal.defs _ _).mono (fun _ h c => ⟨?_, (h c).2⟩) (Cert.FfnMidRefIdeal.Value.run (F := Ideal) m' ρ')
  rw [(h c).1]
  obtain ⟨e0, e1, e2, e3, e4, e5⟩ := hagree c
  rw [Cert.FfnMidRefIdeal.Read.val_main_v23_eq]
  funext i
  obtain ⟨R, l, rfl⟩ : ∃ (R : Fin 8192) (l : Fin 2048), i = ix2 R l := ⟨i 0, i 1, eq_ix2 i⟩
  refine (Cert.FfnMidRefIdeal.Hand.out_apply _ _ _ _ _ R l).trans ?_
  refine Eq.trans ?_ (Cert.FfnMidIdeal.Hand.G6_apply m c R l).symm
  unfold Cert.FfnMidIdeal.Hand.term Cert.FfnMidIdeal.Hand.H
  rw [e0, e1, e2, e3, e4]

end Cert.Proof

end
-- ==== Proof.FfnSCase.lean ====
module

public import proofs.«01_k».proof.Proof.Gen.FfnSIdeal.Value
public import proofs.«01_k».proof.Proof.Common
public import Idealize.ShloMosaic.Lib.Tactic

@[expose] public section

noncomputable section

namespace Cert.FfnSIdeal.Hand

open Cert.FfnSIdeal Cert.FfnSIdeal.Gen Cert.FfnSIdeal.Value Idealize.ShloMosaic Idealize.ShloMosaic.TcCoe Idealize.SL.Sem
open Cert.Layer

/-- The stores and loads of whole blocks start at the origin. -/
theorem hz : (![0, 0] : Fin 2 → Nat) = fun _ => 0 := by
  funext a; match a with | ⟨0, _⟩ => rfl | ⟨1, _⟩ => rfl

section cases
variable {F : FTy → Type} [FloatOps F]
variable (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x1408 .bf16) (harg5 : arg5.IsWhole) (arg6 : Memref sig .tc .vmem S1408x2048 .bf16) (harg6 : arg6.IsWhole) (arg7 : Memref sig .tc .vmem S1x2048 .f32) (harg7 : arg7.IsWhole) (arg8 : Memref sig .tc .vmem S32x2048 .f32) (harg8 : arg8.IsWhole) (arg9 : Memref sig .tc .vmem S32x2048 .bf16) (harg9 : arg9.IsWhole)
  (x0 : Vec F S32x2048 .f32) (x1 : Vec F S1x2048 .f32) (x2 : Vec F S2048x1408 .bf16) (x3 : Vec F S2048x1408 .bf16) (x4 : Vec F S1408x2048 .bf16) (x5 : Vec F S1x2048 .f32)

/-- The first hidden block leaves in the carried scratch the normalised rows. -/
theorem sout_A (hc0 : cond0_0 i) (hc1 : ¬cond0_1 i) :
    sout0_A_0 c i _ harg2 _ harg3 _ harg4 _ harg5 _ harg6 _ harg7 _ harg8 _ harg9 hc0 hc1 x0 x1 x2 x3 x4 x5 = k0_pay1 x0 x1 := by
  unfold sout0_A_0
  rw [View.read_writes_eq_canon _ _ _ (fun _ => scover0_A_0 ..)]
  unfold kernelRun0_A
  dsimp only
  sl_unfold_words
  rw [View.canon_unit_zero (S := S32x2048) hz]
  simp only [View.readAt_eq_ld, harg2.read_unread, harg3.read_unread, View.ld_unit_zero (S := S32x2048) hz, View.ld_unit_zero (S := S1x2048) hz]

/-- The first hidden block leaves in the result's buffer the rows plus that block's share. -/
theorem out_A (hc0 : cond0_0 i) (hc1 : ¬cond0_1 i) :
    out0_A_6 c i _ harg2 _ harg3 _ harg4 _ harg5 _ harg6 _ harg7 _ harg8 _ harg9 hc0 hc1 x0 x1 x2 x3 x4 x5 = k0_pay2 (k0_pay1 x0 x1) x2 x3 x0 x4 := by
  unfold out0_A_6
  rw [View.read_writes_eq_canon _ _ _ (fun _ => cover0_A_6 ..)]
  unfold kernelRun0_A
  dsimp only
  sl_unfold_words
  rw [View.canon_cons_unit_zero (S := S32x2048) hz]
  simp only [View.readCov_unit_zero (S := S32x2048) _ hz, View.readAt_eq_ld, harg2.read_unread, harg3.read_unread, harg4.read_unread, harg5.read_unread, harg6.read_unread, View.ld_unit_zero (S := S32x2048) hz, View.ld_unit_zero (S := S1x2048) hz, View.ld_unit_zero (S := S2048x1408) hz, View.ld_unit_zero (S := S1408x2048) hz]

/-- A later hidden block adds its share to what the result's buffer held. -/
theorem out_B (hc0 : ¬cond0_0 i) (hc1 : ¬cond0_1 i) (xo6 : Vec F S32x2048 .f32) (xs0 : Vec F S32x2048 .bf16) :
    out0_B_6 c i _ harg2 _ harg3 _ harg4 _ harg5 _ harg6 _ harg7 _ harg8 _ harg9 hc0 hc1 x0 x1 x2 x3 x4 x5 xo6 xs0 = k0_pay2 xs0 x2 x3 xo6 x4 := by
  unfold out0_B_6
  rw [View.read_writes_eq_canon _ _ _ (fun _ => cover0_B_6 ..)]
  unfold kernelRun0_B
  dsimp only
  sl_unfold_words
  rw [View.canon_unit_zero (S := S32x2048) hz]
  simp only [View.readAt_eq_ld, harg4.read_unread, harg5.read_unread, harg6.read_unread, harg8.read_unread, harg9.read_unread, View.ld_unit_zero (S := S32x2048) hz, View.ld_unit_zero (S := S2048x1408) hz, View.ld_unit_zero (S := S1408x2048) hz]

/-- The last hidden block adds its share and then takes the closing RMS norm of the rows. -/
theorem out_C (hc0 : ¬cond0_0 i) (hc1 : cond0_1 i) (xo6 : Vec F S32x2048 .f32) (xs0 : Vec F S32x2048 .bf16) :
    out0_C_6 c i _ harg2 _ harg3 _ harg4 _ harg5 _ harg6 _ harg7 _ harg8 _ harg9 hc0 hc1 x0 x1 x2 x3 x4 x5 xo6 xs0 = k0_pay3 (k0_pay2 xs0 x2 x3 xo6 x4) x5 := by
  unfold out0_C_6
  rw [View.read_writes_eq_canon _ _ _ (fun _ => cover0_C_6 ..)]
  unfold kernelRun0_C
  dsimp only
  sl_unfold_words
  rw [View.canon_cons_unit_zero (S := S32x2048) hz]
  simp only [View.readCov_unit_zero (S := S32x2048) _ hz, View.readAt_eq_ld, harg4.read_unread, harg5.read_unread, harg6.read_unread, harg7.read_unread, harg8.read_unread, harg9.read_unread, View.ld_unit_zero (S := S32x2048) hz, View.ld_unit_zero (S := S1x2048) hz, View.ld_unit_zero (S := S2048x1408) hz, View.ld_unit_zero (S := S1408x2048) hz]

end cases

/-! ## The payloads at an index -/

theorem pay1_apply (x : Vec Ideal S32x2048 .f32) (g : Vec Ideal S1x2048 .f32) (r : Fin 32) (j : Fin 2048) :
    k0_pay1 (F := Ideal) x g (ix2 r j) = rms (Ideal.ofBits .f32 0x45000000#32) (Ideal.ofBits .f32 0x358637BD#32) (fun l => x (ix2 r l)) (fun l => g (ix2 0 l)) j := by
  pointwise [k0_pay1, rms]

theorem pay2_apply (h : Vec Ideal S32x2048 .bf16) (wg wu : Vec Ideal S2048x1408 .bf16) (o : Vec Ideal S32x2048 .f32) (wd : Vec Ideal S1408x2048 .bf16) (r : Fin 32) (j : Fin 2048) :
    k0_pay2 (F := Ideal) h wg wu o wd (ix2 r j) = o (ix2 r j) + ∑ f : Fin 1408, gated (fun k => h (ix2 r k)) (fun k f => wg (ix2 k f)) (fun k f => wu (ix2 k f)) f * wd (ix2 f j) := by
  pointwise [k0_pay2, gated, vecMat]

theorem pay3_apply (x : Vec Ideal S32x2048 .f32) (g : Vec Ideal S1x2048 .f32) (r : Fin 32) (j : Fin 2048) :
    k0_pay3 (F := Ideal) x g (ix2 r j) = rms (Ideal.ofBits .f32 0x45000000#32) (Ideal.ofBits .f32 0x358637BD#32) (fun l => x (ix2 r l)) (fun l => g (ix2 0 l)) j := by
  pointwise [k0_pay3, rms]

end Cert.FfnSIdeal.Hand

end
-- ==== Proof.FfnSFold.lean ====
module

public import proofs.«01_k».proof.Proof.FfnSCase
public import Idealize.ShloMosaic.Lib.StableHlo.Run

@[expose] public section

noncomputable section

namespace Cert.FfnSIdeal.Hand

open Cert.FfnSIdeal Cert.FfnSIdeal.Gen Cert.FfnSIdeal.Value Idealize.ShloMosaic Idealize.ShloMosaic.TcCoe Idealize.SL.Sem
open Cert.Layer

variable (m : (ℓ : Loc nD τ sig) → Buf (Elt Ideal) ℓ)

/-! ## The arguments as rows and matrices -/

abbrev X (c : Dev nD) (R : Fin 32) (l : Fin 2048) : EReal := m ((c : Thread nD τ).loc main_arg0) (ix2 R l)
abbrev G1 (c : Dev nD) (l : Fin 2048) : EReal := m ((c : Thread nD τ).loc main_arg1) (ix2 1 l)
abbrev Wg (c : Dev nD) (k : Fin 2048) (f : Fin 5632) : EReal := m ((c : Thread nD τ).loc main_arg2) (ix2 k f)
abbrev Wu (c : Dev nD) (k : Fin 2048) (f : Fin 5632) : EReal := m ((c : Thread nD τ).loc main_arg3) (ix2 k f)
abbrev Wd (c : Dev nD) (f : Fin 5632) (l : Fin 2048) : EReal := m ((c : Thread nD τ).loc main_arg4) (ix2 f l)
abbrev G2 (c : Dev nD) (l : Fin 2048) : EReal := m ((c : Thread nD τ).loc main_arg5) (ix1 l)

/-! ## What the region finds in the scales, which the host reshapes before it -/

set_option maxRecDepth 16384 in
theorem V_g1 (c : Dev nD) (l : Fin 2048) : V m c main_v2 (ix2 0 l) = G1 m c l := by
  have e : V m c main_v2 = shapeCast S1x2048 (shapeCast S2048 (extractStridedSlice S1x2048 ![1, 0] (m ((c : Thread nD τ).loc main_arg1)) slices_S2x2048_S1x2048_1_0) shapeCasts_S1x2048_S2048) shapeCasts_S2048_S1x2048 := by
    unfold V
    after_results
    rfl
  rw [e]
  pointwise

set_option maxRecDepth 16384 in
theorem V_g2 (c : Dev nD) (l : Fin 2048) : V m c main_v3 (ix2 0 l) = G2 m c l := by
  have e : V m c main_v3 = shapeCast S1x2048 (m ((c : Thread nD τ).loc main_arg5)) shapeCasts_S2048_S1x2048 := by
    unfold V
    after_results
    rfl
  rw [e]
  pointwise

/-! ## The input blocks at an index -/

theorem N_eq : cfg0.N = 4 := N_0

theorem row_lt (t : Fin cfg0.N) (r : Fin 32) : 32 * (t.val / 4) + r.val < 32 := by
  have := lt_of_lt_of_eq t.isLt N_0; have := r.isLt; omega

theorem col_lt (n : ℕ) (f : Fin 1408) : 1408 * (n % 4) + f.val < 5632 := by
  have := f.isLt; omega

/-- The row of the whole array that row `r` of point `t`'s block is. -/
abbrev rowOf (t : Fin cfg0.N) (r : Fin 32) : Fin 32 := ⟨32 * (t.val / 4) + r.val, row_lt t r⟩

/-- The hidden column that column `f` of hidden block `n` is. -/
abbrev colOf (n : ℕ) (f : Fin 1408) : Fin 5632 := ⟨1408 * (n % 4) + f.val, col_lt n f⟩

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 4 :=
  (by decide +kernel : ∀ t : Fin grid0.N, _)
theorem idx3 : ∀ t : Fin cfg0.N, win0_3.index t (0 : Fin 2) = 0 ∧ win0_3.index t (1 : Fin 2) = t.val % 4 :=
  (by decide +kernel : ∀ t : Fin grid0.N, _)
theorem idx4 : ∀ t : Fin cfg0.N, win0_4.index t (0 : Fin 2) = t.val % 4 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem blk0 (c : Dev nD) (t : Fin cfg0.N) (r : Fin 32) (l : Fin 2048) :
    (iblk m c 0 t : Vec Ideal S32x2048 .f32) (ix2 r l) = X m c (rowOf t r) l := by
  have hi := idx0 t
  unfold iblk
  rw [View.read_apply]
  show V m c main_arg0 _ = _
  rw [V_main_arg0]
  congr 1
  funext a
  apply Fin.ext
  match a with
  | ⟨0, _⟩ => show win0_0.index t 0 * 32 + 1 * r.val = 32 * (t.val / 4) + r.val; rw [hi.1]; omega
  | ⟨1, _⟩ => show win0_0.index t 1 * 2048 + 1 * l.val = l.val; rw [hi.2]; omega

theorem blk1 (c : Dev nD) (t : Fin cfg0.N) (l : Fin 2048) :
    (iblk m c 1 t : Vec Ideal S1x2048 .f32) (ix2 0 l) = G1 m c l := by
  have hi := idx1 t
  rw [← V_g1]
  unfold iblk
  rw [View.read_apply]
  show V m c main_v2 _ = _
  congr 1
  funext a
  apply Fin.ext
  match a with
  | ⟨0, _⟩ => show win0_1.index t 0 * 1 + 1 * 0 = 0; rw [hi.1]
  | ⟨1, _⟩ => show win0_1.index t 1 * 2048 + 1 * l.val = l.val; rw [hi.2]; omega

theorem blk2 (c : Dev nD) (t : Fin cfg0.N) (k : Fin 2048) (f : Fin 1408) :
    (iblk m c 2 t : Vec Ideal S2048x1408 .bf16) (ix2 k f) = Wg m c k (colOf t.val f) := by
  have hi := idx2 t
  unfold iblk
  rw [View.read_apply]
  show V m c main_arg2 _ = _
  rw [V_main_arg2]
  congr 1
  funext a
  apply Fin.ext
  match a with
  | ⟨0, _⟩ => show win0_2.index t 0 * 2048 + 1 * k.val = k.val; rw [hi.1]; omega
  | ⟨1, _⟩ => show win0_2.index t 1 * 1408 + 1 * f.val = 1408 * (t.val % 4) + f.val; rw [hi.2]; omega

theorem blk3 (c : Dev nD) (t : Fin cfg0.N) (k : Fin 2048) (f : Fin 1408) :
    (iblk m c 3 t : Vec Ideal S2048x1408 .bf16) (ix2 k f) = Wu m c k (colOf t.val f) := by
  have hi := idx3 t
  unfold iblk
  rw [View.read_apply]
  show V m c main_arg3 _ = _
  rw [V_main_arg3]
  congr 1
  funext a
  apply Fin.ext
  match a with
  | ⟨0, _⟩ => show win0_3.index t 0 * 2048 + 1 * k.val = k.val; rw [hi.1]; omega
  | ⟨1, _⟩ => show win0_3.index t 1 * 1408 + 1 * f.val = 1408 * (t.val % 4) + f.val; rw [hi.2]; omega

theorem blk4 (c : Dev nD) (t : Fin cfg0.N) (f : Fin 1408) (l : Fin 2048) :
    (iblk m c 4 t : Vec Ideal S1408x2048 .bf16) (ix2 f l) = Wd m c (colOf t.val f) l := by
  have hi := idx4 t
  unfold iblk
  rw [View.read_apply]
  show V m c main_arg4 _ = _
  rw [V_main_arg4]
  congr 1
  funext a
  apply Fin.ext
  match a with
  | ⟨0, _⟩ => show win0_4.index t 0 * 1408 + 1 * f.val = 1408 * (t.val % 4) + f.val; rw [hi.1]; omega
  | ⟨1, _⟩ => show win0_4.index t 1 * 2048 + 1 * l.val = l.val; rw [hi.2]; omega

theorem blk5 (c : Dev nD) (t : Fin cfg0.N) (l : Fin 2048) :
    (iblk m c 5 t : Vec Ideal S1x2048 .f32) (ix2 0 l) = G2 m c l := by
  have hi := idx5 t
  rw [← V_g2]
  unfold iblk
  rw [View.read_apply]
  show V m c main_v3 _ = _
  congr 1
  funext a
  apply Fin.ext
  match a with
  | ⟨0, _⟩ => show win0_5.index t 0 * 1 + 1 * 0 = 0; rw [hi.1]
  | ⟨1, _⟩ => show win0_5.index t 1 * 2048 + 1 * l.val = l.val; rw [hi.2]; omega

/-! ## The fold: normalised rows kept, the hidden blocks' shares added in order -/

abbrev nC : EReal := Ideal.ofBits .f32 0x45000000#32
abbrev eC : EReal := Ideal.ofBits .f32 0x358637BD#32

/-- The normalised rows. -/
def H (c : Dev nD) (R : Fin 32) (k : Fin 2048) : EReal := rms nC eC (X m c R) (G1 m c) k

/-- Hidden column `f`'s contribution to entry `(R, l)`. -/
def term (c : Dev nD) (R : Fin 32) (l : Fin 2048) (f : Fin 5632) : EReal :=
  gated (H m c R) (Wg m c) (Wu m c) f * Wd m c f l

/-- Hidden block `s`'s share of entry `(R, l)`. -/
def share (c : Dev nD) (R : Fin 32) (l : Fin 2048) (s : ℕ) : EReal := ∑ f : Fin 1408, term m c R l (colOf s f)

/-- The rows and the shares of the first `k` hidden blocks. -/
def part (c : Dev nD) (R : Fin 32) (l : Fin 2048) (k : ℕ) : EReal := X m c R l + ∑ s ∈ Finset.range k, share m c R l s

theorem pay1_blk (c : Dev nD) (t : Fin cfg0.N) (r : Fin 32) (k : Fin 2048) :
    k0_pay1 (F := Ideal) (iblk m c 0 t : Vec Ideal S32x2048 .f32) (iblk m c 1 t : Vec Ideal S1x2048 .f32) (ix2 r k) = H m c (rowOf t r) k := by
  rw [pay1_apply]
  exact rms_congr _ _ (fun l => blk0 m c t r l) (fun l => blk1 m c t l) k

theorem pay2_blk (c : Dev nD) (t : Fin cfg0.N) (h : Vec Ideal S32x2048 .bf16) (o : Vec Ideal S32x2048 .f32) (r : Fin 32) (l : Fin 2048)
    (hh : ∀ k, h (ix2 r k) = H m c (rowOf t r) k) (k : ℕ) (ho : o (ix2 r l) = part m c (rowOf t r) l k) (hk : t.val % 4 = k) :
    k0_pay2 (F := Ideal) h (iblk m c 2 t : Vec Ideal S2048x1408 .bf16) (iblk m c 3 t : Vec Ideal S2048x1408 .bf16) o (iblk m c 4 t : Vec Ideal S1408x2048 .bf16) (ix2 r l)
      = part m c (rowOf t r) l (k + 1) := by
  rw [pay2_apply, ho]
  unfold part
  rw [Finset.sum_range_succ, ← add_assoc]
  congr 1
  unfold share term
  refine Finset.sum_congr rfl fun f _ => ?_
  have hc : colOf k f = colOf t.val f := by apply Fin.ext; show 1408 * (k % 4) + f.val = 1408 * (t.val % 4) + f.val; omega
  rw [hc, blk4]
  unfold gated vecMat
  simp only [hh, blk2, blk3]

/-- After point `t` the scratch holds the normalised rows of `t`'s row block, and before the last hidden block the
    result's buffer the rows plus the shares so far. -/
theorem fold (c : Dev nD) : ∀ (n : ℕ) (hn : n < cfg0.N),
    (∀ (r : Fin 32) (k : Fin 2048), (outsAt0 m c n hn).2 (ix2 r k) = H m c (rowOf ⟨n, hn⟩ r) k)
    ∧ (n % 4 < 3 → ∀ (r : Fin 32) (l : Fin 2048), (outsAt0 m c n hn).1 (ix2 r l) = part m c (rowOf ⟨n, hn⟩ r) l (n % 4 + 1)) := by
  intro n
  induction n with
  | zero =>
    intro hn
    have e := outsAt0_A m c ⟨0, hn⟩ (by rfl) (by show ¬ (0 % 4 = 3); decide)
    dsimp only at e
    rw [e, out_A, sout_A]
    refine ⟨fun r k => pay1_blk m c _ r k, fun _ r l => ?_⟩
    refine pay2_blk m c ⟨0, hn⟩ _ _ r l (fun k => pay1_blk m c _ r k) 0 ?_ rfl
    rw [blk0]; unfold part; simp
  | succ n ih =>
    intro hn
    obtain ⟨ih2, ih1⟩ := ih (Nat.lt_of_succ_lt hn)
    have hN := lt_of_lt_of_eq hn N_0
    by_cases h0 : (n + 1) % 4 = 0
    · have e := outsAt0_A m c ⟨n + 1, hn⟩ h0 (by show ¬ ((n + 1) % 4 = 3); omega)
      dsimp only at e
      rw [e, out_A, sout_A]
      refine ⟨fun r k => pay1_blk m c _ r k, fun _ r l => ?_⟩
      have := pay2_blk m c ⟨n + 1, hn⟩ (k0_pay1 (F := Ideal) (iblk m c 0 ⟨n + 1, hn⟩ : Vec Ideal S32x2048 .f32) (iblk m c 1 ⟨n + 1, hn⟩ : Vec Ideal S1x2048 .f32)) (iblk m c 0 ⟨n + 1, hn⟩ : Vec Ideal S32x2048 .f32) r l (fun k => pay1_blk m c _ r k) 0 (by rw [blk0]; unfold part; simp) h0
      rw [h0]; exact this
    · have hrow : ∀ r, rowOf ⟨n + 1, hn⟩ r = rowOf ⟨n, Nat.lt_of_succ_lt hn⟩ r := by
        intro r; apply Fin.ext; show 32 * ((n + 1) / 4) + r.val = 32 * (n / 4) + r.val; omega
      by_cases h1 : (n + 1) % 4 = 3
      · have e := outsAt0_C m c ⟨n + 1, hn⟩ h0 h1
        dsimp only at e
        rw [e]
        refine ⟨fun r k => ?_, fun h => by omega⟩
        unfold sout0_C_0
        rw [hrow]; exact ih2 r k
      · have e := outsAt0_B m c ⟨n + 1, hn⟩ h0 h1
        dsimp only at e
        rw [e, out_B]
        refine ⟨fun r k => ?_, fun h r l => ?_⟩
        · unfold sout0_B_0
          rw [hrow]; exact ih2 r k
        · refine pay2_blk m c ⟨n + 1, hn⟩ _ _ r l (fun k => ?_) _ ?_ rfl
          · rw [hrow]; exact ih2 r k
          · rw [hrow]
            refine (ih1 (by omega) r l).trans ?_
            congr 1; show n % 4 + 1 = (n + 1) % 4; omega

/-- At the last hidden block of a row block the result's buffer holds the finished rows. -/
theorem last (c : Dev nD) (n : ℕ) (hn : n < cfg0.N) (h1 : n % 4 = 3) (r : Fin 32) (l : Fin 2048) :
    (outsAt0 m c n hn).1 (ix2 r l) = rms nC eC (fun l => part m c (rowOf ⟨n, hn⟩ r) l 4) (G2 m c) l := by
  have hN := lt_of_lt_of_eq hn N_0
  obtain ⟨n, rfl⟩ : ∃ k, n = k + 1 := ⟨n - 1, by omega⟩
  obtain ⟨ih2, ih1⟩ := fold m c n (Nat.lt_of_succ_lt hn)
  have hrow : ∀ r, rowOf ⟨n + 1, hn⟩ r = rowOf ⟨n, Nat.lt_of_succ_lt hn⟩ r := by
    intro r; apply Fin.ext; show 32 * ((n + 1) / 4) + r.val = 32 * (n / 4) + r.val; omega
  have e := outsAt0_C m c ⟨n + 1, hn⟩ (by show ¬ ((n + 1) % 4 = 0); omega) h1
  dsimp only at e
  rw [e, out_C]
  dsimp only
  rw [pay3_apply]
  refine rms_congr _ _ (fun l => ?_) (fun l => blk5 m c _ l) l
  refine pay2_blk m c ⟨n + 1, hn⟩ _ _ r l (fun k => ?_) 3 ?_ h1
  · rw [hrow]; exact ih2 r k
  · rw [hrow]
    refine (ih1 (by omega) r l).trans ?_
    congr 1; omega

set_option maxRecDepth 16384 in
/-- The shares of all four hidden blocks are the sum over the hidden columns. -/
theorem part_all (c : Dev nD) (R : Fin 32) (l : Fin 2048) : part m c R l 4 = X m c R l + ∑ f : Fin 5632, term m c R l f := by
  unfold part
  congr 1
  unfold share
  rw [Finset.sum_range, ← Fintype.sum_prod_type' (fun (s : Fin 4) (f : Fin 1408) => term m c R l (colOf s.val f))]
  refine Fintype.sum_equiv finProdFinEquiv _ _ fun p => ?_
  congr 1
  apply Fin.ext
  show 1408 * (p.1.val % 4) + p.2.val = p.2.val + 1408 * p.1.val
  have := p.1.isLt
  omega

/-- The result array, entry by entry. -/
theorem G6_apply (c : Dev nD) (R : Fin 32) (l : Fin 2048) :
    G6 m c (ix2 R l) = rms nC eC (fun l => X m c R l + ∑ f : Fin 5632, term m c R l f) (G2 m c) l := by
  have hp : pt6Of (ix2 R l) = 4 * (R.val / 32) + 3 := by
    show 4 * run6Of (ix2 R l) + 3 = _
    unfold run6Of
    show 4 * (1 * (R.val / 32 - 0) + 1 * (l.val / 2048 - 0)) + 3 = _
    have := l.isLt; omega
  have hlt : pt6Of (ix2 R l) < cfg0.N := lt_of_lt_of_eq (show pt6Of (ix2 R l) < 4 by rw [hp]; have := R.isLt; omega) N_0.symm
  unfold G6
  rw [dif_pos hlt, ← outsAt0_sweep m c _ hlt]
  have hl : loc6Of (ix2 R l) = ix2 (⟨R.val % 32, Nat.mod_lt _ (by decide)⟩ : Fin 32) l := by
    funext a; apply Fin.ext
    match a with
    | ⟨0, _⟩ => rfl
    | ⟨1, _⟩ => exact Nat.mod_eq_of_lt l.isLt
  rw [hl, last m c _ hlt (by rw [hp]; omega)]
  have hR : rowOf ⟨pt6Of (ix2 R l), hlt⟩ (⟨R.val % 32, Nat.mod_lt _ (by decide)⟩ : Fin 32) = R := by
    apply Fin.ext
    show 32 * (pt6Of (ix2 R l) / 4) + R.val % 32 = R.val
    rw [hp]; omega
  rw [hR]
  exact rms_congr _ _ (fun l => part_all m c R l) (fun _ => rfl) l

end Cert.FfnSIdeal.Hand

end
-- ==== Proof.FfnSRefVal.lean ====
module

public import proofs.«01_k».proof.Proof.Gen.FfnSRefIdeal.Run
public import proofs.«01_k».proof.Proof.Gen.FfnSRefIdeal.Read
public import proofs.«01_k».proof.Proof.Common

@[expose] public section

noncomputable section

namespace Cert.FfnSRefIdeal.Hand

open Cert.FfnSRefIdeal Cert.FfnSRefIdeal.Read Idealize.ShloMosaic Idealize.ShloMosaic.TcCoe Idealize.SL.Sem
open Cert.Layer

variable (x0 : FVec Ideal S32x2048 .f32) (x1 : FVec Ideal S2x2048 .f32) (x2 x3 : FVec Ideal S2048x5632 .bf16)
  (x4 : FVec Ideal S5632x2048 .bf16) (x5 : FVec Ideal S2048 .f32)

abbrev nC : EReal := Ideal.ofBits .f32 0x45000000#32
abbrev eC : EReal := Ideal.ofBits .f32 0x358637BD#32

/-- The reference's normalised rows. -/
theorem h_apply (R : Fin 32) (k : Fin 2048) :
    val_main_v14 (F := Ideal) x0 x1 (ix2 R k) = rms nC eC (fun l => x0 (ix2 R l)) (fun l => x1 (ix2 1 l)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

/-- The reference's gated hidden columns: its logistic is spelt `1 / (1 + exp (-x))`. -/
theorem a_apply (R : Fin 32) (f : Fin 5632) :
    val_main_v21 (F := Ideal) x0 x1 x2 x3 (ix2 R f)
      = gated (rms nC eC (fun l => x0 (ix2 R l)) (fun l => x1 (ix2 1 l))) (fun k f => x2 (ix2 k f)) (fun k f => x3 (ix2 k f)) f := by
  pointwise [val_main_v21, val_main_v20, val_main_v19, val_main_call0_v5, val_main_call0_v4, val_main_call0_v3, val_main_call0_v2, val_main_call0_v1, val_main_call0_v0, val_main_call0_cst, val_main_call0_cst_0, val_main_v18, val_main_v16, val_main_v15, h_apply, gated, vecMat, Ideal.logistic]

/-- The reference's rows before the closing norm. -/
theorem y_apply (R : Fin 32) (l : Fin 2048) :
    val_main_v23 (F := Ideal) x0 x1 x2 x3 x4 (ix2 R l)
      = x0 (ix2 R l) + ∑ f : Fin 5632, gated (rms nC eC (fun l => x0 (ix2 R l)) (fun l => x1 (ix2 1 l))) (fun k f => x2 (ix2 k f)) (fun k f => x3 (ix2 k f)) f * x4 (ix2 f l) := by
  pointwise [val_main_v23, val_main_v22, val_main_v17, a_apply]

/-- The reference's result, entry by entry. -/
theorem out_apply (R : Fin 32) (l : Fin 2048) :
    val_main_v36 (F := Ideal) x0 x1 x2 x3 x4 x5 (ix2 R l)
      = rms nC eC (fun l => x0 (ix2 R l) + ∑ f : Fin 5632, gated (rms nC eC (fun l => x0 (ix2 R l)) (fun l => x1 (ix2 1 l))) (fun k f => x2 (ix2 k f)) (fun k f => x3 (ix2 k f)) f * x4 (ix2 f l))
          (fun l => x5 (ix1 l)) l := by
  pointwise [val_main_v36, val_main_v35, val_main_v34, val_main_v33, val_main_v32, val_main_v31, val_main_v30, val_main_v29, val_main_v28, val_main_v27, val_main_v26, val_main_v25, val_main_v24, val_main_cst_2, val_main_cst_3, val_main_cst_4, y_apply, rms]

end Cert.FfnSRefIdeal.Hand

end
-- ==== Proof.FfnSClaim.lean ====
module

public import proofs.«01_k».proof.Defs
public import proofs.«01_k».proof.Proof.FfnSFold
public import proofs.«01_k».proof.Proof.FfnSRefVal
public import proofs.«01_k».proof.Proof.Gen.FfnSRefIdeal.Run
public import proofs.«01_k».proof.Proof.Gen.FfnSRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FfnSRefIdeal : quiescent_FfnSRefIdeal := fun m ρ _ =>
  (θ_run Cert.FfnSRefIdeal.defs _ _).mono (fun r h => ⟨fun c => (h c).2, sem_eq_zero_of_no_sems (by decide) r.2⟩)
    (Cert.FfnSRefIdeal.Value.run (F := Ideal) m ρ)

theorem algebraic_FfnSIdeal_FfnSRefIdeal : algebraic_FfnSIdeal_FfnSRefIdeal := by
  intro m ρ m' ρ' _ hagree
  refine ⟨_, Cert.FfnSIdeal.Value.run (F := Ideal) m ρ, ?_⟩
  refine (θ_run Cert.FfnSRefIdeal.defs _ _).mono (fun _ h c => ⟨?_, (h c).2⟩) (Cert.FfnSRefIdeal.Value.run (F := Ideal) m' ρ')
  rw [(h c).1]
  obtain ⟨e0, e1, e2, e3, e4, e5⟩ := hagree c
  rw [Cert.FfnSRefIdeal.Read.val_main_v36_eq]
  funext i
  obtain ⟨R, l, rfl⟩ : ∃ (R : Fin 32) (l : Fin 2048), i = ix2 R l := ⟨i 0, i 1, eq_ix2 i⟩
  refine (Cert.FfnSRefIdeal.Hand.out_apply _ _ _ _ _ _ R l).trans ?_
  refine Eq.trans ?_ (Cert.FfnSIdeal.Hand.G6_apply m c R l).symm
  unfold Cert.FfnSIdeal.Hand.term Cert.FfnSIdeal.Hand.H
  rw [e0, e1, e2, e3, e4, e5]

end Cert.Proof

end
-- ==== Proof.FfnMidSCase.lean ====
module

public import proofs.«01_k».proof.Proof.Gen.FfnMidSIdeal.Value
public import proofs.«01_k».proof.Proof.Common
public import Idealize.ShloMosaic.Lib.Tactic

@[expose] public section

noncomputable section

namespace Cert.FfnMidSIdeal.Hand

open Cert.FfnMidSIdeal Cert.FfnMidSIdeal.Gen Cert.FfnMidSIdeal.Value Idealize.ShloMosaic Idealize.ShloMosaic.TcCoe Idealize.SL.Sem
open Cert.Layer

/-- The stores and loads of whole blocks start at the origin. -/
theorem hz : (![0, 0] : Fin 2 → Nat) = fun _ => 0 := by
  funext a; match a with | ⟨0, _⟩ => rfl | ⟨1, _⟩ => rfl

section cases
variable {F : FTy → Type} [FloatOps F]
variable (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x1408 .bf16) (harg4 : arg4.IsWhole) (arg5 : Memref sig .tc .vmem S2048x1408 .bf16) (harg5 : arg5.IsWhole) (arg6 : Memref sig .tc .vmem S1408x2048 .bf16) (harg6 : arg6.IsWhole) (arg7 : Memref sig .tc .vmem S1x2048 .f32) (harg7 : arg7.IsWhole) (arg8 : Memref sig .tc .vmem S32x2048 .f32) (harg8 : arg8.IsWhole) (arg9 : Memref sig .tc .vmem S32x2048 .bf16) (harg9 : arg9.IsWhole)
  (x0 : Vec F S32x2048 .f32) (x1 : Vec F S1x2048 .f32) (x2 : Vec F S2048x1408 .bf16) (x3 : Vec F S2048x1408 .bf16) (x4 : Vec F S1408x2048 .bf16) (x5 : Vec F S1x2048 .f32)

/-- The first hidden block leaves in the carried scratch the normalised rows. -/
theorem sout_A (hc0 : cond0_0 i) :
    sout0_A_0 c i _ harg2 _ harg3 _ harg4 _ harg5 _ harg6 _ harg7 _ harg8 _ harg9 hc0 x0 x1 x2 x3 x4 x5 = k0_pay1 x0 x1 := by
  unfold sout0_A_0
  rw [View.read_writes_eq_canon _ _ _ (fun _ => scover0_A_0 ..)]
  unfold kernelRun0_A
  dsimp only
  sl_unfold_words
  rw [View.canon_unit_zero (S := S32x2048) hz]
  simp only [View.readAt_eq_ld, harg2.read_unread, harg3.read_unread, View.ld_unit_zero (S := S32x2048) hz, View.ld_unit_zero (S := S1x2048) hz]

/-- The first hidden block leaves in the result's buffer the rows plus that block's share. -/
theorem out_A (hc0 : cond0_0 i) :
    out0_A_6 c i _ harg2 _ harg3 _ harg4 _ harg5 _ harg6 _ harg7 _ harg8 _ harg9 hc0 x0 x1 x2 x3 x4 x5 = k0_pay2 (k0_pay1 x0 x1) x2 x3 x0 x4 := by
  unfold out0_A_6
  rw [View.read_writes_eq_canon _ _ _ (fun _ => cover0_A_6 ..)]
  unfold kernelRun0_A
  dsimp only
  sl_unfold_words
  rw [View.canon_cons_unit_zero (S := S32x2048) hz]
  simp only [View.readCov_unit_zero (S := S32x2048) _ hz, View.readAt_eq_ld, harg2.read_unread, harg3.read_unread, harg4.read_unread, harg5.read_unread, harg6.read_unread, View.ld_unit_zero (S := S32x2048) hz, View.ld_unit_zero (S := S1x2048) hz, View.ld_unit_zero (S := S2048x1408) hz, View.ld_unit_zero (S := S1408x2048) hz]

/-- A later hidden block adds its share to what the result's buffer held. -/
theorem out_B (hc0 : ¬cond0_0 i) (xo6 : Vec F S32x2048 .f32) (xs0 : Vec F S32x2048 .bf16) :
    out0_B_6 c i _ harg2 _ harg3 _ harg4 _ harg5 _ harg6 _ harg7 _ harg8 _ harg9 hc0 x0 x1 x2 x3 x4 x5 xo6 xs0 = k0_pay2 xs0 x2 x3 xo6 x4 := by
  unfold out0_B_6
  rw [View.read_writes_eq_canon _ _ _ (fun _ => cover0_B_6 ..)]
  unfold kernelRun0_B
  dsimp only
  sl_unfold_words
  rw [View.canon_unit_zero (S := S32x2048) hz]
  simp only [View.readAt_eq_ld, harg4.read_unread, harg5.read_unread, harg6.read_unread, harg8.read_unread, harg9.read_unread, View.ld_unit_zero (S := S32x2048) hz, View.ld_unit_zero (S := S2048x1408) hz, View.ld_unit_zero (S := S1408x2048) hz]

end cases

/-! ## The payloads at an index -/

theorem pay1_apply (x : Vec Ideal S32x2048 .f32) (g : Vec Ideal S1x2048 .f32) (r : Fin 32) (j : Fin 2048) :
    k0_pay1 (F := Ideal) x g (ix2 r j) = rms (Ideal.ofBits .f32 0x45000000#32) (Ideal.ofBits .f32 0x358637BD#32) (fun l => x (ix2 r l)) (fun l => g (ix2 0 l)) j := by
  pointwise [k0_pay1, rms]

theorem pay2_apply (h : Vec Ideal S32x2048 .bf16) (wg wu : Vec Ideal S2048x1408 .bf16) (o : Vec Ideal S32x2048 .f32) (wd : Vec Ideal S1408x2048 .bf16) (r : Fin 32) (j : Fin 2048) :
    k0_pay2 (F := Ideal) h wg wu o wd (ix2 r j) = o (ix2 r j) + ∑ f : Fin 1408, gated (fun k => h (ix2 r k)) (fun k f => wg (ix2 k f)) (fun k f => wu (ix2 k f)) f * wd (ix2 f j) := by
  pointwise [k0_pay2, gated, vecMat]

end Cert.FfnMidSIdeal.Hand

end
-- ==== Proof.FfnMidSFold.lean ====
module

public import proofs.«01_k».proof.Proof.FfnMidSCase
public import Idealize.ShloMosaic.Lib.StableHlo.Run

@[expose] public section

noncomputable section

namespace Cert.FfnMidSIdeal.Hand

open Cert.FfnMidSIdeal Cert.FfnMidSIdeal.Gen Cert.FfnMidSIdeal.Value Idealize.ShloMosaic Idealize.ShloMosaic.TcCoe Idealize.SL.Sem
open Cert.Layer

variable (m : (ℓ : Loc nD τ sig) → Buf (Elt Ideal) ℓ)

/-! ## The arguments as rows and matrices -/

abbrev X (c : Dev nD) (R : Fin 32) (l : Fin 2048) : EReal := m ((c : Thread nD τ).loc main_arg0) (ix2 R l)
abbrev G1 (c : Dev nD) (l : Fin 2048) : EReal := m ((c : Thread nD τ).loc main_arg1) (ix2 (0 : Fin 2) l)
abbrev Wg (c : Dev nD) (k : Fin 2048) (f : Fin 5632) : EReal := m ((c : Thread nD τ).loc main_arg2) (ix2 k f)
abbrev Wu (c : Dev nD) (k : Fin 2048) (f : Fin 5632) : EReal := m ((c : Thread nD τ).loc main_arg3) (ix2 k f)
abbrev Wd (c : Dev nD) (f : Fin 5632) (l : Fin 2048) : EReal := m ((c : Thread nD τ).loc main_arg4) (ix2 f l)

/-! ## What the region finds in the scales, which the host reshapes before it -/

set_option maxRecDepth 16384 in
theorem V_g1 (c : Dev nD) (l : Fin 2048) : V m c main_v2 (ix2 0 l) = G1 m c l := by
  have e : V m c main_v2 = shapeCast S1x2048 (shapeCast S2048 (extractStridedSlice S1x2048 ![0, 0] (m ((c : Thread nD τ).loc main_arg1)) slices_S2x2048_S1x2048_0_0) shapeCasts_S1x2048_S2048) shapeCasts_S2048_S1x2048 := by
    unfold V
    after_results
    rfl
  rw [e]
  pointwise

/-! ## The input blocks at an index -/

theorem N_eq : cfg0.N = 4 := N_0

theorem row_lt (t : Fin cfg0.N) (r : Fin 32) : 32 * (t.val / 4) + r.val < 32 := by
  have := lt_of_lt_of_eq t.isLt N_0; have := r.isLt; omega

theorem col_lt (n : ℕ) (f : Fin 1408) : 1408 * (n % 4) + f.val < 5632 := by
  have := f.isLt; omega

/-- The row of the whole array that row `r` of point `t`'s block is. -/
abbrev rowOf (t : Fin cfg0.N) (r : Fin 32) : Fin 32 := ⟨32 * (t.val / 4) + r.val, row_lt t r⟩

/-- The hidden column that column `f` of hidden block `n` is. -/
abbrev colOf (n : ℕ) (f : Fin 1408) : Fin 5632 := ⟨1408 * (n % 4) + f.val, col_lt n f⟩

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 4 :=
  (by decide +kernel : ∀ t : Fin grid0.N, _)
theorem idx3 : ∀ t : Fin cfg0.N, win0_3.index t (0 : Fin 2) = 0 ∧ win0_3.index t (1 : Fin 2) = t.val % 4 :=
  (by decide +kernel : ∀ t : Fin grid0.N, _)
theorem idx4 : ∀ t : Fin cfg0.N, win0_4.index t (0 : Fin 2) = t.val % 4 ∧ win0_4.index t (1 : Fin 2) = 0 :=
  (by decide +kernel : ∀ t : Fin grid0.N, _)

theorem blk0 (c : Dev nD) (t : Fin cfg0.N) (r : Fin 32) (l : Fin 2048) :
    (iblk m c 0 t : Vec Ideal S32x2048 .f32) (ix2 r l) = X m c (rowOf t r) l := by
  have hi := idx0 t
  unfold iblk
  rw [View.read_apply]
  show V m c main_arg0 _ = _
  rw [V_main_arg0]
  congr 1
  funext a
  apply Fin.ext
  match a with
  | ⟨0, _⟩ => show win0_0.index t 0 * 32 + 1 * r.val = 32 * (t.val / 4) + r.val; rw [hi.1]; omega
  | ⟨1, _⟩ => show win0_0.index t 1 * 2048 + 1 * l.val = l.val; rw [hi.2]; omega

theorem blk1 (c : Dev nD) (t : Fin cfg0.N) (l : Fin 2048) :
    (iblk m c 1 t : Vec Ideal S1x2048 .f32) (ix2 0 l) = G1 m c l := by
  have hi := idx1 t
  rw [← V_g1]
  unfold iblk
  rw [View.read_apply]
  show V m c main_v2 _ = _
  congr 1
  funext a
  apply Fin.ext
  match a with
  | ⟨0, _⟩ => show win0_1.index t 0 * 1 + 1 * 0 = 0; rw [hi.1]
  | ⟨1, _⟩ => show win0_1.index t 1 * 2048 + 1 * l.val = l.val; rw [hi.2]; omega

theorem blk2 (c : Dev nD) (t : Fin cfg0.N) (k : Fin 2048) (f : Fin 1408) :
    (iblk m c 2 t : Vec Ideal S2048x1408 .bf16) (ix2 k f) = Wg m c k (colOf t.val f) := by
  have hi := idx2 t
  unfold iblk
  rw [View.read_apply]
  show V m c main_arg2 _ = _
  rw [V_main_arg2]
  congr 1
  funext a
  apply Fin.ext
  match a with
  | ⟨0, _⟩ => show win0_2.index t 0 * 2048 + 1 * k.val = k.val; rw [hi.1]; omega
  | ⟨1, _⟩ => show win0_2.index t 1 * 1408 + 1 * f.val = 1408 * (t.val % 4) + f.val; rw [hi.2]; omega

theorem blk3 (c : Dev nD) (t : Fin cfg0.N) (k : Fin 2048) (f : Fin 1408) :
    (iblk m c 3 t : Vec Ideal S2048x1408 .bf16) (ix2 k f) = Wu m c k (colOf t.val f) := by
  have hi := idx3 t
  unfold iblk
  rw [View.read_apply]
  show V m c main_arg3 _ = _
  rw [V_main_arg3]
  congr 1
  funext a
  apply Fin.ext
  match a with
  | ⟨0, _⟩ => show win0_3.index t 0 * 2048 + 1 * k.val = k.val; rw [hi.1]; omega
  | ⟨1, _⟩ => show win0_3.index t 1 * 1408 + 1 * f.val = 1408 * (t.val % 4) + f.val; rw [hi.2]; omega

theorem blk4 (c : Dev nD) (t : Fin cfg0.N) (f : Fin 1408) (l : Fin 2048) :
    (iblk m c 4 t : Vec Ideal S1408x2048 .bf16) (ix2 f l) = Wd m c (colOf t.val f) l := by
  have hi := idx4 t
  unfold iblk
  rw [View.read_apply]
  show V m c main_arg4 _ = _
  rw [V_main_arg4]
  congr 1
  funext a
  apply Fin.ext
  match a with
  | ⟨0, _⟩ => show win0_4.index t 0 * 1408 + 1 * f.val = 1408 * (t.val % 4) + f.val; rw [hi.1]; omega
  | ⟨1, _⟩ => show win0_4.index t 1 * 2048 + 1 * l.val = l.val; rw [hi.2]; omega

/-! ## The fold: normalised rows kept, the hidden blocks' shares added in order -/

abbrev nC : EReal := Ideal.ofBits .f32 0x45000000#32
abbrev eC : EReal := Ideal.ofBits .f32 0x358637BD#32

/-- The normalised rows. -/
def H (c : Dev nD) (R : Fin 32) (k : Fin 2048) : EReal := rms nC eC (X m c R) (G1 m c) k

/-- Hidden column `f`'s contribution to entry `(R, l)`. -/
def term (c : Dev nD) (R : Fin 32) (l : Fin 2048) (f : Fin 5632) : EReal :=
  gated (H m c R) (Wg m c) (Wu m c) f * Wd m c f l

/-- Hidden block `s`'s share of entry `(R, l)`. -/
def share (c : Dev nD) (R : Fin 32) (l : Fin 2048) (s : ℕ) : EReal := ∑ f : Fin 1408, term m c R l (colOf s f)

/-- The rows and the shares of the first `k` hidden blocks. -/
def part (c : Dev nD) (R : Fin 32) (l : Fin 2048) (k : ℕ) : EReal := X m c R l + ∑ s ∈ Finset.range k, share m c R l s

theorem pay1_blk (c : Dev nD) (t : Fin cfg0.N) (r : Fin 32) (k : Fin 2048) :
    k0_pay1 (F := Ideal) (iblk m c 0 t : Vec Ideal S32x2048 .f32) (iblk m c 1 t : Vec Ideal S1x2048 .f32) (ix2 r k) = H m c (rowOf t r) k := by
  rw [pay1_apply]
  exact rms_congr _ _ (fun l => blk0 m c t r l) (fun l => blk1 m c t l) k

theorem pay2_blk (c : Dev nD) (t : Fin cfg0.N) (h : Vec Ideal S32x2048 .bf16) (o : Vec Ideal S32x2048 .f32) (r : Fin 32) (l : Fin 2048)
    (hh : ∀ k, h (ix2 r k) = H m c (rowOf t r) k) (k : ℕ) (ho : o (ix2 r l) = part m c (rowOf t r) l k) (hk : t.val % 4 = k) :
    k0_pay2 (F := Ideal) h (iblk m c 2 t : Vec Ideal S2048x1408 .bf16) (iblk m c 3 t : Vec Ideal S2048x1408 .bf16) o (iblk m c 4 t : Vec Ideal S1408x2048 .bf16) (ix2 r l)
      = part m c (rowOf t r) l (k + 1) := by
  rw [pay2_apply, ho]
  unfold part
  rw [Finset.sum_range_succ, ← add_assoc]
  congr 1
  unfold share term
  refine Finset.sum_congr rfl fun f _ => ?_
  have hc : colOf k f = colOf t.val f := by apply Fin.ext; show 1408 * (k % 4) + f.val = 1408 * (t.val % 4) + f.val; omega
  rw [hc, blk4]
  unfold gated vecMat
  simp only [hh, blk2, blk3]

/-- After point `t` the scratch holds the normalised rows of `t`'s row block, and the result's buffer the rows plus the
    shares so far. -/
theorem fold (c : Dev nD) : ∀ (n : ℕ) (hn : n < cfg0.N),
    (∀ (r : Fin 32) (k : Fin 2048), (outsAt0 m c n hn).2 (ix2 r k) = H m c (rowOf ⟨n, hn⟩ r) k)
    ∧ (∀ (r : Fin 32) (l : Fin 2048), (outsAt0 m c n hn).1 (ix2 r l) = part m c (rowOf ⟨n, hn⟩ r) l (n % 4 + 1)) := by
  intro n
  induction n with
  | zero =>
    intro hn
    have e := outsAt0_A m c ⟨0, hn⟩ (by rfl)
    dsimp only at e
    rw [e, out_A, sout_A]
    refine ⟨fun r k => pay1_blk m c _ r k, fun r l => ?_⟩
    refine pay2_blk m c ⟨0, hn⟩ _ _ r l (fun k => pay1_blk m c _ r k) 0 ?_ rfl
    rw [blk0]; unfold part; simp
  | succ n ih =>
    intro hn
    obtain ⟨ih2, ih1⟩ := ih (Nat.lt_of_succ_lt hn)
    have hN := lt_of_lt_of_eq hn N_0
    by_cases h0 : (n + 1) % 4 = 0
    · have e := outsAt0_A m c ⟨n + 1, hn⟩ h0
      dsimp only at e
      rw [e, out_A, sout_A]
      refine ⟨fun r k => pay1_blk m c _ r k, fun r l => ?_⟩
      have := pay2_blk m c ⟨n + 1, hn⟩ (k0_pay1 (F := Ideal) (iblk m c 0 ⟨n + 1, hn⟩ : Vec Ideal S32x2048 .f32) (iblk m c 1 ⟨n + 1, hn⟩ : Vec Ideal S1x2048 .f32)) (iblk m c 0 ⟨n + 1, hn⟩ : Vec Ideal S32x2048 .f32) r l (fun k => pay1_blk m c _ r k) 0 (by rw [blk0]; unfold part; simp) h0
      rw [h0]; exact this
    · have hrow : ∀ r, rowOf ⟨n + 1, hn⟩ r = rowOf ⟨n, Nat.lt_of_succ_lt hn⟩ r := by
        intro r; apply Fin.ext; show 32 * ((n + 1) / 4) + r.val = 32 * (n / 4) + r.val; omega
      have e := outsAt0_B m c ⟨n + 1, hn⟩ h0
      dsimp only at e
      rw [e, out_B]
      refine ⟨fun r k => ?_, fun r l => ?_⟩
      · unfold sout0_B_0
        rw [hrow]; exact ih2 r k
      · refine pay2_blk m c ⟨n + 1, hn⟩ _ _ r l (fun k => ?_) _ ?_ rfl
        · rw [hrow]; exact ih2 r k
        · rw [hrow]
          refine (ih1 r l).trans ?_
          congr 1; show n % 4 + 1 = (n + 1) % 4; omega

set_option maxRecDepth 16384 in
/-- The shares of all four hidden blocks are the sum over the hidden columns. -/
theorem part_all (c : Dev nD) (R : Fin 32) (l : Fin 2048) : part m c R l 4 = X m c R l + ∑ f : Fin 5632, term m c R l f := by
  unfold part
  congr 1
  unfold share
  rw [Finset.sum_range, ← Fintype.sum_prod_type' (fun (s : Fin 4) (f : Fin 1408) => term m c R l (colOf s.val f))]
  refine Fintype.sum_equiv finProdFinEquiv _ _ fun p => ?_
  congr 1
  apply Fin.ext
  show 1408 * (p.1.val % 4) + p.2.val = p.2.val + 1408 * p.1.val
  have := p.1.isLt
  omega

/-- The result array, entry by entry. -/
theorem G6_apply (c : Dev nD) (R : Fin 32) (l : Fin 2048) :
    G6 m c (ix2 R l) = X m c R l + ∑ f : Fin 5632, term m c R l f := by
  have hp : pt6Of (ix2 R l) = 4 * (R.val / 32) + 3 := by
    show 4 * run6Of (ix2 R l) + 3 = _
    unfold run6Of
    show 4 * (1 * (R.val / 32 - 0) + 1 * (l.val / 2048 - 0)) + 3 = _
    have := l.isLt; omega
  have hlt : pt6Of (ix2 R l) < cfg0.N := lt_of_lt_of_eq (show pt6Of (ix2 R l) < 4 by rw [hp]; have := R.isLt; omega) N_0.symm
  unfold G6
  rw [dif_pos hlt, ← outsAt0_sweep m c _ hlt]
  have hl : loc6Of (ix2 R l) = ix2 (⟨R.val % 32, Nat.mod_lt _ (by decide)⟩ : Fin 32) l := by
    funext a; apply Fin.ext
    match a with
    | ⟨0, _⟩ => rfl
    | ⟨1, _⟩ => exact Nat.mod_eq_of_lt l.isLt
  have hm : pt6Of (ix2 R l) % 4 + 1 = 4 := by rw [hp]; omega
  rw [hl, (fold m c _ hlt).2, hm]
  have hR : rowOf ⟨pt6Of (ix2 R l), hlt⟩ (⟨R.val % 32, Nat.mod_lt _ (by decide)⟩ : Fin 32) = R := by
    apply Fin.ext
    show 32 * (pt6Of (ix2 R l) / 4) + R.val % 32 = R.val
    rw [hp]; omega
  rw [hR]
  exact part_all m c R l

end Cert.FfnMidSIdeal.Hand

end
-- ==== Proof.FfnMidSRefVal.lean ====
module

public import proofs.«01_k».proof.Proof.Gen.FfnMidSRefIdeal.Run
public import proofs.«01_k».proof.Proof.Gen.FfnMidSRefIdeal.Read
public import proofs.«01_k».proof.Proof.Common

@[expose] public section

noncomputable section

namespace Cert.FfnMidSRefIdeal.Hand

open Cert.FfnMidSRefIdeal Cert.FfnMidSRefIdeal.Read Idealize.ShloMosaic Idealize.ShloMosaic.TcCoe Idealize.SL.Sem
open Cert.Layer

variable (x0 : FVec Ideal S32x2048 .f32) (x1 : FVec Ideal S2x2048 .f32) (x2 x3 : FVec Ideal S2048x5632 .bf16)
  (x4 : FVec Ideal S5632x2048 .bf16)

abbrev nC : EReal := Ideal.ofBits .f32 0x45000000#32
abbrev eC : EReal := Ideal.ofBits .f32 0x358637BD#32

/-- The reference's normalised rows. -/
theorem h_apply (R : Fin 32) (k : Fin 2048) :
    val_main_v14 (F := Ideal) x0 x1 (ix2 R k) = rms nC eC (fun l => x0 (ix2 R l)) (fun l => x1 (ix2 (0 : Fin 2) l)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

/-- The reference's gated hidden columns: its logistic is spelt `1 / (1 + exp (-x))`. -/
theorem a_apply (R : Fin 32) (f : Fin 5632) :
    val_main_v21 (F := Ideal) x0 x1 x2 x3 (ix2 R f)
      = gated (rms nC eC (fun l => x0 (ix2 R l)) (fun l => x1 (ix2 (0 : Fin 2) l))) (fun k f => x2 (ix2 k f)) (fun k f => x3 (ix2 k f)) f := by
  pointwise [val_main_v21, val_main_v20, val_main_v19, val_main_call0_v5, val_main_call0_v4, val_main_call0_v3, val_main_call0_v2, val_main_call0_v1, val_main_call0_v0, val_main_call0_cst, val_main_call0_cst_0, val_main_v18, val_main_v16, val_main_v15, h_apply, gated, vecMat, Ideal.logistic]

/-- The reference's result, entry by entry. -/
theorem out_apply (R : Fin 32) (l : Fin 2048) :
    val_main_v23 (F := Ideal) x0 x1 x2 x3 x4 (ix2 R l)
      = x0 (ix2 R l) + ∑ f : Fin 5632, gated (rms nC eC (fun l => x0 (ix2 R l)) (fun l => x1 (ix2 (0 : Fin 2) l))) (fun k f => x2 (ix2 k f)) (fun k f => x3 (ix2 k f)) f * x4 (ix2 f l) := by
  pointwise [val_main_v23, val_main_v22, val_main_v17, a_apply]

end Cert.FfnMidSRefIdeal.Hand

end
-- ==== Proof.FfnMidSClaim.lean ====
module

public import proofs.«01_k».proof.Defs
public import proofs.«01_k».proof.Proof.FfnMidSFold
public import proofs.«01_k».proof.Proof.FfnMidSRefVal
public import proofs.«01_k».proof.Proof.Gen.FfnMidSRefIdeal.Run
public import proofs.«01_k».proof.Proof.Gen.FfnMidSRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FfnMidSRefIdeal : quiescent_FfnMidSRefIdeal := fun m ρ _ =>
  (θ_run Cert.FfnMidSRefIdeal.defs _ _).mono (fun r h => ⟨fun c => (h c).2, sem_eq_zero_of_no_sems (by decide) r.2⟩)
    (Cert.FfnMidSRefIdeal.Value.run (F := Ideal) m ρ)

theorem algebraic_FfnMidSIdeal_FfnMidSRefIdeal : algebraic_FfnMidSIdeal_FfnMidSRefIdeal := by
  intro m ρ m' ρ' _ hagree
  refine ⟨_, Cert.FfnMidSIdeal.Value.run (F := Ideal) m ρ, ?_⟩
  refine (θ_run Cert.FfnMidSRefIdeal.defs _ _).mono (fun _ h c => ⟨?_, (h c).2⟩) (Cert.FfnMidSRefIdeal.Value.run (F := Ideal) m' ρ')
  rw [(h c).1]
  obtain ⟨e0, e1, e2, e3, e4, e5⟩ := hagree c
  rw [Cert.FfnMidSRefIdeal.Read.val_main_v23_eq]
  funext i
  obtain ⟨R, l, rfl⟩ : ∃ (R : Fin 32) (l : Fin 2048), i = ix2 R l := ⟨i 0, i 1, eq_ix2 i⟩
  refine (Cert.FfnMidSRefIdeal.Hand.out_apply _ _ _ _ _ R l).trans ?_
  refine Eq.trans ?_ (Cert.FfnMidSIdeal.Hand.G6_apply m c R l).symm
  unfold Cert.FfnMidSIdeal.Hand.term Cert.FfnMidSIdeal.Hand.H
  rw [e0, e1, e2, e3, e4]

end Cert.Proof

end
-- ==== Proof.OutprojVal.lean ====
module

public import proofs.«01_k».proof.Proof.Gen.OutprojIdeal.Value
public import proofs.«01_k».proof.Proof.Gen.OutprojRefIdeal.Read
public import Idealize.ShloMosaic.Lib.Pointwise
public import Idealize.ShloMosaic.Lib.Tactic

@[expose] public section

noncomputable section

namespace Cert.OutprojIdeal.Hand

open Cert.OutprojIdeal Cert.OutprojIdeal.Gen Cert.OutprojIdeal.Value Idealize.ShloMosaic Idealize.ShloMosaic.TcCoe Idealize.SL.Sem

variable (m : (ℓ : Loc nD τ sig) → Buf (Elt Ideal) ℓ)

/-! ## The arguments as matrices -/

abbrev A (c : Dev nD) (R : Fin 8192) (k : Fin 1024) : EReal := m ((c : Thread nD τ).loc main_arg0) (ix2 R k)
abbrev C (c : Dev nD) (R : Fin 8192) (k : Fin 1024) : EReal := m ((c : Thread nD τ).loc main_arg1) (ix2 R k)
abbrev W (c : Dev nD) (k : Fin 2048) (l : Fin 2048) : EReal := m ((c : Thread nD τ).loc main_arg2) (ix2 k l)
abbrev X (c : Dev nD) (R : Fin 8192) (l : Fin 2048) : EReal := m ((c : Thread nD τ).loc main_arg3) (ix2 R l)

theorem hz : (![0, 0] : Fin 2 → Nat) = fun _ => 0 := by
  funext a; match a with | ⟨0, _⟩ => rfl | ⟨1, _⟩ => rfl

theorem out_apply (x0 x1 : Vec Ideal S512x1024 .bf16) (x2 x3 : Vec Ideal S1024x2048 .bf16) (x4 : Vec Ideal S512x2048 .f32) (r : Fin 512) (l : Fin 2048) :
    out0_5 (F := Ideal) x0 x1 x2 x3 x4 (ix2 r l)
      = x4 (ix2 r l) + (∑ k : Fin 1024, x0 (ix2 r k) * x2 (ix2 k l)) + ∑ k : Fin 1024, x1 (ix2 r k) * x3 (ix2 k l) := by
  unfold out0_5
  rw [View.canon_unit_zero (S := S512x2048) hz]
  simp only [View.ld_unit_zero (S := S512x2048) hz, View.ld_unit_zero (S := S512x1024) hz, View.ld_unit_zero (S := S1024x2048) hz]
  pointwise [k0_pay1]

theorem flush5 : ∀ t : Fin cfg0.N, (cfg0.win 5).flush t = true := (by decide +kernel : ∀ t : Fin grid0.N, _)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 1 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem row_lt (t : Fin cfg0.N) (r : Fin 512) : 512 * t.val + r.val < 8192 := by
  have := lt_of_lt_of_eq t.isLt N_0; have := r.isLt; omega

abbrev rowOf (t : Fin cfg0.N) (r : Fin 512) : Fin 8192 := ⟨512 * t.val + r.val, row_lt t r⟩

theorem blk0 (c : Dev nD) (t : Fin cfg0.N) (r : Fin 512) (l : Fin 1024) :
    (iblk m c 0 t : Vec Ideal S512x1024 .bf16) (ix2 r l) = m ((c : Thread nD τ).loc main_arg0) (ix2 (rowOf t r) l) := by
  have hi := idx0 t
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 1024 + 1 * l.val = l.val; rw [hi.2]; omega

theorem blk1 (c : Dev nD) (t : Fin cfg0.N) (r : Fin 512) (l : Fin 1024) :
    (iblk m c 1 t : Vec Ideal S512x1024 .bf16) (ix2 r l) = m ((c : Thread nD τ).loc main_arg1) (ix2 (rowOf t r) l) := by
  have hi := idx1 t
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 1024 + 1 * l.val = l.val; rw [hi.2]; omega

theorem blk2 (c : Dev nD) (t : Fin cfg0.N) (k : Fin 1024) (l : Fin 2048) :
    (iblk m c 2 t : Vec Ideal S1024x2048 .bf16) (ix2 k l) = m ((c : Thread nD τ).loc main_arg2) (ix2 (Fin.castAdd 1024 k : Fin 2048) l) := by
  have hi := idx2 t
  unfold iblk
  rw [View.read_apply]
  show V m c main_arg2 _ = _
  rw [V_main_arg2]
  congr 1
  funext a
  apply Fin.ext
  match a with
  | ⟨0, _⟩ => show win0_2.index t 0 * 1024 + 1 * k.val = k.val; rw [hi.1]; omega
  | ⟨1, _⟩ => show win0_2.index t 1 * 2048 + 1 * l.val = l.val; rw [hi.2]; omega

theorem blk3 (c : Dev nD) (t : Fin cfg0.N) (k : Fin 1024) (l : Fin 2048) :
    (iblk m c 3 t : Vec Ideal S1024x2048 .bf16) (ix2 k l) = m ((c : Thread nD τ).loc main_arg2) (ix2 (Fin.natAdd 1024 k : Fin 2048) l) := by
  have hi := idx3 t
  unfold iblk
  rw [View.read_apply]
  show V m c main_arg2 _ = _
  rw [V_main_arg2]
  congr 1
  funext a
  apply Fin.ext
  match a with
  | ⟨0, _⟩ => show win0_3.index t 0 * 1024 + 1 * k.val = 1024 + k.val; rw [hi.1]; omega
  | ⟨1, _⟩ => show win0_3.index t 1 * 2048 + 1 * l.val = l.val; rw [hi.2]; omega

theorem blk4 (c : Dev nD) (t : Fin cfg0.N) (r : Fin 512) (l : Fin 2048) :
    (iblk m c 4 t : Vec Ideal S512x2048 .f32) (ix2 r l) = m ((c : Thread nD τ).loc main_arg3) (ix2 (rowOf t r) l) := by
  have hi := idx4 t
  unfold iblk
  rw [View.read_apply]
  show V m c main_arg3 _ = _
  rw [V_main_arg3]
  congr 1
  funext a
  apply Fin.ext
  match a with
  | ⟨0, _⟩ => show win0_4.index t 0 * 512 + 1 * r.val = 512 * t.val + r.val; rw [hi.1]; omega
  | ⟨1, _⟩ => show win0_4.index t 1 * 2048 + 1 * l.val = l.val; rw [hi.2]; omega

/-- The result array, entry by entry. -/
theorem result_apply (c : Dev nD) (R : Fin 8192) (l : Fin 2048) :
    ((dats m 0 c).arrAt 5 cfg0.N : Vec Ideal S8192x2048 .f32) (ix2 R l)
      = X m c R l + (∑ k : Fin 1024, A m c R k * W m c (Fin.castAdd 1024 k) l) + ∑ k : Fin 1024, C m c R k * W m c (Fin.natAdd 1024 k) l := by
  obtain ⟨t, r, rfl⟩ : ∃ (t : Fin cfg0.N) (r : Fin 512), R = rowOf t r :=
    ⟨⟨R.val / 512, lt_of_lt_of_eq (show R.val / 512 < 16 by have := R.isLt; omega) N_0.symm⟩, ⟨R.val % 512, Nat.mod_lt _ (by decide)⟩,
      Fin.ext (by show R.val = 512 * (R.val / 512) + R.val % 512; omega)⟩
  have e := congrFun ((blocks5 m c t (flush5 t)).trans (flushed5 m c t)) (ix2 r l)
  rw [View.read_apply] at e
  have hi := idx5 t
  have hx : (((cfg0.win 5).blk t).view.emb (ix2 r l) : S8192x2048.Idx) = ix2 (rowOf t r) l := by
    funext a
    apply Fin.ext
    match a with
    | ⟨0, _⟩ => show win0_5.index t 0 * 512 + 1 * r.val = 512 * t.val + r.val; rw [hi.1]; omega
    | ⟨1, _⟩ => show win0_5.index t 1 * 2048 + 1 * l.val = l.val; rw [hi.2]; omega
  rw [← hx]
  refine e.trans ?_
  refine (out_apply _ _ _ _ _ r l).trans ?_
  rw [blk4]
  simp only [blk0, blk1, blk2, blk3]

end Cert.OutprojIdeal.Hand

namespace Cert.OutprojRefIdeal.Hand

open Cert.OutprojRefIdeal Cert.OutprojRefIdeal.Read Idealize.ShloMosaic Idealize.ShloMosaic.TcCoe Idealize.SL.Sem

variable (x0 x1 : FVec Ideal S8192x1024 .bf16) (x2 : FVec Ideal S2048x2048 .bf16) (x3 : FVec Ideal S8192x2048 .f32)

theorem cat_left (R : Fin 8192) (k : Fin 1024) : val_main_v2 (F := Ideal) x0 x1 (ix2 R (Fin.castAdd 1024 k : Fin 2048)) = x0 (ix2 R k) := by
  pointwise [val_main_v2, val_main_v1, val_main_v0]
  exact dif_pos k.isLt

theorem cat_right (R : Fin 8192) (k : Fin 1024) : val_main_v2 (F := Ideal) x0 x1 (ix2 R (Fin.natAdd 1024 k : Fin 2048)) = x1 (ix2 R k) := by
  pointwise [val_main_v2, val_main_v1, val_main_v0]
  refine (dif_neg (show ¬ 1024 + k.val < 1024 by omega)).trans (congrArg (fun j => x1 (ix2 R j)) (Fin.ext ?_))
  exact Nat.add_sub_cancel_left _ _

theorem out_apply (R : Fin 8192) (l : Fin 2048) :
    val_main_v5 (F := Ideal) x0 x1 x2 x3 (ix2 R l)
      = x3 (ix2 R l) + (∑ k : Fin 1024, x0 (ix2 R k) * x2 (ix2 (Fin.castAdd 1024 k : Fin 2048) l))
        + ∑ k : Fin 1024, x1 (ix2 R k) * x2 (ix2 (Fin.natAdd 1024 k : Fin 2048) l) := by
  have e : val_main_v5 (F := Ideal) x0 x1 x2 x3 (ix2 R l) = x3 (ix2 R l) + ∑ k : Fin 2048, val_main_v2 (F := Ideal) x0 x1 (ix2 R k) * x2 (ix2 k l) := by
    pointwise [val_main_v5, val_main_v4, val_main_v3]
  rw [e, add_assoc]
  congr 1
  refine (Fin.sum_univ_add (a := 1024) (b := 1024) fun k => val_main_v2 (F := Ideal) x0 x1 (ix2 R k) * x2 (ix2 k l)).trans ?_
  simp only [cat_left, cat_right]

end Cert.OutprojRefIdeal.Hand

end
-- ==== Proof.OutprojClaim.lean ====
module

public import proofs.«01_k».proof.Defs
public import proofs.«01_k».proof.Proof.OutprojVal
public import proofs.«01_k».proof.Proof.Gen.OutprojRefIdeal.Run
public import proofs.«01_k».proof.Proof.Gen.OutprojRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

theorem quiescent_OutprojRefIdeal : quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run (F := Ideal) m ρ)

theorem algebraic_OutprojIdeal_OutprojRefIdeal : algebraic_OutprojIdeal_OutprojRefIdeal := by
  intro m ρ m' ρ' _ hagree
  refine ⟨_, Cert.OutprojIdeal.Value.run_blocks (F := Ideal) m ρ, ?_⟩
  refine (θ_run Cert.OutprojRefIdeal.defs _ _).mono (fun _ h c => ⟨?_, (h c).2⟩) (Cert.OutprojRefIdeal.Value.run (F := Ideal) m' ρ')
  rw [(h c).1]
  obtain ⟨e0, e1, e2, e3⟩ := hagree c
  rw [Cert.OutprojRefIdeal.Read.val_main_v5_eq]
  funext i
  obtain ⟨R, l, rfl⟩ : ∃ (R : Fin 8192) (l : Fin 2048), i = ix2 R l := ⟨i 0, i 1, eq_ix2 i⟩
  refine (Cert.OutprojRefIdeal.Hand.out_apply _ _ _ _ R l).trans ?_
  refine Eq.trans ?_ (Cert.OutprojIdeal.Hand.result_apply m c R l).symm
  rw [e0, e1, e2, e3]

end Cert.Proof

end
-- ==== Proof.OutprojSVal.lean ====
module

public import proofs.«01_k».proof.Proof.Gen.OutprojSIdeal.Value
public import proofs.«01_k».proof.Proof.Gen.OutprojSRefIdeal.Read
public import Idealize.ShloMosaic.Lib.Pointwise
public import Idealize.ShloMosaic.Lib.Tactic

@[expose] public section

noncomputable section

namespace Cert.OutprojSIdeal.Hand

open Cert.OutprojSIdeal Cert.OutprojSIdeal.Gen Cert.OutprojSIdeal.Value Idealize.ShloMosaic Idealize.ShloMosaic.TcCoe Idealize.SL.Sem

variable (m : (ℓ : Loc nD τ sig) → Buf (Elt Ideal) ℓ)

/-! ## The arguments as matrices -/

abbrev A (c : Dev nD) (R : Fin 32) (k : Fin 1024) : EReal := m ((c : Thread nD τ).loc main_arg0) (ix2 R k)
abbrev C (c : Dev nD) (R : Fin 32) (k : Fin 1024) : EReal := m ((c : Thread nD τ).loc main_arg1) (ix2 R k)
abbrev W (c : Dev nD) (k : Fin 2048) (l : Fin 2048) : EReal := m ((c : Thread nD τ).loc main_arg2) (ix2 k l)
abbrev X (c : Dev nD) (R : Fin 32) (l : Fin 2048) : EReal := m ((c : Thread nD τ).loc main_arg3) (ix2 R l)

theorem hz : (![0, 0] : Fin 2 → Nat) = fun _ => 0 := by
  funext a; match a with | ⟨0, _⟩ => rfl | ⟨1, _⟩ => rfl

theorem out_apply (x0 x1 : Vec Ideal S32x1024 .bf16) (x2 x3 : Vec Ideal S1024x2048 .bf16) (x4 : Vec Ideal S32x2048 .f32) (r : Fin 32) (l : Fin 2048) :
    out0_5 (F := Ideal) x0 x1 x2 x3 x4 (ix2 r l)
      = x4 (ix2 r l) + (∑ k : Fin 1024, x0 (ix2 r k) * x2 (ix2 k l)) + ∑ k : Fin 1024, x1 (ix2 r k) * x3 (ix2 k l) := by
  unfold out0_5
  rw [View.canon_unit_zero (S := S32x2048) hz]
  simp only [View.ld_unit_zero (S := S32x2048) hz, View.ld_unit_zero (S := S32x1024) hz, View.ld_unit_zero (S := S1024x2048) hz]
  pointwise [k0_pay1]

theorem flush5 : ∀ t : Fin cfg0.N, (cfg0.win 5).flush t = true := (by decide +kernel : ∀ t : Fin grid0.N, _)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 1 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem row_lt (t : Fin cfg0.N) (r : Fin 32) : 32 * t.val + r.val < 32 := by
  have := lt_of_lt_of_eq t.isLt N_0; have := r.isLt; omega

abbrev rowOf (t : Fin cfg0.N) (r : Fin 32) : Fin 32 := ⟨32 * t.val + r.val, row_lt t r⟩

theorem V_a (c : Dev nD) (R : Fin 32) (k : Fin 1024) : V m c main_v0 (ix2 R k) = A m c R k := by
  have e : V m c main_v0 = (truncf .bf16 (m ((c : Thread nD τ).loc main_arg0) : FVec Ideal S32x1024 .f32) bitsLt_bf16_f32 : FVec Ideal S32x1024 .bf16) := by
    unfold V
    after_results
  rw [e]
  pointwise

theorem blk0 (c : Dev nD) (t : Fin cfg0.N) (r : Fin 32) (l : Fin 1024) :
    (iblk m c 0 t : Vec Ideal S32x1024 .bf16) (ix2 r l) = m ((c : Thread nD τ).loc main_arg0) (ix2 (rowOf t r) l) := by
  have hi := idx0 t
  unfold iblk
  rw [View.read_apply]
  refine Eq.trans ?_ (V_a m c (rowOf t r) l)
  show V m c main_v0 _ = V m c main_v0 _
  congr 1
  funext a
  apply Fin.ext
  match a with
  | ⟨0, _⟩ => show win0_0.index t 0 * 32 + 1 * r.val = 32 * t.val + r.val; rw [hi.1]; omega
  | ⟨1, _⟩ => show win0_0.index t 1 * 1024 + 1 * l.val = l.val; rw [hi.2]; omega

theorem blk1 (c : Dev nD) (t : Fin cfg0.N) (r : Fin 32) (l : Fin 1024) :
    (iblk m c 1 t : Vec Ideal S32x1024 .bf16) (ix2 r l) = m ((c : Thread nD τ).loc main_arg1) (ix2 (rowOf t r) l) := by
  have hi := idx1 t
  unfold iblk
  rw [View.read_apply]
  show V m c main_arg1 _ = _
  rw [V_main_arg1]
  congr 1
  funext a
  apply Fin.ext
  match a with
  | ⟨0, _⟩ => show win0_1.index t 0 * 32 + 1 * r.val = 32 * t.val + r.val; rw [hi.1]; omega
  | ⟨1, _⟩ => show win0_1.index t 1 * 1024 + 1 * l.val = l.val; rw [hi.2]; omega

theorem blk2 (c : Dev nD) (t : Fin cfg0.N) (k : Fin 1024) (l : Fin 2048) :
    (iblk m c 2 t : Vec Ideal S1024x2048 .bf16) (ix2 k l) = m ((c : Thread nD τ).loc main_arg2) (ix2 (Fin.castAdd 1024 k : Fin 2048) l) := by
  have hi := idx2 t
  unfold iblk
  rw [View.read_apply]
  show V m c main_arg2 _ = _
  rw [V_main_arg2]
  congr 1
  funext a
  apply Fin.ext
  match a with
  | ⟨0, _⟩ => show win0_2.index t 0 * 1024 + 1 * k.val = k.val; rw [hi.1]; omega
  | ⟨1, _⟩ => show win0_2.index t 1 * 2048 + 1 * l.val = l.val; rw [hi.2]; omega

theorem blk3 (c : Dev nD) (t : Fin cfg0.N) (k : Fin 1024) (l : Fin 2048) :
    (iblk m c 3 t : Vec Ideal S1024x2048 .bf16) (ix2 k l) = m ((c : Thread nD τ).loc main_arg2) (ix2 (Fin.natAdd 1024 k : Fin 2048) l) := by
  have hi := idx3 t
  unfold iblk
  rw [View.read_apply]
  show V m c main_arg2 _ = _
  rw [V_main_arg2]
  congr 1
  funext a
  apply Fin.ext
  match a with
  | ⟨0, _⟩ => show win0_3.index t 0 * 1024 + 1 * k.val = 1024 + k.val; rw [hi.1]; omega
  | ⟨1, _⟩ => show win0_3.index t 1 * 2048 + 1 * l.val = l.val; rw [hi.2]; omega

theorem blk4 (c : Dev nD) (t : Fin cfg0.N) (r : Fin 32) (l : Fin 2048) :
    (iblk m c 4 t : Vec Ideal S32x2048 .f32) (ix2 r l) = m ((c : Thread nD τ).loc main_arg3) (ix2 (rowOf t r) l) := by
  have hi := idx4 t
  unfold iblk
  rw [View.read_apply]
  show V m c main_arg3 _ = _
  rw [V_main_arg3]
  congr 1
  funext a
  apply Fin.ext
  match a with
  | ⟨0, _⟩ => show win0_4.index t 0 * 32 + 1 * r.val = 32 * t.val + r.val; rw [hi.1]; omega
  | ⟨1, _⟩ => show win0_4.index t 1 * 2048 + 1 * l.val = l.val; rw [hi.2]; omega

/-- The result array, entry by entry. -/
theorem result_apply (c : Dev nD) (R : Fin 32) (l : Fin 2048) :
    ((dats m 0 c).arrAt 5 cfg0.N : Vec Ideal S32x2048 .f32) (ix2 R l)
      = X m c R l + (∑ k : Fin 1024, A m c R k * W m c (Fin.castAdd 1024 k) l) + ∑ k : Fin 1024, C m c R k * W m c (Fin.natAdd 1024 k) l := by
  obtain ⟨t, r, rfl⟩ : ∃ (t : Fin cfg0.N) (r : Fin 32), R = rowOf t r :=
    ⟨⟨R.val / 32, lt_of_lt_of_eq (show R.val / 32 < 1 by have := R.isLt; omega) N_0.symm⟩, ⟨R.val % 32, Nat.mod_lt _ (by decide)⟩,
      Fin.ext (by show R.val = 32 * (R.val / 32) + R.val % 32; omega)⟩
  have e := congrFun ((blocks5 m c t (flush5 t)).trans (flushed5 m c t)) (ix2 r l)
  rw [View.read_apply] at e
  have hi := idx5 t
  have hx : (((cfg0.win 5).blk t).view.emb (ix2 r l) : S32x2048.Idx) = ix2 (rowOf t r) l := by
    funext a
    apply Fin.ext
    match a with
    | ⟨0, _⟩ => show win0_5.index t 0 * 32 + 1 * r.val = 32 * t.val + r.val; rw [hi.1]; omega
    | ⟨1, _⟩ => show win0_5.index t 1 * 2048 + 1 * l.val = l.val; rw [hi.2]; omega
  rw [← hx]
  refine e.trans ?_
  refine (out_apply _ _ _ _ _ r l).trans ?_
  rw [blk4]
  simp only [blk0, blk1, blk2, blk3]

end Cert.OutprojSIdeal.Hand

namespace Cert.OutprojSRefIdeal.Hand

open Cert.OutprojSRefIdeal Cert.OutprojSRefIdeal.Read Idealize.ShloMosaic Idealize.ShloMosaic.TcCoe Idealize.SL.Sem

variable (x0 : FVec Ideal S32x1024 .f32) (x1 : FVec Ideal S32x1024 .bf16) (x2 : FVec Ideal S2048x2048 .bf16) (x3 : FVec Ideal S32x2048 .f32)

theorem cat_left (R : Fin 32) (k : Fin 1024) : val_main_v1 (F := Ideal) x0 x1 (ix2 R (Fin.castAdd 1024 k : Fin 2048)) = x0 (ix2 R k) := by
  pointwise [val_main_v1, val_main_v0]
  exact dif_pos k.isLt

theorem cat_right (R : Fin 32) (k : Fin 1024) : val_main_v1 (F := Ideal) x0 x1 (ix2 R (Fin.natAdd 1024 k : Fin 2048)) = x1 (ix2 R k) := by
  pointwise [val_main_v1, val_main_v0]
  refine (dif_neg (show ¬ 1024 + k.val < 1024 by omega)).trans (congrArg (fun j => x1 (ix2 R j)) (Fin.ext ?_))
  exact Nat.add_sub_cancel_left _ _

theorem out_apply (R : Fin 32) (l : Fin 2048) :
    val_main_v4 (F := Ideal) x0 x1 x2 x3 (ix2 R l)
      = x3 (ix2 R l) + (∑ k : Fin 1024, x0 (ix2 R k) * x2 (ix2 (Fin.castAdd 1024 k : Fin 2048) l))
        + ∑ k : Fin 1024, x1 (ix2 R k) * x2 (ix2 (Fin.natAdd 1024 k : Fin 2048) l) := by
  have e : val_main_v4 (F := Ideal) x0 x1 x2 x3 (ix2 R l) = x3 (ix2 R l) + ∑ k : Fin 2048, val_main_v1 (F := Ideal) x0 x1 (ix2 R k) * x2 (ix2 k l) := by
    pointwise [val_main_v4, val_main_v3, val_main_v2]
  rw [e, add_assoc]
  congr 1
  refine (Fin.sum_univ_add (a := 1024) (b := 1024) fun k => val_main_v1 (F := Ideal) x0 x1 (ix2 R k) * x2 (ix2 k l)).trans ?_
  simp only [cat_left, cat_right]

end Cert.OutprojSRefIdeal.Hand

end
-- ==== Proof.OutprojSClaim.lean ====
module

public import proofs.«01_k».proof.Defs
public import proofs.«01_k».proof.Proof.OutprojSVal
public import proofs.«01_k».proof.Proof.Gen.OutprojSRefIdeal.Run
public import proofs.«01_k».proof.Proof.Gen.OutprojSRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

theorem quiescent_OutprojSRefIdeal : quiescent_OutprojSRefIdeal := fun m ρ _ =>
  (θ_run Cert.OutprojSRefIdeal.defs _ _).mono (fun r h => ⟨fun c => (h c).2, sem_eq_zero_of_no_sems (by decide) r.2⟩)
    (Cert.OutprojSRefIdeal.Value.run (F := Ideal) m ρ)

theorem algebraic_OutprojSIdeal_OutprojSRefIdeal : algebraic_OutprojSIdeal_OutprojSRefIdeal := by
  intro m ρ m' ρ' _ hagree
  refine ⟨_, Cert.OutprojSIdeal.Value.run_blocks (F := Ideal) m ρ, ?_⟩
  refine (θ_run Cert.OutprojSRefIdeal.defs _ _).mono (fun _ h c => ⟨?_, (h c).2⟩) (Cert.OutprojSRefIdeal.Value.run (F := Ideal) m' ρ')
  rw [(h c).1]
  obtain ⟨e0, e1, e2, e3⟩ := hagree c
  rw [Cert.OutprojSRefIdeal.Read.val_main_v4_eq]
  funext i
  obtain ⟨R, l, rfl⟩ : ∃ (R : Fin 32) (l : Fin 2048), i = ix2 R l := ⟨i 0, i 1, eq_ix2 i⟩
  refine (Cert.OutprojSRefIdeal.Hand.out_apply _ _ _ _ R l).trans ?_
  refine Eq.trans ?_ (Cert.OutprojSIdeal.Hand.result_apply m c R l).symm
  rw [e0, e1, e2, e3]

end Cert.Proof

end
-- ==== Proof.QkvBlock.lean ====
module

public import proofs.«01_k».proof.Proof.Gen.QkvIdeal.Value
public import proofs.«01_k».proof.Proof.Common
public import Idealize.ShloMosaic.Lib.Pointwise
public import Idealize.ShloMosaic.Lib.Tactic
public import Idealize.ShloMosaic.Lib.Pipeline.ValueKit

@[expose] public section

noncomputable section

namespace Cert.QkvIdeal.Hand

open Cert.QkvIdeal Cert.QkvIdeal.Gen Cert.QkvIdeal.Value Cert.Layer Idealize.ShloMosaic Idealize.ShloMosaic.TcCoe Idealize.SL.Sem

/-- The row length of the norm, and the constant added to the mean of the squares. -/
abbrev rowLen : EReal := Ideal.ofBits .f32 1157627904#32
abbrev eps : EReal := Ideal.ofBits .f32 897988541#32
/-- The scale of the queries. -/
abbrev qScale : EReal := Ideal.ofBits .f32 1040356334#32

/-! ## One grid point's results -/

section Block

variable (x0 : Vec Ideal S512x2048 .f32) (x1 : Vec Ideal S1x2048 .f32) (x2 : Vec Ideal S1x2048x3072 .bf16) (x3 x4 : Vec Ideal S512x128 .f32) (x5 : Vec Ideal S1x128x5632 .f32)

/-- Column `n` of the block's row `r`, normed and projected. -/
abbrev bproj (r : Fin 512) (n : Fin 3072) : EReal :=
  vecMat (rms rowLen eps (fun k => x0 (ix2 r k)) fun k => x1 (ix2 0 k)) (fun k n => x2 (ix3 0 k n)) n

theorem pay7_apply (r : Fin 512) (j : Fin 1024) :
    k0_pay7 (F := Ideal) (View.ld x0 r0_2) (View.ld x1 r0_3) (View.ld x2 r0_5) (ix2 r j) = bproj x0 x1 x2 r ⟨j.val, by have := j.isLt; omega⟩ := by
  pointwise [k0_pay7, k0_pay4]
  rfl

theorem pay16_apply (r : Fin 512) (j : Fin 1024) :
    k0_pay16 (F := Ideal) (k0_pay4 (View.ld x0 r0_2) (View.ld x1 r0_3)) (View.ld x2 r0_14) (ix2 r j) = bproj x0 x1 x2 r ⟨1024 + j.val, by have := j.isLt; omega⟩ := by
  pointwise [k0_pay16, k0_pay4]
  rfl

theorem tab5 (r : Fin 512) (d : Fin 128) : k0_pay5 (F := Ideal) (View.ld x3 r0_4) (ix2 r d) = x3 (ix2 r d) := by
  pointwise [k0_pay5]

theorem tab6 (r : Fin 512) (d : Fin 128) : k0_pay6 (F := Ideal) (View.ld x4 r0_4) (ix2 r d) = x4 (ix2 r d) := by
  pointwise [k0_pay6]

theorem out6_apply (r : Fin 512) (j : Fin 1024) : out0_6 (F := Ideal) x0 x1 x2 x3 x4 x5 (ix2 r j)
    = turnBy (fun l => bproj x0 x1 x2 r ⟨l.val, by have := l.isLt; omega⟩) (fun d => x3 (ix2 r d)) (fun d => x4 (ix2 r d)) j * qScale := by
  refine Eq.trans ?_ (congrArg (· * qScale) (turnBy_congr (fun l => pay7_apply x0 x1 x2 r l) (fun d => tab5 x3 r d) (fun d => tab6 x4 r d) j))
  unfold_out out0_6
  canon_tiles x h
  all_goals (obtain ⟨a, d, rfl⟩ : ∃ a d, x = ix2 a d := ⟨x 0, x 1, eq_ix2 x⟩; obtain rfl : r = a := Fin.ext h0)
  case piece0 =>
    pointwise [k0_pay15]
    exact congrArg (· * qScale) (turnBy_head (fun l => k0_pay7 (F := Ideal) (View.ld x0 r0_2) (View.ld x1 r0_3) (View.ld x2 r0_5) (ix2 r l)) (fun d => k0_pay5 (F := Ideal) (View.ld x3 r0_4) (ix2 r d)) (fun d => k0_pay6 (F := Ideal) (View.ld x4 r0_4) (ix2 r d)) 896 rfl d _ _ j (by simpa using h1) (by simp) (by simp))
  case piece1 =>
    pointwise [k0_pay14]
    exact congrArg (· * qScale) (turnBy_head (fun l => k0_pay7 (F := Ideal) (View.ld x0 r0_2) (View.ld x1 r0_3) (View.ld x2 r0_5) (ix2 r l)) (fun d => k0_pay5 (F := Ideal) (View.ld x3 r0_4) (ix2 r d)) (fun d => k0_pay6 (F := Ideal) (View.ld x4 r0_4) (ix2 r d)) 768 rfl d _ _ j (by simpa using h1) (by simp) (by simp))
  case piece2 =>
    pointwise [k0_pay13]
    exact congrArg (· * qScale) (turnBy_head (fun l => k0_pay7 (F := Ideal) (View.ld x0 r0_2) (View.ld x1 r0_3) (View.ld x2 r0_5) (ix2 r l)) (fun d => k0_pay5 (F := Ideal) (View.ld x3 r0_4) (ix2 r d)) (fun d => k0_pay6 (F := Ideal) (View.ld x4 r0_4) (ix2 r d)) 640 rfl d _ _ j (by simpa using h1) (by simp) (by simp))
  case piece3 =>
    pointwise [k0_pay12]
    exact congrArg (· * qScale) (turnBy_head (fun l => k0_pay7 (F := Ideal) (View.ld x0 r0_2) (View.ld x1 r0_3) (View.ld x2 r0_5) (ix2 r l)) (fun d => k0_pay5 (F := Ideal) (View.ld x3 r0_4) (ix2 r d)) (fun d => k0_pay6 (F := Ideal) (View.ld x4 r0_4) (ix2 r d)) 512 rfl d _ _ j (by simpa using h1) (by simp) (by simp))
  case piece4 =>
    pointwise [k0_pay11]
    exact congrArg (· * qScale) (turnBy_head (fun l => k0_pay7 (F := Ideal) (View.ld x0 r0_2) (View.ld x1 r0_3) (View.ld x2 r0_5) (ix2 r l)) (fun d => k0_pay5 (F := Ideal) (View.ld x3 r0_4) (ix2 r d)) (fun d => k0_pay6 (F := Ideal) (View.ld x4 r0_4) (ix2 r d)) 384 rfl d _ _ j (by simpa using h1) (by simp) (by simp))
  case piece5 =>
    pointwise [k0_pay10]
    exact congrArg (· * qScale) (turnBy_head (fun l => k0_pay7 (F := Ideal) (View.ld x0 r0_2) (View.ld x1 r0_3) (View.ld x2 r0_5) (ix2 r l)) (fun d => k0_pay5 (F := Ideal) (View.ld x3 r0_4) (ix2 r d)) (fun d => k0_pay6 (F := Ideal) (View.ld x4 r0_4) (ix2 r d)) 256 rfl d _ _ j (by simpa using h1) (by simp) (by simp))
  case piece6 =>
    pointwise [k0_pay9]
    exact congrArg (· * qScale) (turnBy_head (fun l => k0_pay7 (F := Ideal) (View.ld x0 r0_2) (View.ld x1 r0_3) (View.ld x2 r0_5) (ix2 r l)) (fun d => k0_pay5 (F := Ideal) (View.ld x3 r0_4) (ix2 r d)) (fun d => k0_pay6 (F := Ideal) (View.ld x4 r0_4) (ix2 r d)) 128 rfl d _ _ j (by simpa using h1) (by simp) (by simp))
  case piece7 =>
    pointwise [k0_pay8]
    exact congrArg (· * qScale) (turnBy_head (fun l => k0_pay7 (F := Ideal) (View.ld x0 r0_2) (View.ld x1 r0_3) (View.ld x2 r0_5) (ix2 r l)) (fun d => k0_pay5 (F := Ideal) (View.ld x3 r0_4) (ix2 r d)) (fun d => k0_pay6 (F := Ideal) (View.ld x4 r0_4) (ix2 r d)) 0 rfl d _ _ j (by simpa using h1) (by simp) (by simp))

theorem out7_apply (r : Fin 512) (j : Fin 1024) : out0_7 (F := Ideal) x0 x1 x2 x3 x4 x5 (ix2 r j)
    = turnBy (fun l => bproj x0 x1 x2 r ⟨1024 + l.val, by have := l.isLt; omega⟩) (fun d => x3 (ix2 r d)) (fun d => x4 (ix2 r d)) j := by
  refine Eq.trans ?_ (turnBy_congr (fun l => pay16_apply x0 x1 x2 r l) (fun d => tab5 x3 r d) (fun d => tab6 x4 r d) j)
  unfold_out out0_7
  canon_tiles x h
  all_goals (obtain ⟨a, d, rfl⟩ : ∃ a d, x = ix2 a d := ⟨x 0, x 1, eq_ix2 x⟩; obtain rfl : r = a := Fin.ext h0)
  case piece0 =>
    pointwise [k0_pay1, k0_pay25]
    exact turnBy_head (fun l => k0_pay16 (F := Ideal) (k0_pay4 (View.ld x0 r0_2) (View.ld x1 r0_3)) (View.ld x2 r0_14) (ix2 r l)) (fun d => k0_pay5 (F := Ideal) (View.ld x3 r0_4) (ix2 r d)) (fun d => k0_pay6 (F := Ideal) (View.ld x4 r0_4) (ix2 r d)) 896 rfl d _ _ j (by simpa using h1) (by simp) (by simp)
  case piece1 =>
    pointwise [k0_pay24]
    exact turnBy_head (fun l => k0_pay16 (F := Ideal) (k0_pay4 (View.ld x0 r0_2) (View.ld x1 r0_3)) (View.ld x2 r0_14) (ix2 r l)) (fun d => k0_pay5 (F := Ideal) (View.ld x3 r0_4) (ix2 r d)) (fun d => k0_pay6 (F := Ideal) (View.ld x4 r0_4) (ix2 r d)) 768 rfl d _ _ j (by simpa using h1) (by simp) (by simp)
  case piece2 =>
    pointwise [k0_pay23]
    exact turnBy_head (fun l => k0_pay16 (F := Ideal) (k0_pay4 (View.ld x0 r0_2) (View.ld x1 r0_3)) (View.ld x2 r0_14) (ix2 r l)) (fun d => k0_pay5 (F := Ideal) (View.ld x3 r0_4) (ix2 r d)) (fun d => k0_pay6 (F := Ideal) (View.ld x4 r0_4) (ix2 r d)) 640 rfl d _ _ j (by simpa using h1) (by simp) (by simp)
  case piece3 =>
    pointwise [k0_pay22]
    exact turnBy_head (fun l => k0_pay16 (F := Ideal) (k0_pay4 (View.ld x0 r0_2) (View.ld x1 r0_3)) (View.ld x2 r0_14) (ix2 r l)) (fun d => k0_pay5 (F := Ideal) (View.ld x3 r0_4) (ix2 r d)) (fun d => k0_pay6 (F := Ideal) (View.ld x4 r0_4) (ix2 r d)) 512 rfl d _ _ j (by simpa using h1) (by simp) (by simp)
  case piece4 =>
    pointwise [k0_pay21]
    exact turnBy_head (fun l => k0_pay16 (F := Ideal) (k0_pay4 (View.ld x0 r0_2) (View.ld x1 r0_3)) (View.ld x2 r0_14) (ix2 r l)) (fun d => k0_pay5 (F := Ideal) (View.ld x3 r0_4) (ix2 r d)) (fun d => k0_pay6 (F := Ideal) (View.ld x4 r0_4) (ix2 r d)) 384 rfl d _ _ j (by simpa using h1) (by simp) (by simp)
  case piece5 =>
    pointwise [k0_pay20]
    exact turnBy_head (fun l => k0_pay16 (F := Ideal) (k0_pay4 (View.ld x0 r0_2) (View.ld x1 r0_3)) (View.ld x2 r0_14) (ix2 r l)) (fun d => k0_pay5 (F := Ideal) (View.ld x3 r0_4) (ix2 r d)) (fun d => k0_pay6 (F := Ideal) (View.ld x4 r0_4) (ix2 r d)) 256 rfl d _ _ j (by simpa using h1) (by simp) (by simp)
  case piece6 =>
    pointwise [k0_pay19, k0_pay18]
    exact turnBy_head (fun l => k0_pay16 (F := Ideal) (k0_pay4 (View.ld x0 r0_2) (View.ld x1 r0_3)) (View.ld x2 r0_14) (ix2 r l)) (fun d => k0_pay5 (F := Ideal) (View.ld x3 r0_4) (ix2 r d)) (fun d => k0_pay6 (F := Ideal) (View.ld x4 r0_4) (ix2 r d)) 128 rfl d _ _ j (by simpa using h1) (by simp) (by simp)
  case piece7 =>
    pointwise [k0_pay17]
    exact turnBy_head (fun l => k0_pay16 (F := Ideal) (k0_pay4 (View.ld x0 r0_2) (View.ld x1 r0_3)) (View.ld x2 r0_14) (ix2 r l)) (fun d => k0_pay5 (F := Ideal) (View.ld x3 r0_4) (ix2 r d)) (fun d => k0_pay6 (F := Ideal) (View.ld x4 r0_4) (ix2 r d)) 0 rfl d _ _ j (by simpa using h1) (by simp) (by simp)

theorem out8_apply (r : Fin 512) (j : Fin 1024) : out0_8 (F := Ideal) x0 x1 x2 x3 x4 x5 (ix2 r j)
    = bproj x0 x1 x2 r ⟨2048 + j.val, by have := j.isLt; omega⟩ := by
  unfold_out out0_8
  canon_tiles x h
  obtain ⟨a, d, rfl⟩ : ∃ a d, x = ix2 a d := ⟨x 0, x 1, eq_ix2 x⟩
  obtain rfl : r = a := Fin.ext h0
  obtain rfl : j = d := Fin.ext h1
  pointwise [k0_pay2, k0_pay4]
  rfl

theorem out9_apply (r : Fin 128) (j : Fin 5632) : out0_9 (F := Ideal) x0 x1 x2 x3 x4 x5 (ix2 r j) = x5 (ix3 0 r j) := by
  unfold_out out0_9
  canon_tiles x h
  obtain ⟨a, d, rfl⟩ : ∃ a d, x = ix2 a d := ⟨x 0, x 1, eq_ix2 x⟩
  obtain rfl : r = a := Fin.ext h0
  obtain rfl : j = d := Fin.ext h1
  pointwise [k0_pay3]

end Block

end Cert.QkvIdeal.Hand

end
-- ==== Proof.QkvVal.lean ====
module

public import proofs.«01_k».proof.Proof.QkvBlock

@[expose] public section

noncomputable section

namespace Cert.QkvIdeal.Hand

open Cert.QkvIdeal Cert.QkvIdeal.Gen Cert.QkvIdeal.Value Cert.Layer Idealize.ShloMosaic Idealize.ShloMosaic.TcCoe Idealize.SL.Sem

variable (m : (ℓ : Loc nD τ sig) → Buf (Elt Ideal) ℓ)

/-! ## The arguments, entry by entry -/

abbrev X (c : Dev nD) (b : Fin 2) (t : Fin 4096) (k : Fin 2048) : EReal := m ((c : Thread nD τ).loc main_arg0) (ix3 b t k)
abbrev G (c : Dev nD) (k : Fin 2048) : EReal := m ((c : Thread nD τ).loc main_arg1) (ix2 (0 : Fin 2) k)
abbrev W (c : Dev nD) (k : Fin 2048) (n : Fin 6144) : EReal := m ((c : Thread nD τ).loc main_arg2) (ix3 (0 : Fin 1) k n)
abbrev WG (c : Dev nD) (k : Fin 2048) (n : Fin 5632) : EReal := m ((c : Thread nD τ).loc main_arg3) (ix3 (1 : Fin 2) k n)

/-- The sequence and the position of row `R`. -/
abbrev bat (R : Fin 8192) : Fin 2 := ⟨R.val / 4096, by have := R.isLt; omega⟩
abbrev tok (R : Fin 8192) : Fin 4096 := ⟨R.val % 4096, Nat.mod_lt _ (by decide)⟩

/-- Row `R` normed and projected, at column `n`. -/
abbrev proj (c : Dev nD) (R : Fin 8192) (n : Fin 6144) : EReal := vecMat (rms rowLen eps (X m c (bat R) (tok R)) (G m c)) (W m c) n

/-! ## What the region finds in the arrays the host prepares -/

set_option maxRecDepth 16384 in
theorem flat_apply (y : FVec Ideal S2x4096x2048 .f32) (R : Fin 8192) (k : Fin 2048) :
    shapeCast S8192x2048 y shapeCasts_S2x4096x2048_S8192x2048 (ix2 R k) = y (ix3 (bat R) (tok R) k) := by
  pointwise

set_option maxRecDepth 16384 in
theorem V_x (c : Dev nD) (R : Fin 8192) (k : Fin 2048) : V m c main_v0 (ix2 R k) = X m c (bat R) (tok R) k := by
  have e : V m c main_v0 = shapeCast S8192x2048 (m ((c : Thread nD τ).loc main_arg0)) shapeCasts_S2x4096x2048_S8192x2048 := by
    unfold V
    after_results
    rfl
  rw [e]
  exact flat_apply _ R k

set_option maxRecDepth 16384 in
theorem V_g (c : Dev nD) (k : Fin 2048) : V m c main_v21 (ix2 0 k) = G m c k := by
  have e : V m c main_v21 = shapeCast S1x2048 (shapeCast S2048 (extractStridedSlice S1x2048 ![0, 0] (m ((c : Thread nD τ).loc main_arg1)) slices_S2x2048_S1x2048_0_0) shapeCasts_S1x2048_S2048) shapeCasts_S2048_S1x2048 := by
    unfold V
    after_results
    rfl
  rw [e]
  pointwise

set_option maxRecDepth 16384 in
theorem V_w (c : Dev nD) (k : Fin 2048) (n : Fin 6144) : V m c main_v22 (ix3 0 k n) = W m c k n := by
  have e : V m c main_v22 = (truncf .bf16 (m ((c : Thread nD τ).loc main_arg2) : FVec Ideal S1x2048x6144 .f32) bitsLt_bf16_f32 : FVec Ideal S1x2048x6144 .bf16) := by
    unfold V
    after_results
  rw [e]
  pointwise

/-- The rotary angles of the table's rows. -/
def angles : FVec Ideal S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

set_option maxRecDepth 16384 in
theorem V_cos (c : Dev nD) (T : Fin 4096) (d : Fin 128) : V m c main_v16 (ix2 T d) = cosAt (BitVec.ofNat 32 T.val) d.val := by
  have e : V m c main_v16 = concatenate S4096x128 1 [⟨S4096x64, Host.cos angles⟩, ⟨S4096x64, Host.cos angles⟩] concatenates_S4096x64_S4096x64_S4096x128_d1 := by
    unfold V
    after_results
    rfl
  rw [e]
  pointwise [angles]
  unfold cosAt angle
  split
  · rfl
  · rfl

set_option maxRecDepth 16384 in
theorem V_sin (c : Dev nD) (T : Fin 4096) (d : Fin 128) : V m c main_v18 (ix2 T d) = sinAt (BitVec.ofNat 32 T.val) d.val := by
  have e : V m c main_v18 = concatenate S4096x128 1 [⟨S4096x64, Host.negf (Host.sin angles)⟩, ⟨S4096x64, Host.sin angles⟩] concatenates_S4096x64_S4096x64_S4096x128_d1 := by
    unfold V
    after_results
    rfl
  rw [e]
  pointwise [angles]
  unfold sinAt angle
  split
  · rfl
  · rfl

/-! ## The blocks -/

theorem flush6 : ∀ t : Fin cfg0.N, (cfg0.win 6).flush t = true := (by decide +kernel : ∀ t : Fin grid0.N, _)
theorem flush7 : ∀ t : Fin cfg0.N, (cfg0.win 7).flush t = true := (by decide +kernel : ∀ t : Fin grid0.N, _)
theorem flush8 : ∀ t : Fin cfg0.N, (cfg0.win 8).flush t = true := (by decide +kernel : ∀ t : Fin grid0.N, _)
theorem flush9 : ∀ t : Fin cfg0.N, (cfg0.win 9).flush t = true := (by decide +kernel : ∀ t : Fin grid0.N, _)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val % 8 ∧ win0_3.index t (1 : Fin 2) = 0 :=
  (by decide +kernel : ∀ t : Fin grid0.N, _)
theorem idx4 : ∀ t : Fin cfg0.N, win0_4.index t (0 : Fin 2) = t.val % 8 ∧ win0_4.index t (1 : Fin 2) = 0 :=
  (by decide +kernel : ∀ t : Fin grid0.N, _)
theorem idx5 : ∀ t : Fin cfg0.N, win0_5.index t (0 : Fin 3) = 1 ∧ win0_5.index t (1 : Fin 3) = t.val ∧ win0_5.index t (2 : Fin 3) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

theorem row_lt (t : Fin cfg0.N) (r : Fin 512) : 512 * t.val + r.val < 8192 := by
  have := lt_of_lt_of_eq t.isLt N_0; have := r.isLt; omega

/-- The row of the whole array that row `r` of point `t`'s block is. -/
abbrev rowOf (t : Fin cfg0.N) (r : Fin 512) : Fin 8192 := ⟨512 * t.val + r.val, row_lt t r⟩

theorem wrow_lt (t : Fin cfg0.N) (r : Fin 128) : 128 * t.val + r.val < 2048 := by
  have := lt_of_lt_of_eq t.isLt N_0; have := r.isLt; omega

theorem blk0 (c : Dev nD) (t : Fin cfg0.N) (r : Fin 512) (k : Fin 2048) : (iblk m c 0 t : Vec Ideal S512x2048 .f32) (ix2 r k) = X m c (bat (rowOf t r)) (tok (rowOf t r)) k := by
  have hi := idx0 t
  unfold iblk
  rw [View.read_apply]
  refine Eq.trans ?_ (V_x m c (rowOf t r) k)
  show V m c main_v0 _ = V m c main_v0 _
  congr 1
  funext a
  apply Fin.ext
  match a with
  | ⟨0, _⟩ => show win0_0.index t 0 * 512 + 1 * r.val = 512 * t.val + r.val; rw [hi.1]; all_goals omega
  | ⟨1, _⟩ => show win0_0.index t 1 * 2048 + 1 * k.val = k.val; rw [hi.2]; all_goals omega

theorem blk1 (c : Dev nD) (t : Fin cfg0.N) (k : Fin 2048) : (iblk m c 1 t : Vec Ideal S1x2048 .f32) (ix2 0 k) = G m c k := by
  have hi := idx1 t
  unfold iblk
  rw [View.read_apply]
  refine Eq.trans ?_ (V_g m c k)
  show V m c main_v21 _ = V m c main_v21 _
  congr 1
  funext a
  apply Fin.ext
  match a with
  | ⟨0, _⟩ => show win0_1.index t 0 * 1 + 1 * 0 = 0; rw [hi.1]; all_goals omega
  | ⟨1, _⟩ => show win0_1.index t 1 * 2048 + 1 * k.val = k.val; rw [hi.2]; all_goals omega

theorem blk2 (c : Dev nD) (t : Fin cfg0.N) (k : Fin 2048) (n : Fin 3072) : (iblk m c 2 t : Vec Ideal S1x2048x3072 .bf16) (ix3 0 k n) = W m c k ⟨n.val, by have := n.isLt; omega⟩ := by
  have hi := idx2 t
  unfold iblk
  rw [View.read_apply]
  refine Eq.trans ?_ (V_w m c k ⟨n.val, by have := n.isLt; omega⟩)
  show V m c main_v22 _ = V m c main_v22 _
  congr 1
  funext a
  apply Fin.ext
  match a with
  | ⟨0, _⟩ => show win0_2.index t 0 * 1 + 1 * 0 = 0; rw [hi.1]; all_goals omega
  | ⟨1, _⟩ => show win0_2.index t 1 * 2048 + 1 * k.val = k.val; rw [hi.2.1]; all_goals omega
  | ⟨2, _⟩ => show win0_2.index t 2 * 3072 + 1 * n.val = n.val; rw [hi.2.2]; all_goals omega

theorem blk3 (c : Dev nD) (t : Fin cfg0.N) (r : Fin 512) (d : Fin 128) : (iblk m c 3 t : Vec Ideal S512x128 .f32) (ix2 r d) = cosAt (BitVec.ofNat 32 (tok (rowOf t r)).val) d.val := by
  have hi := idx3 t
  unfold iblk
  rw [View.read_apply]
  refine Eq.trans ?_ (V_cos m c (tok (rowOf t r)) d)
  show V m c main_v16 _ = V m c main_v16 _
  congr 1
  funext a
  apply Fin.ext
  match a with
  | ⟨0, _⟩ => show win0_3.index t 0 * 512 + 1 * r.val = (512 * t.val + r.val) % 4096; rw [hi.1]; all_goals omega
  | ⟨1, _⟩ => show win0_3.index t 1 * 128 + 1 * d.val = d.val; rw [hi.2]; all_goals omega

theorem blk4 (c : Dev nD) (t : Fin cfg0.N) (r : Fin 512) (d : Fin 128) : (iblk m c 4 t : Vec Ideal S512x128 .f32) (ix2 r d) = sinAt (BitVec.ofNat 32 (tok (rowOf t r)).val) d.val := by
  have hi := idx4 t
  unfold iblk
  rw [View.read_apply]
  refine Eq.trans ?_ (V_sin m c (tok (rowOf t r)) d)
  show V m c main_v18 _ = V m c main_v18 _
  congr 1
  funext a
  apply Fin.ext
  match a with
  | ⟨0, _⟩ => show win0_4.index t 0 * 512 + 1 * r.val = (512 * t.val + r.val) % 4096; rw [hi.1]; all_goals omega
  | ⟨1, _⟩ => show win0_4.index t 1 * 128 + 1 * d.val = d.val; rw [hi.2]; all_goals omega

theorem blk5 (c : Dev nD) (t : Fin cfg0.N) (r : Fin 128) (n : Fin 5632) : (iblk m c 5 t : Vec Ideal S1x128x5632 .f32) (ix3 0 r n) = WG m c ⟨128 * t.val + r.val, wrow_lt t r⟩ n := by
  have hi := idx5 t
  unfold iblk
  rw [View.read_apply]
  refine Eq.trans ?_ (congrFun (V_main_arg3 m c) (ix3 (1 : Fin 2) (⟨128 * t.val + r.val, wrow_lt t r⟩ : Fin 2048) n))
  show V m c main_arg3 _ = V m c main_arg3 _
  congr 1
  funext a
  apply Fin.ext
  match a with
  | ⟨0, _⟩ => show win0_5.index t 0 * 1 + 1 * 0 = 1; rw [hi.1]; all_goals omega
  | ⟨1, _⟩ => show win0_5.index t 1 * 128 + 1 * r.val = 128 * t.val + r.val; rw [hi.2.1]; all_goals omega
  | ⟨2, _⟩ => show win0_5.index t 2 * 5632 + 1 * n.val = n.val; rw [hi.2.2]; all_goals omega

theorem blk_proj (c : Dev nD) (t : Fin cfg0.N) (r : Fin 512) (n : Fin 3072) :
    bproj (iblk m c 0 t) (iblk m c 1 t) (iblk m c 2 t) r n = proj m c (rowOf t r) ⟨n.val, by have := n.isLt; omega⟩ := by
  unfold bproj proj vecMat
  refine Finset.sum_congr rfl fun k _ => ?_
  exact congrArg₂ (· * ·) (rms_congr _ _ (fun l => blk0 m c t r l) (fun l => blk1 m c t l) k) (blk2 m c t k n)

theorem rows_split (R : Fin 8192) : ∃ (t : Fin cfg0.N) (r : Fin 512), R = rowOf t r :=
  ⟨⟨R.val / 512, lt_of_lt_of_eq (show R.val / 512 < 16 by have := R.isLt; omega) N_0.symm⟩, ⟨R.val % 512, Nat.mod_lt _ (by decide)⟩,
    Fin.ext (by show R.val = 512 * (R.val / 512) + R.val % 512; omega)⟩

/-! ## The result arrays -/

theorem q_apply (c : Dev nD) (R : Fin 8192) (j : Fin 1024) :
    ((dats m 0 c).arrAt 6 cfg0.N : Vec Ideal S8192x1024 .bf16) (ix2 R j) = turned (fun l => proj m c R ⟨l.val, by have := l.isLt; omega⟩) (BitVec.ofNat 32 (tok R).val) j * qScale := by
  obtain ⟨t, r, rfl⟩ := rows_split R
  have e := congrFun ((blocks6 m c t (flush6 t)).trans (flushed6 m c t)) (ix2 r j)
  rw [View.read_apply] at e
  have hi := idx6 t
  have hx : (((cfg0.win 6).blk t).view.emb (ix2 r j) : S8192x1024.Idx) = ix2 (rowOf t r) j := by
    funext a
    apply Fin.ext
    match a with
    | ⟨0, _⟩ => show win0_6.index t 0 * 512 + 1 * r.val = 512 * t.val + r.val; rw [hi.1]; omega
    | ⟨1, _⟩ => show win0_6.index t 1 * 1024 + 1 * j.val = j.val; rw [hi.2]; omega
  rw [← hx]
  refine e.trans ?_
  refine (out6_apply _ _ _ _ _ _ r j).trans ?_
  exact congrArg (· * qScale) (turnBy_congr (fun l => blk_proj m c t r ⟨l.val, by have := l.isLt; omega⟩) (fun d => blk3 m c t r d) (fun d => blk4 m c t r d) j)
theorem k_apply (c : Dev nD) (R : Fin 8192) (j : Fin 1024) :
    ((dats m 0 c).arrAt 7 cfg0.N : Vec Ideal S8192x1024 .f32) (ix2 R j) = turned (fun l => proj m c R ⟨1024 + l.val, by have := l.isLt; omega⟩) (BitVec.ofNat 32 (tok R).val) j := by
  obtain ⟨t, r, rfl⟩ := rows_split R
  have e := congrFun ((blocks7 m c t (flush7 t)).trans (flushed7 m c t)) (ix2 r j)
  rw [View.read_apply] at e
  have hi := idx7 t
  have hx : (((cfg0.win 7).blk t).view.emb (ix2 r j) : S8192x1024.Idx) = ix2 (rowOf t r) j := by
    funext a
    apply Fin.ext
    match a with
    | ⟨0, _⟩ => show win0_7.index t 0 * 512 + 1 * r.val = 512 * t.val + r.val; rw [hi.1]; omega
    | ⟨1, _⟩ => show win0_7.index t 1 * 1024 + 1 * j.val = j.val; rw [hi.2]; omega
  rw [← hx]
  refine e.trans ?_
  refine (out7_apply _ _ _ _ _ _ r j).trans ?_
  exact turnBy_congr (fun l => blk_proj m c t r ⟨1024 + l.val, by have := l.isLt; omega⟩) (fun d => blk3 m c t r d) (fun d => blk4 m c t r d) j
theorem v_apply (c : Dev nD) (R : Fin 8192) (j : Fin 1024) :
    ((dats m 0 c).arrAt 8 cfg0.N : Vec Ideal S8192x1024 .f32) (ix2 R j) = proj m c R ⟨2048 + j.val, by have := j.isLt; omega⟩ := by
  obtain ⟨t, r, rfl⟩ := rows_split R
  have e := congrFun ((blocks8 m c t (flush8 t)).trans (flushed8 m c t)) (ix2 r j)
  rw [View.read_apply] at e
  have hi := idx8 t
  have hx : (((cfg0.win 8).blk t).view.emb (ix2 r j) : S8192x1024.Idx) = ix2 (rowOf t r) j := by
    funext a
    apply Fin.ext
    match a with
    | ⟨0, _⟩ => show win0_8.index t 0 * 512 + 1 * r.val = 512 * t.val + r.val; rw [hi.1]; omega
    | ⟨1, _⟩ => show win0_8.index t 1 * 1024 + 1 * j.val = j.val; rw [hi.2]; omega
  rw [← hx]
  refine e.trans ?_
  refine (out8_apply _ _ _ _ _ _ r j).trans ?_
  exact blk_proj m c t r ⟨2048 + j.val, by have := j.isLt; omega⟩
set_option maxRecDepth 16384 in
theorem wg_apply (c : Dev nD) (R : Fin 2048) (j : Fin 5632) :
    ((dats m 0 c).arrAt 9 cfg0.N : Vec Ideal S2048x5632 .bf16) (ix2 R j) = WG m c R j := by
  obtain ⟨t, r, rfl⟩ : ∃ (t : Fin cfg0.N) (r : Fin 128), R = ⟨128 * t.val + r.val, wrow_lt t r⟩ :=
    ⟨⟨R.val / 128, lt_of_lt_of_eq (show R.val / 128 < 16 by have := R.isLt; omega) N_0.symm⟩, ⟨R.val % 128, Nat.mod_lt _ (by decide)⟩,
      Fin.ext (by show R.val = 128 * (R.val / 128) + R.val % 128; omega)⟩
  have e := congrFun ((blocks9 m c t (flush9 t)).trans (flushed9 m c t)) (ix2 r j)
  rw [View.read_apply] at e
  have hi := idx9 t
  have hx : (((cfg0.win 9).blk t).view.emb (ix2 r j) : S2048x5632.Idx) = ix2 (⟨128 * t.val + r.val, wrow_lt t r⟩ : Fin 2048) j := by
    funext a
    apply Fin.ext
    match a with
    | ⟨0, _⟩ => show win0_9.index t 0 * 128 + 1 * r.val = 128 * t.val + r.val; rw [hi.1]; omega
    | ⟨1, _⟩ => show win0_9.index t 1 * 5632 + 1 * j.val = j.val; rw [hi.2]; omega
  rw [← hx]
  refine e.trans ?_
  exact (out9_apply _ _ _ _ _ _ r j).trans (blk5 m c t r j)

end Cert.QkvIdeal.Hand

end
-- ==== Proof.QkvRefVal.lean ====
module

public import proofs.«01_k».proof.Proof.Gen.QkvRefIdeal.Read
public import proofs.«01_k».proof.Proof.Common
public import Idealize.ShloMosaic.Lib.Pointwise
public import Idealize.ShloMosaic.Lib.Tactic

@[expose] public section

noncomputable section

namespace Cert.QkvRefIdeal.Hand

open Cert.QkvRefIdeal Cert.QkvRefIdeal.Read Cert.Layer Idealize.ShloMosaic Idealize.ShloMosaic.TcCoe Idealize.SL.Sem

variable (x0 : FVec Ideal S2x4096x2048 .f32) (x1 : FVec Ideal S2x2048 .f32) (x2 : FVec Ideal S1x2048x6144 .f32) (x3 : FVec Ideal S2x2048x5632 .f32)

abbrev rowLen : EReal := Ideal.ofBits .f32 1157627904#32
abbrev eps : EReal := Ideal.ofBits .f32 897988541#32

abbrev bat (R : Fin 8192) : Fin 2 := ⟨R.val / 4096, by have := R.isLt; omega⟩
abbrev tok (R : Fin 8192) : Fin 4096 := ⟨R.val % 4096, Nat.mod_lt _ (by decide)⟩

/-- The projection of a position of a sequence, at column `n`. -/
theorem proj_apply (b : Fin 2) (t : Fin 4096) (n : Fin 6144) : val_main_v17 (F := Ideal) x0 x1 x2 (ix3 b t n)
    = vecMat (rms rowLen eps (fun k => x0 (ix3 b t k)) fun k => x1 (ix2 (0 : Fin 2) k)) (fun k n => x2 (ix3 (0 : Fin 1) k n)) n := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  rfl

set_option maxRecDepth 16384 in
theorem angle_q (t : Fin 4096) (i : Fin 64) : val_main_v33 (F := Ideal) (ix2 t i) = angle (BitVec.ofNat 32 t.val) i.val := by
  pointwise [val_main_v33, val_main_v32, val_main_v30, val_main_v27, val_main_v25, val_main_v24, val_main_cst_2, val_main_v23, val_main_v22, val_main_v26, val_main_cst_3, val_main_v31, val_main_v29, val_main_v28, val_main_v0]
  rfl

set_option maxRecDepth 16384 in
theorem angle_k (t : Fin 4096) (i : Fin 64) : val_main_v65 (F := Ideal) (ix2 t i) = angle (BitVec.ofNat 32 t.val) i.val := by
  pointwise [val_main_v65, val_main_v64, val_main_v62, val_main_v59, val_main_v57, val_main_v56, val_main_cst_5, val_main_v55, val_main_v54, val_main_v58, val_main_cst_6, val_main_v63, val_main_v61, val_main_v60, val_main_v0]
  rfl

set_option maxRecDepth 16384 in
theorem k_apply (R : Fin 8192) (j : Fin 1024) : val_main_v85 (F := Ideal) x0 x1 x2 (ix2 R j)
    = turned (fun l => val_main_v17 (F := Ideal) x0 x1 x2 (ix3 (bat R) (tok R) ⟨1024 + l.val, by have := l.isLt; omega⟩)) (BitVec.ofNat 32 (tok R).val) j := by
  have hj := j.isLt
  by_cases hd : j.val % 128 < 64
  · rw [turned_halves, if_pos hd]
    pointwise [val_main_v85, val_main_v82, val_main_v81, val_main_v80, val_main_v79, val_main_v69, val_main_v68, val_main_v70, val_main_v53, val_main_v19, val_main_v78, val_main_v77, val_main_v67, val_main_v66, val_main_v71, val_main_v76, val_main_v75, val_main_v74, val_main_v73, val_main_v72]
    refine (dif_pos hd).trans ?_
    refine (congrArg₂ (· - ·) (congrArg₂ (· * ·) (congrArg (fun l => val_main_v17 (F := Ideal) x0 x1 x2 (ix3 (bat R) (tok R) l)) (Fin.ext ?_)) (congrArg Ideal.cos (angle_k (tok R) _))) (congrArg₂ (· * ·) (congrArg (fun l => val_main_v17 (F := Ideal) x0 x1 x2 (ix3 (bat R) (tok R) l)) (Fin.ext ?_)) (congrArg Ideal.sin (angle_k (tok R) _))))
    · first | rfl | (dsimp [pairOf]; omega)
    · first | rfl | (dsimp [pairOf]; omega)
  · rw [turned_halves, if_neg hd]
    pointwise [val_main_v85, val_main_v82, val_main_v81, val_main_v80, val_main_v79, val_main_v69, val_main_v68, val_main_v70, val_main_v53, val_main_v19, val_main_v78, val_main_v77, val_main_v67, val_main_v66, val_main_v71, val_main_v76, val_main_v75, val_main_v74, val_main_v73, val_main_v72]
    refine (dif_neg hd).trans ?_
    refine (congrArg₂ (· + ·) (congrArg₂ (· * ·) (congrArg (fun l => val_main_v17 (F := Ideal) x0 x1 x2 (ix3 (bat R) (tok R) l)) (Fin.ext ?_)) (congrArg Ideal.cos (angle_k (tok R) _))) (congrArg₂ (· * ·) (congrArg (fun l => val_main_v17 (F := Ideal) x0 x1 x2 (ix3 (bat R) (tok R) l)) (Fin.ext ?_)) (congrArg Ideal.sin (angle_k (tok R) _))))
    · first | rfl | (dsimp [pairOf]; omega)
    · first | rfl | (dsimp [pairOf]; omega)

set_option maxRecDepth 16384 in
theorem q_apply (R : Fin 8192) (j : Fin 1024) : val_main_v84 (F := Ideal) x0 x1 x2 (ix2 R j)
    = turned (fun l => val_main_v17 (F := Ideal) x0 x1 x2 (ix3 (bat R) (tok R) ⟨l.val, by have := l.isLt; omega⟩)) (BitVec.ofNat 32 (tok R).val) j * Ideal.ofBits .f32 1040356334#32 := by
  have hj := j.isLt
  by_cases hd : j.val % 128 < 64
  · rw [turned_halves, if_pos hd]
    pointwise [val_main_v84, val_main_v83, val_main_v52, val_main_v51, val_main_cst_4, val_main_v50, val_main_v49, val_main_v48, val_main_v47, val_main_v37, val_main_v36, val_main_v38, val_main_v21, val_main_v18, val_main_v46, val_main_v45, val_main_v35, val_main_v34, val_main_v39, val_main_v44, val_main_v43, val_main_v42, val_main_v41, val_main_v40]
    refine (congrArg (· * _) (dif_pos hd)).trans ?_
    refine congrArg (· * _) (congrArg₂ (· - ·) (congrArg₂ (· * ·) (congrArg (fun l => val_main_v17 (F := Ideal) x0 x1 x2 (ix3 (bat R) (tok R) l)) (Fin.ext ?_)) (congrArg Ideal.cos (angle_q (tok R) _))) (congrArg₂ (· * ·) (congrArg (fun l => val_main_v17 (F := Ideal) x0 x1 x2 (ix3 (bat R) (tok R) l)) (Fin.ext ?_)) (congrArg Ideal.sin (angle_q (tok R) _))))
    · first | rfl | (dsimp [pairOf]; omega)
    · first | rfl | (dsimp [pairOf]; omega)
  · rw [turned_halves, if_neg hd]
    pointwise [val_main_v84, val_main_v83, val_main_v52, val_main_v51, val_main_cst_4, val_main_v50, val_main_v49, val_main_v48, val_main_v47, val_main_v37, val_main_v36, val_main_v38, val_main_v21, val_main_v18, val_main_v46, val_main_v45, val_main_v35, val_main_v34, val_main_v39, val_main_v44, val_main_v43, val_main_v42, val_main_v41, val_main_v40]
    refine (congrArg (· * _) (dif_neg hd)).trans ?_
    refine congrArg (· * _) (congrArg₂ (· + ·) (congrArg₂ (· * ·) (congrArg (fun l => val_main_v17 (F := Ideal) x0 x1 x2 (ix3 (bat R) (tok R) l)) (Fin.ext ?_)) (congrArg Ideal.cos (angle_q (tok R) _))) (congrArg₂ (· * ·) (congrArg (fun l => val_main_v17 (F := Ideal) x0 x1 x2 (ix3 (bat R) (tok R) l)) (Fin.ext ?_)) (congrArg Ideal.sin (angle_q (tok R) _))))
    · first | rfl | (dsimp [pairOf]; omega)
    · first | rfl | (dsimp [pairOf]; omega)

set_option maxRecDepth 16384 in
theorem v_apply (R : Fin 8192) (j : Fin 1024) : val_main_v86 (F := Ideal) x0 x1 x2 (ix2 R j)
    = val_main_v17 (F := Ideal) x0 x1 x2 (ix3 (bat R) (tok R) ⟨2048 + j.val, by have := j.isLt; omega⟩) := by
  pointwise [val_main_v86, val_main_v20]

set_option maxRecDepth 16384 in
theorem wg_apply (R : Fin 2048) (j : Fin 5632) : val_main_v89 (F := Ideal) x3 (ix2 R j) = x3 (ix3 (1 : Fin 2) R j) := by
  pointwise [val_main_v89, val_main_v88, val_main_v87]

end Cert.QkvRefIdeal.Hand

end
-- ==== Proof.QkvClaim.lean ====
module

public import proofs.«01_k».proof.Defs
public import proofs.«01_k».proof.Proof.QkvVal
public import proofs.«01_k».proof.Proof.QkvRefVal
public import proofs.«01_k».proof.Proof.Gen.QkvRefIdeal.Run
public import proofs.«01_k».proof.Proof.Gen.QkvRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

theorem quiescent_QkvRefIdeal : quiescent_QkvRefIdeal := fun m ρ _ =>
  (θ_run Cert.QkvRefIdeal.defs _ _).mono (fun r h => ⟨fun c => (h c).2.2.2.2, sem_eq_zero_of_no_sems (by decide) r.2⟩)
    (Cert.QkvRefIdeal.Value.run (F := Ideal) m ρ)

theorem algebraic_QkvIdeal_QkvRefIdeal : algebraic_QkvIdeal_QkvRefIdeal := by
  intro m ρ m' ρ' _ hagree
  refine ⟨_, _, _, _, Cert.QkvIdeal.Value.run_blocks (F := Ideal) m ρ, ?_⟩
  refine (θ_run Cert.QkvRefIdeal.defs _ _).mono (fun _ h c => ⟨?_, ?_, ?_, ?_, (h c).2.2.2.2⟩) (Cert.QkvRefIdeal.Value.run (F := Ideal) m' ρ')
  · rw [(h c).1]
    obtain ⟨e0, e1, e2, e3⟩ := hagree c
    rw [Cert.QkvRefIdeal.Read.val_main_v84_eq]
    funext i
    obtain ⟨R, j, rfl⟩ : ∃ (R : Fin 8192) (j : Fin 1024), i = ix2 R j := ⟨i 0, i 1, eq_ix2 i⟩
    refine (Cert.QkvRefIdeal.Hand.q_apply _ _ _ R j).trans ?_
    refine Eq.trans ?_ (Cert.QkvIdeal.Hand.q_apply m c R j).symm
    refine congrArg (· * _) (Cert.Layer.turned_congr (fun l => ?_) _ j)
    rw [e0, e1, e2]
    exact Cert.QkvRefIdeal.Hand.proj_apply _ _ _ _ _ _
  · rw [(h c).2.1]
    obtain ⟨e0, e1, e2, e3⟩ := hagree c
    rw [Cert.QkvRefIdeal.Read.val_main_v85_eq]
    funext i
    obtain ⟨R, j, rfl⟩ : ∃ (R : Fin 8192) (j : Fin 1024), i = ix2 R j := ⟨i 0, i 1, eq_ix2 i⟩
    refine (Cert.QkvRefIdeal.Hand.k_apply _ _ _ R j).trans ?_
    refine Eq.trans ?_ (Cert.QkvIdeal.Hand.k_apply m c R j).symm
    refine Cert.Layer.turned_congr (fun l => ?_) _ j
    rw [e0, e1, e2]
    exact Cert.QkvRefIdeal.Hand.proj_apply _ _ _ _ _ _
  · rw [(h c).2.2.1]
    obtain ⟨e0, e1, e2, e3⟩ := hagree c
    rw [Cert.QkvRefIdeal.Read.val_main_v86_eq]
    funext i
    obtain ⟨R, j, rfl⟩ : ∃ (R : Fin 8192) (j : Fin 1024), i = ix2 R j := ⟨i 0, i 1, eq_ix2 i⟩
    refine (Cert.QkvRefIdeal.Hand.v_apply _ _ _ R j).trans ?_
    refine Eq.trans ?_ (Cert.QkvIdeal.Hand.v_apply m c R j).symm
    rw [e0, e1, e2]
    exact Cert.QkvRefIdeal.Hand.proj_apply _ _ _ _ _ _
  · rw [(h c).2.2.2.1]
    obtain ⟨e0, e1, e2, e3⟩ := hagree c
    rw [Cert.QkvRefIdeal.Read.val_main_v89_eq]
    funext i
    obtain ⟨R, j, rfl⟩ : ∃ (R : Fin 2048) (j : Fin 5632), i = ix2 R j := ⟨i 0, i 1, eq_ix2 i⟩
    refine (Cert.QkvRefIdeal.Hand.wg_apply _ R j).trans ?_
    refine Eq.trans ?_ (Cert.QkvIdeal.Hand.wg_apply m c R j).symm
    rw [e3]

end Cert.Proof

end
-- ==== Proof.QkvSBlock.lean ====
module

public import proofs.«01_k».proof.Proof.Gen.QkvSIdeal.Value
public import proofs.«01_k».proof.Proof.Common
public import Idealize.ShloMosaic.Lib.Pointwise
public import Idealize.ShloMosaic.Lib.Tactic
public import Idealize.ShloMosaic.Lib.Pipeline.ValueKit

@[expose] public section

noncomputable section

namespace Cert.QkvSIdeal.Hand

open Cert.QkvSIdeal Cert.QkvSIdeal.Gen Cert.QkvSIdeal.Value Cert.Layer Idealize.ShloMosaic Idealize.ShloMosaic.TcCoe Idealize.SL.Sem

/-- The row length of the norm, and the constant added to the mean of the squares. -/
abbrev rowLen : EReal := Ideal.ofBits .f32 1157627904#32
abbrev eps : EReal := Ideal.ofBits .f32 897988541#32
/-- The scale of the queries. -/
abbrev qScale : EReal := Ideal.ofBits .f32 1035273459#32

/-! ## One grid point's results -/

section Block

variable (x0 : Vec Ideal S32x2048 .f32) (x1 : Vec Ideal S1x2048 .f32) (x2 : Vec Ideal S1x2048x3072 .bf16) (x3 x4 : Vec Ideal S32x128 .f32)

/-- Column `n` of the block's row `r`, normed and projected. -/
abbrev bproj (r : Fin 32) (n : Fin 3072) : EReal :=
  vecMat (rms rowLen eps (fun k => x0 (ix2 r k)) fun k => x1 (ix2 0 k)) (fun k n => x2 (ix3 0 k n)) n

theorem pay7_apply (r : Fin 32) (j : Fin 1024) :
    k0_pay5 (F := Ideal) (View.ld x0 r0_0) (View.ld x1 r0_1) (View.ld x2 r0_3) (ix2 r j) = bproj x0 x1 x2 r ⟨j.val, by have := j.isLt; omega⟩ := by
  pointwise [k0_pay5, k0_pay2]
  rfl

theorem pay16_apply (r : Fin 32) (j : Fin 1024) :
    k0_pay15 (F := Ideal) (k0_pay2 (View.ld x0 r0_0) (View.ld x1 r0_1)) (View.ld x2 r0_12) (ix2 r j) = bproj x0 x1 x2 r ⟨1024 + j.val, by have := j.isLt; omega⟩ := by
  pointwise [k0_pay15, k0_pay2]
  rfl

theorem tab5 (r : Fin 32) (d : Fin 128) : k0_pay3 (F := Ideal) (View.ld x3 r0_2) (ix2 r d) = x3 (ix2 r d) := by
  pointwise [k0_pay3]

theorem tab6 (r : Fin 32) (d : Fin 128) : k0_pay4 (F := Ideal) (View.ld x4 r0_2) (ix2 r d) = x4 (ix2 r d) := by
  pointwise [k0_pay4]

theorem outq_apply (r : Fin 32) (j : Fin 1024) : out0_5 (F := Ideal) x0 x1 x2 x3 x4 (ix2 r j)
    = turnBy (fun l => bproj x0 x1 x2 r ⟨l.val, by have := l.isLt; omega⟩) (fun d => x3 (ix2 r d)) (fun d => x4 (ix2 r d)) j * qScale := by
  refine Eq.trans ?_ (congrArg (· * qScale) (turnBy_congr (fun l => pay7_apply x0 x1 x2 r l) (fun d => tab5 x3 r d) (fun d => tab6 x4 r d) j))
  unfold_out out0_5
  canon_tiles x h
  all_goals (obtain ⟨a, d, rfl⟩ : ∃ a d, x = ix2 a d := ⟨x 0, x 1, eq_ix2 x⟩; obtain rfl : r = a := Fin.ext h0)
  case piece0 =>
    pointwise [k0_pay14]
    exact congrArg (· * qScale) (turnBy_head (fun l => k0_pay5 (F := Ideal) (View.ld x0 r0_0) (View.ld x1 r0_1) (View.ld x2 r0_3) (ix2 r l)) (fun d => k0_pay3 (F := Ideal) (View.ld x3 r0_2) (ix2 r d)) (fun d => k0_pay4 (F := Ideal) (View.ld x4 r0_2) (ix2 r d)) 896 rfl d _ _ j (by simpa using h1) (by simp) (by simp))
  case piece1 =>
    pointwise [k0_pay13]
    exact congrArg (· * qScale) (turnBy_head (fun l => k0_pay5 (F := Ideal) (View.ld x0 r0_0) (View.ld x1 r0_1) (View.ld x2 r0_3) (ix2 r l)) (fun d => k0_pay3 (F := Ideal) (View.ld x3 r0_2) (ix2 r d)) (fun d => k0_pay4 (F := Ideal) (View.ld x4 r0_2) (ix2 r d)) 768 rfl d _ _ j (by simpa using h1) (by simp) (by simp))
  case piece2 =>
    pointwise [k0_pay12]
    exact congrArg (· * qScale) (turnBy_head (fun l => k0_pay5 (F := Ideal) (View.ld x0 r0_0) (View.ld x1 r0_1) (View.ld x2 r0_3) (ix2 r l)) (fun d => k0_pay3 (F := Ideal) (View.ld x3 r0_2) (ix2 r d)) (fun d => k0_pay4 (F := Ideal) (View.ld x4 r0_2) (ix2 r d)) 640 rfl d _ _ j (by simpa using h1) (by simp) (by simp))
  case piece3 =>
    pointwise [k0_pay11]
    exact congrArg (· * qScale) (turnBy_head (fun l => k0_pay5 (F := Ideal) (View.ld x0 r0_0) (View.ld x1 r0_1) (View.ld x2 r0_3) (ix2 r l)) (fun d => k0_pay3 (F := Ideal) (View.ld x3 r0_2) (ix2 r d)) (fun d => k0_pay4 (F := Ideal) (View.ld x4 r0_2) (ix2 r d)) 512 rfl d _ _ j (by simpa using h1) (by simp) (by simp))
  case piece4 =>
    pointwise [k0_pay10]
    exact congrArg (· * qScale) (turnBy_head (fun l => k0_pay5 (F := Ideal) (View.ld x0 r0_0) (View.ld x1 r0_1) (View.ld x2 r0_3) (ix2 r l)) (fun d => k0_pay3 (F := Ideal) (View.ld x3 r0_2) (ix2 r d)) (fun d => k0_pay4 (F := Ideal) (View.ld x4 r0_2) (ix2 r d)) 384 rfl d _ _ j (by simpa using h1) (by simp) (by simp))
  case piece5 =>
    pointwise [k0_pay9]
    exact congrArg (· * qScale) (turnBy_head (fun l => k0_pay5 (F := Ideal) (View.ld x0 r0_0) (View.ld x1 r0_1) (View.ld x2 r0_3) (ix2 r l)) (fun d => k0_pay3 (F := Ideal) (View.ld x3 r0_2) (ix2 r d)) (fun d => k0_pay4 (F := Ideal) (View.ld x4 r0_2) (ix2 r d)) 256 rfl d _ _ j (by simpa using h1) (by simp) (by simp))
  case piece6 =>
    pointwise [k0_pay8, k0_pay7]
    exact congrArg (· * qScale) (turnBy_head (fun l => k0_pay5 (F := Ideal) (View.ld x0 r0_0) (View.ld x1 r0_1) (View.ld x2 r0_3) (ix2 r l)) (fun d => k0_pay3 (F := Ideal) (View.ld x3 r0_2) (ix2 r d)) (fun d => k0_pay4 (F := Ideal) (View.ld x4 r0_2) (ix2 r d)) 128 rfl d _ _ j (by simpa using h1) (by simp) (by simp))
  case piece7 =>
    pointwise [k0_pay6]
    exact congrArg (· * qScale) (turnBy_head (fun l => k0_pay5 (F := Ideal) (View.ld x0 r0_0) (View.ld x1 r0_1) (View.ld x2 r0_3) (ix2 r l)) (fun d => k0_pay3 (F := Ideal) (View.ld x3 r0_2) (ix2 r d)) (fun d => k0_pay4 (F := Ideal) (View.ld x4 r0_2) (ix2 r d)) 0 rfl d _ _ j (by simpa using h1) (by simp) (by simp))

theorem outk_apply (r : Fin 32) (j : Fin 1024) : out0_6 (F := Ideal) x0 x1 x2 x3 x4 (ix2 r j)
    = turnBy (fun l => bproj x0 x1 x2 r ⟨1024 + l.val, by have := l.isLt; omega⟩) (fun d => x3 (ix2 r d)) (fun d => x4 (ix2 r d)) j := by
  refine Eq.trans ?_ (turnBy_congr (fun l => pay16_apply x0 x1 x2 r l) (fun d => tab5 x3 r d) (fun d => tab6 x4 r d) j)
  unfold_out out0_6
  canon_tiles x h
  all_goals (obtain ⟨a, d, rfl⟩ : ∃ a d, x = ix2 a d := ⟨x 0, x 1, eq_ix2 x⟩; obtain rfl : r = a := Fin.ext h0)
  case piece0 =>
    pointwise [k0_pay24]
    exact turnBy_head (fun l => k0_pay15 (F := Ideal) (k0_pay2 (View.ld x0 r0_0) (View.ld x1 r0_1)) (View.ld x2 r0_12) (ix2 r l)) (fun d => k0_pay3 (F := Ideal) (View.ld x3 r0_2) (ix2 r d)) (fun d => k0_pay4 (F := Ideal) (View.ld x4 r0_2) (ix2 r d)) 896 rfl d _ _ j (by simpa using h1) (by simp) (by simp)
  case piece1 =>
    pointwise [k0_pay23]
    exact turnBy_head (fun l => k0_pay15 (F := Ideal) (k0_pay2 (View.ld x0 r0_0) (View.ld x1 r0_1)) (View.ld x2 r0_12) (ix2 r l)) (fun d => k0_pay3 (F := Ideal) (View.ld x3 r0_2) (ix2 r d)) (fun d => k0_pay4 (F := Ideal) (View.ld x4 r0_2) (ix2 r d)) 768 rfl d _ _ j (by simpa using h1) (by simp) (by simp)
  case piece2 =>
    pointwise [k0_pay22]
    exact turnBy_head (fun l => k0_pay15 (F := Ideal) (k0_pay2 (View.ld x0 r0_0) (View.ld x1 r0_1)) (View.ld x2 r0_12) (ix2 r l)) (fun d => k0_pay3 (F := Ideal) (View.ld x3 r0_2) (ix2 r d)) (fun d => k0_pay4 (F := Ideal) (View.ld x4 r0_2) (ix2 r d)) 640 rfl d _ _ j (by simpa using h1) (by simp) (by simp)
  case piece3 =>
    pointwise [k0_pay21]
    exact turnBy_head (fun l => k0_pay15 (F := Ideal) (k0_pay2 (View.ld x0 r0_0) (View.ld x1 r0_1)) (View.ld x2 r0_12) (ix2 r l)) (fun d => k0_pay3 (F := Ideal) (View.ld x3 r0_2) (ix2 r d)) (fun d => k0_pay4 (F := Ideal) (View.ld x4 r0_2) (ix2 r d)) 512 rfl d _ _ j (by simpa using h1) (by simp) (by simp)
  case piece4 =>
    pointwise [k0_pay20]
    exact turnBy_head (fun l => k0_pay15 (F := Ideal) (k0_pay2 (View.ld x0 r0_0) (View.ld x1 r0_1)) (View.ld x2 r0_12) (ix2 r l)) (fun d => k0_pay3 (F := Ideal) (View.ld x3 r0_2) (ix2 r d)) (fun d => k0_pay4 (F := Ideal) (View.ld x4 r0_2) (ix2 r d)) 384 rfl d _ _ j (by simpa using h1) (by simp) (by simp)
  case piece5 =>
    pointwise [k0_pay19, k0_pay18]
    exact turnBy_head (fun l => k0_pay15 (F := Ideal) (k0_pay2 (View.ld x0 r0_0) (View.ld x1 r0_1)) (View.ld x2 r0_12) (ix2 r l)) (fun d => k0_pay3 (F := Ideal) (View.ld x3 r0_2) (ix2 r d)) (fun d => k0_pay4 (F := Ideal) (View.ld x4 r0_2) (ix2 r d)) 256 rfl d _ _ j (by simpa using h1) (by simp) (by simp)
  case piece6 =>
    pointwise [k0_pay17]
    exact turnBy_head (fun l => k0_pay15 (F := Ideal) (k0_pay2 (View.ld x0 r0_0) (View.ld x1 r0_1)) (View.ld x2 r0_12) (ix2 r l)) (fun d => k0_pay3 (F := Ideal) (View.ld x3 r0_2) (ix2 r d)) (fun d => k0_pay4 (F := Ideal) (View.ld x4 r0_2) (ix2 r d)) 128 rfl d _ _ j (by simpa using h1) (by simp) (by simp)
  case piece7 =>
    pointwise [k0_pay16]
    exact turnBy_head (fun l => k0_pay15 (F := Ideal) (k0_pay2 (View.ld x0 r0_0) (View.ld x1 r0_1)) (View.ld x2 r0_12) (ix2 r l)) (fun d => k0_pay3 (F := Ideal) (View.ld x3 r0_2) (ix2 r d)) (fun d => k0_pay4 (F := Ideal) (View.ld x4 r0_2) (ix2 r d)) 0 rfl d _ _ j (by simpa using h1) (by simp) (by simp)

theorem outv_apply (r : Fin 32) (j : Fin 1024) : out0_7 (F := Ideal) x0 x1 x2 x3 x4 (ix2 r j)
    = bproj x0 x1 x2 r ⟨2048 + j.val, by have := j.isLt; omega⟩ := by
  unfold_out out0_7
  canon_tiles x h
  obtain ⟨a, d, rfl⟩ : ∃ a d, x = ix2 a d := ⟨x 0, x 1, eq_ix2 x⟩
  obtain rfl : r = a := Fin.ext h0
  obtain rfl : j = d := Fin.ext h1
  pointwise [k0_pay1, k0_pay2]
  rfl

end Block

end Cert.QkvSIdeal.Hand

end
-- ==== Proof.QkvSVal.lean ====
module

public import proofs.«01_k».proof.Proof.QkvSBlock

@[expose] public section

noncomputable section

namespace Cert.QkvSIdeal.Hand

open Cert.QkvSIdeal Cert.QkvSIdeal.Gen Cert.QkvSIdeal.Value Cert.Layer Idealize.ShloMosaic Idealize.ShloMosaic.TcCoe Idealize.SL.Sem

variable (m : (ℓ : Loc nD τ sig) → Buf (Elt Ideal) ℓ)

/-! ## The arguments, entry by entry -/

abbrev X (c : Dev nD) (b : Fin 8) (t : Fin 4) (k : Fin 2048) : EReal := m ((c : Thread nD τ).loc main_arg0) (ix3 b t k)
abbrev G (c : Dev nD) (k : Fin 2048) : EReal := m ((c : Thread nD τ).loc main_arg1) (ix2 (0 : Fin 2) k)
abbrev W (c : Dev nD) (k : Fin 2048) (n : Fin 6144) : EReal := m ((c : Thread nD τ).loc main_arg2) (ix3 (0 : Fin 1) k n)
/-- The sequence of row `R`, and its token. -/
abbrev bat (R : Fin 32) : Fin 8 := ⟨R.val % 8, Nat.mod_lt _ (by decide)⟩
abbrev tok (R : Fin 32) : Fin 4 := ⟨R.val / 8, by have := R.isLt; omega⟩
/-- The position of row `R`. -/
abbrev pos (R : Fin 32) : BitVec 32 := 16384#32 + BitVec.ofNat 32 (R.val / 8)

/-- Row `R` normed and projected, at column `n`. -/
abbrev proj (c : Dev nD) (R : Fin 32) (n : Fin 6144) : EReal := vecMat (rms rowLen eps (X m c (bat R) (tok R)) (G m c)) (W m c) n

/-! ## What the region finds in the arrays the host prepares -/

set_option maxRecDepth 16384 in
theorem flat_apply (y : FVec Ideal S8x4x2048 .f32) (R : Fin 32) (k : Fin 2048) :
    shapeCast S32x2048 (transpose S4x8x2048 [1, 0, 2] y transposes_S8x4x2048_S4x8x2048_1_0_2) shapeCasts_S4x8x2048_S32x2048 (ix2 R k) = y (ix3 (bat R) (tok R) k) := by
  pointwise

set_option maxRecDepth 16384 in
theorem V_x (c : Dev nD) (R : Fin 32) (k : Fin 2048) : V m c main_v1 (ix2 R k) = X m c (bat R) (tok R) k := by
  have e : V m c main_v1 = shapeCast S32x2048 (transpose S4x8x2048 [1, 0, 2] (m ((c : Thread nD τ).loc main_arg0) : FVec Ideal S8x4x2048 .f32) transposes_S8x4x2048_S4x8x2048_1_0_2) shapeCasts_S4x8x2048_S32x2048 := by
    unfold V
    after_results
    rfl
  rw [e]
  exact flat_apply _ R k

set_option maxRecDepth 16384 in
theorem V_g (c : Dev nD) (k : Fin 2048) : V m c main_v26 (ix2 0 k) = G m c k := by
  have e : V m c main_v26 = shapeCast S1x2048 (shapeCast S2048 (extractStridedSlice S1x2048 ![0, 0] (m ((c : Thread nD τ).loc main_arg1)) slices_S2x2048_S1x2048_0_0) shapeCasts_S1x2048_S2048) shapeCasts_S2048_S1x2048 := by
    unfold V
    after_results
    rfl
  rw [e]
  pointwise

set_option maxRecDepth 16384 in
theorem V_w (c : Dev nD) (k : Fin 2048) (n : Fin 6144) : V m c main_v27 (ix3 0 k n) = W m c k n := by
  have e : V m c main_v27 = (truncf .bf16 (m ((c : Thread nD τ).loc main_arg2) : FVec Ideal S1x2048x6144 .f32) bitsLt_bf16_f32 : FVec Ideal S1x2048x6144 .bf16) := by
    unfold V
    after_results
  rw [e]
  pointwise

/-- The positions of the table's rows. -/
def rows : IVec S32 32 :=
  addi (broadcastInDim S32 ![] bcast_S_S32 (constantI S_ 32 16384#32)) (shapeCast S32 (broadcastInDim S4x8 ![0] bcast_S4_S4x8_0 (iotaInDim S4 32 0)) shapeCasts_S4x8_S32)

/-- The rotary angles of the table's rows. -/
def angles : FVec Ideal S32x64 .f32 :=
  mulf (broadcastInDim S32x64 ![0, 1] bcast_S32x1_S32x64_0_1 (broadcastInDim S32x1 ![0] bcast_S32_S32x1_0 (sitofp .f32 rows)))
    (broadcastInDim S32x64 ![0, 1] bcast_S1x64_S32x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

set_option maxRecDepth 16384 in
theorem V_cos (c : Dev nD) (T : Fin 32) (d : Fin 128) : V m c main_v21 (ix2 T d) = cosAt (pos T) d.val := by
  have e : V m c main_v21 = concatenate S32x128 1 [⟨S32x64, Host.cos angles⟩, ⟨S32x64, Host.cos angles⟩] concatenates_S32x64_S32x64_S32x128_d1 := by
    unfold V
    after_results
    rfl
  rw [e]
  pointwise [angles, rows]
  unfold cosAt angle
  split
  · rfl
  · rfl

set_option maxRecDepth 16384 in
theorem V_sin (c : Dev nD) (T : Fin 32) (d : Fin 128) : V m c main_v23 (ix2 T d) = sinAt (pos T) d.val := by
  have e : V m c main_v23 = concatenate S32x128 1 [⟨S32x64, Host.negf (Host.sin angles)⟩, ⟨S32x64, Host.sin angles⟩] concatenates_S32x64_S32x64_S32x128_d1 := by
    unfold V
    after_results
    rfl
  rw [e]
  pointwise [angles, rows]
  unfold sinAt angle
  split
  · rfl
  · rfl

/-! ## The blocks -/

theorem flush5 : ∀ t : Fin cfg0.N, (cfg0.win 5).flush t = true := (by decide +kernel : ∀ t : Fin grid0.N, _)
theorem flush6 : ∀ t : Fin cfg0.N, (cfg0.win 6).flush t = true := (by decide +kernel : ∀ t : Fin grid0.N, _)
theorem flush7 : ∀ t : Fin cfg0.N, (cfg0.win 7).flush t = true := (by decide +kernel : ∀ t : Fin grid0.N, _)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem blk0 (c : Dev nD) (t : Fin cfg0.N) (r : Fin 32) (k : Fin 2048) : (iblk m c 0 t : Vec Ideal S32x2048 .f32) (ix2 r k) = X m c (bat r) (tok r) k := by
  have hi := idx0 t
  unfold iblk
  rw [View.read_apply]
  refine Eq.trans ?_ (V_x m c r k)
  show V m c main_v1 _ = V m c main_v1 _
  congr 1
  funext a
  apply Fin.ext
  match a with
  | ⟨0, _⟩ => show win0_0.index t 0 * 32 + 1 * r.val = r.val; rw [hi.1]; all_goals omega
  | ⟨1, _⟩ => show win0_0.index t 1 * 2048 + 1 * k.val = k.val; rw [hi.2]; all_goals omega

theorem blk1 (c : Dev nD) (t : Fin cfg0.N) (k : Fin 2048) : (iblk m c 1 t : Vec Ideal S1x2048 .f32) (ix2 0 k) = G m c k := by
  have hi := idx1 t
  unfold iblk
  rw [View.read_apply]
  refine Eq.trans ?_ (V_g m c k)
  show V m c main_v26 _ = V m c main_v26 _
  congr 1
  funext a
  apply Fin.ext
  match a with
  | ⟨0, _⟩ => show win0_1.index t 0 * 1 + 1 * 0 = 0; rw [hi.1]; all_goals omega
  | ⟨1, _⟩ => show win0_1.index t 1 * 2048 + 1 * k.val = k.val; rw [hi.2]; all_goals omega

theorem blk2 (c : Dev nD) (t : Fin cfg0.N) (k : Fin 2048) (n : Fin 3072) : (iblk m c 2 t : Vec Ideal S1x2048x3072 .bf16) (ix3 0 k n) = W m c k ⟨n.val, by have := n.isLt; omega⟩ := by
  have hi := idx2 t
  unfold iblk
  rw [View.read_apply]
  refine Eq.trans ?_ (V_w m c k ⟨n.val, by have := n.isLt; omega⟩)
  show V m c main_v27 _ = V m c main_v27 _
  congr 1
  funext a
  apply Fin.ext
  match a with
  | ⟨0, _⟩ => show win0_2.index t 0 * 1 + 1 * 0 = 0; rw [hi.1]; all_goals omega
  | ⟨1, _⟩ => show win0_2.index t 1 * 2048 + 1 * k.val = k.val; rw [hi.2.1]; all_goals omega
  | ⟨2, _⟩ => show win0_2.index t 2 * 3072 + 1 * n.val = n.val; rw [hi.2.2]; all_goals omega

theorem blk3 (c : Dev nD) (t : Fin cfg0.N) (r : Fin 32) (d : Fin 128) : (iblk m c 3 t : Vec Ideal S32x128 .f32) (ix2 r d) = cosAt (pos r) d.val := by
  have hi := idx3 t
  unfold iblk
  rw [View.read_apply]
  refine Eq.trans ?_ (V_cos m c r d)
  show V m c main_v21 _ = V m c main_v21 _
  congr 1
  funext a
  apply Fin.ext
  match a with
  | ⟨0, _⟩ => show win0_3.index t 0 * 32 + 1 * r.val = r.val; rw [hi.1]; all_goals omega
  | ⟨1, _⟩ => show win0_3.index t 1 * 128 + 1 * d.val = d.val; rw [hi.2]; all_goals omega

theorem blk4 (c : Dev nD) (t : Fin cfg0.N) (r : Fin 32) (d : Fin 128) : (iblk m c 4 t : Vec Ideal S32x128 .f32) (ix2 r d) = sinAt (pos r) d.val := by
  have hi := idx4 t
  unfold iblk
  rw [View.read_apply]
  refine Eq.trans ?_ (V_sin m c r d)
  show V m c main_v23 _ = V m c main_v23 _
  congr 1
  funext a
  apply Fin.ext
  match a with
  | ⟨0, _⟩ => show win0_4.index t 0 * 32 + 1 * r.val = r.val; rw [hi.1]; all_goals omega
  | ⟨1, _⟩ => show win0_4.index t 1 * 128 + 1 * d.val = d.val; rw [hi.2]; all_goals omega

theorem blk_proj (c : Dev nD) (t : Fin cfg0.N) (r : Fin 32) (n : Fin 3072) :
    bproj (iblk m c 0 t) (iblk m c 1 t) (iblk m c 2 t) r n = proj m c r ⟨n.val, by have := n.isLt; omega⟩ := by
  unfold bproj proj vecMat
  refine Finset.sum_congr rfl fun k _ => ?_
  exact congrArg₂ (· * ·) (rms_congr _ _ (fun l => blk0 m c t r l) (fun l => blk1 m c t l) k) (blk2 m c t k n)

/-! ## The result arrays -/

theorem q_apply (c : Dev nD) (r : Fin 32) (j : Fin 1024) :
    ((dats m 0 c).arrAt 5 cfg0.N : Vec Ideal S32x1024 .bf16) (ix2 r j) = turned (fun l => proj m c r ⟨l.val, by have := l.isLt; omega⟩) (pos r) j * qScale := by
  obtain ⟨t⟩ : Nonempty (Fin cfg0.N) := ⟨⟨0, lt_of_lt_of_eq (by decide) N_0.symm⟩⟩
  have e := congrFun ((blocks5 m c t (flush5 t)).trans (flushed5 m c t)) (ix2 r j)
  rw [View.read_apply] at e
  have hi := idx5 t
  have hx : (((cfg0.win 5).blk t).view.emb (ix2 r j) : S32x1024.Idx) = ix2 r j := by
    funext a
    apply Fin.ext
    match a with
    | ⟨0, _⟩ => show win0_5.index t 0 * 32 + 1 * r.val = r.val; rw [hi.1]; omega
    | ⟨1, _⟩ => show win0_5.index t 1 * 1024 + 1 * j.val = j.val; rw [hi.2]; omega
  rw [← hx]
  refine e.trans ?_
  refine (outq_apply _ _ _ _ _ r j).trans ?_
  exact congrArg (· * qScale) (turnBy_congr (fun l => blk_proj m c t r ⟨l.val, by have := l.isLt; omega⟩) (fun d => blk3 m c t r d) (fun d => blk4 m c t r d) j)
theorem k_apply (c : Dev nD) (r : Fin 32) (j : Fin 1024) :
    ((dats m 0 c).arrAt 6 cfg0.N : Vec Ideal S32x1024 .f32) (ix2 r j) = turned (fun l => proj m c r ⟨1024 + l.val, by have := l.isLt; omega⟩) (pos r) j := by
  obtain ⟨t⟩ : Nonempty (Fin cfg0.N) := ⟨⟨0, lt_of_lt_of_eq (by decide) N_0.symm⟩⟩
  have e := congrFun ((blocks6 m c t (flush6 t)).trans (flushed6 m c t)) (ix2 r j)
  rw [View.read_apply] at e
  have hi := idx6 t
  have hx : (((cfg0.win 6).blk t).view.emb (ix2 r j) : S32x1024.Idx) = ix2 r j := by
    funext a
    apply Fin.ext
    match a with
    | ⟨0, _⟩ => show win0_6.index t 0 * 32 + 1 * r.val = r.val; rw [hi.1]; omega
    | ⟨1, _⟩ => show win0_6.index t 1 * 1024 + 1 * j.val = j.val; rw [hi.2]; omega
  rw [← hx]
  refine e.trans ?_
  refine (outk_apply _ _ _ _ _ r j).trans ?_
  exact turnBy_congr (fun l => blk_proj m c t r ⟨1024 + l.val, by have := l.isLt; omega⟩) (fun d => blk3 m c t r d) (fun d => blk4 m c t r d) j
theorem v_apply (c : Dev nD) (r : Fin 32) (j : Fin 1024) :
    ((dats m 0 c).arrAt 7 cfg0.N : Vec Ideal S32x1024 .f32) (ix2 r j) = proj m c r ⟨2048 + j.val, by have := j.isLt; omega⟩ := by
  obtain ⟨t⟩ : Nonempty (Fin cfg0.N) := ⟨⟨0, lt_of_lt_of_eq (by decide) N_0.symm⟩⟩
  have e := congrFun ((blocks7 m c t (flush7 t)).trans (flushed7 m c t)) (ix2 r j)
  rw [View.read_apply] at e
  have hi := idx7 t
  have hx : (((cfg0.win 7).blk t).view.emb (ix2 r j) : S32x1024.Idx) = ix2 r j := by
    funext a
    apply Fin.ext
    match a with
    | ⟨0, _⟩ => show win0_7.index t 0 * 32 + 1 * r.val = r.val; rw [hi.1]; omega
    | ⟨1, _⟩ => show win0_7.index t 1 * 1024 + 1 * j.val = j.val; rw [hi.2]; omega
  rw [← hx]
  refine e.trans ?_
  refine (outv_apply _ _ _ _ _ r j).trans ?_
  exact blk_proj m c t r ⟨2048 + j.val, by have := j.isLt; omega⟩

end Cert.QkvSIdeal.Hand

end
-- ==== Proof.QkvSRefVal.lean ====
module

public import proofs.«01_k».proof.Proof.Gen.QkvSRefIdeal.Read
public import proofs.«01_k».proof.Proof.Common
public import Idealize.ShloMosaic.Lib.Pointwise
public import Idealize.ShloMosaic.Lib.Tactic

@[expose] public section

noncomputable section

namespace Cert.QkvSRefIdeal.Hand

open Cert.QkvSRefIdeal Cert.QkvSRefIdeal.Read Cert.Layer Idealize.ShloMosaic Idealize.ShloMosaic.TcCoe Idealize.SL.Sem

variable (x0 : FVec Ideal S8x4x2048 .f32) (x1 : FVec Ideal S2x2048 .f32) (x2 : FVec Ideal S1x2048x6144 .f32)

abbrev rowLen : EReal := Ideal.ofBits .f32 1157627904#32
abbrev eps : EReal := Ideal.ofBits .f32 897988541#32

abbrev bat (R : Fin 32) : Fin 8 := ⟨R.val % 8, Nat.mod_lt _ (by decide)⟩
abbrev tok (R : Fin 32) : Fin 4 := ⟨R.val / 8, by have := R.isLt; omega⟩
abbrev pos (t : Fin 4) : BitVec 32 := 16384#32 + BitVec.ofNat 32 t.val

/-- The projection of a position of a sequence, at column `n`. -/
theorem proj_apply (b : Fin 8) (t : Fin 4) (n : Fin 6144) : val_main_v19 (F := Ideal) x0 x1 x2 (ix3 b t n)
    = vecMat (rms rowLen eps (fun k => x0 (ix3 b t k)) fun k => x1 (ix2 (0 : Fin 2) k)) (fun k n => x2 (ix3 (0 : Fin 1) k n)) n := by
  pointwise [val_main_v19, val_main_v18, val_main_v17, val_main_v16, val_main_v15, val_main_v4, val_main_v3, val_main_v14, val_main_v13, val_main_v12, val_main_v11, val_main_v10, val_main_cst_1, val_main_v9, val_main_v8, val_main_cst_0, val_main_v7, val_main_v6, val_main_cst, val_main_v5]
  rfl

set_option maxRecDepth 16384 in
theorem angle_q (t : Fin 4) (i : Fin 64) : val_main_v35 (F := Ideal) (ix2 t i) = angle (pos t) i.val := by
  pointwise [val_main_v35, val_main_v34, val_main_v32, val_main_v29, val_main_v27, val_main_v26, val_main_cst_2, val_main_v25, val_main_v24, val_main_v28, val_main_cst_3, val_main_v33, val_main_v31, val_main_v30, val_main_v2, val_main_v0, val_main_v1, val_main_c]
  rfl

set_option maxRecDepth 16384 in
theorem angle_k (t : Fin 4) (i : Fin 64) : val_main_v67 (F := Ideal) (ix2 t i) = angle (pos t) i.val := by
  pointwise [val_main_v67, val_main_v66, val_main_v64, val_main_v61, val_main_v59, val_main_v58, val_main_cst_5, val_main_v57, val_main_v56, val_main_v60, val_main_cst_6, val_main_v65, val_main_v63, val_main_v62, val_main_v2, val_main_v0, val_main_v1, val_main_c]
  rfl

set_option maxRecDepth 16384 in
theorem k_apply (R : Fin 32) (j : Fin 1024) : val_main_v90 (F := Ideal) x0 x1 x2 (ix2 R j)
    = turned (fun l => val_main_v19 (F := Ideal) x0 x1 x2 (ix3 (bat R) (tok R) ⟨1024 + l.val, by have := l.isLt; omega⟩)) (pos (tok R)) j := by
  have hj := j.isLt
  by_cases hd : j.val % 128 < 64
  · rw [turned_halves, if_pos hd]
    pointwise [val_main_v90, val_main_v89, val_main_v86, val_main_v84, val_main_v83, val_main_v82, val_main_v81, val_main_v71, val_main_v70, val_main_v72, val_main_v55, val_main_v21, val_main_v80, val_main_v79, val_main_v69, val_main_v68, val_main_v73, val_main_v78, val_main_v77, val_main_v76, val_main_v75, val_main_v74]
    refine (dif_pos hd).trans ?_
    refine (congrArg₂ (· - ·) (congrArg₂ (· * ·) (congrArg (fun l => val_main_v19 (F := Ideal) x0 x1 x2 (ix3 (bat R) (tok R) l)) (Fin.ext ?_)) (congrArg Ideal.cos (angle_k (tok R) _))) (congrArg₂ (· * ·) (congrArg (fun l => val_main_v19 (F := Ideal) x0 x1 x2 (ix3 (bat R) (tok R) l)) (Fin.ext ?_)) (congrArg Ideal.sin (angle_k (tok R) _))))
    · first | rfl | (dsimp [pairOf]; omega)
    · first | rfl | (dsimp [pairOf]; omega)
  · rw [turned_halves, if_neg hd]
    pointwise [val_main_v90, val_main_v89, val_main_v86, val_main_v84, val_main_v83, val_main_v82, val_main_v81, val_main_v71, val_main_v70, val_main_v72, val_main_v55, val_main_v21, val_main_v80, val_main_v79, val_main_v69, val_main_v68, val_main_v73, val_main_v78, val_main_v77, val_main_v76, val_main_v75, val_main_v74]
    refine (dif_neg hd).trans ?_
    refine (congrArg₂ (· + ·) (congrArg₂ (· * ·) (congrArg (fun l => val_main_v19 (F := Ideal) x0 x1 x2 (ix3 (bat R) (tok R) l)) (Fin.ext ?_)) (congrArg Ideal.cos (angle_k (tok R) _))) (congrArg₂ (· * ·) (congrArg (fun l => val_main_v19 (F := Ideal) x0 x1 x2 (ix3 (bat R) (tok R) l)) (Fin.ext ?_)) (congrArg Ideal.sin (angle_k (tok R) _))))
    · first | rfl | (dsimp [pairOf]; omega)
    · first | rfl | (dsimp [pairOf]; omega)

set_option maxRecDepth 16384 in
theorem q_apply (R : Fin 32) (j : Fin 1024) : val_main_v93 (F := Ideal) x0 x1 x2 (ix2 R j)
    = turned (fun l => val_main_v19 (F := Ideal) x0 x1 x2 (ix3 (bat R) (tok R) ⟨l.val, by have := l.isLt; omega⟩)) (pos (tok R)) j * Ideal.ofBits .f32 1035273459#32 := by
  have hj := j.isLt
  by_cases hd : j.val % 128 < 64
  · rw [turned_halves, if_pos hd]
    pointwise [val_main_v93, val_main_v88, val_main_v87, val_main_v85, val_main_v54, val_main_v53, val_main_cst_4, val_main_v52, val_main_v51, val_main_v50, val_main_v49, val_main_v39, val_main_v38, val_main_v40, val_main_v23, val_main_v20, val_main_v48, val_main_v47, val_main_v37, val_main_v36, val_main_v41, val_main_v46, val_main_v45, val_main_v44, val_main_v43, val_main_v42]
    refine (congrArg (· * _) (dif_pos hd)).trans ?_
    refine congrArg (· * _) (congrArg₂ (· - ·) (congrArg₂ (· * ·) (congrArg (fun l => val_main_v19 (F := Ideal) x0 x1 x2 (ix3 (bat R) (tok R) l)) (Fin.ext ?_)) (congrArg Ideal.cos (angle_q (tok R) _))) (congrArg₂ (· * ·) (congrArg (fun l => val_main_v19 (F := Ideal) x0 x1 x2 (ix3 (bat R) (tok R) l)) (Fin.ext ?_)) (congrArg Ideal.sin (angle_q (tok R) _))))
    · first | rfl | (dsimp [pairOf]; omega)
    · first | rfl | (dsimp [pairOf]; omega)
  · rw [turned_halves, if_neg hd]
    pointwise [val_main_v93, val_main_v88, val_main_v87, val_main_v85, val_main_v54, val_main_v53, val_main_cst_4, val_main_v52, val_main_v51, val_main_v50, val_main_v49, val_main_v39, val_main_v38, val_main_v40, val_main_v23, val_main_v20, val_main_v48, val_main_v47, val_main_v37, val_main_v36, val_main_v41, val_main_v46, val_main_v45, val_main_v44, val_main_v43, val_main_v42]
    refine (congrArg (· * _) (dif_neg hd)).trans ?_
    refine congrArg (· * _) (congrArg₂ (· + ·) (congrArg₂ (· * ·) (congrArg (fun l => val_main_v19 (F := Ideal) x0 x1 x2 (ix3 (bat R) (tok R) l)) (Fin.ext ?_)) (congrArg Ideal.cos (angle_q (tok R) _))) (congrArg₂ (· * ·) (congrArg (fun l => val_main_v19 (F := Ideal) x0 x1 x2 (ix3 (bat R) (tok R) l)) (Fin.ext ?_)) (congrArg Ideal.sin (angle_q (tok R) _))))
    · first | rfl | (dsimp [pairOf]; omega)
    · first | rfl | (dsimp [pairOf]; omega)

set_option maxRecDepth 16384 in
theorem v_apply (R : Fin 32) (j : Fin 1024) : val_main_v92 (F := Ideal) x0 x1 x2 (ix2 R j)
    = val_main_v19 (F := Ideal) x0 x1 x2 (ix3 (bat R) (tok R) ⟨2048 + j.val, by have := j.isLt; omega⟩) := by
  pointwise [val_main_v92, val_main_v91, val_main_v22]

end Cert.QkvSRefIdeal.Hand

end
-- ==== Proof.QkvSClaim.lean ====
module

public import proofs.«01_k».proof.Defs
public import proofs.«01_k».proof.Proof.QkvSVal
public import proofs.«01_k».proof.Proof.QkvSRefVal
public import proofs.«01_k».proof.Proof.Gen.QkvSRefIdeal.Run
public import proofs.«01_k».proof.Proof.Gen.QkvSRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

theorem quiescent_QkvSRefIdeal : quiescent_QkvSRefIdeal := fun m ρ _ =>
  (θ_run Cert.QkvSRefIdeal.defs _ _).mono (fun r h => ⟨fun c => (h c).2.2.2, sem_eq_zero_of_no_sems (by decide) r.2⟩)
    (Cert.QkvSRefIdeal.Value.run (F := Ideal) m ρ)

/-- The new tokens' queries, keys and values are the reference's, once the arguments agree. -/
theorem algebraic_QkvSIdeal_QkvSRefIdeal : algebraic_QkvSIdeal_QkvSRefIdeal := by
  intro m ρ m' ρ' _ hagree
  refine ⟨_, _, _, Cert.QkvSIdeal.Value.run_blocks (F := Ideal) m ρ, ?_⟩
  refine (θ_run Cert.QkvSRefIdeal.defs _ _).mono (fun _ h c => ⟨?_, ?_, ?_, (h c).2.2.2⟩) (Cert.QkvSRefIdeal.Value.run (F := Ideal) m' ρ')
  · rw [(h c).1]
    obtain ⟨e0, e1, e2⟩ := hagree c
    rw [Cert.QkvSRefIdeal.Read.val_main_v93_eq]
    funext i
    obtain ⟨R, j, rfl⟩ : ∃ (R : Fin 32) (j : Fin 1024), i = ix2 R j := ⟨i 0, i 1, eq_ix2 i⟩
    refine (Cert.QkvSRefIdeal.Hand.q_apply _ _ _ R j).trans ?_
    refine Eq.trans ?_ (Cert.QkvSIdeal.Hand.q_apply m c R j).symm
    refine congrArg (· * _) (Cert.Layer.turned_congr (fun l => ?_) _ j)
    rw [e0, e1, e2]
    exact Cert.QkvSRefIdeal.Hand.proj_apply _ _ _ _ _ _
  · rw [(h c).2.1]
    obtain ⟨e0, e1, e2⟩ := hagree c
    rw [Cert.QkvSRefIdeal.Read.val_main_v90_eq]
    funext i
    obtain ⟨R, j, rfl⟩ : ∃ (R : Fin 32) (j : Fin 1024), i = ix2 R j := ⟨i 0, i 1, eq_ix2 i⟩
    refine (Cert.QkvSRefIdeal.Hand.k_apply _ _ _ R j).trans ?_
    refine Eq.trans ?_ (Cert.QkvSIdeal.Hand.k_apply m c R j).symm
    refine Cert.Layer.turned_congr (fun l => ?_) _ j
    rw [e0, e1, e2]
    exact Cert.QkvSRefIdeal.Hand.proj_apply _ _ _ _ _ _
  · rw [(h c).2.2.1]
    obtain ⟨e0, e1, e2⟩ := hagree c
    rw [Cert.QkvSRefIdeal.Read.val_main_v92_eq]
    funext i
    obtain ⟨R, j, rfl⟩ : ∃ (R : Fin 32) (j : Fin 1024), i = ix2 R j := ⟨i 0, i 1, eq_ix2 i⟩
    refine (Cert.QkvSRefIdeal.Hand.v_apply _ _ _ R j).trans ?_
    refine Eq.trans ?_ (Cert.QkvSIdeal.Hand.v_apply m c R j).symm
    rw [e0, e1, e2]
    exact Cert.QkvSRefIdeal.Hand.proj_apply _ _ _ _ _ _

end Cert.Proof

end
-- ==== Proof.Rows.lean ====
module

public import Idealize.ShloMosaic.Lib.Pointwise
public import Idealize.ShloMosaic.Lib.Tactic
public import Idealize.ShloMosaic.Lib.Pipeline.ValueKit
public import proofs.«01_k».proof.Proof.Common

@[expose] public section

noncomputable section

namespace Cert.Layer

open Idealize.ShloMosaic Idealize.ShloMosaic.TcCoe

variable {M N k : ℕ} {e : EltTy}

/-- A row the last store covers reads that store's payload. -/
theorem canon_rows_hit (o : ℕ) (inb : ∀ a, (![o, 0] : Fin 2 → Nat) a + (![k, N] : Fin 2 → Nat) a ≤ (⟨2, ![M, N]⟩ : Shape).size a)
    (w : (⟨2, ![k, N]⟩ : Shape).Idx → Elt Ideal e) (L : List (View.Piece (Elt Ideal) (⟨2, ![M, N]⟩ : Shape) e))
    (R : Fin M) (j : Fin N) (r : Fin k) (h : R.val = o + r.val) :
    View.canon ((⟨Rect.unit (s := (⟨2, ![M, N]⟩ : Shape)) ![o, 0] ![k, N] inb, w⟩ : View.Piece (Elt Ideal) (⟨2, ![M, N]⟩ : Shape) e) :: L) (ix2 R j) = w (ix2 r j) := by
  have hx : (Rect.unit (s := (⟨2, ![M, N]⟩ : Shape)) ![o, 0] ![k, N] inb).emb (ix2 r j : (⟨2, ![k, N]⟩ : Shape).Idx) = ix2 R j := by
    funext a
    apply Fin.ext
    match a with
    | ⟨0, _⟩ => show o + 1 * r.val = R.val; omega
    | ⟨1, _⟩ => show 0 + 1 * j.val = j.val; omega
  exact (congrArg _ hx.symm).trans (View.canon_cons_emb (Rect.unit (s := (⟨2, ![M, N]⟩ : Shape)) ![o, 0] ![k, N] inb) w L (ix2 r j))

/-- A row the last store does not cover reads the earlier stores. -/
theorem canon_rows_miss (o : ℕ) (inb : ∀ a, (![o, 0] : Fin 2 → Nat) a + (![k, N] : Fin 2 → Nat) a ≤ (⟨2, ![M, N]⟩ : Shape).size a)
    (w : (⟨2, ![k, N]⟩ : Shape).Idx → Elt Ideal e) (L : List (View.Piece (Elt Ideal) (⟨2, ![M, N]⟩ : Shape) e))
    (R : Fin M) (j : Fin N) (h : R.val < o ∨ o + k ≤ R.val) :
    View.canon ((⟨Rect.unit (s := (⟨2, ![M, N]⟩ : Shape)) ![o, 0] ![k, N] inb, w⟩ : View.Piece (Elt Ideal) (⟨2, ![M, N]⟩ : Shape) e) :: L) (ix2 R j) = View.canon L (ix2 R j) := by
  refine View.canon_cons_of_not_mem _ L fun hm => ?_
  have h0 := (Rect.mem_set_unit (inb := inb)).mp hm 0
  have a : o ≤ R.val := h0.1
  have b : R.val < o + k := h0.2
  omega

/-- A history stored in rows `o` to `p` and new rows stored from row `p` on read as the history followed by the rows. -/
theorem canon_extend {h n : ℕ} (o p : ℕ) (hp : o + h = p)
    (inb : ∀ a, (![p, 0] : Fin 2 → Nat) a + (![n, N] : Fin 2 → Nat) a ≤ (⟨2, ![M, N]⟩ : Shape).size a)
    (inb' : ∀ a, (![o, 0] : Fin 2 → Nat) a + (![h, N] : Fin 2 → Nat) a ≤ (⟨2, ![M, N]⟩ : Shape).size a)
    (w : (⟨2, ![n, N]⟩ : Shape).Idx → Elt Ideal .f32) (v : (⟨2, ![h, N]⟩ : Shape).Idx → Elt Ideal .f32)
    (L : List (View.Piece (Elt Ideal) (⟨2, ![M, N]⟩ : Shape) .f32)) (R : Fin M) (j : Fin N) (s : ℕ) (hs : R.val = o + s) (hl : s < h + n) :
    View.canon ((⟨Rect.unit (s := (⟨2, ![M, N]⟩ : Shape)) ![p, 0] ![n, N] inb, w⟩ : View.Piece (Elt Ideal) (⟨2, ![M, N]⟩ : Shape) .f32)
        :: (⟨Rect.unit (s := (⟨2, ![M, N]⟩ : Shape)) ![o, 0] ![h, N] inb', v⟩ : View.Piece (Elt Ideal) (⟨2, ![M, N]⟩ : Shape) .f32) :: L) (ix2 R j)
      = extend (fun i : Fin h => v (ix2 i j)) (fun i : Fin n => w (ix2 i j)) s := by
  unfold extend
  by_cases hR : s < h
  · rw [dif_pos hR, canon_rows_miss p inb w _ R j (by omega)]
    exact canon_rows_hit o inb' v L R j ⟨s, hR⟩ hs
  · rw [dif_neg hR, dif_pos (by omega)]
    exact canon_rows_hit p inb w _ R j ⟨s - h, by omega⟩ (by show R.val = p + (s - h); omega)

theorem extend_congr {h n : ℕ} {p p' : Fin h → EReal} {q q' : Fin n → EReal} (hp : ∀ i, p i = p' i) (hq : ∀ i, q i = q' i) (R : ℕ) :
    extend p q R = extend p' q' R := by
  rw [funext hp, funext hq]

/-- A load of `l` rows from row `t` of such a buffer. -/
theorem load_extend {sig : RefSig} {κ : Kind} {sp : Space} {h n l : ℕ} (vw : View sig κ sp (⟨2, ![M, N]⟩ : Shape) .f32) (o p t : ℕ) (hp : o + h = p) (ht : o ≤ t) (htl : t + l ≤ p + n)
    (inb : ∀ a, (![p, 0] : Fin 2 → Nat) a + (![n, N] : Fin 2 → Nat) a ≤ (⟨2, ![M, N]⟩ : Shape).size a)
    (inb' : ∀ a, (![o, 0] : Fin 2 → Nat) a + (![h, N] : Fin 2 → Nat) a ≤ (⟨2, ![M, N]⟩ : Shape).size a)
    (inbL : ∀ a, (![t, 0] : Fin 2 → Nat) a + (![l, N] : Fin 2 → Nat) a ≤ (⟨2, ![M, N]⟩ : Shape).size a)
    (w : (⟨2, ![n, N]⟩ : Shape).Idx → Elt Ideal .f32) (v : (⟨2, ![h, N]⟩ : Shape).Idx → Elt Ideal .f32)
    (L : List (View.Piece (Elt Ideal) (⟨2, ![M, N]⟩ : Shape) .f32)) (r : Fin l) (j : Fin N) :
    vw.readCov ((⟨Rect.unit (s := (⟨2, ![M, N]⟩ : Shape)) ![p, 0] ![n, N] inb, w⟩ : View.Piece (Elt Ideal) (⟨2, ![M, N]⟩ : Shape) .f32)
        :: (⟨Rect.unit (s := (⟨2, ![M, N]⟩ : Shape)) ![o, 0] ![h, N] inb', v⟩ : View.Piece (Elt Ideal) (⟨2, ![M, N]⟩ : Shape) .f32) :: L)
        (Rect.unit (s := (⟨2, ![M, N]⟩ : Shape)) ![t, 0] ![l, N] inbL).toLoadRect (ix2 r j)
      = extend (fun i : Fin h => v (ix2 i j)) (fun i : Fin n => w (ix2 i j)) (t - o + r.val) := by
  have hr := r.isLt
  have hM : t + l ≤ M := inbL 0
  rw [View.readCov_eq_canon']
  refine Eq.trans ?_ (canon_extend o p hp inb inb' w v L ⟨t + r.val, by omega⟩ j (t - o + r.val) (by show t + r.val = o + (t - o + r.val); omega) (by omega))
  refine congrArg _ ?_
  funext a
  apply Fin.ext
  match a with
  | ⟨0, _⟩ => show t + 1 * r.val = t + r.val; omega
  | ⟨1, _⟩ => show 0 + 1 * j.val = j.val; omega

/-- A load of `q` columns from column `b`. -/
theorem ld_cols {l q : ℕ} {e : EltTy} (b : ℕ) (x : (⟨2, ![M, N]⟩ : Shape).Idx → Elt Ideal e)
    (inbL : ∀ a, (![0, b] : Fin 2 → Nat) a + (![l, q] : Fin 2 → Nat) a ≤ (⟨2, ![M, N]⟩ : Shape).size a)
    (r : Fin l) (j : Fin q) (R : Fin M) (c : Fin N) (hR : R.val = r.val) (hc : c.val = b + j.val) :
    View.ld x (Rect.unit (s := (⟨2, ![M, N]⟩ : Shape)) ![0, b] ![l, q] inbL) (ix2 r j) = x (ix2 R c) := by
  show x _ = x _
  refine congrArg _ ?_
  funext a
  apply Fin.ext
  match a with
  | ⟨0, _⟩ => show 0 + 1 * r.val = R.val; omega
  | ⟨1, _⟩ => show b + 1 * j.val = c.val; omega

/-- A load of `l` rows from row `t` and `q` columns from column `b` of such a buffer. -/
theorem load_extend_cols {sig : RefSig} {κ : Kind} {sp : Space} {h n l q : ℕ} (vw : View sig κ sp (⟨2, ![M, N]⟩ : Shape) .f32) (o p t b : ℕ) (hp : o + h = p) (ht : o ≤ t) (htl : t + l ≤ p + n)
    (inb : ∀ a, (![p, 0] : Fin 2 → Nat) a + (![n, N] : Fin 2 → Nat) a ≤ (⟨2, ![M, N]⟩ : Shape).size a)
    (inb' : ∀ a, (![o, 0] : Fin 2 → Nat) a + (![h, N] : Fin 2 → Nat) a ≤ (⟨2, ![M, N]⟩ : Shape).size a)
    (inbL : ∀ a, (![t, b] : Fin 2 → Nat) a + (![l, q] : Fin 2 → Nat) a ≤ (⟨2, ![M, N]⟩ : Shape).size a)
    (w : (⟨2, ![n, N]⟩ : Shape).Idx → Elt Ideal .f32) (v : (⟨2, ![h, N]⟩ : Shape).Idx → Elt Ideal .f32)
    (L : List (View.Piece (Elt Ideal) (⟨2, ![M, N]⟩ : Shape) .f32)) (r : Fin l) (j : Fin q) (c : Fin N) (hc : c.val = b + j.val) :
    vw.readCov ((⟨Rect.unit (s := (⟨2, ![M, N]⟩ : Shape)) ![p, 0] ![n, N] inb, w⟩ : View.Piece (Elt Ideal) (⟨2, ![M, N]⟩ : Shape) .f32)
        :: (⟨Rect.unit (s := (⟨2, ![M, N]⟩ : Shape)) ![o, 0] ![h, N] inb', v⟩ : View.Piece (Elt Ideal) (⟨2, ![M, N]⟩ : Shape) .f32) :: L)
        (Rect.unit (s := (⟨2, ![M, N]⟩ : Shape)) ![t, b] ![l, q] inbL).toLoadRect (ix2 r j)
      = extend (fun i : Fin h => v (ix2 i c)) (fun i : Fin n => w (ix2 i c)) (t - o + r.val) := by
  have hr := r.isLt
  have hM : t + l ≤ M := inbL 0
  rw [View.readCov_eq_canon']
  refine Eq.trans ?_ (canon_extend o p hp inb inb' w v L ⟨t + r.val, by omega⟩ c (t - o + r.val) (by show t + r.val = o + (t - o + r.val); omega) (by omega))
  refine congrArg _ ?_
  funext a
  apply Fin.ext
  match a with
  | ⟨0, _⟩ => show t + 1 * r.val = t + r.val; omega
  | ⟨1, _⟩ => show b + 1 * j.val = c.val; omega

/-- `f 0 + f 1 + … + f n`, added from the left. -/
def trail (f : ℕ → EReal) : ℕ → EReal
  | 0 => f 0
  | n + 1 => trail f n + f (n + 1)

theorem trail_congr {f g : ℕ → EReal} (n : ℕ) (h : ∀ i, i ≤ n → f i = g i) : trail f n = trail g n := by
  induction n with
  | zero => exact h 0 le_rfl
  | succ n ih => exact congrArg₂ (· + ·) (ih fun i hi => h i (by omega)) (h _ le_rfl)

/-- The trailing mean of `n + 1` rows over `d`, minus the row itself, through a matrix. -/
def mixed (f : ℕ → Fin 512 → EReal) (n : ℕ) (d : EReal) (W : Fin 512 → Fin 512 → EReal) (j : Fin 512) : EReal :=
  ∑ k : Fin 512, (Ideal.div (trail (fun i => f i k) n) d - f 0 k) * W k j

theorem mixed_congr {f f' : ℕ → Fin 512 → EReal} {n : ℕ} {d : EReal} {W W' : Fin 512 → Fin 512 → EReal} (j : Fin 512)
    (hf : ∀ i, i ≤ n → ∀ k, f i k = f' i k) (hW : ∀ k, W k j = W' k j) : mixed f n d W j = mixed f' n d W' j := by
  unfold mixed
  refine Finset.sum_congr rfl fun k _ => ?_
  rw [trail_congr n (fun i hi => hf i hi k), hf 0 (Nat.zero_le _) k, hW k]

/-- The window of a group of columns, and its length as a number. -/
abbrev win (g : Fin 4) : ℕ := 2 ^ (g.val + 1)
abbrev den (g : Fin 4) : EReal := FloatOps.sitofp (F := Ideal) .f32 (BitVec.ofNat 32 (win g))

/-- How many rows a window of group `g` holds at position `p`, as a number. -/
abbrev denAt (g : Fin 4) (p : ℕ) : EReal :=
  FloatOps.sitofp (F := Ideal) .f32 (IntOp.minsi (IntOp.addi (BitVec.ofNat 32 p) 1#32) (BitVec.ofNat 32 (win g)))

end Cert.Layer

end
-- ==== Proof.GconvSVal.lean ====
module

public import proofs.«01_k».proof.Proof.Gen.GconvSIdeal.Value
public import proofs.«01_k».proof.Proof.Rows
public import Idealize.ShloMosaic.Lib.Tactic
public import Idealize.ShloMosaic.Lib.Pointwise
public import Idealize.ShloMosaic.Lib.Pipeline.ValueKit

@[expose] public section

noncomputable section

namespace Cert.GconvSIdeal.Hand

open Cert.GconvSIdeal Cert.GconvSIdeal.Gen Cert.GconvSIdeal.Value Cert.Layer Idealize.ShloMosaic Idealize.ShloMosaic.TcCoe Idealize.SL.Sem

abbrev rowLen : EReal := Ideal.ofBits .f32 1157627904#32
abbrev eps : EReal := Ideal.ofBits .f32 897988541#32

/-! ## The block's results -/

section Block

variable (x0 : Vec Ideal S32x2048 .f32) (x1 : Vec Ideal S1x2048 .f32) (x2 : Vec Ideal S1x2048x3072 .bf16) (x3 : Vec Ideal S3x1024 .f32) (x4 : Vec Ideal S1x16x1024 .f32)

/-- Column `n` of the block's row `r`, normed and projected. -/
abbrev bproj (r : Fin 32) (n : Fin 3072) : EReal :=
  vecMat (rms rowLen eps (fun k => x0 (ix2 r k)) fun k => x1 (ix2 0 k)) (fun k n => x2 (ix3 0 k n)) n

/-- Row `r` of what the convolution runs over, and the row `R` of its extension by the history. -/
abbrev bu (r : Fin 32) (j : Fin 1024) : EReal :=
  bproj x0 x1 x2 r ⟨1024 + j.val, by have := j.isLt; omega⟩ * bproj x0 x1 x2 r ⟨2048 + j.val, by have := j.isLt; omega⟩
abbrev bext (R : ℕ) (j : Fin 1024) : EReal := extend (fun i : Fin 16 => x4 (ix3 0 i j)) (fun i : Fin 32 => bu x0 x1 x2 i j) R

theorem pay7_apply (i01) (i02) (i03) (i04) (r : Fin 32) (j : Fin 1024) :
    k0_pay7 (F := Ideal) (View.ld x0 (Rect.unit ![0, 0] ![32, 2048] i01)) (View.ld x1 (Rect.unit ![0, 0] ![1, 2048] i02))
      (View.ld x2 (Rect.unit ![0, 0, 1024] ![1, 2048, 1024] i03)) (View.ld x2 (Rect.unit ![0, 0, 2048] ![1, 2048, 1024] i04)) (ix2 r j) = bu x0 x1 x2 r j := by
  pointwise [k0_pay7, k0_pay6]
  rfl

theorem pay3_apply (u : FVec Ideal S32x1024 .f32) (r : Fin 32) (j : Fin 1024) : k0_pay3 (F := Ideal) u (ix2 r j) = u (ix2 r j) := by
  pointwise [k0_pay3]

theorem pay1_apply (i01) (r : Fin 16) (j : Fin 1024) : k0_pay1 (F := Ideal) (View.ld x4 (Rect.unit ![0, 0, 0] ![1, 16, 1024] i01)) (ix2 r j) = x4 (ix3 0 r j) := by
  pointwise [k0_pay1]

theorem pay4_apply (h : FVec Ideal S32x2048 .bf16) (u : FVec Ideal S32x1024 .f32) (cw : Vec Ideal S3x1024 .f32) (a b : Vec Ideal S32x1024 .f32) (w : Vec Ideal S1x2048x1024 .bf16) (r : Fin 32) (j : Fin 1024) :
    k0_pay4 (F := Ideal) h u cw a b w (ix2 r j) = (∑ k : Fin 2048, h (ix2 r k) * w (ix3 0 k j)) * (u (ix2 r j) * cw (ix2 2 j) + a (ix2 r j) * cw (ix2 0 j) + b (ix2 r j) * cw (ix2 1 j)) := by
  pointwise [k0_pay4]

theorem gate_apply (i01) (i02) (i03) (r : Fin 32) (j : Fin 1024) :
    (∑ k : Fin 2048, k0_pay6 (F := Ideal) (View.ld x0 (Rect.unit ![0, 0] ![32, 2048] i01)) (View.ld x1 (Rect.unit ![0, 0] ![1, 2048] i02)) (ix2 r k)
      * View.ld x2 (Rect.unit ![0, 0, 0] ![1, 2048, 1024] i03) (ix3 0 k j)) = bproj x0 x1 x2 r ⟨j.val, by have := j.isLt; omega⟩ := by
  unfold bproj vecMat
  refine Finset.sum_congr rfl fun k _ => ?_
  pointwise [k0_pay6]
  rfl

end Block

theorem hz : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

theorem pay5_apply (s : Vec Ideal S16x1024 .f32) (r : Fin 16) (j : Fin 1024) : k0_pay5 (F := Ideal) s (ix3 0 r j) = s (ix2 r j) := by
  pointwise [k0_pay5]

theorem out5_apply (c : Dev nD) (i : grid0.Coords) (arg1 : Memref sig .tc .vmem S32x2048 .f32) (harg1 : arg1.IsWhole) (arg2 : Memref sig .tc .vmem S1x2048 .f32) (harg2 : arg2.IsWhole) (arg3 : Memref sig .tc .vmem S1x2048x3072 .bf16) (harg3 : arg3.IsWhole) (arg4 : Memref sig .tc .vmem S3x1024 .f32) (harg4 : arg4.IsWhole) (arg5 : Memref sig .tc .vmem S1x16x1024 .f32) (harg5 : arg5.IsWhole) (arg6 : Memref sig .tc .vmem S32x1024 .bf16) (harg6 : arg6.IsWhole) (arg7 : Memref sig .tc .vmem S1x16x1024 .f32) (harg7 : arg7.IsWhole) (arg8 : Memref sig .tc .vmem S48x1024 .f32) (harg8 : arg8.IsWhole) (hc0 : cond0_0 i) (hc1 : ¬cond0_1 i) (x0 : Vec Ideal S32x2048 .f32) (x1 : Vec Ideal S1x2048 .f32) (x2 : Vec Ideal S1x2048x3072 .bf16) (x3 : Vec Ideal S3x1024 .f32) (x4 : Vec Ideal S1x16x1024 .f32) (r : Fin 32) (j : Fin 1024) :
    out0_A_5 c i arg1 harg1 arg2 harg2 arg3 harg3 arg4 harg4 arg5 harg5 arg6 harg6 arg7 harg7 arg8 harg8 hc0 hc1 x0 x1 x2 x3 x4 (ix2 r j)
      = bproj x0 x1 x2 r ⟨j.val, by have := j.isLt; omega⟩ * (bu x0 x1 x2 r j * x3 (ix2 2 j) + bext x0 x1 x2 x4 r.val j * x3 (ix2 0 j) + bext x0 x1 x2 x4 (8 + r.val) j * x3 (ix2 1 j)) := by
  unfold out0_A_5
  rw [View.read_writes_eq_canon _ _ _ (cover0_A_5 c i arg1 harg1 arg2 harg2 arg3 harg3 arg4 harg4 arg5 harg5 arg6 harg6 arg7 harg7 arg8 harg8 hc0 hc1 x0 x1 x2 x3 x4)]
  unfold kernelRun0_A
  dsimp only
  sl_unfold_words
  simp only [View.readAt_eq_ld, harg1.read_unread, harg2.read_unread, harg3.read_unread, harg4.read_unread, harg5.read_unread]
  rw [View.canon_unit_zero (S := S32x1024) hz, View.ld_unit_zero (S := S3x1024) hz]
  rw [pay4_apply, gate_apply, pay7_apply]
  have l0 := fun t ht htl inbL => load_extend (l := 32) arg8.view 0 16 t rfl ht htl inb_S48x1024_S32x1024_16_0 inb_S48x1024_S16x1024_0_0 inbL (k0_pay3 (k0_pay7 (View.ld x0 (Rect.unit ![0, 0] ![32, 2048] inb_S32x2048_S32x2048_0_0)) (View.ld x1 (Rect.unit ![0, 0] ![1, 2048] inb_S1x2048_S1x2048_0_0)) (View.ld x2 (Rect.unit ![0, 0, 1024] ![1, 2048, 1024] inb_S1x2048x3072_S1x2048x1024_0_0_1024)) (View.ld x2 (Rect.unit ![0, 0, 2048] ![1, 2048, 1024] inb_S1x2048x3072_S1x2048x1024_0_0_2048)))) (k0_pay1 (View.ld x4 (Rect.unit ![0, 0, 0] ![1, 16, 1024] inb_S1x16x1024_S1x16x1024_0_0_0))) []
  have e0 := (l0 0 (by decide) (by decide) inb_S48x1024_S32x1024_0_0 r j).trans (extend_congr (fun i => pay1_apply x4 _ i j) (fun i => (pay3_apply _ i j).trans (pay7_apply x0 x1 x2 _ _ _ _ i j)) _)
  have e1 := (l0 8 (by decide) (by decide) inb_S48x1024_S32x1024_8_0 r j).trans (extend_congr (fun i => pay1_apply x4 _ i j) (fun i => (pay3_apply _ i j).trans (pay7_apply x0 x1 x2 _ _ _ _ i j)) _)
  rw [show 0 - 0 + r.val = r.val by omega] at e0
  rw [show 8 - 0 + r.val = 8 + r.val by omega] at e1
  exact congrArg₂ (fun a b => _ * (_ + a * _ + b * _)) e0 e1

theorem out6_apply (c : Dev nD) (i : grid0.Coords) (arg1 : Memref sig .tc .vmem S32x2048 .f32) (harg1 : arg1.IsWhole) (arg2 : Memref sig .tc .vmem S1x2048 .f32) (harg2 : arg2.IsWhole) (arg3 : Memref sig .tc .vmem S1x2048x3072 .bf16) (harg3 : arg3.IsWhole) (arg4 : Memref sig .tc .vmem S3x1024 .f32) (harg4 : arg4.IsWhole) (arg5 : Memref sig .tc .vmem S1x16x1024 .f32) (harg5 : arg5.IsWhole) (arg6 : Memref sig .tc .vmem S32x1024 .bf16) (harg6 : arg6.IsWhole) (arg7 : Memref sig .tc .vmem S1x16x1024 .f32) (harg7 : arg7.IsWhole) (arg8 : Memref sig .tc .vmem S48x1024 .f32) (harg8 : arg8.IsWhole) (hc0 : cond0_0 i) (hc1 : ¬cond0_1 i) (x0 : Vec Ideal S32x2048 .f32) (x1 : Vec Ideal S1x2048 .f32) (x2 : Vec Ideal S1x2048x3072 .bf16) (x3 : Vec Ideal S3x1024 .f32) (x4 : Vec Ideal S1x16x1024 .f32) (r : Fin 16) (j : Fin 1024) :
    out0_A_6 c i arg1 harg1 arg2 harg2 arg3 harg3 arg4 harg4 arg5 harg5 arg6 harg6 arg7 harg7 arg8 harg8 hc0 hc1 x0 x1 x2 x3 x4 (ix3 0 r j) = bext x0 x1 x2 x4 (32 + r.val) j := by
  unfold out0_A_6
  rw [View.read_writes_eq_canon _ _ _ (cover0_A_6 c i arg1 harg1 arg2 harg2 arg3 harg3 arg4 harg4 arg5 harg5 arg6 harg6 arg7 harg7 arg8 harg8 hc0 hc1 x0 x1 x2 x3 x4)]
  unfold kernelRun0_A
  dsimp only
  sl_unfold_words
  simp only [View.readAt_eq_ld, harg1.read_unread, harg2.read_unread, harg3.read_unread, harg4.read_unread, harg5.read_unread]
  rw [View.canon_unit_zero (S := S1x16x1024) hz3]
  have l0 := fun t ht htl inbL => load_extend (l := 16) arg8.view 0 16 t rfl ht htl inb_S48x1024_S32x1024_16_0 inb_S48x1024_S16x1024_0_0 inbL (k0_pay3 (k0_pay7 (View.ld x0 (Rect.unit ![0, 0] ![32, 2048] inb_S32x2048_S32x2048_0_0)) (View.ld x1 (Rect.unit ![0, 0] ![1, 2048] inb_S1x2048_S1x2048_0_0)) (View.ld x2 (Rect.unit ![0, 0, 1024] ![1, 2048, 1024] inb_S1x2048x3072_S1x2048x1024_0_0_1024)) (View.ld x2 (Rect.unit ![0, 0, 2048] ![1, 2048, 1024] inb_S1x2048x3072_S1x2048x1024_0_0_2048)))) (k0_pay1 (View.ld x4 (Rect.unit ![0, 0, 0] ![1, 16, 1024] inb_S1x16x1024_S1x16x1024_0_0_0))) []
  have e1 := (l0 32 (by decide) (by decide) inb_S48x1024_S16x1024_32_0 r j).trans (extend_congr (fun i => pay1_apply x4 _ i j) (fun i => (pay3_apply _ i j).trans (pay7_apply x0 x1 x2 _ _ _ _ i j)) _)
  exact (pay5_apply _ r j).trans e1

variable (m : (ℓ : Loc nD τ sig) → Buf (Elt Ideal) ℓ)

/-! ## The arguments, entry by entry -/

abbrev X (c : Dev nD) (r : Fin 32) (k : Fin 2048) : EReal :=
  m ((c : Thread nD τ).loc main_arg0) (ix3 (⟨r.val % 8, Nat.mod_lt _ (by decide)⟩ : Fin 8) (⟨r.val / 8, by have := r.isLt; omega⟩ : Fin 4) k)
abbrev G (c : Dev nD) (k : Fin 2048) : EReal := m ((c : Thread nD τ).loc main_arg1) (ix2 (0 : Fin 2) k)
abbrev W (c : Dev nD) (k : Fin 2048) (n : Fin 6144) : EReal := m ((c : Thread nD τ).loc main_arg2) (ix3 (0 : Fin 1) k n)
abbrev CW (c : Dev nD) (i : Fin 3) (j : Fin 1024) : EReal := m ((c : Thread nD τ).loc main_arg3) (ix3 (0 : Fin 1) i j)
abbrev H (c : Dev nD) (i : Fin 16) (j : Fin 1024) : EReal :=
  m ((c : Thread nD τ).loc main_arg4) (ix4 (0 : Fin 1) (⟨i.val % 8, Nat.mod_lt _ (by decide)⟩ : Fin 8) (⟨i.val / 8, by have := i.isLt; omega⟩ : Fin 2) j)

/-- Row `r` normed and projected at column `n`, what the convolution runs over, and its extension by the history. -/
abbrev proj (c : Dev nD) (r : Fin 32) (n : Fin 6144) : EReal := vecMat (rms rowLen eps (X m c r) (G m c)) (W m c) n
abbrev U (c : Dev nD) (r : Fin 32) (j : Fin 1024) : EReal :=
  proj m c r ⟨4096 + j.val, by have := j.isLt; omega⟩ * proj m c r ⟨5120 + j.val, by have := j.isLt; omega⟩
abbrev E (c : Dev nD) (R : ℕ) (j : Fin 1024) : EReal := extend (fun i : Fin 16 => H m c i j) (fun i : Fin 32 => U m c i j) R

/-! ## What the region finds in the arrays the host prepares -/

set_option maxRecDepth 16384 in
theorem flat_apply (y : FVec Ideal S8x4x2048 .f32) (R : Fin 32) (k : Fin 2048) :
    shapeCast S32x2048 (transpose S4x8x2048 [1, 0, 2] y transposes_S8x4x2048_S4x8x2048_1_0_2) shapeCasts_S4x8x2048_S32x2048 (ix2 R k) = y (ix3 (⟨R.val % 8, Nat.mod_lt _ (by decide)⟩ : Fin 8) (⟨R.val / 8, by have := R.isLt; omega⟩ : Fin 4) k) := by
  pointwise

set_option maxRecDepth 16384 in
theorem V_x (c : Dev nD) (R : Fin 32) (k : Fin 2048) : V m c main_v1 (ix2 R k) = X m c R k := by
  have e : V m c main_v1 = shapeCast S32x2048 (transpose S4x8x2048 [1, 0, 2] (m ((c : Thread nD τ).loc main_arg0) : FVec Ideal S8x4x2048 .f32) transposes_S8x4x2048_S4x8x2048_1_0_2) shapeCasts_S4x8x2048_S32x2048 := by
    unfold V
    after_results
    rfl
  rw [e]
  exact flat_apply _ R k

set_option maxRecDepth 16384 in
theorem V_g (c : Dev nD) (k : Fin 2048) : V m c main_v4 (ix2 0 k) = G m c k := by
  have e : V m c main_v4 = shapeCast S1x2048 (shapeCast S2048 (extractStridedSlice S1x2048 ![0, 0] (m ((c : Thread nD τ).loc main_arg1)) slices_S2x2048_S1x2048_0_0) shapeCasts_S1x2048_S2048) shapeCasts_S2048_S1x2048 := by
    unfold V
    after_results
    rfl
  rw [e]
  pointwise

set_option maxRecDepth 16384 in
theorem V_w (c : Dev nD) (k : Fin 2048) (n : Fin 6144) : V m c main_v5 (ix3 0 k n) = W m c k n := by
  have e : V m c main_v5 = (truncf .bf16 (m ((c : Thread nD τ).loc main_arg2) : FVec Ideal S1x2048x6144 .f32) bitsLt_bf16_f32 : FVec Ideal S1x2048x6144 .bf16) := by
    unfold V
    after_results
  rw [e]
  pointwise

set_option maxRecDepth 16384 in
theorem cw_apply (y : FVec Ideal S1x3x1024 .f32) (i : Fin 3) (j : Fin 1024) :
    shapeCast S3x1024 y shapeCasts_S1x3x1024_S3x1024 (ix2 i j) = y (ix3 (0 : Fin 1) i j) := by
  pointwise

theorem V_cw (c : Dev nD) (i : Fin 3) (j : Fin 1024) : V m c main_v6 (ix2 i j) = CW m c i j := by
  have e : V m c main_v6 = shapeCast S3x1024 (m ((c : Thread nD τ).loc main_arg3)) shapeCasts_S1x3x1024_S3x1024 := by
    unfold V
    after_results
    rfl
  rw [e]
  exact cw_apply _ i j

set_option maxRecDepth 16384 in
theorem hist_apply (y : FVec Ideal S1x8x2x1024 .f32) (i : Fin 16) (j : Fin 1024) :
    shapeCast S1x16x1024 (transpose S2x8x1024 [1, 0, 2] (shapeCast S8x2x1024 y shapeCasts_S1x8x2x1024_S8x2x1024) transposes_S8x2x1024_S2x8x1024_1_0_2) shapeCasts_S2x8x1024_S1x16x1024 (ix3 0 i j)
      = y (ix4 (0 : Fin 1) (⟨i.val % 8, Nat.mod_lt _ (by decide)⟩ : Fin 8) (⟨i.val / 8, by have := i.isLt; omega⟩ : Fin 2) j) := by
  pointwise

theorem V_h (c : Dev nD) (i : Fin 16) (j : Fin 1024) : V m c main_v9 (ix3 0 i j) = H m c i j := by
  have e : V m c main_v9 = shapeCast S1x16x1024 (transpose S2x8x1024 [1, 0, 2] (shapeCast S8x2x1024 (m ((c : Thread nD τ).loc main_arg4) : FVec Ideal S1x8x2x1024 .f32) shapeCasts_S1x8x2x1024_S8x2x1024) transposes_S8x2x1024_S2x8x1024_1_0_2) shapeCasts_S2x8x1024_S1x16x1024 := by
    unfold V
    after_results
    rfl
  rw [e]
  exact hist_apply _ i j

/-! ## The blocks -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 1 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem flush5 : ∀ t : Fin cfg0.N, (cfg0.win 5).flush t = true := (by decide +kernel : ∀ t : Fin grid0.N, _)
theorem flush6 : ∀ t : Fin cfg0.N, (cfg0.win 6).flush t = true := (by decide +kernel : ∀ t : Fin grid0.N, _)

theorem blk0 (c : Dev nD) (t : Fin cfg0.N) (r : Fin 32) (k : Fin 2048) : (iblk m c 0 t : Vec Ideal S32x2048 .f32) (ix2 r k) = X m c r k := by
  have hi := idx0 t
  unfold iblk
  rw [View.read_apply]
  refine Eq.trans ?_ (V_x m c r k)
  show V m c main_v1 _ = V m c main_v1 _
  congr 1
  funext a
  apply Fin.ext
  match a with
  | ⟨0, _⟩ => show win0_0.index t 0 * 32 + 1 * r.val = r.val; rw [hi.1]; all_goals omega
  | ⟨1, _⟩ => show win0_0.index t 1 * 2048 + 1 * k.val = k.val; rw [hi.2]; all_goals omega

theorem blk1 (c : Dev nD) (t : Fin cfg0.N) (k : Fin 2048) : (iblk m c 1 t : Vec Ideal S1x2048 .f32) (ix2 0 k) = G m c k := by
  have hi := idx1 t
  unfold iblk
  rw [View.read_apply]
  refine Eq.trans ?_ (V_g m c k)
  show V m c main_v4 _ = V m c main_v4 _
  congr 1
  funext a
  apply Fin.ext
  match a with
  | ⟨0, _⟩ => show win0_1.index t 0 * 1 + 1 * 0 = 0; rw [hi.1]; all_goals omega
  | ⟨1, _⟩ => show win0_1.index t 1 * 2048 + 1 * k.val = k.val; rw [hi.2]; all_goals omega

theorem blk2 (c : Dev nD) (t : Fin cfg0.N) (k : Fin 2048) (n : Fin 3072) : (iblk m c 2 t : Vec Ideal S1x2048x3072 .bf16) (ix3 0 k n) = W m c k ⟨3072 + n.val, by have := n.isLt; omega⟩ := by
  have hi := idx2 t
  unfold iblk
  rw [View.read_apply]
  refine Eq.trans ?_ (V_w m c k ⟨3072 + n.val, by have := n.isLt; omega⟩)
  show V m c main_v5 _ = V m c main_v5 _
  congr 1
  funext a
  apply Fin.ext
  match a with
  | ⟨0, _⟩ => show win0_2.index t 0 * 1 + 1 * 0 = 0; rw [hi.1]; all_goals omega
  | ⟨1, _⟩ => show win0_2.index t 1 * 2048 + 1 * k.val = k.val; rw [hi.2.1]; all_goals omega
  | ⟨2, _⟩ => show win0_2.index t 2 * 3072 + 1 * n.val = 3072 + n.val; rw [hi.2.2]; all_goals omega

theorem blk3 (c : Dev nD) (t : Fin cfg0.N) (i : Fin 3) (j : Fin 1024) : (iblk m c 3 t : Vec Ideal S3x1024 .f32) (ix2 i j) = CW m c i j := by
  have hi := idx3 t
  unfold iblk
  rw [View.read_apply]
  refine Eq.trans ?_ (V_cw m c i j)
  show V m c main_v6 _ = V m c main_v6 _
  congr 1
  funext a
  apply Fin.ext
  match a with
  | ⟨0, _⟩ => show win0_3.index t 0 * 3 + 1 * i.val = i.val; rw [hi.1]; all_goals omega
  | ⟨1, _⟩ => show win0_3.index t 1 * 1024 + 1 * j.val = j.val; rw [hi.2]; all_goals omega

theorem blk4 (c : Dev nD) (t : Fin cfg0.N) (i : Fin 16) (j : Fin 1024) : (iblk m c 4 t : Vec Ideal S1x16x1024 .f32) (ix3 0 i j) = H m c i j := by
  have hi := idx4 t
  unfold iblk
  rw [View.read_apply]
  refine Eq.trans ?_ (V_h m c i j)
  show V m c main_v9 _ = V m c main_v9 _
  congr 1
  funext a
  apply Fin.ext
  match a with
  | ⟨0, _⟩ => show win0_4.index t 0 * 1 + 1 * 0 = 0; rw [hi.1]; all_goals omega
  | ⟨1, _⟩ => show win0_4.index t 1 * 16 + 1 * i.val = i.val; rw [hi.2.1]; all_goals omega
  | ⟨2, _⟩ => show win0_4.index t 2 * 1024 + 1 * j.val = j.val; rw [hi.2.2]; all_goals omega

theorem blk_proj (c : Dev nD) (t : Fin cfg0.N) (r : Fin 32) (n : Fin 3072) :
    bproj (iblk m c 0 t) (iblk m c 1 t) (iblk m c 2 t) r n = proj m c r ⟨3072 + n.val, by have := n.isLt; omega⟩ := by
  unfold bproj proj vecMat
  refine Finset.sum_congr rfl fun k _ => ?_
  exact congrArg₂ (· * ·) (rms_congr _ _ (fun l => blk0 m c t r l) (fun l => blk1 m c t l) k) (blk2 m c t k n)

theorem blk_u (c : Dev nD) (t : Fin cfg0.N) (r : Fin 32) (j : Fin 1024) :
    bu (iblk m c 0 t) (iblk m c 1 t) (iblk m c 2 t) r j = U m c r j :=
  congrArg₂ (· * ·) ((blk_proj m c t r _).trans (congrArg (proj m c r) (Fin.ext (by show 3072 + (1024 + j.val) = 4096 + j.val; omega))))
    ((blk_proj m c t r _).trans (congrArg (proj m c r) (Fin.ext (by show 3072 + (2048 + j.val) = 5120 + j.val; omega))))

theorem blk_ext (c : Dev nD) (t : Fin cfg0.N) (R : ℕ) (j : Fin 1024) :
    bext (iblk m c 0 t) (iblk m c 1 t) (iblk m c 2 t) (iblk m c 4 t) R j = E m c R j :=
  extend_congr (fun i => blk4 m c t i j) (fun i => blk_u m c t i j) R

/-! ## The result arrays -/

theorem y_apply (c : Dev nD) (r : Fin 32) (j : Fin 1024) :
    ((dats m 0 c).arrAt 5 cfg0.N : Vec Ideal S32x1024 .bf16) (ix2 r j)
      = proj m c r ⟨3072 + j.val, by have := j.isLt; omega⟩ * (U m c r j * CW m c 2 j + E m c r.val j * CW m c 0 j + E m c (8 + r.val) j * CW m c 1 j) := by
  obtain ⟨t⟩ : Nonempty (Fin cfg0.N) := ⟨⟨0, lt_of_lt_of_eq (by decide) N_0.symm⟩⟩
  have e := congrFun ((blocks5 m c t (flush5 t)).trans (flushed5_A m c t)) (ix2 r j)
  rw [View.read_apply] at e
  have hi := idx5 t
  have hx : (((cfg0.win 5).blk t).view.emb (ix2 r j) : S32x1024.Idx) = ix2 r j := by
    funext a
    apply Fin.ext
    match a with
    | ⟨0, _⟩ => show win0_5.index t 0 * 32 + 1 * r.val = r.val; rw [hi.1]; omega
    | ⟨1, _⟩ => show win0_5.index t 1 * 1024 + 1 * j.val = j.val; rw [hi.2]; omega
  rw [← hx]
  refine e.trans ?_
  refine (out5_apply _ _ _ _ _ _ _ _ _ _ _ _ _ _ _ _ _ _ _ _ _ _ _ _ _ r j).trans ?_
  rw [blk_proj, blk_u, blk_ext, blk_ext, blk3, blk3, blk3]

theorem state_apply (c : Dev nD) (r : Fin 16) (j : Fin 1024) :
    ((dats m 0 c).arrAt 6 cfg0.N : Vec Ideal S1x16x1024 .f32) (ix3 0 r j) = E m c (32 + r.val) j := by
  obtain ⟨t⟩ : Nonempty (Fin cfg0.N) := ⟨⟨0, lt_of_lt_of_eq (by decide) N_0.symm⟩⟩
  have e := congrFun ((blocks6 m c t (flush6 t)).trans (flushed6_A m c t)) (ix3 0 r j)
  rw [View.read_apply] at e
  have hi := idx6 t
  have hx : (((cfg0.win 6).blk t).view.emb (ix3 0 r j) : S1x16x1024.Idx) = ix3 0 r j := by
    funext a
    apply Fin.ext
    match a with
    | ⟨0, _⟩ => show win0_6.index t 0 * 1 + 1 * 0 = 0; rw [hi.1]
    | ⟨1, _⟩ => show win0_6.index t 1 * 16 + 1 * r.val = r.val; rw [hi.2.1]; omega
    | ⟨2, _⟩ => show win0_6.index t 2 * 1024 + 1 * j.val = j.val; rw [hi.2.2]; omega
  rw [← hx]
  refine e.trans ?_
  refine (out6_apply _ _ _ _ _ _ _ _ _ _ _ _ _ _ _ _ _ _ _ _ _ _ _ _ _ r j).trans ?_
  rw [blk_ext]

end Cert.GconvSIdeal.Hand

end
-- ==== Proof.GconvSRefVal.lean ====
module

public import proofs.«01_k».proof.Proof.Gen.GconvSRefIdeal.Read
public import proofs.«01_k».proof.Proof.Common
public import Idealize.ShloMosaic.Lib.Pointwise
public import Idealize.ShloMosaic.Lib.Tactic

@[expose] public section

noncomputable section

namespace Cert.GconvSRefIdeal.Hand

open Cert.GconvSRefIdeal Cert.GconvSRefIdeal.Read Cert.Layer Idealize.ShloMosaic Idealize.ShloMosaic.TcCoe Idealize.SL.Sem

variable (x0 : FVec Ideal S8x4x2048 .f32) (x1 : FVec Ideal S2x2048 .f32) (x2 : FVec Ideal S1x2048x6144 .f32) (x3 : FVec Ideal S1x3x1024 .f32) (x4 : FVec Ideal S1x8x2x1024 .f32)

abbrev rowLen : EReal := Ideal.ofBits .f32 1157627904#32
abbrev eps : EReal := Ideal.ofBits .f32 897988541#32

/-- The projection of a token of a sequence, at column `n`. -/
theorem proj_apply (b : Fin 8) (t : Fin 4) (n : Fin 6144) : val_main_v18 (F := Ideal) x0 x1 x2 (ix3 b t n)
    = vecMat (rms rowLen eps (fun k => x0 (ix3 b t k)) fun k => x1 (ix2 (0 : Fin 2) k)) (fun k n => x2 (ix3 (0 : Fin 1) k n)) n := by
  pointwise [val_main_v18, val_main_v16, val_main_v14, val_main_v13, val_main_v12, val_main_v1, val_main_v0, val_main_v11, val_main_v10, val_main_v9, val_main_v8, val_main_v7, val_main_cst_1, val_main_v6, val_main_v5, val_main_cst_0, val_main_v4, val_main_v3, val_main_cst, val_main_v2]
  rfl

/-- What the convolution runs over. -/
abbrev u (b : Fin 8) (t : Fin 4) (j : Fin 1024) : EReal :=
  val_main_v18 (F := Ideal) x0 x1 x2 (ix3 b t ⟨4096 + j.val, by have := j.isLt; omega⟩) * val_main_v18 (F := Ideal) x0 x1 x2 (ix3 b t ⟨5120 + j.val, by have := j.isLt; omega⟩)

/-- Row `R` of the history and the new rows, token by token. -/
theorem ext_apply (b : Fin 8) (s : Fin 6) (j : Fin 1024) : val_main_v23 (F := Ideal) x0 x1 x2 x4 (ix3 b s j)
    = extend (fun i : Fin 16 => x4 (ix4 (0 : Fin 1) (⟨i.val % 8, Nat.mod_lt _ (by decide)⟩ : Fin 8) (⟨i.val / 8, by have := i.isLt; omega⟩ : Fin 2) j))
        (fun i : Fin 32 => u x0 x1 x2 (⟨i.val % 8, Nat.mod_lt _ (by decide)⟩ : Fin 8) (⟨i.val / 8, by have := i.isLt; omega⟩ : Fin 4) j) (8 * s.val + b.val) := by
  have hb := b.isLt
  have hs := s.isLt
  unfold extend
  pointwise [val_main_v23, val_main_v22, val_main_v21, val_main_v20, val_main_v15]
  by_cases h : s.val < 2
  · refine (dif_pos h).trans ((dif_pos (show 8 * s.val + b.val < 16 by omega)).trans ?_).symm
    refine congrArg₂ (fun (b : Fin 8) (s : Fin 2) => x4 (ix4 (0 : Fin 1) b s j)) (Fin.ext ?_) (Fin.ext ?_)
    · show (8 * s.val + b.val) % 8 = b.val; omega
    · show (8 * s.val + b.val) / 8 = s.val; omega
  · refine (dif_neg h).trans ((dif_neg (show ¬ 8 * s.val + b.val < 16 by omega)).trans ((dif_pos (show 8 * s.val + b.val - 16 < 32 by omega)).trans ?_)).symm
    refine congrArg₂ (u x0 x1 x2 · · j) (Fin.ext ?_) (Fin.ext ?_)
    · show (8 * s.val + b.val - 16) % 8 = b.val; omega
    · show (8 * s.val + b.val - 16) / 8 = s.val - 2; omega

set_option maxRecDepth 16384 in
theorem y_apply (R : Fin 32) (j : Fin 1024) : val_main_v48 (F := Ideal) x0 x1 x2 x3 x4 (ix2 R j)
    = val_main_v18 (F := Ideal) x0 x1 x2 (ix3 (⟨R.val % 8, Nat.mod_lt _ (by decide)⟩ : Fin 8) (⟨R.val / 8, by have := R.isLt; omega⟩ : Fin 4) ⟨3072 + j.val, by have := j.isLt; omega⟩)
      * (val_main_v23 (F := Ideal) x0 x1 x2 x4 (ix3 (⟨R.val % 8, Nat.mod_lt _ (by decide)⟩ : Fin 8) (⟨R.val / 8, by have := R.isLt; omega⟩ : Fin 6) j) * x3 (ix3 (0 : Fin 1) (0 : Fin 3) j)
        + val_main_v23 (F := Ideal) x0 x1 x2 x4 (ix3 (⟨R.val % 8, Nat.mod_lt _ (by decide)⟩ : Fin 8) (⟨1 + R.val / 8, by have := R.isLt; omega⟩ : Fin 6) j) * x3 (ix3 (0 : Fin 1) (1 : Fin 3) j)
        + val_main_v23 (F := Ideal) x0 x1 x2 x4 (ix3 (⟨R.val % 8, Nat.mod_lt _ (by decide)⟩ : Fin 8) (⟨2 + R.val / 8, by have := R.isLt; omega⟩ : Fin 6) j) * x3 (ix3 (0 : Fin 1) (2 : Fin 3) j)) := by
  pointwise [val_main_v48, val_main_v47, val_main_v46, val_main_v44, val_main_v43, val_main_v42, val_main_v41, val_main_v40, val_main_v39, val_main_v38, val_main_v17, val_main_v37, val_main_v36, val_main_v35, val_main_v34, val_main_v33, val_main_v32, val_main_v31, val_main_v30, val_main_v29, val_main_v28, val_main_v27, val_main_v26, val_main_v25, val_main_v24, val_main_v19]

set_option maxRecDepth 16384 in
theorem state_apply (i : Fin 16) (j : Fin 1024) : val_main_v50 (F := Ideal) x0 x1 x2 x4 (ix3 0 i j)
    = val_main_v23 (F := Ideal) x0 x1 x2 x4 (ix3 (⟨i.val % 8, Nat.mod_lt _ (by decide)⟩ : Fin 8) (⟨4 + i.val / 8, by have := i.isLt; omega⟩ : Fin 6) j) := by
  pointwise [val_main_v50, val_main_v49, val_main_v45]

end Cert.GconvSRefIdeal.Hand

end
-- ==== Proof.GconvSClaim.lean ====
module

public import proofs.«01_k».proof.Defs
public import proofs.«01_k».proof.Proof.GconvSVal
public import proofs.«01_k».proof.Proof.GconvSRefVal
public import proofs.«01_k».proof.Proof.Gen.GconvSRefIdeal.Run
public import proofs.«01_k».proof.Proof.Gen.GconvSRefIdeal.Read
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem quiescent_GconvSRefIdeal : quiescent_GconvSRefIdeal := fun m ρ _ =>
  (θ_run Cert.GconvSRefIdeal.defs _ _).mono (fun r h => ⟨fun c => (h c).2.2, sem_eq_zero_of_no_sems (by decide) r.2⟩)
    (Cert.GconvSRefIdeal.Value.run (F := Ideal) m ρ)

/-- The reference's history and new rows are the kernel's, token-major. -/
theorem ext_GconvS (m : (ℓ : Loc Cert.GconvSIdeal.nD Cert.GconvSIdeal.τ Cert.GconvSIdeal.sig) → Buf (Elt Ideal) ℓ) (c : Dev Cert.GconvSIdeal.nD) (b : Fin 8) (s : Fin 6) (j : Fin 1024) :
    Cert.GconvSRefIdeal.Read.val_main_v23 (F := Ideal) (m ((c : Thread Cert.GconvSIdeal.nD Cert.GconvSIdeal.τ).loc Cert.GconvSIdeal.main_arg0)) (m ((c : Thread Cert.GconvSIdeal.nD Cert.GconvSIdeal.τ).loc Cert.GconvSIdeal.main_arg1)) (m ((c : Thread Cert.GconvSIdeal.nD Cert.GconvSIdeal.τ).loc Cert.GconvSIdeal.main_arg2)) (m ((c : Thread Cert.GconvSIdeal.nD Cert.GconvSIdeal.τ).loc Cert.GconvSIdeal.main_arg4)) (ix3 b s j)
      = Cert.GconvSIdeal.Hand.E m c (8 * s.val + b.val) j :=
  (Cert.GconvSRefIdeal.Hand.ext_apply _ _ _ _ b s j).trans (Cert.Layer.extend_congr (fun _ => rfl)
    (fun i => congrArg₂ (· * ·) (Cert.GconvSRefIdeal.Hand.proj_apply _ _ _ _ _ _) (Cert.GconvSRefIdeal.Hand.proj_apply _ _ _ _ _ _)) _)

/-- The new tokens' gated convolution, and the state it leaves, are the reference's once the arguments agree. -/
theorem algebraic_GconvSIdeal_GconvSRefIdeal : algebraic_GconvSIdeal_GconvSRefIdeal := by
  intro m ρ m' ρ' _ hagree
  refine ⟨_, _, Cert.GconvSIdeal.Value.run_blocks (F := Ideal) m ρ, ?_⟩
  refine (θ_run Cert.GconvSRefIdeal.defs _ _).mono (fun _ h c => ⟨?_, ?_, (h c).2.2⟩) (Cert.GconvSRefIdeal.Value.run (F := Ideal) m' ρ')
  · rw [(h c).1]
    obtain ⟨e0, e1, e2, e3, e4⟩ := hagree c
    rw [Cert.GconvSRefIdeal.Read.val_main_v48_eq]
    funext i
    obtain ⟨R, j, rfl⟩ : ∃ (R : Fin 32) (j : Fin 1024), i = ix2 R j := ⟨i 0, i 1, eq_ix2 i⟩
    have hR := R.isLt
    refine (Cert.GconvSRefIdeal.Hand.y_apply _ _ _ _ _ R j).trans ?_
    refine Eq.trans ?_ (Cert.GconvSIdeal.Hand.y_apply m c R j).symm
    rw [e0, e1, e2, e3, e4]
    refine congrArg₂ (· * ·) (Cert.GconvSRefIdeal.Hand.proj_apply _ _ _ _ _ _) ?_
    refine Eq.trans ?_ (add_rotate _ _ _).symm
    refine congrArg₂ (· + ·) (congrArg₂ (· + ·) (congrArg (· * _) ?_) (congrArg (· * _) ?_)) (congrArg (· * _) ?_)
    · exact (ext_GconvS m c _ _ j).trans (congrArg (Cert.GconvSIdeal.Hand.E m c · j) (by show 8 * (R.val / 8) + R.val % 8 = R.val; omega))
    · exact (ext_GconvS m c _ _ j).trans (congrArg (Cert.GconvSIdeal.Hand.E m c · j) (by show 8 * (1 + R.val / 8) + R.val % 8 = 8 + R.val; omega))
    · refine (ext_GconvS m c _ _ j).trans ((congrArg (Cert.GconvSIdeal.Hand.E m c · j) (by show 8 * (2 + R.val / 8) + R.val % 8 = 16 + R.val; omega)).trans ?_)
      show Cert.Layer.extend _ _ _ = _
      unfold Cert.Layer.extend
      rw [dif_neg (by omega), dif_pos (by omega)]
      exact congrArg (Cert.GconvSIdeal.Hand.U m c · j) (Fin.ext (by show 16 + R.val - 16 = R.val; omega))
  · rw [(h c).2.1]
    obtain ⟨e0, e1, e2, e3, e4⟩ := hagree c
    rw [Cert.GconvSRefIdeal.Read.val_main_v50_eq]
    funext i
    obtain ⟨z, R, j, rfl⟩ : ∃ (z : Fin 1) (R : Fin 16) (j : Fin 1024), i = ix3 z R j := ⟨i 0, i 1, i 2, eq_ix3 i⟩
    obtain rfl : z = 0 := Subsingleton.elim _ _
    have hR := R.isLt
    refine (Cert.GconvSRefIdeal.Hand.state_apply _ _ _ _ R j).trans ?_
    refine Eq.trans ?_ (Cert.GconvSIdeal.Hand.state_apply m c R j).symm
    rw [e0, e1, e2, e4]
    exact (ext_GconvS m c _ _ j).trans (congrArg (Cert.GconvSIdeal.Hand.E m c · j) (by show 8 * (4 + R.val / 8) + R.val % 8 = 32 + R.val; omega))

end Cert.Proof

end
-- ==== Proof.PoolSVal.lean ====
module

public import proofs.«01_k».proof.Proof.Gen.PoolSIdeal.Value
public import proofs.«01_k».proof.Proof.Rows
public import Idealize.ShloMosaic.Lib.Tactic
public import Idealize.ShloMosaic.Lib.Pointwise
public import Idealize.ShloMosaic.Lib.Pipeline.ValueKit

@[expose] public section

noncomputable section

namespace Cert.PoolSIdeal.Hand

open Cert.PoolSIdeal Cert.PoolSIdeal.Gen Cert.PoolSIdeal.Value Cert.Layer Idealize.ShloMosaic Idealize.ShloMosaic.TcCoe Idealize.SL.Sem

abbrev rowLen : EReal := Ideal.ofBits .f32 1157627904#32
abbrev eps : EReal := Ideal.ofBits .f32 897988541#32

/-! ## A group of columns: far enough into the sequences every window is full -/

theorem pos0 : ∀ r : Fin 32, IntOp.minsi (IntOp.addi (k0_pay6 0#32 1#32 0#1 (ix2 r (0 : Fin 1))) 1#32) 2#32 = 2#32 := by
  decide +kernel

theorem group0 (a0 a1 : Vec Ideal S32x512 .f32) (w : Vec Ideal S1x1x512x512 .bf16) (x : Vec Ideal S32x512 .f32) (s : Vec Ideal S1x512 .f32) (r : Fin 32) (j : Fin 512)
    (f : ℕ → Fin 512 → EReal) (W : Fin 512 → Fin 512 → EReal) (xv sv : EReal) (h0 : ∀ k, a0 (ix2 r k) = f 0 k) (h1 : ∀ k, a1 (ix2 r k) = f 1 k)
    (hw : ∀ k, w (ix4 0 0 k j) = W k j) (hx : x (ix2 r j) = xv) (hs : s (ix2 0 j) = sv) :
    k0_pay9 (F := Ideal) (k0_pay7 0#32 1#32 0#1 a0 a1 w) x (k0_pay8 s) (ix2 r j) = xv + mixed f 1 (den 0) W j * sv := by
  pointwise [k0_pay9, k0_pay7, k0_pay8]
  rw [hx, hs, pos0 r]
  simp only [h0, h1, hw]
  rfl

theorem pos1 : ∀ r : Fin 32, IntOp.minsi (IntOp.addi (k0_pay6 0#32 1#32 0#1 (ix2 r (0 : Fin 1))) 1#32) 4#32 = 4#32 := by
  decide +kernel

theorem group1 (a0 a1 a2 a3 : Vec Ideal S32x512 .f32) (w : Vec Ideal S1x1x512x512 .bf16) (x : Vec Ideal S32x512 .f32) (s : Vec Ideal S1x512 .f32) (r : Fin 32) (j : Fin 512)
    (f : ℕ → Fin 512 → EReal) (W : Fin 512 → Fin 512 → EReal) (xv sv : EReal) (h0 : ∀ k, a0 (ix2 r k) = f 0 k) (h1 : ∀ k, a1 (ix2 r k) = f 1 k) (h2 : ∀ k, a2 (ix2 r k) = f 2 k) (h3 : ∀ k, a3 (ix2 r k) = f 3 k)
    (hw : ∀ k, w (ix4 0 0 k j) = W k j) (hx : x (ix2 r j) = xv) (hs : s (ix2 0 j) = sv) :
    k0_pay10 (F := Ideal) (k0_pay6 0#32 1#32 0#1) a0 a1 a2 a3 w x s (ix2 r j) = xv + mixed f 3 (den 1) W j * sv := by
  pointwise [k0_pay10]
  rw [hx, hs, pos1 r]
  simp only [h0, h1, h2, h3, hw]
  rfl

theorem pos2 : ∀ r : Fin 32, IntOp.minsi (IntOp.addi (k0_pay6 0#32 1#32 0#1 (ix2 r (0 : Fin 1))) 1#32) 8#32 = 8#32 := by
  decide +kernel

theorem group2 (a0 a1 a2 a3 a4 a5 a6 a7 : Vec Ideal S32x512 .f32) (w : Vec Ideal S1x1x512x512 .bf16) (x : Vec Ideal S32x512 .f32) (s : Vec Ideal S1x512 .f32) (r : Fin 32) (j : Fin 512)
    (f : ℕ → Fin 512 → EReal) (W : Fin 512 → Fin 512 → EReal) (xv sv : EReal) (h0 : ∀ k, a0 (ix2 r k) = f 0 k) (h1 : ∀ k, a1 (ix2 r k) = f 1 k) (h2 : ∀ k, a2 (ix2 r k) = f 2 k) (h3 : ∀ k, a3 (ix2 r k) = f 3 k) (h4 : ∀ k, a4 (ix2 r k) = f 4 k) (h5 : ∀ k, a5 (ix2 r k) = f 5 k) (h6 : ∀ k, a6 (ix2 r k) = f 6 k) (h7 : ∀ k, a7 (ix2 r k) = f 7 k)
    (hw : ∀ k, w (ix4 0 0 k j) = W k j) (hx : x (ix2 r j) = xv) (hs : s (ix2 0 j) = sv) :
    k0_pay11 (F := Ideal) (k0_pay6 0#32 1#32 0#1) a0 a1 a2 a3 a4 a5 a6 a7 w x s (ix2 r j) = xv + mixed f 7 (den 2) W j * sv := by
  pointwise [k0_pay11]
  rw [hx, hs, pos2 r]
  simp only [h0, h1, h2, h3, h4, h5, h6, h7, hw]
  rfl

theorem pos3 : ∀ r : Fin 32, IntOp.minsi (IntOp.addi (k0_pay6 0#32 1#32 0#1 (ix2 r (0 : Fin 1))) 1#32) 16#32 = 16#32 := by
  decide +kernel

theorem group3 (a0 a1 a2 a3 a4 a5 a6 a7 a8 a9 a10 a11 a12 a13 a14 a15 : Vec Ideal S32x512 .f32) (w : Vec Ideal S1x1x512x512 .bf16) (x : Vec Ideal S32x512 .f32) (s : Vec Ideal S1x512 .f32) (r : Fin 32) (j : Fin 512)
    (f : ℕ → Fin 512 → EReal) (W : Fin 512 → Fin 512 → EReal) (xv sv : EReal) (h0 : ∀ k, a0 (ix2 r k) = f 0 k) (h1 : ∀ k, a1 (ix2 r k) = f 1 k) (h2 : ∀ k, a2 (ix2 r k) = f 2 k) (h3 : ∀ k, a3 (ix2 r k) = f 3 k) (h4 : ∀ k, a4 (ix2 r k) = f 4 k) (h5 : ∀ k, a5 (ix2 r k) = f 5 k) (h6 : ∀ k, a6 (ix2 r k) = f 6 k) (h7 : ∀ k, a7 (ix2 r k) = f 7 k) (h8 : ∀ k, a8 (ix2 r k) = f 8 k) (h9 : ∀ k, a9 (ix2 r k) = f 9 k) (h10 : ∀ k, a10 (ix2 r k) = f 10 k) (h11 : ∀ k, a11 (ix2 r k) = f 11 k) (h12 : ∀ k, a12 (ix2 r k) = f 12 k) (h13 : ∀ k, a13 (ix2 r k) = f 13 k) (h14 : ∀ k, a14 (ix2 r k) = f 14 k) (h15 : ∀ k, a15 (ix2 r k) = f 15 k)
    (hw : ∀ k, w (ix4 0 0 k j) = W k j) (hx : x (ix2 r j) = xv) (hs : s (ix2 0 j) = sv) :
    k0_pay1 (F := Ideal) (k0_pay6 0#32 1#32 0#1) a0 (k0_pay12 a0 a1 a2 a3 a4 a5 a6 a7 a8 a9 a10 a11 a12 a13 a14) a15 w x s (ix2 r j) = xv + mixed f 15 (den 3) W j * sv := by
  pointwise [k0_pay1, k0_pay12]
  rw [hx, hs, pos3 r]
  simp only [h0, h1, h2, h3, h4, h5, h6, h7, h8, h9, h10, h11, h12, h13, h14, h15, hw]
  rfl

/-! ## The block's results -/

section Block

variable (x0 : Vec Ideal S32x2048 .f32) (x1 : Vec Ideal S1x2048 .f32) (x2 : Vec Ideal S1x4x512x512 .bf16) (x3 : Vec Ideal S1x2048 .f32) (x4 : Vec Ideal S1x120x2048 .f32)

/-- Row `r` of the block, normed, and row `R` of the rows after their history. -/
abbrev bh (r : Fin 32) (k : Fin 2048) : EReal := rms rowLen eps (fun k => x0 (ix2 r k)) (fun k => x1 (ix2 0 k)) k
abbrev bext (R : ℕ) (k : Fin 2048) : EReal := extend (fun i : Fin 120 => x4 (ix3 0 i k)) (fun i : Fin 32 => bh x0 x1 i k) R

theorem pay5_apply (i01) (i02) (r : Fin 32) (k : Fin 2048) :
    k0_pay5 (F := Ideal) (View.ld x0 (Rect.unit ![0, 0] ![32, 2048] i01)) (View.ld x1 (Rect.unit ![0, 0] ![1, 2048] i02)) (ix2 r k) = bh x0 x1 r k := by
  pointwise [k0_pay5]
  rfl

theorem pay3_apply (i01) (r : Fin 120) (k : Fin 2048) :
    k0_pay3 (F := Ideal) (View.ld x4 (Rect.unit ![0, 0, 0] ![1, 120, 2048] i01)) (ix2 r k) = x4 (ix3 0 r k) := by
  pointwise [k0_pay3]

end Block

theorem pay2_apply (s : Vec Ideal S120x2048 .f32) (r : Fin 120) (k : Fin 2048) : k0_pay2 (F := Ideal) s (ix3 0 r k) = s (ix2 r k) := by
  pointwise [k0_pay2]

theorem hz3 : (![0, 0, 0] : Fin 3 → Nat) = fun _ => 0 := by
  funext a; match a with | ⟨0, _⟩ => rfl | ⟨1, _⟩ => rfl | ⟨2, _⟩ => rfl

theorem out5_apply (c : Dev nD) (i : grid0.Coords) (arg1 : Memref sig .tc .vmem S32x2048 .f32) (harg1 : arg1.IsWhole) (arg2 : Memref sig .tc .vmem S1x2048 .f32) (harg2 : arg2.IsWhole) (arg3 : Memref sig .tc .vmem S1x4x512x512 .bf16) (harg3 : arg3.IsWhole) (arg4 : Memref sig .tc .vmem S1x2048 .f32) (harg4 : arg4.IsWhole) (arg5 : Memref sig .tc .vmem S1x120x2048 .f32) (harg5 : arg5.IsWhole) (arg6 : Memref sig .tc .vmem S32x2048 .f32) (harg6 : arg6.IsWhole) (arg7 : Memref sig .tc .vmem S1x120x2048 .f32) (harg7 : arg7.IsWhole) (arg8 : Memref sig .tc .vmem S152x2048 .f32) (harg8 : arg8.IsWhole) (arg9 : Memref sig .tc .vmem S4x32x32 .bf16) (harg9 : arg9.IsWhole) (hc0 : cond0_0 i) (hc1 : ¬cond0_1 i) (x0 : Vec Ideal S32x2048 .f32) (x1 : Vec Ideal S1x2048 .f32) (x2 : Vec Ideal S1x4x512x512 .bf16) (x3 : Vec Ideal S1x2048 .f32) (x4 : Vec Ideal S1x120x2048 .f32) (g : Fin 4) (r : Fin 32) (j : Fin 512) :
    out0_A_5 c i arg1 harg1 arg2 harg2 arg3 harg3 arg4 harg4 arg5 harg5 arg6 harg6 arg7 harg7 arg8 harg8 arg9 harg9 hc0 hc1 x0 x1 x2 x3 x4 (ix2 r (⟨512 * g.val + j.val, by omega⟩ : Fin 2048))
      = x0 (ix2 r (⟨512 * g.val + j.val, by omega⟩ : Fin 2048))
        + mixed (fun i k => bext x0 x1 x4 (120 + r.val - 8 * i) ⟨512 * g.val + k.val, by have := k.isLt; omega⟩) (win g - 1) (den g) (fun k j => x2 (ix4 0 g k j)) j
          * x3 (ix2 0 (⟨512 * g.val + j.val, by omega⟩ : Fin 2048)) := by
  have hi0 : (i 0).val = 0 := by have := (i 0).isLt; exact Nat.lt_one_iff.mp this
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  simp only [View.readAt_eq_ld, harg1.read_unread, harg2.read_unread, harg3.read_unread, harg4.read_unread, harg5.read_unread]
  rw [hi0]
  have hE := fun (t b : ℕ) (inbL) (r : Fin 32) (k : Fin 512) (cc : Fin 2048) (ht : t + 32 ≤ 152) (hc : cc.val = b + k.val) =>
    (load_extend_cols (l := 32) (q := 512) arg8.view 0 120 t b rfl (Nat.zero_le _) ht inb_S152x2048_S32x2048_120_0 inb_S152x2048_S120x2048_0_0 inbL
      (k0_pay5 (View.ld x0 (Rect.unit ![0, 0] ![32, 2048] inb_S32x2048_S32x2048_0_0)) (View.ld x1 (Rect.unit ![0, 0] ![1, 2048] inb_S1x2048_S1x2048_0_0)))
      (k0_pay3 (View.ld x4 (Rect.unit ![0, 0, 0] ![1, 120, 2048] inb_S1x120x2048_S1x120x2048_0_0_0))) [] r k cc hc).trans
      (extend_congr (fun i => pay3_apply x4 _ i cc) (fun i => pay5_apply x0 x1 _ _ i cc) _)
  have hF := fun (t b n : ℕ) (inbL) (hn : t + 8 * n = 120) (k : Fin 512) (cc : Fin 2048) (hc : cc.val = b + k.val) =>
    (hE t b inbL r k cc (by omega) hc).trans (congrArg (bext x0 x1 x4 · cc) (by omega : t + r.val = 120 + r.val - 8 * n))
  have hg := g.isLt
  have hj := j.isLt
  canon_tiles x h
  all_goals
    have e0 : r.val = (x 0).val := h0
    have l1 : (x 1).val < 512 := x1_lt
  · have e1 : 512 * g.val + j.val = 1536 + (x 1).val := h1
    have hgv : g.val = 3 := by omega
    have hb : (x 1).val = j.val := by omega
    obtain rfl : g = 3 := Fin.ext hgv
    obtain rfl : x = ix2 r j := by
      funext a
      apply Fin.ext
      match a with
      | ⟨0, _⟩ => exact e0.symm
      | ⟨1, _⟩ => exact hb
    refine group3 _ _ _ _ _ _ _ _ _ _ _ _ _ _ _ _ _ _ _ r j (fun i k => bext x0 x1 x4 (120 + r.val - 8 * i) ⟨512 * 3 + k.val, by have := k.isLt; omega⟩) (fun k j => x2 (ix4 0 3 k j)) _ _ (fun k => hF 120 1536 0 _ rfl k _ (by rfl)) (fun k => hF 112 1536 1 _ rfl k _ (by rfl)) (fun k => hF 104 1536 2 _ rfl k _ (by rfl)) (fun k => hF 96 1536 3 _ rfl k _ (by rfl)) (fun k => hF 88 1536 4 _ rfl k _ (by rfl)) (fun k => hF 80 1536 5 _ rfl k _ (by rfl)) (fun k => hF 72 1536 6 _ rfl k _ (by rfl)) (fun k => hF 64 1536 7 _ rfl k _ (by rfl)) (fun k => hF 56 1536 8 _ rfl k _ (by rfl)) (fun k => hF 48 1536 9 _ rfl k _ (by rfl)) (fun k => hF 40 1536 10 _ rfl k _ (by rfl)) (fun k => hF 32 1536 11 _ rfl k _ (by rfl)) (fun k => hF 24 1536 12 _ rfl k _ (by rfl)) (fun k => hF 16 1536 13 _ rfl k _ (by rfl)) (fun k => hF 8 1536 14 _ rfl k _ (by rfl)) (fun k => hF 0 1536 15 _ rfl k _ (by rfl)) ?_ ?_ ?_
    · intro k
      show x2 _ = x2 _
      refine congrArg _ ?_
      funext a
      apply Fin.ext
      match a with
      | ⟨0, _⟩ => rfl
      | ⟨1, _⟩ => rfl
      | ⟨2, _⟩ => show 0 + 1 * k.val = k.val; omega
      | ⟨3, _⟩ => show 0 + 1 * j.val = j.val; omega
    · exact ld_cols 1536 x0 _ r j r _ rfl (by show 512 * 3 + j.val = 1536 + j.val; omega)
    · exact ld_cols 1536 x3 _ 0 j 0 _ rfl (by show 512 * 3 + j.val = 1536 + j.val; omega)
  · have e1 : 512 * g.val + j.val = 1024 + (x 1).val := h1
    have hgv : g.val = 2 := by omega
    have hb : (x 1).val = j.val := by omega
    obtain rfl : g = 2 := Fin.ext hgv
    obtain rfl : x = ix2 r j := by
      funext a
      apply Fin.ext
      match a with
      | ⟨0, _⟩ => exact e0.symm
      | ⟨1, _⟩ => exact hb
    refine group2 _ _ _ _ _ _ _ _ _ _ _ r j (fun i k => bext x0 x1 x4 (120 + r.val - 8 * i) ⟨512 * 2 + k.val, by have := k.isLt; omega⟩) (fun k j => x2 (ix4 0 2 k j)) _ _ (fun k => hF 120 1024 0 _ rfl k _ (by rfl)) (fun k => hF 112 1024 1 _ rfl k _ (by rfl)) (fun k => hF 104 1024 2 _ rfl k _ (by rfl)) (fun k => hF 96 1024 3 _ rfl k _ (by rfl)) (fun k => hF 88 1024 4 _ rfl k _ (by rfl)) (fun k => hF 80 1024 5 _ rfl k _ (by rfl)) (fun k => hF 72 1024 6 _ rfl k _ (by rfl)) (fun k => hF 64 1024 7 _ rfl k _ (by rfl)) ?_ ?_ ?_
    · intro k
      show x2 _ = x2 _
      refine congrArg _ ?_
      funext a
      apply Fin.ext
      match a with
      | ⟨0, _⟩ => rfl
      | ⟨1, _⟩ => rfl
      | ⟨2, _⟩ => show 0 + 1 * k.val = k.val; omega
      | ⟨3, _⟩ => show 0 + 1 * j.val = j.val; omega
    · exact ld_cols 1024 x0 _ r j r _ rfl (by show 512 * 2 + j.val = 1024 + j.val; omega)
    · exact ld_cols 1024 x3 _ 0 j 0 _ rfl (by show 512 * 2 + j.val = 1024 + j.val; omega)
  · have e1 : 512 * g.val + j.val = 512 + (x 1).val := h1
    have hgv : g.val = 1 := by omega
    have hb : (x 1).val = j.val := by omega
    obtain rfl : g = 1 := Fin.ext hgv
    obtain rfl : x = ix2 r j := by
      funext a
      apply Fin.ext
      match a with
      | ⟨0, _⟩ => exact e0.symm
      | ⟨1, _⟩ => exact hb
    refine group1 _ _ _ _ _ _ _ r j (fun i k => bext x0 x1 x4 (120 + r.val - 8 * i) ⟨512 * 1 + k.val, by have := k.isLt; omega⟩) (fun k j => x2 (ix4 0 1 k j)) _ _ (fun k => hF 120 512 0 _ rfl k _ (by rfl)) (fun k => hF 112 512 1 _ rfl k _ (by rfl)) (fun k => hF 104 512 2 _ rfl k _ (by rfl)) (fun k => hF 96 512 3 _ rfl k _ (by rfl)) ?_ ?_ ?_
    · intro k
      show x2 _ = x2 _
      refine congrArg _ ?_
      funext a
      apply Fin.ext
      match a with
      | ⟨0, _⟩ => rfl
      | ⟨1, _⟩ => rfl
      | ⟨2, _⟩ => show 0 + 1 * k.val = k.val; omega
      | ⟨3, _⟩ => show 0 + 1 * j.val = j.val; omega
    · exact ld_cols 512 x0 _ r j r _ rfl (by show 512 * 1 + j.val = 512 + j.val; omega)
    · exact ld_cols 512 x3 _ 0 j 0 _ rfl (by show 512 * 1 + j.val = 512 + j.val; omega)
  · have e1 : 512 * g.val + j.val = (x 1).val := h1
    have hgv : g.val = 0 := by omega
    have hb : (x 1).val = j.val := by omega
    obtain rfl : g = 0 := Fin.ext hgv
    obtain rfl : x = ix2 r j := by
      funext a
      apply Fin.ext
      match a with
      | ⟨0, _⟩ => exact e0.symm
      | ⟨1, _⟩ => exact hb
    refine group0 _ _ _ _ _ r j (fun i k => bext x0 x1 x4 (120 + r.val - 8 * i) ⟨512 * 0 + k.val, by have := k.isLt; omega⟩) (fun k j => x2 (ix4 0 0 k j)) _ _ (fun k => hF 120 0 0 _ rfl k _ (by rfl)) (fun k => hF 112 0 1 _ rfl k _ (by rfl)) ?_ ?_ ?_
    · intro k
      show x2 _ = x2 _
      refine congrArg _ ?_
      funext a
      apply Fin.ext
      match a with
      | ⟨0, _⟩ => rfl
      | ⟨1, _⟩ => rfl
      | ⟨2, _⟩ => show 0 + 1 * k.val = k.val; omega
      | ⟨3, _⟩ => show 0 + 1 * j.val = j.val; omega
    · exact ld_cols 0 x0 _ r j r _ rfl (by show 512 * 0 + j.val = 0 + j.val; omega)
    · exact ld_cols 0 x3 _ 0 j 0 _ rfl (by show 512 * 0 + j.val = 0 + j.val; omega)

theorem out6_apply (c : Dev nD) (i : grid0.Coords) (arg1 : Memref sig .tc .vmem S32x2048 .f32) (harg1 : arg1.IsWhole) (arg2 : Memref sig .tc .vmem S1x2048 .f32) (harg2 : arg2.IsWhole) (arg3 : Memref sig .tc .vmem S1x4x512x512 .bf16) (harg3 : arg3.IsWhole) (arg4 : Memref sig .tc .vmem S1x2048 .f32) (harg4 : arg4.IsWhole) (arg5 : Memref sig .tc .vmem S1x120x2048 .f32) (harg5 : arg5.IsWhole) (arg6 : Memref sig .tc .vmem S32x2048 .f32) (harg6 : arg6.IsWhole) (arg7 : Memref sig .tc .vmem S1x120x2048 .f32) (harg7 : arg7.IsWhole) (arg8 : Memref sig .tc .vmem S152x2048 .f32) (harg8 : arg8.IsWhole) (arg9 : Memref sig .tc .vmem S4x32x32 .bf16) (harg9 : arg9.IsWhole) (hc0 : cond0_0 i) (hc1 : ¬cond0_1 i) (x0 : Vec Ideal S32x2048 .f32) (x1 : Vec Ideal S1x2048 .f32) (x2 : Vec Ideal S1x4x512x512 .bf16) (x3 : Vec Ideal S1x2048 .f32) (x4 : Vec Ideal S1x120x2048 .f32) (r : Fin 120) (k : Fin 2048) :
    out0_A_6 c i arg1 harg1 arg2 harg2 arg3 harg3 arg4 harg4 arg5 harg5 arg6 harg6 arg7 harg7 arg8 harg8 arg9 harg9 hc0 hc1 x0 x1 x2 x3 x4 (ix3 0 r k) = bext x0 x1 x4 (32 + r.val) k := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  simp only [View.readAt_eq_ld, harg1.read_unread, harg2.read_unread, harg3.read_unread, harg4.read_unread, harg5.read_unread]
  rw [View.canon_unit_zero (S := S1x120x2048) hz3]
  refine (pay2_apply _ r k).trans ?_
  exact (load_extend (l := 120) arg8.view 0 120 32 rfl (Nat.zero_le _) (by decide) inb_S152x2048_S32x2048_120_0 inb_S152x2048_S120x2048_0_0 inb_S152x2048_S120x2048_32_0 _ _ [] r k).trans
    (extend_congr (fun i => pay3_apply x4 _ i k) (fun i => pay5_apply x0 x1 _ _ i k) _)

variable (m : (ℓ : Loc nD τ sig) → Buf (Elt Ideal) ℓ)

/-! ## The arguments, entry by entry -/

abbrev X (c : Dev nD) (r : Fin 32) (k : Fin 2048) : EReal := m ((c : Thread nD τ).loc main_arg0) (ix2 r k)
abbrev G (c : Dev nD) (k : Fin 2048) : EReal := m ((c : Thread nD τ).loc main_arg1) (ix2 (1 : Fin 2) k)
abbrev W (c : Dev nD) (g : Fin 4) (k j : Fin 512) : EReal := m ((c : Thread nD τ).loc main_arg2) (ix4 (0 : Fin 1) g k j)
abbrev PS (c : Dev nD) (k : Fin 2048) : EReal := m ((c : Thread nD τ).loc main_arg3) (ix2 (0 : Fin 1) k)
abbrev H (c : Dev nD) (i : Fin 120) (j : Fin 2048) : EReal :=
  m ((c : Thread nD τ).loc main_arg4) (ix4 (0 : Fin 1) (⟨i.val % 8, Nat.mod_lt _ (by decide)⟩ : Fin 8) (⟨i.val / 8, by have := i.isLt; omega⟩ : Fin 15) j)

/-- The rows normed, and after their history. -/
abbrev N (c : Dev nD) (r : Fin 32) (k : Fin 2048) : EReal := rms rowLen eps (X m c r) (G m c) k
abbrev E (c : Dev nD) (R : ℕ) (k : Fin 2048) : EReal := extend (fun i : Fin 120 => H m c i k) (fun i : Fin 32 => N m c i k) R

/-! ## What the region finds in the arrays the host prepares -/

set_option maxRecDepth 16384 in
theorem V_x (c : Dev nD) (r : Fin 32) (k : Fin 2048) : V m c main_arg0 (ix2 r k) = X m c r k := by
  have e : V m c main_arg0 = m ((c : Thread nD τ).loc main_arg0) := by
    unfold V
    after_results
  rw [e]

set_option maxRecDepth 16384 in
theorem row_apply (y : FVec Ideal S2x2048 .f32) (k : Fin 2048) :
    shapeCast S1x2048 (shapeCast S2048 (extractStridedSlice S1x2048 ![1, 0] y slices_S2x2048_S1x2048_1_0) shapeCasts_S1x2048_S2048) shapeCasts_S2048_S1x2048 (ix2 0 k) = y (ix2 (1 : Fin 2) k) := by
  pointwise

set_option maxRecDepth 16384 in
theorem V_g (c : Dev nD) (k : Fin 2048) : V m c main_v2 (ix2 0 k) = G m c k := by
  have e : V m c main_v2 = shapeCast S1x2048 (shapeCast S2048 (extractStridedSlice S1x2048 ![1, 0] (m ((c : Thread nD τ).loc main_arg1)) slices_S2x2048_S1x2048_1_0) shapeCasts_S1x2048_S2048) shapeCasts_S2048_S1x2048 := by
    unfold V
    after_results
    rfl
  rw [e]
  exact row_apply _ k

set_option maxRecDepth 16384 in
theorem V_w (c : Dev nD) (g : Fin 4) (k j : Fin 512) : V m c main_v3 (ix4 0 g k j) = W m c g k j := by
  have e : V m c main_v3 = (truncf .bf16 (m ((c : Thread nD τ).loc main_arg2) : FVec Ideal S1x4x512x512 .f32) bitsLt_bf16_f32 : FVec Ideal S1x4x512x512 .bf16) := by
    unfold V
    after_results
  rw [e]
  pointwise

set_option maxRecDepth 16384 in
theorem scale_apply (y : FVec Ideal S1x2048 .f32) (k : Fin 2048) :
    shapeCast S1x2048 (shapeCast S2048 y shapeCasts_S1x2048_S2048) shapeCasts_S2048_S1x2048 (ix2 0 k) = y (ix2 0 k) := by
  pointwise

set_option maxRecDepth 16384 in
theorem V_s (c : Dev nD) (k : Fin 2048) : V m c main_v5 (ix2 0 k) = PS m c k := by
  have e : V m c main_v5 = shapeCast S1x2048 (shapeCast S2048 (m ((c : Thread nD τ).loc main_arg3)) shapeCasts_S1x2048_S2048) shapeCasts_S2048_S1x2048 := by
    unfold V
    after_results
    rfl
  rw [e]
  exact scale_apply _ k

set_option maxRecDepth 16384 in
theorem hist_apply (y : FVec Ideal S1x8x15x2048 .f32) (i : Fin 120) (j : Fin 2048) :
    shapeCast S1x120x2048 (transpose S15x8x2048 [1, 0, 2] (shapeCast S8x15x2048 y shapeCasts_S1x8x15x2048_S8x15x2048) transposes_S8x15x2048_S15x8x2048_1_0_2) shapeCasts_S15x8x2048_S1x120x2048 (ix3 0 i j)
      = y (ix4 (0 : Fin 1) (⟨i.val % 8, Nat.mod_lt _ (by decide)⟩ : Fin 8) (⟨i.val / 8, by have := i.isLt; omega⟩ : Fin 15) j) := by
  pointwise

set_option maxRecDepth 16384 in
theorem V_h (c : Dev nD) (i : Fin 120) (j : Fin 2048) : V m c main_v8 (ix3 0 i j) = H m c i j := by
  have e : V m c main_v8 = shapeCast S1x120x2048 (transpose S15x8x2048 [1, 0, 2] (shapeCast S8x15x2048 (m ((c : Thread nD τ).loc main_arg4) : FVec Ideal S1x8x15x2048 .f32) shapeCasts_S1x8x15x2048_S8x15x2048) transposes_S8x15x2048_S15x8x2048_1_0_2) shapeCasts_S15x8x2048_S1x120x2048 := by
    unfold V
    after_results
    rfl
  rw [e]
  exact hist_apply _ i j

/-! ## The blocks -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem flush5 : ∀ t : Fin cfg0.N, (cfg0.win 5).flush t = true := (by decide +kernel : ∀ t : Fin grid0.N, _)
theorem flush6 : ∀ t : Fin cfg0.N, (cfg0.win 6).flush t = true := (by decide +kernel : ∀ t : Fin grid0.N, _)

theorem blk0 (c : Dev nD) (t : Fin cfg0.N) (r : Fin 32) (k : Fin 2048) : (iblk m c 0 t : Vec Ideal S32x2048 .f32) (ix2 r k) = X m c r k := by
  have hi := idx0 t
  unfold iblk
  rw [View.read_apply]
  refine Eq.trans ?_ (V_x m c r k)
  show V m c main_arg0 _ = V m c main_arg0 _
  congr 1
  funext a
  apply Fin.ext
  match a with
  | ⟨0, _⟩ => show win0_0.index t 0 * 32 + 1 * r.val = r.val; rw [hi.1]; all_goals omega
  | ⟨1, _⟩ => show win0_0.index t 1 * 2048 + 1 * k.val = k.val; rw [hi.2]; all_goals omega

theorem blk1 (c : Dev nD) (t : Fin cfg0.N) (k : Fin 2048) : (iblk m c 1 t : Vec Ideal S1x2048 .f32) (ix2 0 k) = G m c k := by
  have hi := idx1 t
  unfold iblk
  rw [View.read_apply]
  refine Eq.trans ?_ (V_g m c k)
  show V m c main_v2 _ = V m c main_v2 _
  congr 1
  funext a
  apply Fin.ext
  match a with
  | ⟨0, _⟩ => show win0_1.index t 0 * 1 + 1 * 0 = 0; rw [hi.1]; all_goals omega
  | ⟨1, _⟩ => show win0_1.index t 1 * 2048 + 1 * k.val = k.val; rw [hi.2]; all_goals omega

theorem blk2 (c : Dev nD) (t : Fin cfg0.N) (g : Fin 4) (k j : Fin 512) : (iblk m c 2 t : Vec Ideal S1x4x512x512 .bf16) (ix4 0 g k j) = W m c g k j := by
  have hi := idx2 t
  unfold iblk
  rw [View.read_apply]
  refine Eq.trans ?_ (V_w m c g k j)
  show V m c main_v3 _ = V m c main_v3 _
  congr 1
  funext a
  apply Fin.ext
  match a with
  | ⟨0, _⟩ => show win0_2.index t 0 * 1 + 1 * 0 = 0; rw [hi.1]; all_goals omega
  | ⟨1, _⟩ => show win0_2.index t 1 * 4 + 1 * g.val = g.val; rw [hi.2.1]; all_goals omega
  | ⟨2, _⟩ => show win0_2.index t 2 * 512 + 1 * k.val = k.val; rw [hi.2.2.1]; all_goals omega
  | ⟨3, _⟩ => show win0_2.index t 3 * 512 + 1 * j.val = j.val; rw [hi.2.2.2]; all_goals omega

theorem blk3 (c : Dev nD) (t : Fin cfg0.N) (k : Fin 2048) : (iblk m c 3 t : Vec Ideal S1x2048 .f32) (ix2 0 k) = PS m c k := by
  have hi := idx3 t
  unfold iblk
  rw [View.read_apply]
  refine Eq.trans ?_ (V_s m c k)
  show V m c main_v5 _ = V m c main_v5 _
  congr 1
  funext a
  apply Fin.ext
  match a with
  | ⟨0, _⟩ => show win0_3.index t 0 * 1 + 1 * 0 = 0; rw [hi.1]; all_goals omega
  | ⟨1, _⟩ => show win0_3.index t 1 * 2048 + 1 * k.val = k.val; rw [hi.2]; all_goals omega

theorem blk4 (c : Dev nD) (t : Fin cfg0.N) (i : Fin 120) (j : Fin 2048) : (iblk m c 4 t : Vec Ideal S1x120x2048 .f32) (ix3 0 i j) = H m c i j := by
  have hi := idx4 t
  unfold iblk
  rw [View.read_apply]
  refine Eq.trans ?_ (V_h m c i j)
  show V m c main_v8 _ = V m c main_v8 _
  congr 1
  funext a
  apply Fin.ext
  match a with
  | ⟨0, _⟩ => show win0_4.index t 0 * 1 + 1 * 0 = 0; rw [hi.1]; all_goals omega
  | ⟨1, _⟩ => show win0_4.index t 1 * 120 + 1 * i.val = i.val; rw [hi.2.1]; all_goals omega
  | ⟨2, _⟩ => show win0_4.index t 2 * 2048 + 1 * j.val = j.val; rw [hi.2.2]; all_goals omega

theorem blk_ext (c : Dev nD) (t : Fin cfg0.N) (R : ℕ) (k : Fin 2048) :
    bext (iblk m c 0 t) (iblk m c 1 t) (iblk m c 4 t) R k = E m c R k :=
  extend_congr (fun i => blk4 m c t i k) (fun i => rms_congr _ _ (fun l => blk0 m c t i l) (fun l => blk1 m c t l) k) R

/-! ## The result arrays -/

theorem y_apply (c : Dev nD) (g : Fin 4) (r : Fin 32) (j : Fin 512) :
    ((dats m 0 c).arrAt 5 cfg0.N : Vec Ideal S32x2048 .f32) (ix2 r (⟨512 * g.val + j.val, by omega⟩ : Fin 2048))
      = X m c r ⟨512 * g.val + j.val, by omega⟩
        + mixed (fun i k => E m c (120 + r.val - 8 * i) ⟨512 * g.val + k.val, by have := k.isLt; omega⟩) (win g - 1) (den g) (W m c g) j * PS m c ⟨512 * g.val + j.val, by omega⟩ := by
  obtain ⟨t⟩ : Nonempty (Fin cfg0.N) := ⟨⟨0, lt_of_lt_of_eq (by decide) N_0.symm⟩⟩
  have e := congrFun ((blocks5 m c t (flush5 t)).trans (flushed5_A m c t)) (ix2 r (⟨512 * g.val + j.val, by omega⟩ : Fin 2048))
  rw [View.read_apply] at e
  have hi := idx5 t
  have hx : (((cfg0.win 5).blk t).view.emb (ix2 r (⟨512 * g.val + j.val, by omega⟩ : Fin 2048)) : S32x2048.Idx) = ix2 r (⟨512 * g.val + j.val, by omega⟩ : Fin 2048) := by
    funext a
    apply Fin.ext
    match a with
    | ⟨0, _⟩ => show win0_5.index t 0 * 32 + 1 * r.val = r.val; rw [hi.1]; omega
    | ⟨1, _⟩ => show win0_5.index t 1 * 2048 + 1 * (512 * g.val + j.val) = 512 * g.val + j.val; rw [hi.2]; omega
  rw [← hx]
  refine e.trans ?_
  refine (out5_apply _ _ _ _ _ _ _ _ _ _ _ _ _ _ _ _ _ _ _ _ _ _ _ _ _ _ _ g r j).trans ?_
  rw [blk0, blk3, mixed_congr j (fun i _ k => blk_ext m c t (120 + r.val - 8 * i) ⟨512 * g.val + k.val, by have := k.isLt; omega⟩) (fun k => blk2 m c t g k j)]

theorem state_apply (c : Dev nD) (r : Fin 120) (k : Fin 2048) :
    ((dats m 0 c).arrAt 6 cfg0.N : Vec Ideal S1x120x2048 .f32) (ix3 0 r k) = E m c (32 + r.val) k := by
  obtain ⟨t⟩ : Nonempty (Fin cfg0.N) := ⟨⟨0, lt_of_lt_of_eq (by decide) N_0.symm⟩⟩
  have e := congrFun ((blocks6 m c t (flush6 t)).trans (flushed6_A m c t)) (ix3 0 r k)
  rw [View.read_apply] at e
  have hi := idx6 t
  have hx : (((cfg0.win 6).blk t).view.emb (ix3 0 r k) : S1x120x2048.Idx) = ix3 0 r k := by
    funext a
    apply Fin.ext
    match a with
    | ⟨0, _⟩ => show win0_6.index t 0 * 1 + 1 * 0 = 0; rw [hi.1]
    | ⟨1, _⟩ => show win0_6.index t 1 * 120 + 1 * r.val = r.val; rw [hi.2.1]; omega
    | ⟨2, _⟩ => show win0_6.index t 2 * 2048 + 1 * k.val = k.val; rw [hi.2.2]; omega
  rw [← hx]
  refine e.trans ?_
  refine (out6_apply _ _ _ _ _ _ _ _ _ _ _ _ _ _ _ _ _ _ _ _ _ _ _ _ _ _ _ r k).trans ?_
  rw [blk_ext]

end Cert.PoolSIdeal.Hand

end
-- ==== Proof.PoolSRefVal.lean ====
module

public import proofs.«01_k».proof.Proof.Gen.PoolSRefIdeal.Read
public import proofs.«01_k».proof.Proof.Rows
public import Idealize.ShloMosaic.Lib.Pointwise
public import Idealize.ShloMosaic.Lib.Tactic

@[expose] public section

noncomputable section

namespace Cert.PoolSRefIdeal.Hand

open Cert.PoolSRefIdeal Cert.PoolSRefIdeal.Read Cert.Layer Idealize.ShloMosaic Idealize.ShloMosaic.TcCoe Idealize.SL.Sem

variable (x0 : FVec Ideal S32x2048 .f32) (x1 : FVec Ideal S2x2048 .f32) (x2 : FVec Ideal S1x4x512x512 .f32) (x3 : FVec Ideal S1x2048 .f32) (x4 : FVec Ideal S1x8x15x2048 .f32)

abbrev rowLen : EReal := Ideal.ofBits .f32 1157627904#32
abbrev eps : EReal := Ideal.ofBits .f32 897988541#32

set_option maxRecDepth 16384 in
/-- A token of a sequence, normed. -/
theorem norm_apply (b : Fin 8) (t : Fin 4) (k : Fin 2048) : val_main_v19 (F := Ideal) x0 x1 (ix3 b t k)
    = rms rowLen eps (fun k => x0 (ix2 (⟨t.val * 8 + b.val, by have := t.isLt; have := b.isLt; omega⟩ : Fin 32) k)) (fun k => x1 (ix2 (1 : Fin 2) k)) k := by
  have hb := b.isLt
  have ht := t.isLt
  pointwise [val_main_v19, val_main_v18, val_main_v17, val_main_v6, val_main_v5, val_main_v16, val_main_v15, val_main_v14, val_main_v13, val_main_v12, val_main_cst_1, val_main_v11, val_main_v10, val_main_cst_0, val_main_v9, val_main_v8, val_main_cst, val_main_v7, val_main_v1, val_main_v0]
  rfl

/-- Row `R` of the history and the new rows, token by token. -/
theorem ext_apply (b : Fin 8) (s : Fin 19) (k : Fin 2048) : val_main_v23 (F := Ideal) x0 x1 x4 (ix3 b s k)
    = extend (fun i : Fin 120 => x4 (ix4 (0 : Fin 1) (⟨i.val % 8, Nat.mod_lt _ (by decide)⟩ : Fin 8) (⟨i.val / 8, by have := i.isLt; omega⟩ : Fin 15) k))
        (fun i : Fin 32 => val_main_v19 (F := Ideal) x0 x1 (ix3 (⟨i.val % 8, Nat.mod_lt _ (by decide)⟩ : Fin 8) (⟨i.val / 8, by have := i.isLt; omega⟩ : Fin 4) k)) (8 * s.val + b.val) := by
  have hb := b.isLt
  have hs := s.isLt
  unfold extend
  pointwise [val_main_v23, val_main_v20]
  by_cases h : s.val < 15
  · refine (dif_pos h).trans ((dif_pos (show 8 * s.val + b.val < 120 by omega)).trans ?_).symm
    refine congrArg₂ (fun (b : Fin 8) (s : Fin 15) => x4 (ix4 (0 : Fin 1) b s k)) (Fin.ext ?_) (Fin.ext ?_)
    · show (8 * s.val + b.val) % 8 = b.val; omega
    · show (8 * s.val + b.val) / 8 = s.val; omega
  · refine (dif_neg h).trans ((dif_neg (show ¬ 8 * s.val + b.val < 120 by omega)).trans ((dif_pos (show 8 * s.val + b.val - 120 < 32 by omega)).trans ?_)).symm
    refine congrArg₂ (fun (b : Fin 8) (s : Fin 4) => val_main_v19 (F := Ideal) x0 x1 (ix3 b s k)) (Fin.ext ?_) (Fin.ext ?_)
    · show (8 * s.val + b.val - 120) % 8 = b.val; omega
    · show (8 * s.val + b.val - 120) / 8 = s.val - 15; omega

theorem cur_apply (b : Fin 8) (t : Fin 4) (k : Fin 2048) : val_main_v19 (F := Ideal) x0 x1 (ix3 b t k)
    = val_main_v23 (F := Ideal) x0 x1 x4 (ix3 b (⟨15 + t.val - 0, by have := t.isLt; omega⟩ : Fin 19) k) := by
  have hb := b.isLt
  have ht := t.isLt
  rw [ext_apply]
  unfold extend
  rw [dif_neg (by dsimp only; omega), dif_pos (by dsimp only; omega)]
  refine congrArg₂ (fun (b : Fin 8) (s : Fin 4) => val_main_v19 (F := Ideal) x0 x1 (ix3 b s k)) (Fin.ext ?_) (Fin.ext ?_)
  · show b.val = (8 * (15 + t.val - 0) + b.val - 120) % 8; omega
  · show t.val = (8 * (15 + t.val - 0) + b.val - 120) / 8; omega

theorem pos0 : ∀ t : Fin 4, IntOp.minsi (IntOp.addi (val_main_v4 (F := Ideal) (ix1 t)) 1#32) 2#32 = 2#32 := by
  decide +kernel

theorem group0 (b : Fin 8) (t : Fin 4) (j : Fin 512) : val_main_v39 (F := Ideal) x0 x1 x2 x4 (ix3 b t j)
    = mixed (fun i k => val_main_v23 (F := Ideal) x0 x1 x4 (ix3 b (⟨15 + t.val - i, by have := t.isLt; omega⟩ : Fin 19) (⟨512 * 0 + k.val, by have := k.isLt; omega⟩ : Fin 2048))) 1 (den 0) (fun k j => x2 (ix4 (0 : Fin 1) (0 : Fin 4) k j)) j := by
  have ht := t.isLt
  pointwise [val_main_v39, val_main_v38, val_main_v37, val_main_v21, val_main_v36, val_main_v35, val_main_v34, val_main_v33, val_main_v32, val_main_v31, val_main_v30, val_main_v29, val_main_c_3, val_main_v28, val_main_v27, val_main_c_2, val_main_v26, val_main_v25, val_main_v24]
  unfold mixed
  refine Finset.sum_congr rfl fun k _ => ?_
  rw [pos0 t]
  have hk := k.isLt
  refine congrArg₂ (· * ·) (congrArg₂ (· - ·) (congrArg (Ideal.div · _) ?_) ?_) rfl
  · simp only [trail]
    repeat' refine congrArg₂ (· + ·) ?_ ?_
    all_goals
      refine congrArg₂ (fun q n => val_main_v23 (F := Ideal) x0 x1 x4 (ix3 b q n)) (Fin.ext ?_) (Fin.ext ?_)
      all_goals first | rfl | (dsimp only; omega)
  · refine (cur_apply x0 x1 x4 b t _).trans ?_
    refine congrArg₂ (fun q n => val_main_v23 (F := Ideal) x0 x1 x4 (ix3 b q n)) (Fin.ext ?_) (Fin.ext ?_)
    all_goals first | rfl | (dsimp only; omega)

theorem pos1 : ∀ t : Fin 4, IntOp.minsi (IntOp.addi (val_main_v4 (F := Ideal) (ix1 t)) 1#32) 4#32 = 4#32 := by
  decide +kernel

theorem group1 (b : Fin 8) (t : Fin 4) (j : Fin 512) : val_main_v59 (F := Ideal) x0 x1 x2 x4 (ix3 b t j)
    = mixed (fun i k => val_main_v23 (F := Ideal) x0 x1 x4 (ix3 b (⟨15 + t.val - i, by have := t.isLt; omega⟩ : Fin 19) (⟨512 * 1 + k.val, by have := k.isLt; omega⟩ : Fin 2048))) 3 (den 1) (fun k j => x2 (ix4 (0 : Fin 1) (1 : Fin 4) k j)) j := by
  have ht := t.isLt
  pointwise [val_main_v59, val_main_v58, val_main_v57, val_main_v21, val_main_v56, val_main_v55, val_main_v54, val_main_v53, val_main_v52, val_main_v51, val_main_v50, val_main_v49, val_main_c_5, val_main_v48, val_main_v47, val_main_c_4, val_main_v46, val_main_v45, val_main_v44, val_main_v43, val_main_v42, val_main_v41, val_main_v40]
  unfold mixed
  refine Finset.sum_congr rfl fun k _ => ?_
  rw [pos1 t]
  have hk := k.isLt
  refine congrArg₂ (· * ·) (congrArg₂ (· - ·) (congrArg (Ideal.div · _) ?_) ?_) rfl
  · simp only [trail]
    repeat' refine congrArg₂ (· + ·) ?_ ?_
    all_goals
      refine congrArg₂ (fun q n => val_main_v23 (F := Ideal) x0 x1 x4 (ix3 b q n)) (Fin.ext ?_) (Fin.ext ?_)
      all_goals first | rfl | (dsimp only; omega)
  · refine (cur_apply x0 x1 x4 b t _).trans ?_
    refine congrArg₂ (fun q n => val_main_v23 (F := Ideal) x0 x1 x4 (ix3 b q n)) (Fin.ext ?_) (Fin.ext ?_)
    all_goals first | rfl | (dsimp only; omega)

theorem pos2 : ∀ t : Fin 4, IntOp.minsi (IntOp.addi (val_main_v4 (F := Ideal) (ix1 t)) 1#32) 8#32 = 8#32 := by
  decide +kernel

theorem group2 (b : Fin 8) (t : Fin 4) (j : Fin 512) : val_main_v87 (F := Ideal) x0 x1 x2 x4 (ix3 b t j)
    = mixed (fun i k => val_main_v23 (F := Ideal) x0 x1 x4 (ix3 b (⟨15 + t.val - i, by have := t.isLt; omega⟩ : Fin 19) (⟨512 * 2 + k.val, by have := k.isLt; omega⟩ : Fin 2048))) 7 (den 2) (fun k j => x2 (ix4 (0 : Fin 1) (2 : Fin 4) k j)) j := by
  have ht := t.isLt
  pointwise [val_main_v87, val_main_v86, val_main_v85, val_main_v21, val_main_v84, val_main_v83, val_main_v82, val_main_v81, val_main_v80, val_main_v79, val_main_v78, val_main_v77, val_main_c_7, val_main_v76, val_main_v75, val_main_c_6, val_main_v74, val_main_v73, val_main_v72, val_main_v71, val_main_v70, val_main_v69, val_main_v68, val_main_v67, val_main_v66, val_main_v65, val_main_v64, val_main_v63, val_main_v62, val_main_v61, val_main_v60]
  unfold mixed
  refine Finset.sum_congr rfl fun k _ => ?_
  rw [pos2 t]
  have hk := k.isLt
  refine congrArg₂ (· * ·) (congrArg₂ (· - ·) (congrArg (Ideal.div · _) ?_) ?_) rfl
  · simp only [trail]
    repeat' refine congrArg₂ (· + ·) ?_ ?_
    all_goals
      refine congrArg₂ (fun q n => val_main_v23 (F := Ideal) x0 x1 x4 (ix3 b q n)) (Fin.ext ?_) (Fin.ext ?_)
      all_goals first | rfl | (dsimp only; omega)
  · refine (cur_apply x0 x1 x4 b t _).trans ?_
    refine congrArg₂ (fun q n => val_main_v23 (F := Ideal) x0 x1 x4 (ix3 b q n)) (Fin.ext ?_) (Fin.ext ?_)
    all_goals first | rfl | (dsimp only; omega)

theorem pos3 : ∀ t : Fin 4, IntOp.minsi (IntOp.addi (val_main_v4 (F := Ideal) (ix1 t)) 1#32) 16#32 = 16#32 := by
  decide +kernel

theorem group3 (b : Fin 8) (t : Fin 4) (j : Fin 512) : val_main_v131 (F := Ideal) x0 x1 x2 x4 (ix3 b t j)
    = mixed (fun i k => val_main_v23 (F := Ideal) x0 x1 x4 (ix3 b (⟨15 + t.val - i, by have := t.isLt; omega⟩ : Fin 19) (⟨512 * 3 + k.val, by have := k.isLt; omega⟩ : Fin 2048))) 15 (den 3) (fun k j => x2 (ix4 (0 : Fin 1) (3 : Fin 4) k j)) j := by
  have ht := t.isLt
  pointwise [val_main_v131, val_main_v130, val_main_v129, val_main_v21, val_main_v128, val_main_v127, val_main_v126, val_main_v125, val_main_v124, val_main_v123, val_main_v122, val_main_v121, val_main_c_9, val_main_v120, val_main_v119, val_main_c_8, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88]
  unfold mixed
  refine Finset.sum_congr rfl fun k _ => ?_
  rw [pos3 t]
  have hk := k.isLt
  refine congrArg₂ (· * ·) (congrArg₂ (· - ·) (congrArg (Ideal.div · _) ?_) ?_) rfl
  · simp only [trail]
    repeat' refine congrArg₂ (· + ·) ?_ ?_
    all_goals
      refine congrArg₂ (fun q n => val_main_v23 (F := Ideal) x0 x1 x4 (ix3 b q n)) (Fin.ext ?_) (Fin.ext ?_)
      all_goals first | rfl | (dsimp only; omega)
  · refine (cur_apply x0 x1 x4 b t _).trans ?_
    refine congrArg₂ (fun q n => val_main_v23 (F := Ideal) x0 x1 x4 (ix3 b q n)) (Fin.ext ?_) (Fin.ext ?_)
    all_goals first | rfl | (dsimp only; omega)

/-- The groups side by side. -/
theorem groups_apply (g : Fin 4) (b : Fin 8) (t : Fin 4) (j : Fin 512) : val_main_v132 (F := Ideal) x0 x1 x2 x4 (ix3 b t (⟨512 * g.val + j.val, by omega⟩ : Fin 2048))
    = mixed (fun i k => val_main_v23 (F := Ideal) x0 x1 x4 (ix3 b (⟨15 + t.val - i, by have := t.isLt; omega⟩ : Fin 19) (⟨512 * g.val + k.val, by have := k.isLt; omega⟩ : Fin 2048))) (win g - 1) (den g) (fun k j => x2 (ix4 (0 : Fin 1) g k j)) j := by
  have hj := j.isLt
  match g with
  | ⟨0, _⟩ =>
    refine Eq.trans ?_ (group0 x0 x1 x2 x4 b t j)
    pointwise [val_main_v132]
  | ⟨1, _⟩ =>
    refine Eq.trans ?_ (group1 x0 x1 x2 x4 b t j)
    pointwise [val_main_v132]
  | ⟨2, _⟩ =>
    refine Eq.trans ?_ (group2 x0 x1 x2 x4 b t j)
    pointwise [val_main_v132]
    rw [dif_neg (by omega), dif_neg (by omega), dif_pos (by omega)]
    exact congrArg (fun q => val_main_v87 (F := Ideal) x0 x1 x2 x4 (ix3 b t q)) (Fin.ext (by dsimp only; omega))
  | ⟨3, _⟩ =>
    refine Eq.trans ?_ (group3 x0 x1 x2 x4 b t j)
    pointwise [val_main_v132]
    rw [dif_neg (by omega), dif_neg (by omega), dif_neg (by omega)]
    exact congrArg (fun q => val_main_v131 (F := Ideal) x0 x1 x2 x4 (ix3 b t q)) (Fin.ext (by dsimp only; omega))

set_option maxRecDepth 16384 in
theorem y_apply (R : Fin 32) (n : Fin 2048) : val_main_v139 (F := Ideal) x0 x1 x2 x3 x4 (ix2 R n)
    = x0 (ix2 R n) + val_main_v132 (F := Ideal) x0 x1 x2 x4 (ix3 (⟨R.val % 8, Nat.mod_lt _ (by decide)⟩ : Fin 8) (⟨R.val / 8, by have := R.isLt; omega⟩ : Fin 4) n) * x3 (ix2 (0 : Fin 1) n) := by
  have hR := R.isLt
  pointwise [val_main_v139, val_main_v138, val_main_v137, val_main_v135, val_main_v134, val_main_v133, val_main_v22, val_main_v1, val_main_v0]

set_option maxRecDepth 16384 in
theorem state_apply (i : Fin 120) (k : Fin 2048) : val_main_v141 (F := Ideal) x0 x1 x4 (ix3 0 i k)
    = val_main_v23 (F := Ideal) x0 x1 x4 (ix3 (⟨i.val % 8, Nat.mod_lt _ (by decide)⟩ : Fin 8) (⟨4 + i.val / 8, by have := i.isLt; omega⟩ : Fin 19) k) := by
  pointwise [val_main_v141, val_main_v140, val_main_v136]

end Cert.PoolSRefIdeal.Hand

end
-- ==== Proof.PoolSClaim.lean ====
module

public import proofs.«01_k».proof.Defs
public import proofs.«01_k».proof.Proof.PoolSVal
public import proofs.«01_k».proof.Proof.PoolSRefVal
public import proofs.«01_k».proof.Proof.Gen.PoolSRefIdeal.Run
public import proofs.«01_k».proof.Proof.Gen.PoolSRefIdeal.Read
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem quiescent_PoolSRefIdeal : quiescent_PoolSRefIdeal := fun m ρ _ =>
  (θ_run Cert.PoolSRefIdeal.defs _ _).mono (fun r h => ⟨fun c => (h c).2.2, sem_eq_zero_of_no_sems (by decide) r.2⟩)
    (Cert.PoolSRefIdeal.Value.run (F := Ideal) m ρ)

/-- The reference's rows after their history are the kernel's, token-major. -/
theorem ext_PoolS (m : (ℓ : Loc Cert.PoolSIdeal.nD Cert.PoolSIdeal.τ Cert.PoolSIdeal.sig) → Buf (Elt Ideal) ℓ) (c : Dev Cert.PoolSIdeal.nD) (b : Fin 8) (s : Fin 19) (k : Fin 2048) (R : ℕ) (hR : 8 * s.val + b.val = R) :
    Cert.PoolSRefIdeal.Read.val_main_v23 (F := Ideal) (m ((c : Thread Cert.PoolSIdeal.nD Cert.PoolSIdeal.τ).loc Cert.PoolSIdeal.main_arg0)) (m ((c : Thread Cert.PoolSIdeal.nD Cert.PoolSIdeal.τ).loc Cert.PoolSIdeal.main_arg1)) (m ((c : Thread Cert.PoolSIdeal.nD Cert.PoolSIdeal.τ).loc Cert.PoolSIdeal.main_arg4)) (ix3 b s k)
      = Cert.PoolSIdeal.Hand.E m c R k := by
  subst hR
  refine (Cert.PoolSRefIdeal.Hand.ext_apply _ _ _ b s k).trans (Cert.Layer.extend_congr (fun _ => rfl) (fun i => ?_) _)
  refine (Cert.PoolSRefIdeal.Hand.norm_apply _ _ _ _ k).trans ?_
  refine Cert.Layer.rms_congr _ _ (fun l => ?_) (fun _ => rfl) k
  exact congrArg (fun i : Fin 32 => (m ((c : Thread Cert.PoolSIdeal.nD Cert.PoolSIdeal.τ).loc Cert.PoolSIdeal.main_arg0) : FVec Ideal Cert.PoolSIdeal.S32x2048 .f32) (ix2 i l)) (Fin.ext (by show i.val / 8 * 8 + i.val % 8 = i.val; omega))

/-- The new tokens' pooling mix, and the state it leaves, are the reference's once the arguments agree. -/
theorem algebraic_PoolSIdeal_PoolSRefIdeal : algebraic_PoolSIdeal_PoolSRefIdeal := by
  intro m ρ m' ρ' _ hagree
  refine ⟨_, _, Cert.PoolSIdeal.Value.run_blocks (F := Ideal) m ρ, ?_⟩
  refine (θ_run Cert.PoolSRefIdeal.defs _ _).mono (fun _ h c => ⟨?_, ?_, (h c).2.2⟩) (Cert.PoolSRefIdeal.Value.run (F := Ideal) m' ρ')
  · rw [(h c).1]
    obtain ⟨e0, e1, e2, e3, e4⟩ := hagree c
    rw [Cert.PoolSRefIdeal.Read.val_main_v139_eq]
    funext i
    obtain ⟨R, n, rfl⟩ : ∃ (R : Fin 32) (n : Fin 2048), i = ix2 R n := ⟨i 0, i 1, eq_ix2 i⟩
    obtain ⟨g, j, rfl⟩ : ∃ (g : Fin 4) (j : Fin 512), n = ⟨512 * g.val + j.val, by omega⟩ :=
      ⟨⟨n.val / 512, by have := n.isLt; omega⟩, ⟨n.val % 512, Nat.mod_lt _ (by decide)⟩, Fin.ext (by show n.val = 512 * (n.val / 512) + n.val % 512; omega)⟩
    have hR := R.isLt
    refine (Cert.PoolSRefIdeal.Hand.y_apply _ _ _ _ _ R _).trans ?_
    refine Eq.trans ?_ (Cert.PoolSIdeal.Hand.y_apply m c g R j).symm
    rw [e0, e1, e2, e3, e4]
    refine congrArg (fun z : EReal => _ + z * _) ((Cert.PoolSRefIdeal.Hand.groups_apply _ _ _ _ g _ _ j).trans ?_)
    refine Cert.Layer.mixed_congr j (fun i hi k => ?_) (fun _ => rfl)
    have hw : Cert.Layer.win g ≤ 16 := (by decide : ∀ g : Fin 4, Cert.Layer.win g ≤ 16) g
    exact ext_PoolS m c _ _ _ _ (by show 8 * (15 + R.val / 8 - i) + R.val % 8 = 120 + R.val - 8 * i; omega)
  · rw [(h c).2.1]
    obtain ⟨e0, e1, e2, e3, e4⟩ := hagree c
    rw [Cert.PoolSRefIdeal.Read.val_main_v141_eq]
    funext i
    obtain ⟨z, R, k, rfl⟩ : ∃ (z : Fin 1) (R : Fin 120) (k : Fin 2048), i = ix3 z R k := ⟨i 0, i 1, i 2, eq_ix3 i⟩
    obtain rfl : z = 0 := Subsingleton.elim _ _
    have hR := R.isLt
    refine (Cert.PoolSRefIdeal.Hand.state_apply _ _ _ R k).trans ?_
    refine Eq.trans ?_ (Cert.PoolSIdeal.Hand.state_apply m c R k).symm
    rw [e0, e1, e4]
    exact ext_PoolS m c _ _ k _ (by show 8 * (4 + R.val / 8) + R.val % 8 = 32 + R.val; omega)

end Cert.Proof

end
-- ==== Proof.GconvIdealRun.lean ====
module

public import proofs.«01_k».proof.Proof.Gen.GconvIdeal.Frame
public import proofs.«01_k».proof.Proof.Gen.GconvIdeal.Skeleton

@[expose] public section

set_option maxRecDepth 16384

noncomputable section

namespace Cert.GconvIdeal.Carry

open Cert.GconvIdeal Cert.GconvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its sequence, as the body computes it from its coordinate. -/
abbrev first (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1

/-- The point is a later one of its sequence, as the body computes it. -/
abbrev later (i : grid0.Coords) : Prop := (Scalar.cmpi .ne (Scalar.extui (Scalar.xori (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32) 1#1)) 0#32) = 1#1

theorem first_iff : ∀ t : Fin cfg0.N, first (grid0.coords t) ↔ t.val % 8 = 0 :=
  (by decide +kernel : ∀ t : Fin grid0.N, first (grid0.coords t) ↔ t.val % 8 = 0)

theorem later_iff : ∀ t : Fin cfg0.N, later (grid0.coords t) ↔ ¬t.val % 8 = 0 :=
  (by decide +kernel : ∀ t : Fin grid0.N, later (grid0.coords t) ↔ ¬t.val % 8 = 0)

abbrev st0 (t : Fin cfg0.N) : Memref sig .tc .vmem S512x2048 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S1x2048 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x2048x3072 .bf16 := win0_2.stage (cfg0.slots t 2)
abbrev hst2 (t : Fin cfg0.N) : (st2 t).IsWhole := hstage0_2 ((cfg0.slots t 2).cast nbuf0_2)
abbrev st3 (t : Fin cfg0.N) : Memref sig .tc .vmem S3x1024 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S1x2x1024 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S1x128x2048 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S1x128x5632 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S1x352x2048 .f32 := win0_7.stage (cfg0.slots t 7)
abbrev hst7 (t : Fin cfg0.N) : (st7 t).IsWhole := hstage0_7 ((cfg0.slots t 7).cast nbuf0_7)
abbrev st8 (t : Fin cfg0.N) : Memref sig .tc .vmem S512x1024 .bf16 := win0_8.stage (cfg0.slots t 8)
abbrev hst8 (t : Fin cfg0.N) : (st8 t).IsWhole := hstage0_8 ((cfg0.slots t 8).cast nbuf0_8)
abbrev st9 (t : Fin cfg0.N) : Memref sig .tc .vmem S1x2x1024 .f32 := win0_9.stage (cfg0.slots t 9)
abbrev hst9 (t : Fin cfg0.N) : (st9 t).IsWhole := hstage0_9 ((cfg0.slots t 9).cast nbuf0_9)
abbrev st10 (t : Fin cfg0.N) : Memref sig .tc .vmem S128x2048 .bf16 := win0_10.stage (cfg0.slots t 10)
abbrev hst10 (t : Fin cfg0.N) : (st10 t).IsWhole := hstage0_10 ((cfg0.slots t 10).cast nbuf0_10)
abbrev st11 (t : Fin cfg0.N) : Memref sig .tc .vmem S128x5632 .bf16 := win0_11.stage (cfg0.slots t 11)
abbrev hst11 (t : Fin cfg0.N) : (st11 t).IsWhole := hstage0_11 ((cfg0.slots t 11).cast nbuf0_11)
abbrev st12 (t : Fin cfg0.N) : Memref sig .tc .vmem S352x2048 .bf16 := win0_12.stage (cfg0.slots t 12)
abbrev hst12 (t : Fin cfg0.N) : (st12 t).IsWhole := hstage0_12 ((cfg0.slots t 12).cast nbuf0_12)

/-- The scratch the kernel carries from point to point. -/
abbrev scr : Memref sig .tc .vmem S520x1024 .f32 := Memref.whole cc0_scratch0

/-- The rows of the scratch the next point reads. -/
abbrev tailRect : Rect S520x1024 := Rect.unit (s := S520x1024) ![518, 0] S2x1024.size inb_S520x1024_S2x1024_518_0

/-- Scratch contents whose tail rows are the given ones. -/
def spread (tl : Vec F S2x1024 .f32) : Vec F S520x1024 .f32 :=
  fun y => tl (fun | ⟨0, _⟩ => ⟨(y 0).val - 518, by have h : (y 0).val < 520 := (y 0).isLt; show _ < 2; omega⟩ | ⟨1, _⟩ => ⟨(y 1).val, (y 1).isLt⟩)

theorem ld_spread (tl : Vec F S2x1024 .f32) : View.ld (spread tl) tailRect = tl := by
  funext y
  show tl _ = tl y
  refine congrArg tl ?_
  funext a
  apply Fin.ext
  match a with
  | ⟨0, _⟩ => show 518 + 1 * (y 0).val - 518 = (y 0).val; omega
  | ⟨1, _⟩ => show 0 + 1 * (y 1).val = (y 1).val; omega

theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

section Runs

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048x3072 .bf16) (harg3 : arg3.IsWhole) (arg4 : Memref sig .tc .vmem S3x1024 .f32) (harg4 : arg4.IsWhole) (arg5 : Memref sig .tc .vmem S1x2x1024 .f32) (harg5 : arg5.IsWhole) (arg6 : Memref sig .tc .vmem S1x128x2048 .f32) (harg6 : arg6.IsWhole) (arg7 : Memref sig .tc .vmem S1x128x5632 .f32) (harg7 : arg7.IsWhole) (arg8 : Memref sig .tc .vmem S1x352x2048 .f32) (harg8 : arg8.IsWhole) (arg9 : Memref sig .tc .vmem S512x1024 .bf16) (harg9 : arg9.IsWhole) (arg10 : Memref sig .tc .vmem S1x2x1024 .f32) (harg10 : arg10.IsWhole) (arg11 : Memref sig .tc .vmem S128x2048 .bf16) (harg11 : arg11.IsWhole) (arg12 : Memref sig .tc .vmem S128x5632 .bf16) (harg12 : arg12.IsWhole) (arg13 : Memref sig .tc .vmem S352x2048 .bf16) (harg13 : arg13.IsWhole) (arg14 : Memref sig .tc .vmem S520x1024 .f32) (harg14 : arg14.IsWhole)

set_option maxHeartbeats 4000000 in
/-- What the body's stores leave in the outputs' buffers and in the scratch at a point that is the first of its sequence,
    as pieces (last first), and that the body, run on whole buffers, leaves these. -/
noncomputable def runA (h0 : first i) (h1 : ¬later i)
    (x0 : Vec F S512x2048 .f32) (x1 : Vec F S1x2048 .f32) (x2 : Vec F S1x2048x3072 .bf16) (x3 : Vec F S3x1024 .f32) (x4 : Vec F S1x2x1024 .f32) (x5 : Vec F S1x128x2048 .f32) (x6 : Vec F S1x128x5632 .f32) (x7 : Vec F S1x352x2048 .f32) :
    Σ' (L8 : List (View.Piece (Elt F) S512x1024 .bf16)), Σ' (L9 : List (View.Piece (Elt F) S1x2x1024 .f32)), Σ' (L10 : List (View.Piece (Elt F) S128x2048 .bf16)), Σ' (L11 : List (View.Piece (Elt F) S128x5632 .bf16)), Σ' (L12 : List (View.Piece (Elt F) S352x2048 .bf16)), { LS : List (View.Piece (Elt F) S520x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS)) -∗ K ⟨⟩))
          ⊢ wp frame (wpE (defs₀ (F := F)) Variants.none c none) E (cc0_inproj_gconv i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_inproj_gconv_eq_skeleton]; unfold cc0_inproj_gconv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact HS

set_option maxHeartbeats 4000000 in
/-- What the body's stores leave in the outputs' buffers and in the scratch at a point that is a later one of its sequence,
    as pieces (last first), and that the body, run on whole buffers, leaves these. -/
noncomputable def runB (h0 : ¬first i) (h1 : later i)
    (x0 : Vec F S512x2048 .f32) (x1 : Vec F S1x2048 .f32) (x2 : Vec F S1x2048x3072 .bf16) (x3 : Vec F S3x1024 .f32) (x4 : Vec F S1x2x1024 .f32) (x5 : Vec F S1x128x2048 .f32) (x6 : Vec F S1x128x5632 .f32) (x7 : Vec F S1x352x2048 .f32) (xs : Vec F S520x1024 .f32) :
    Σ' (L8 : List (View.Piece (Elt F) S512x1024 .bf16)), Σ' (L9 : List (View.Piece (Elt F) S1x2x1024 .f32)), Σ' (L10 : List (View.Piece (Elt F) S128x2048 .bf16)), Σ' (L11 : List (View.Piece (Elt F) S128x5632 .bf16)), Σ' (L12 : List (View.Piece (Elt F) S352x2048 .bf16)), { LS : List (View.Piece (Elt F) S520x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS)) -∗ K ⟨⟩))
          ⊢ wp frame (wpE (defs₀ (F := F)) Variants.none c none) E (cc0_inproj_gconv i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_inproj_gconv_eq_skeleton]; unfold cc0_inproj_gconv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg14.eq_unread hfs
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact HS

end Runs

end Cert.GconvIdeal.Carry

end
-- ==== Proof.GconvIdealFrame.lean ====
module

public import proofs.«01_k».proof.Proof.GconvIdealRun
public import Idealize.ShloMosaic.Lib.Claim
public import Idealize.ShloMosaic.Lib.Pipeline.Value

@[expose] public section

set_option maxRecDepth 16384

noncomputable section

namespace Cert.GconvIdeal.Carry

open Cert.GconvIdeal Cert.GconvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Covers

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048x3072 .bf16) (harg3 : arg3.IsWhole) (arg4 : Memref sig .tc .vmem S3x1024 .f32) (harg4 : arg4.IsWhole) (arg5 : Memref sig .tc .vmem S1x2x1024 .f32) (harg5 : arg5.IsWhole) (arg6 : Memref sig .tc .vmem S1x128x2048 .f32) (harg6 : arg6.IsWhole) (arg7 : Memref sig .tc .vmem S1x128x5632 .f32) (harg7 : arg7.IsWhole) (arg8 : Memref sig .tc .vmem S1x352x2048 .f32) (harg8 : arg8.IsWhole) (arg9 : Memref sig .tc .vmem S512x1024 .bf16) (harg9 : arg9.IsWhole) (arg10 : Memref sig .tc .vmem S1x2x1024 .f32) (harg10 : arg10.IsWhole) (arg11 : Memref sig .tc .vmem S128x2048 .bf16) (harg11 : arg11.IsWhole) (arg12 : Memref sig .tc .vmem S128x5632 .bf16) (harg12 : arg12.IsWhole) (arg13 : Memref sig .tc .vmem S352x2048 .bf16) (harg13 : arg13.IsWhole) (arg14 : Memref sig .tc .vmem S520x1024 .f32) (harg14 : arg14.IsWhole)
variable (x0 : Vec F S512x2048 .f32) (x1 : Vec F S1x2048 .f32) (x2 : Vec F S1x2048x3072 .bf16) (x3 : Vec F S3x1024 .f32) (x4 : Vec F S1x2x1024 .f32) (x5 : Vec F S1x128x2048 .f32) (x6 : Vec F S1x128x5632 .f32) (x7 : Vec F S1x352x2048 .f32)

theorem coverA8 (h0 : first i) (h1 : ¬later i) (y : S512x1024.Idx) : ∃ p ∈ (runA c i _ harg1 _ harg2 _ harg3 _ harg4 _ harg5 _ harg6 _ harg7 _ harg8 _ harg9 _ harg10 _ harg11 _ harg12 _ harg13 _ harg14 h0 h1 x0 x1 x2 x3 x4 x5 x6 x7).1, y ∈ p.1.set :=
  View.cover_of_tiledL _ S512x1024.size (by sl_kernel_rfl) y

theorem coverA9 (h0 : first i) (h1 : ¬later i) (y : S1x2x1024.Idx) : ∃ p ∈ (runA c i _ harg1 _ harg2 _ harg3 _ harg4 _ harg5 _ harg6 _ harg7 _ harg8 _ harg9 _ harg10 _ harg11 _ harg12 _ harg13 _ harg14 h0 h1 x0 x1 x2 x3 x4 x5 x6 x7).2.1, y ∈ p.1.set :=
  View.cover_of_tiledL _ S1x2x1024.size (by sl_kernel_rfl) y

theorem coverA10 (h0 : first i) (h1 : ¬later i) (y : S128x2048.Idx) : ∃ p ∈ (runA c i _ harg1 _ harg2 _ harg3 _ harg4 _ harg5 _ harg6 _ harg7 _ harg8 _ harg9 _ harg10 _ harg11 _ harg12 _ harg13 _ harg14 h0 h1 x0 x1 x2 x3 x4 x5 x6 x7).2.2.1, y ∈ p.1.set :=
  View.cover_of_tiledL _ S128x2048.size (by sl_kernel_rfl) y

theorem coverA11 (h0 : first i) (h1 : ¬later i) (y : S128x5632.Idx) : ∃ p ∈ (runA c i _ harg1 _ harg2 _ harg3 _ harg4 _ harg5 _ harg6 _ harg7 _ harg8 _ harg9 _ harg10 _ harg11 _ harg12 _ harg13 _ harg14 h0 h1 x0 x1 x2 x3 x4 x5 x6 x7).2.2.2.1, y ∈ p.1.set :=
  View.cover_of_tiledL _ S128x5632.size (by sl_kernel_rfl) y

theorem coverA12 (h0 : first i) (h1 : ¬later i) (y : S352x2048.Idx) : ∃ p ∈ (runA c i _ harg1 _ harg2 _ harg3 _ harg4 _ harg5 _ harg6 _ harg7 _ harg8 _ harg9 _ harg10 _ harg11 _ harg12 _ harg13 _ harg14 h0 h1 x0 x1 x2 x3 x4 x5 x6 x7).2.2.2.2.1, y ∈ p.1.set :=
  View.cover_of_tiledL _ S352x2048.size (by sl_kernel_rfl) y

/-- The rows the next point reads were stored. -/
theorem coverTailA (h0 : first i) (h1 : ¬later i) (j : S2x1024.Idx) : ∃ p ∈ (runA c i _ harg1 _ harg2 _ harg3 _ harg4 _ harg5 _ harg6 _ harg7 _ harg8 _ harg9 _ harg10 _ harg11 _ harg12 _ harg13 _ harg14 h0 h1 x0 x1 x2 x3 x4 x5 x6 x7).2.2.2.2.2.1, tailRect.idx j ∈ p.1.set := by
  unfold runA; dsimp only
  refine ⟨_, List.mem_cons_self, (Rect.mem_set_unit (inb := inb_S520x1024_S512x1024_8_0)).mpr ?_⟩
  intro a
  match a with
  | ⟨0, _⟩ => exact ⟨(by have h : (j 0).val < 2 := (j 0).isLt; show 8 ≤ 518 + 1 * (j 0).val; omega), (by have h : (j 0).val < 2 := (j 0).isLt; show 518 + 1 * (j 0).val < 8 + 512; omega)⟩
  | ⟨1, _⟩ => exact ⟨Nat.zero_le _, (by have h : (j 1).val < 1024 := (j 1).isLt; show 0 + 1 * (j 1).val < 0 + 1024; omega)⟩

theorem coverB8 (h0 : ¬first i) (h1 : later i) (xs : Vec F S520x1024 .f32) (y : S512x1024.Idx) : ∃ p ∈ (runB c i _ harg1 _ harg2 _ harg3 _ harg4 _ harg5 _ harg6 _ harg7 _ harg8 _ harg9 _ harg10 _ harg11 _ harg12 _ harg13 _ harg14 h0 h1 x0 x1 x2 x3 x4 x5 x6 x7 xs).1, y ∈ p.1.set :=
  View.cover_of_tiledL _ S512x1024.size (by sl_kernel_rfl) y

theorem coverB9 (h0 : ¬first i) (h1 : later i) (xs : Vec F S520x1024 .f32) (y : S1x2x1024.Idx) : ∃ p ∈ (runB c i _ harg1 _ harg2 _ harg3 _ harg4 _ harg5 _ harg6 _ harg7 _ harg8 _ harg9 _ harg10 _ harg11 _ harg12 _ harg13 _ harg14 h0 h1 x0 x1 x2 x3 x4 x5 x6 x7 xs).2.1, y ∈ p.1.set :=
  View.cover_of_tiledL _ S1x2x1024.size (by sl_kernel_rfl) y

theorem coverB10 (h0 : ¬first i) (h1 : later i) (xs : Vec F S520x1024 .f32) (y : S128x2048.Idx) : ∃ p ∈ (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.1, y ∈ p.1.set :=
  View.cover_of_tiledL _ S128x2048.size (by sl_kernel_rfl) y

theorem coverB11 (h0 : ¬first i) (h1 : later i) (xs : Vec F S520x1024 .f32) (y : S128x5632.Idx) : ∃ p ∈ (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.2.1, y ∈ p.1.set :=
  View.cover_of_tiledL _ S128x5632.size (by sl_kernel_rfl) y

theorem coverB12 (h0 : ¬first i) (h1 : later i) (xs : Vec F S520x1024 .f32) (y : S352x2048.Idx) : ∃ p ∈ (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.2.2.1, y ∈ p.1.set :=
  View.cover_of_tiledL _ S352x2048.size (by sl_kernel_rfl) y

/-- The rows the next point reads were stored. -/
theorem coverTailB (h0 : ¬first i) (h1 : later i) (xs : Vec F S520x1024 .f32) (j : S2x1024.Idx) : ∃ p ∈ (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.2.2.2.1, tailRect.idx j ∈ p.1.set := by
  unfold runB; dsimp only
  refine ⟨_, List.mem_cons_self, (Rect.mem_set_unit (inb := inb_S520x1024_S512x1024_8_0)).mpr ?_⟩
  intro a
  match a with
  | ⟨0, _⟩ => exact ⟨(by have h : (j 0).val < 2 := (j 0).isLt; show 8 ≤ 518 + 1 * (j 0).val; omega), (by have h : (j 0).val < 2 := (j 0).isLt; show 518 + 1 * (j 0).val < 8 + 512; omega)⟩
  | ⟨1, _⟩ => exact ⟨Nat.zero_le _, (by have h : (j 1).val < 1024 := (j 1).isLt; show 0 + 1 * (j 1).val < 0 + 1024; omega)⟩

/-- Of the carried scratch only the tail rows are read. -/
theorem runB_congr (h0 : ¬first i) (h1 : later i) (xs ys : Vec F S520x1024 .f32) (h : View.ld xs tailRect = View.ld ys tailRect) :
    let r := runB c i _ harg1 _ harg2 _ harg3 _ harg4 _ harg5 _ harg6 _ harg7 _ harg8 _ harg9 _ harg10 _ harg11 _ harg12 _ harg13 _ harg14 h0 h1 x0 x1 x2 x3 x4 x5 x6 x7
    (r xs).1 = (r ys).1 ∧ (r xs).2.1 = (r ys).2.1 ∧ (r xs).2.2.1 = (r ys).2.2.1 ∧ (r xs).2.2.2.1 = (r ys).2.2.2.1 ∧ (r xs).2.2.2.2.1 = (r ys).2.2.2.2.1 ∧ (r xs).2.2.2.2.2.1 = (r ys).2.2.2.2.2.1 := by
  unfold runB; dsimp only
  sl_unfold_words
  simp only [View.readAt_eq_ld, harg14.read_unread]
  rw [h]
  repeat' apply And.intro
  all_goals first | trivial | rfl

end Covers

variable (m : (ℓ : Loc nD τ sig) → Buf (Elt F) ℓ) (ρ : Dev nD → PrngReg)

/-- What a point that is the first of its sequence leaves in the outputs' buffers and in the tail rows of the scratch. -/
def leftA (c : Dev nD) (t : Fin cfg0.N) (h0 : t.val % 8 = 0) : Vec F S512x1024 .bf16 × Vec F S1x2x1024 .f32 × Vec F S128x2048 .bf16 × Vec F S128x5632 .bf16 × Vec F S352x2048 .bf16 × Vec F S2x1024 .f32 :=
  let r := runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) scr (Memref.isWhole_whole _) ((first_iff t).mpr h0) (fun h => (later_iff t).mp h h0) (iblk m c 0 t) (iblk m c 1 t) (iblk m c 2 t) (iblk m c 3 t) (iblk m c 4 t) (iblk m c 5 t) (iblk m c 6 t) (iblk m c 7 t)
  (View.canon r.1,
    View.canon r.2.1,
    View.canon r.2.2.1,
    View.canon r.2.2.2.1,
    View.canon r.2.2.2.2.1,
    View.ld (View.canon r.2.2.2.2.2.1) tailRect)

/-- What a point that is a later one of its sequence leaves in the outputs' buffers and in the tail rows of the scratch, over the tail rows found there. -/
def leftB (c : Dev nD) (t : Fin cfg0.N) (h0 : ¬t.val % 8 = 0) (tl : Vec F S2x1024 .f32) : Vec F S512x1024 .bf16 × Vec F S1x2x1024 .f32 × Vec F S128x2048 .bf16 × Vec F S128x5632 .bf16 × Vec F S352x2048 .bf16 × Vec F S2x1024 .f32 :=
  let r := runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) scr (Memref.isWhole_whole _) (fun h => h0 ((first_iff t).mp h)) ((later_iff t).mpr h0) (iblk m c 0 t) (iblk m c 1 t) (iblk m c 2 t) (iblk m c 3 t) (iblk m c 4 t) (iblk m c 5 t) (iblk m c 6 t) (iblk m c 7 t) (spread tl)
  (View.canon r.1,
    View.canon r.2.1,
    View.canon r.2.2.1,
    View.canon r.2.2.2.1,
    View.canon r.2.2.2.2.1,
    View.ld (View.canon r.2.2.2.2.2.1) tailRect)

/-- What the points leave, one after the other. -/
def outs (c : Dev nD) : (n : ℕ) → n < cfg0.N → Vec F S512x1024 .bf16 × Vec F S1x2x1024 .f32 × Vec F S128x2048 .bf16 × Vec F S128x5632 .bf16 × Vec F S352x2048 .bf16 × Vec F S2x1024 .f32
  | 0, hn => leftA m c ⟨0, hn⟩ (Nat.zero_mod _)
  | n + 1, hn =>
    if h0 : (n + 1) % 8 = 0 then leftA m c ⟨n + 1, hn⟩ h0
    else leftB m c ⟨n + 1, hn⟩ h0 (outs c n (Nat.lt_of_succ_lt hn)).2.2.2.2.2

theorem outs_A (c : Dev nD) (t : Fin cfg0.N) (h0 : t.val % 8 = 0) : outs m c t.val t.isLt = leftA m c t h0 := by
  obtain ⟨n, hn⟩ := t
  cases n with
  | zero => exact rfl
  | succ n => exact (dif_pos h0).trans rfl

theorem outs_B (c : Dev nD) (t : Fin cfg0.N) (h0 : ¬t.val % 8 = 0) :
    outs m c t.val t.isLt = leftB m c t h0 (outs m c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans rfl

/-- Before the first point the scratch holds anything; after a point its tail rows are the ones that point left. -/
def inv (c : Dev nD) : (n : ℕ) → n ≤ cfg0.N → sProp 𝕄
  | 0, _ => Pipeline.ΦA spec0 c
  | n + 1, hn => iprop(iprop((∃ xs, ⌜View.ld xs tailRect = (outs m c n hn).2.2.2.2.2⌝ ∗ owns (c : Thread nD τ) scr fullShare xs)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop((∃ xs, ⌜View.ld xs tailRect = (outs m c n hn).2.2.2.2.2⌝ ∗ owns (c : Thread nD τ) scr fullShare xs)) ∗ (∃ r, prngReg c r)) := rfl

theorem inv_pos (c : Dev nD) (n : ℕ) (h : n ≤ cfg0.N) (hz : n ≠ 0) :
    inv m c n h = iprop(iprop((∃ xs, ⌜View.ld xs tailRect = (outs m c (n - 1) (by omega)).2.2.2.2.2⌝ ∗ owns (c : Thread nD τ) scr fullShare xs)) ∗ (∃ r, prngReg c r)) := by
  cases n with
  | zero => exact absurd rfl hz
  | succ n => rfl

/-- The proof data: inputs' buffers at their blocks, outputs' at what the points leave, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
    | ⟨11, _⟩ => (outs m c t.val t.isLt).2.2.2.1
    | ⟨12, _⟩ => (outs m c t.val t.isLt).2.2.2.2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outs m c t.val t.isLt).1 := by dsimp only [dats]
theorem after9 (c : Dev nD) (t : Fin cfg0.N) : (dats m 0 c).after 9 t = (outs m c t.val t.isLt).2.1 := by dsimp only [dats]
theorem after10 (c : Dev nD) (t : Fin cfg0.N) : (dats m 0 c).after 10 t = (outs m c t.val t.isLt).2.2.1 := by dsimp only [dats]
theorem after11 (c : Dev nD) (t : Fin cfg0.N) : (dats m 0 c).after 11 t = (outs m c t.val t.isLt).2.2.2.1 := by dsimp only [dats]
theorem after12 (c : Dev nD) (t : Fin cfg0.N) : (dats m 0 c).after 12 t = (outs m c t.val t.isLt).2.2.2.2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t))

set_option maxHeartbeats 6400000 in
/-- The body at any point: the run of the point's case applies, over any scratch with the tail rows that the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    after0, after1, after2, after3, after4, after5, after6, after7, after8, after9, after10, after11, after12]
  rw [show (dats m 0 c).Φ t.succ = inv m c (t.val + 1) t.isLt from rfl, inv_succ]
  by_cases h0 : t.val % 8 = 0
  · by_cases hz : t.val = 0
    · rw [inv_castSucc m c t, inv_zero m c _ _ hz, inv_eq]
      rw [outs_A m c t h0]
      unfold leftA; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA c (grid0.coords t) _ _ _ _ _ _ _ _ _ _ _ _ _ _ _ _ _ _ _ _ _ _ _ _ _ _ scr (Memref.isWhole_whole _) ((first_iff t).mpr h0) (fun h => (later_iff t).mp h h0) (iblk m c 0 t) (iblk m c 1 t) (iblk m c 2 t) (iblk m c 3 t) (iblk m c 4 t) (iblk m c 5 t) (iblk m c 6 t) (iblk m c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS]; · iexact HS
      iintro ⟨H0, H1, H2, H3, H4, H5, H6, H7, ⟨%g8, H8⟩, ⟨%g9, H9⟩, ⟨%g10, H10⟩, ⟨%g11, H11⟩, ⟨%g12, H12⟩, ⟨%gs, HS⟩⟩
      isplitl [HS Hg]
      · isplitl [HS]
        · iexists _; isplitr
          swap
          · unfold owns; iexists _; isplitr
            swap; · iexact HS
            ipureintro; rfl
          ipureintro; exact funext fun j => (View.read_writes_apply_eq_canon _ _ _ _ (coverTailA _ _ _ _ _ _ _ _ _ _ _ _ _ _ _ _ _ _ _ _ _ _ _ _ _ _ _ _ _ _ _ _ _ _ _ _ _ _ _ _ j))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact (View.read_writes_eq_canon _ _ _ (fun _ => coverA8 ..))
      isplitl [H9]
      · unfold owns; iexists _; isplitr
        swap; · iexact H9
        ipureintro; exact (View.read_writes_eq_canon _ _ _ (fun _ => coverA9 ..))
      isplitl [H10]
      · unfold owns; iexists _; isplitr
        swap; · iexact H10
        ipureintro; exact (View.read_writes_eq_canon _ _ _ (fun _ => coverA10 ..))
      isplitl [H11]
      · unfold owns; iexists _; isplitr
        swap; · iexact H11
        ipureintro; exact (View.read_writes_eq_canon _ _ _ (fun _ => coverA11 ..))
      unfold owns; iexists _; isplitr
      swap; · iexact H12
      ipureintro; exact (View.read_writes_eq_canon _ _ _ (fun _ => coverA12 ..))
    · rw [inv_castSucc m c t, inv_pos m c _ _ hz]
      rw [outs_A m c t h0]
      unfold leftA; (try dsimp only)
      iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA c (grid0.coords t) _ _ _ _ _ _ _ _ _ _ _ _ _ _ _ _ _ _ _ _ _ _ _ _ _ _ scr (Memref.isWhole_whole _) ((first_iff t).mpr h0) (fun h => (later_iff t).mp h h0) (iblk m c 0 t) (iblk m c 1 t) (iblk m c 2 t) (iblk m c 3 t) (iblk m c 4 t) (iblk m c 5 t) (iblk m c 6 t) (iblk m c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS]; · iexists _; iexact HS
      iintro ⟨H0, H1, H2, H3, H4, H5, H6, H7, ⟨%g8, H8⟩, ⟨%g9, H9⟩, ⟨%g10, H10⟩, ⟨%g11, H11⟩, ⟨%g12, H12⟩, ⟨%gs, HS⟩⟩
      isplitl [HS Hg]
      · isplitl [HS]
        · iexists _; isplitr
          swap
          · unfold owns; iexists _; isplitr
            swap; · iexact HS
            ipureintro; rfl
          ipureintro; exact funext fun j => (View.read_writes_apply_eq_canon _ _ _ _ (coverTailA _ _ _ _ _ _ _ _ _ _ _ _ _ _ _ _ _ _ _ _ _ _ _ _ _ _ _ _ _ _ _ _ _ _ _ _ _ _ _ _ j))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact (View.read_writes_eq_canon _ _ _ (fun _ => coverA8 ..))
      isplitl [H9]
      · unfold owns; iexists _; isplitr
        swap; · iexact H9
        ipureintro; exact (View.read_writes_eq_canon _ _ _ (fun _ => coverA9 ..))
      isplitl [H10]
      · unfold owns; iexists _; isplitr
        swap; · iexact H10
        ipureintro; exact (View.read_writes_eq_canon _ _ _ (fun _ => coverA10 ..))
      isplitl [H11]
      · unfold owns; iexists _; isplitr
        swap; · iexact H11
        ipureintro; exact (View.read_writes_eq_canon _ _ _ (fun _ => coverA11 ..))
      unfold owns; iexists _; isplitr
      swap; · iexact H12
      ipureintro; exact (View.read_writes_eq_canon _ _ _ (fun _ => coverA12 ..))
  · rw [inv_castSucc m c t, inv_pos m c _ _ (fun hz => h0 (by rw [hz]))]
    rw [outs_B m c t h0]
    unfold leftB; (try dsimp only)
    iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    obtain ⟨e8, e9, e10, e11, e12, es⟩ := runB_congr c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) scr (Memref.isWhole_whole _) (iblk m c 0 t) (iblk m c 1 t) (iblk m c 2 t) (iblk m c 3 t) (iblk m c 4 t) (iblk m c 5 t) (iblk m c 6 t) (iblk m c 7 t) (fun h => h0 ((first_iff t).mp h)) ((later_iff t).mpr h0) xs (spread (outs m c (t.val - 1) (Nat.lt_of_le_of_lt (Nat.sub_le _ _) t.isLt)).2.2.2.2.2) (hx.trans (ld_spread _).symm)
    iapply ((runB c (grid0.coords t) _ _ _ _ _ _ _ _ _ _ _ _ _ _ _ _ _ _ _ _ _ _ _ _ _ _ scr (Memref.isWhole_whole _) (fun h => h0 ((first_iff t).mp h)) ((later_iff t).mpr h0) (iblk m c 0 t) (iblk m c 1 t) (iblk m c 2 t) (iblk m c 3 t) (iblk m c 4 t) (iblk m c 5 t) (iblk m c 6 t) (iblk m c 7 t) xs).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, ⟨%g8, H8⟩, ⟨%g9, H9⟩, ⟨%g10, H10⟩, ⟨%g11, H11⟩, ⟨%g12, H12⟩, ⟨%gs, HS⟩⟩
    isplitl [HS Hg]
    · isplitl [HS]
      · iexists _; isplitr
        swap
        · unfold owns; iexists _; isplitr
          swap; · iexact HS
          ipureintro; rfl
        ipureintro; exact funext fun j => (View.read_writes_apply_eq_canon _ _ _ _ (coverTailB _ _ _ _ _ _ _ _ _ _ _ _ _ _ _ _ _ _ _ _ _ _ _ _ _ _ _ _ _ _ _ _ _ _ _ _ _ _ _ _ _ j)).trans (congrFun (congrArg View.canon es) _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact (View.read_writes_eq_canon _ _ _ (fun _ => coverB8 ..)).trans (congrArg View.canon e8)
    isplitl [H9]
    · unfold owns; iexists _; isplitr
      swap; · iexact H9
      ipureintro; exact (View.read_writes_eq_canon _ _ _ (fun _ => coverB9 ..)).trans (congrArg View.canon e9)
    isplitl [H10]
    · unfold owns; iexists _; isplitr
      swap; · iexact H10
      ipureintro; exact (View.read_writes_eq_canon _ _ _ (fun _ => coverB10 ..)).trans (congrArg View.canon e10)
    isplitl [H11]
    · unfold owns; iexists _; isplitr
      swap; · iexact H11
      ipureintro; exact (View.read_writes_eq_canon _ _ _ (fun _ => coverB11 ..)).trans (congrArg View.canon e11)
    unfold owns; iexists _; isplitr
    swap; · iexact H12
    ipureintro; exact (View.read_writes_eq_canon _ _ _ (fun _ => coverB12 ..)).trans (congrArg View.canon e12)

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  have hl : (Fin.last cfg0.N).val ≠ 0 := by rw [Fin.val_last]; have : cfg0.N = 16 := N_0; omega
  rw [show (dats m 0 c).Φ (Fin.last cfg0.N) = inv m c (Fin.last cfg0.N).val (Nat.le_of_lt_succ (Fin.last cfg0.N).isLt) from rfl, inv_pos m c _ _ hl, inv_eq]
  iintro ⟨⟨%xs, %hx, HS⟩, Hg⟩
  isplitl [HS]
  · iexists _; iexact HS
  iexact Hg

-- the launch theorem's implicit arguments are found by unification through plain definitions
set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- Every fair execution ends with the arrays as the proof data say. -/
theorem runs : θ_run defs (onTc (τ := τ) (main (F := F))) (s₀ m ρ) (Pipeline.FramePost cfgs (dats m) 0 (V m)) :=
  (θ_run defs _ _).mono (fun _ h => h.1) (run_quiescent m ρ)

/-- The arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (runs m ρ)) ((θ_run defs _ _).mono (fun _ h => h.2) (run_quiescent m ρ))

end Cert.GconvIdeal.Carry

end
-- ==== Proof.GconvBlk.lean ====
module

public import proofs.«01_k».proof.Proof.GconvIdealFrame
public import proofs.«01_k».proof.Proof.Rows
public import Idealize.ShloMosaic.Lib.Tactic
public import Idealize.ShloMosaic.Lib.Pointwise
public import Idealize.ShloMosaic.Lib.Pipeline.ValueKit

@[expose] public section

set_option maxRecDepth 16384

noncomputable section

namespace Cert.GconvIdeal.Hand

open Cert.GconvIdeal Cert.GconvIdeal.Gen Cert.GconvIdeal.Carry Cert.Layer Idealize.ShloMosaic Idealize.ShloMosaic.TcCoe Idealize.SL.Sem

abbrev rowLen : EReal := Ideal.ofBits .f32 1157627904#32
abbrev eps : EReal := Ideal.ofBits .f32 897988541#32

/-! ## What the stores write -/

section Payloads

variable (x0 : Vec Ideal S512x2048 .f32) (x1 : Vec Ideal S1x2048 .f32) (x2 : Vec Ideal S1x2048x3072 .bf16)

/-- Column `n` of the block's row `r`, normed and projected. -/
abbrev bproj (r : Fin 512) (n : Fin 3072) : EReal :=
  vecMat (rms rowLen eps (fun k => x0 (ix2 r k)) fun k => x1 (ix2 0 k)) (fun k n => x2 (ix3 0 k n)) n

/-- Row `r` of what the convolution runs over, and the row `R` of its extension by two rows before it. -/
abbrev bu (r : Fin 512) (j : Fin 1024) : EReal :=
  bproj x0 x1 x2 r ⟨1024 + j.val, by have := j.isLt; omega⟩ * bproj x0 x1 x2 r ⟨2048 + j.val, by have := j.isLt; omega⟩
abbrev bext (hist : Fin 2 → Fin 1024 → EReal) (R : ℕ) (j : Fin 1024) : EReal := extend (fun i => hist i j) (fun i : Fin 512 => bu x0 x1 x2 i j) R

theorem pay8_apply (i01) (i02) (i03) (i04) (r : Fin 512) (j : Fin 1024) :
    k0_pay8 (F := Ideal) (k0_pay6 (View.ld x0 (Rect.unit ![0, 0] ![512, 2048] i01)) (View.ld x1 (Rect.unit ![0, 0] ![1, 2048] i02)))
      (k0_pay7 (View.ld x2 (Rect.unit ![0, 0, 1024] ![1, 2048, 1024] i03))) (View.ld x2 (Rect.unit ![0, 0, 2048] ![1, 2048, 1024] i04)) (ix2 r j) = bu x0 x1 x2 r j := by
  pointwise [k0_pay8, k0_pay6, k0_pay7]
  rfl

theorem gate_apply (i01) (i02) (i03) (r : Fin 512) (j : Fin 1024) :
    (∑ k : Fin 2048, k0_pay6 (F := Ideal) (View.ld x0 (Rect.unit ![0, 0] ![512, 2048] i01)) (View.ld x1 (Rect.unit ![0, 0] ![1, 2048] i02)) (ix2 r k)
      * View.ld x2 (Rect.unit ![0, 0, 0] ![1, 2048, 1024] i03) (ix3 0 k j)) = bproj x0 x1 x2 r ⟨j.val, by have := j.isLt; omega⟩ := by
  unfold bproj vecMat
  refine Finset.sum_congr rfl fun k _ => ?_
  pointwise [k0_pay6]
  rfl

end Payloads

theorem pay11_apply (h : FVec Ideal S512x2048 .bf16) (w : FVec Ideal S2048x1024 .bf16) (w' : Vec Ideal S1x2048x1024 .bf16) (r : Fin 512) (j : Fin 1024) :
    k0_pay11 (F := Ideal) h w w' (ix2 r j) = k0_pay8 (F := Ideal) h w w' (ix2 r j) := by
  unfold k0_pay11
  generalize k0_pay8 (F := Ideal) h w w' = u
  pointwise

theorem pay13_apply (h : FVec Ideal S512x2048 .bf16) (w : FVec Ideal S2048x1024 .bf16) (w' : Vec Ideal S1x2048x1024 .bf16) (cw : Vec Ideal S3x1024 .f32) (a : Vec Ideal S512x1024 .f32) (r : Fin 512) (j : Fin 1024) :
    k0_pay13 (F := Ideal) h w w' cw a (ix2 r j) = k0_pay8 (F := Ideal) h w w' (ix2 r j) * cw (ix2 2 j) + a (ix2 r j) * cw (ix2 0 j) := by
  unfold k0_pay13
  generalize k0_pay8 (F := Ideal) h w w' = u
  pointwise [k0_pay12]

theorem pay1_apply (h : FVec Ideal S512x2048 .bf16) (cw : Vec Ideal S3x1024 .f32) (s : FVec Ideal S512x1024 .f32) (b : Vec Ideal S512x1024 .f32) (w : Vec Ideal S1x2048x1024 .bf16) (r : Fin 512) (j : Fin 1024) :
    k0_pay1 (F := Ideal) h (k0_pay12 cw) s b w (ix2 r j) = (∑ k : Fin 2048, h (ix2 r k) * w (ix3 0 k j)) * (s (ix2 r j) + b (ix2 r j) * cw (ix2 1 j)) := by
  pointwise [k0_pay1, k0_pay12]

theorem pay2_apply (s : Vec Ideal S2x1024 .f32) (r : Fin 2) (j : Fin 1024) : k0_pay2 (F := Ideal) s (ix3 0 r j) = s (ix2 r j) := by
  pointwise [k0_pay2]
theorem pay9_apply (s : Vec Ideal S1x2x1024 .f32) (r : Fin 2) (j : Fin 1024) : k0_pay9 (F := Ideal) s (ix2 r j) = s (ix3 0 r j) := by
  pointwise [k0_pay9]
theorem pay10_apply (s : Vec Ideal S2x1024 .f32) (r : Fin 2) (j : Fin 1024) : k0_pay10 (F := Ideal) s (ix2 r j) = s (ix2 r j) := by
  pointwise [k0_pay10]
theorem pay3_apply (s : Vec Ideal S1x128x2048 .f32) (r : Fin 128) (j : Fin 2048) : k0_pay3 (F := Ideal) s (ix2 r j) = s (ix3 0 r j) := by
  pointwise [k0_pay3]
theorem pay4_apply (s : Vec Ideal S1x128x5632 .f32) (r : Fin 128) (j : Fin 5632) : k0_pay4 (F := Ideal) s (ix2 r j) = s (ix3 0 r j) := by
  pointwise [k0_pay4]
theorem pay5_apply (s : Vec Ideal S1x352x2048 .f32) (r : Fin 352) (j : Fin 2048) : k0_pay5 (F := Ideal) s (ix2 r j) = s (ix3 0 r j) := by
  pointwise [k0_pay5]

theorem hz : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-! ## The block's results -/

section Block

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048x3072 .bf16) (harg3 : arg3.IsWhole) (arg4 : Memref sig .tc .vmem S3x1024 .f32) (harg4 : arg4.IsWhole) (arg5 : Memref sig .tc .vmem S1x2x1024 .f32) (harg5 : arg5.IsWhole) (arg6 : Memref sig .tc .vmem S1x128x2048 .f32) (harg6 : arg6.IsWhole) (arg7 : Memref sig .tc .vmem S1x128x5632 .f32) (harg7 : arg7.IsWhole) (arg8 : Memref sig .tc .vmem S1x352x2048 .f32) (harg8 : arg8.IsWhole) (arg9 : Memref sig .tc .vmem S512x1024 .bf16) (harg9 : arg9.IsWhole) (arg10 : Memref sig .tc .vmem S1x2x1024 .f32) (harg10 : arg10.IsWhole) (arg11 : Memref sig .tc .vmem S128x2048 .bf16) (harg11 : arg11.IsWhole) (arg12 : Memref sig .tc .vmem S128x5632 .bf16) (harg12 : arg12.IsWhole) (arg13 : Memref sig .tc .vmem S352x2048 .bf16) (harg13 : arg13.IsWhole) (arg14 : Memref sig .tc .vmem S520x1024 .f32) (harg14 : arg14.IsWhole)
variable (x0 : Vec Ideal S512x2048 .f32) (x1 : Vec Ideal S1x2048 .f32) (x2 : Vec Ideal S1x2048x3072 .bf16) (x3 : Vec Ideal S3x1024 .f32) (x4 : Vec Ideal S1x2x1024 .f32) (x5 : Vec Ideal S1x128x2048 .f32) (x6 : Vec Ideal S1x128x5632 .f32) (x7 : Vec Ideal S1x352x2048 .f32)

theorem new_apply (r : Fin 512) (j : Fin 1024) : (k0_pay11 (k0_pay6 (View.ld x0 (Rect.unit ![0, 0] ![512, 2048] inb_S512x2048_S512x2048_0_0)) (View.ld x1 (Rect.unit ![0, 0] ![1, 2048] inb_S1x2048_S1x2048_0_0))) (k0_pay7 (View.ld x2 (Rect.unit ![0, 0, 1024] ![1, 2048, 1024] inb_S1x2048x3072_S1x2048x1024_0_0_1024))) (View.ld x2 (Rect.unit ![0, 0, 2048] ![1, 2048, 1024] inb_S1x2048x3072_S1x2048x1024_0_0_2048))) (ix2 r j) = bu x0 x1 x2 r j :=
  (pay11_apply _ _ _ r j).trans (pay8_apply x0 x1 x2 _ _ _ _ r j)

theorem y_A (h0 : first i) (h1 : ¬later i) (r : Fin 512) (j : Fin 1024) :
    View.canon (runA c i _ harg1 _ harg2 _ harg3 _ harg4 _ harg5 _ harg6 _ harg7 _ harg8 _ harg9 _ harg10 _ harg11 _ harg12 _ harg13 _ harg14 h0 h1 x0 x1 x2 x3 x4 x5 x6 x7).1 (ix2 r j)
      = bproj x0 x1 x2 r ⟨j.val, by have := j.isLt; omega⟩ * (bu x0 x1 x2 r j * x3 (ix2 2 j) + bext x0 x1 x2 (fun i j => x4 (ix3 0 i j)) r.val j * x3 (ix2 0 j) + bext x0 x1 x2 (fun i j => x4 (ix3 0 i j)) (1 + r.val) j * x3 (ix2 1 j)) := by
  unfold runA
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S512x1024) hz, View.ld_unit_zero (S := S3x1024) hz]
  rw [pay1_apply, gate_apply, pay13_apply, pay8_apply]
  have l0 := fun t ht htl inbL => load_extend (l := 512) arg14.view 6 8 t rfl ht htl inb_S520x1024_S512x1024_8_0 inb_S520x1024_S2x1024_6_0 inbL (k0_pay11 (k0_pay6 (View.ld x0 (Rect.unit ![0, 0] ![512, 2048] inb_S512x2048_S512x2048_0_0)) (View.ld x1 (Rect.unit ![0, 0] ![1, 2048] inb_S1x2048_S1x2048_0_0))) (k0_pay7 (View.ld x2 (Rect.unit ![0, 0, 1024] ![1, 2048, 1024] inb_S1x2048x3072_S1x2048x1024_0_0_1024))) (View.ld x2 (Rect.unit ![0, 0, 2048] ![1, 2048, 1024] inb_S1x2048x3072_S1x2048x1024_0_0_2048))) (k0_pay9 (View.ld x4 (Rect.unit ![0, 0, 0] ![1, 2, 1024] inb_S1x2x1024_S1x2x1024_0_0_0))) []
  have e0 := (l0 6 (by decide) (by decide) inb_S520x1024_S512x1024_6_0 r j).trans (extend_congr (fun i => (pay9_apply _ i j).trans (by rw [View.ld_unit_zero (S := S1x2x1024) hz3])) (fun i => new_apply x0 x1 x2 i j) _)
  have e1 := (l0 7 (by decide) (by decide) inb_S520x1024_S512x1024_7_0 r j).trans (extend_congr (fun i => (pay9_apply _ i j).trans (by rw [View.ld_unit_zero (S := S1x2x1024) hz3])) (fun i => new_apply x0 x1 x2 i j) _)
  rw [show 6 - 6 + r.val = r.val by omega] at e0
  rw [show 7 - 6 + r.val = 1 + r.val by omega] at e1
  exact congrArg₂ (fun a b => _ * (_ + a * _ + b * _)) e0 e1

theorem state_A (h0 : first i) (h1 : ¬later i) (r : Fin 2) (j : Fin 1024) :
    View.canon (runA c i _ harg1 _ harg2 _ harg3 _ harg4 _ harg5 _ harg6 _ harg7 _ harg8 _ harg9 _ harg10 _ harg11 _ harg12 _ harg13 _ harg14 h0 h1 x0 x1 x2 x3 x4 x5 x6 x7).2.1 (ix3 0 r j) = bext x0 x1 x2 (fun i j => x4 (ix3 0 i j)) (512 + r.val) j := by
  unfold runA
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S1x2x1024) hz3]
  have l0 := fun t ht htl inbL => load_extend (l := 2) arg14.view 6 8 t rfl ht htl inb_S520x1024_S512x1024_8_0 inb_S520x1024_S2x1024_6_0 inbL (k0_pay11 (k0_pay6 (View.ld x0 (Rect.unit ![0, 0] ![512, 2048] inb_S512x2048_S512x2048_0_0)) (View.ld x1 (Rect.unit ![0, 0] ![1, 2048] inb_S1x2048_S1x2048_0_0))) (k0_pay7 (View.ld x2 (Rect.unit ![0, 0, 1024] ![1, 2048, 1024] inb_S1x2048x3072_S1x2048x1024_0_0_1024))) (View.ld x2 (Rect.unit ![0, 0, 2048] ![1, 2048, 1024] inb_S1x2048x3072_S1x2048x1024_0_0_2048))) (k0_pay9 (View.ld x4 (Rect.unit ![0, 0, 0] ![1, 2, 1024] inb_S1x2x1024_S1x2x1024_0_0_0))) []
  exact (pay2_apply _ r j).trans ((l0 518 (by decide) (by decide) inb_S520x1024_S2x1024_518_0 r j).trans (extend_congr (fun i => (pay9_apply _ i j).trans (by rw [View.ld_unit_zero (S := S1x2x1024) hz3])) (fun i => new_apply x0 x1 x2 i j) _))

theorem tail_A (h0 : first i) (h1 : ¬later i) (r : Fin 2) (j : Fin 1024) :
    View.ld (View.canon (runA c i _ harg1 _ harg2 _ harg3 _ harg4 _ harg5 _ harg6 _ harg7 _ harg8 _ harg9 _ harg10 _ harg11 _ harg12 _ harg13 _ harg14 h0 h1 x0 x1 x2 x3 x4 x5 x6 x7).2.2.2.2.2.1) tailRect (ix2 r j) = bu x0 x1 x2 ⟨510 + r.val, by have := r.isLt; omega⟩ j := by
  have e : View.ld (View.canon (runA c i _ harg1 _ harg2 _ harg3 _ harg4 _ harg5 _ harg6 _ harg7 _ harg8 _ harg9 _ harg10 _ harg11 _ harg12 _ harg13 _ harg14 h0 h1 x0 x1 x2 x3 x4 x5 x6 x7).2.2.2.2.2.1) tailRect (ix2 r j) = View.canon (runA c i _ harg1 _ harg2 _ harg3 _ harg4 _ harg5 _ harg6 _ harg7 _ harg8 _ harg9 _ harg10 _ harg11 _ harg12 _ harg13 _ harg14 h0 h1 x0 x1 x2 x3 x4 x5 x6 x7).2.2.2.2.2.1 (ix2 (⟨518 + r.val, by have := r.isLt; omega⟩ : Fin 520) j) := by
    show View.canon _ _ = _
    refine congrArg _ ?_
    funext a
    apply Fin.ext
    match a with
    | ⟨0, _⟩ => show 518 + 1 * r.val = 518 + r.val; omega
    | ⟨1, _⟩ => show 0 + 1 * j.val = j.val; omega
  rw [e]
  unfold runA
  dsimp only
  sl_unfold_words
  simp only [View.readAt_eq_ld, harg1.read_unread, harg2.read_unread, harg3.read_unread, harg4.read_unread, harg5.read_unread, harg6.read_unread, harg7.read_unread, harg8.read_unread, harg14.read_unread]
  refine (canon_rows_hit 8 inb_S520x1024_S512x1024_8_0 _ _ _ j ⟨510 + r.val, by have := r.isLt; omega⟩ (by show 518 + r.val = 8 + (510 + r.val); omega)).trans ?_
  exact new_apply x0 x1 x2 _ j

theorem cast10_A (h0 : first i) (h1 : ¬later i) (r : Fin 128) (j : Fin 2048) : View.canon (runA c i _ harg1 _ harg2 _ harg3 _ harg4 _ harg5 _ harg6 _ harg7 _ harg8 _ harg9 _ harg10 _ harg11 _ harg12 _ harg13 _ harg14 h0 h1 x0 x1 x2 x3 x4 x5 x6 x7).2.2.1 (ix2 r j) = x5 (ix3 0 r j) := by
  unfold runA
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S128x2048) hz, View.ld_unit_zero (S := S1x128x2048) hz3]
  exact pay3_apply _ r j

theorem cast11_A (h0 : first i) (h1 : ¬later i) (r : Fin 128) (j : Fin 5632) : View.canon (runA c i _ harg1 _ harg2 _ harg3 _ harg4 _ harg5 _ harg6 _ harg7 _ harg8 _ harg9 _ harg10 _ harg11 _ harg12 _ harg13 _ harg14 h0 h1 x0 x1 x2 x3 x4 x5 x6 x7).2.2.2.1 (ix2 r j) = x6 (ix3 0 r j) := by
  unfold runA
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S128x5632) hz, View.ld_unit_zero (S := S1x128x5632) hz3]
  exact pay4_apply _ r j

theorem cast12_A (h0 : first i) (h1 : ¬later i) (r : Fin 352) (j : Fin 2048) : View.canon (runA c i _ harg1 _ harg2 _ harg3 _ harg4 _ harg5 _ harg6 _ harg7 _ harg8 _ harg9 _ harg10 _ harg11 _ harg12 _ harg13 _ harg14 h0 h1 x0 x1 x2 x3 x4 x5 x6 x7).2.2.2.2.1 (ix2 r j) = x7 (ix3 0 r j) := by
  unfold runA
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S352x2048) hz, View.ld_unit_zero (S := S1x352x2048) hz3]
  exact pay5_apply _ r j

theorem y_B (h0 : ¬first i) (h1 : later i) (xs : Vec Ideal S520x1024 .f32) (r : Fin 512) (j : Fin 1024) :
    View.canon (runB c i _ harg1 _ harg2 _ harg3 _ harg4 _ harg5 _ harg6 _ harg7 _ harg8 _ harg9 _ harg10 _ harg11 _ harg12 _ harg13 _ harg14 h0 h1 x0 x1 x2 x3 x4 x5 x6 x7 xs).1 (ix2 r j)
      = bproj x0 x1 x2 r ⟨j.val, by have := j.isLt; omega⟩ * (bu x0 x1 x2 r j * x3 (ix2 2 j) + bext x0 x1 x2 (fun i j => View.ld xs tailRect (ix2 i j)) r.val j * x3 (ix2 0 j) + bext x0 x1 x2 (fun i j => View.ld xs tailRect (ix2 i j)) (1 + r.val) j * x3 (ix2 1 j)) := by
  unfold runB
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S512x1024) hz, View.ld_unit_zero (S := S3x1024) hz]
  rw [pay1_apply, gate_apply, pay13_apply, pay8_apply]
  have l0 := fun t ht htl inbL => load_extend (l := 512) arg14.view 6 8 t rfl ht htl inb_S520x1024_S512x1024_8_0 inb_S520x1024_S2x1024_6_0 inbL (k0_pay11 (k0_pay6 (View.ld x0 (Rect.unit ![0, 0] ![512, 2048] inb_S512x2048_S512x2048_0_0)) (View.ld x1 (Rect.unit ![0, 0] ![1, 2048] inb_S1x2048_S1x2048_0_0))) (k0_pay7 (View.ld x2 (Rect.unit ![0, 0, 1024] ![1, 2048, 1024] inb_S1x2048x3072_S1x2048x1024_0_0_1024))) (View.ld x2 (Rect.unit ![0, 0, 2048] ![1, 2048, 1024] inb_S1x2048x3072_S1x2048x1024_0_0_2048))) (k0_pay10 (View.ld xs tailRect)) []
  have e0 := (l0 6 (by decide) (by decide) inb_S520x1024_S512x1024_6_0 r j).trans (extend_congr (fun i => pay10_apply _ i j) (fun i => new_apply x0 x1 x2 i j) _)
  have e1 := (l0 7 (by decide) (by decide) inb_S520x1024_S512x1024_7_0 r j).trans (extend_congr (fun i => pay10_apply _ i j) (fun i => new_apply x0 x1 x2 i j) _)
  rw [show 6 - 6 + r.val = r.val by omega] at e0
  rw [show 7 - 6 + r.val = 1 + r.val by omega] at e1
  exact congrArg₂ (fun a b => _ * (_ + a * _ + b * _)) e0 e1

theorem state_B (h0 : ¬first i) (h1 : later i) (xs : Vec Ideal S520x1024 .f32) (r : Fin 2) (j : Fin 1024) :
    View.canon (runB c i _ harg1 _ harg2 _ harg3 _ harg4 _ harg5 _ harg6 _ harg7 _ harg8 _ harg9 _ harg10 _ harg11 _ harg12 _ harg13 _ harg14 h0 h1 x0 x1 x2 x3 x4 x5 x6 x7 xs).2.1 (ix3 0 r j) = bext x0 x1 x2 (fun i j => View.ld xs tailRect (ix2 i j)) (512 + r.val) j := by
  unfold runB
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S1x2x1024) hz3]
  have l0 := fun t ht htl inbL => load_extend (l := 2) arg14.view 6 8 t rfl ht htl inb_S520x1024_S512x1024_8_0 inb_S520x1024_S2x1024_6_0 inbL (k0_pay11 (k0_pay6 (View.ld x0 (Rect.unit ![0, 0] ![512, 2048] inb_S512x2048_S512x2048_0_0)) (View.ld x1 (Rect.unit ![0, 0] ![1, 2048] inb_S1x2048_S1x2048_0_0))) (k0_pay7 (View.ld x2 (Rect.unit ![0, 0, 1024] ![1, 2048, 1024] inb_S1x2048x3072_S1x2048x1024_0_0_1024))) (View.ld x2 (Rect.unit ![0, 0, 2048] ![1, 2048, 1024] inb_S1x2048x3072_S1x2048x1024_0_0_2048))) (k0_pay10 (View.ld xs tailRect)) []
  exact (pay2_apply _ r j).trans ((l0 518 (by decide) (by decide) inb_S520x1024_S2x1024_518_0 r j).trans (extend_congr (fun i => pay10_apply _ i j) (fun i => new_apply x0 x1 x2 i j) _))

theorem tail_B (h0 : ¬first i) (h1 : later i) (xs : Vec Ideal S520x1024 .f32) (r : Fin 2) (j : Fin 1024) :
    View.ld (View.canon (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.2.2.2.1) tailRect (ix2 r j) = bu x0 x1 x2 ⟨510 + r.val, by have := r.isLt; omega⟩ j := by
  have e : View.ld (View.canon (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.2.2.2.1) tailRect (ix2 r j) = View.canon (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.2.2.2.1 (ix2 (⟨518 + r.val, by have := r.isLt; omega⟩ : Fin 520) j) := by
    show View.canon _ _ = _
    refine congrArg _ ?_
    funext a
    apply Fin.ext
    match a with
    | ⟨0, _⟩ => show 518 + 1 * r.val = 518 + r.val; omega
    | ⟨1, _⟩ => show 0 + 1 * j.val = j.val; omega
  rw [e]
  unfold runB
  dsimp only
  sl_unfold_words
  simp only [View.readAt_eq_ld, harg1.read_unread, harg2.read_unread, harg3.read_unread, harg4.read_unread, harg5.read_unread, harg6.read_unread, harg7.read_unread, harg8.read_unread, harg14.read_unread]
  refine (canon_rows_hit 8 inb_S520x1024_S512x1024_8_0 _ _ _ j ⟨510 + r.val, by have := r.isLt; omega⟩ (by show 518 + r.val = 8 + (510 + r.val); omega)).trans ?_
  exact new_apply x0 x1 x2 _ j

theorem cast10_B (h0 : ¬first i) (h1 : later i) (xs : Vec Ideal S520x1024 .f32) (r : Fin 128) (j : Fin 2048) : View.canon (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.1 (ix2 r j) = x5 (ix3 0 r j) := by
  unfold runB
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S128x2048) hz, View.ld_unit_zero (S := S1x128x2048) hz3]
  exact pay3_apply _ r j

theorem cast11_B (h0 : ¬first i) (h1 : later i) (xs : Vec Ideal S520x1024 .f32) (r : Fin 128) (j : Fin 5632) : View.canon (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.2.1 (ix2 r j) = x6 (ix3 0 r j) := by
  unfold runB
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S128x5632) hz, View.ld_unit_zero (S := S1x128x5632) hz3]
  exact pay4_apply _ r j

theorem cast12_B (h0 : ¬first i) (h1 : later i) (xs : Vec Ideal S520x1024 .f32) (r : Fin 352) (j : Fin 2048) : View.canon (runB c i _ harg1 _ harg2 _ harg3 _ harg4 _ harg5 _ harg6 _ harg7 _ harg8 _ harg9 _ harg10 _ harg11 _ harg12 _ harg13 _ harg14 h0 h1 x0 x1 x2 x3 x4 x5 x6 x7 xs).2.2.2.2.1 (ix2 r j) = x7 (ix3 0 r j) := by
  unfold runB
  dsimp only
  sl_unfold_words
  simp only [View.readAt_eq_ld, harg1.read_unread, harg2.read_unread, harg3.read_unread, harg4.read_unread, harg5.read_unread, harg6.read_unread, harg7.read_unread, harg8.read_unread, harg14.read_unread]
  rw [View.canon_unit_zero (S := S352x2048) hz, View.ld_unit_zero (S := S1x352x2048) hz3]
  exact pay5_apply _ r j

end Block

end Cert.GconvIdeal.Hand

end
-- ==== Proof.GconvVal.lean ====
module

public import proofs.«01_k».proof.Proof.GconvBlk

@[expose] public section

noncomputable section

namespace Cert.GconvIdeal.Hand

open Cert.GconvIdeal Cert.GconvIdeal.Gen Cert.GconvIdeal.Carry Cert.Layer Idealize.ShloMosaic Idealize.ShloMosaic.TcCoe Idealize.SL.Sem

variable (m : (ℓ : Loc nD τ sig) → Buf (Elt Ideal) ℓ) (ρ : Dev nD → PrngReg)

/-! ## The arguments, entry by entry -/

abbrev bat (R : Fin 8192) : Fin 2 := ⟨R.val / 4096, by have := R.isLt; omega⟩
abbrev tok (R : Fin 8192) : Fin 4096 := ⟨R.val % 4096, Nat.mod_lt _ (by decide)⟩
abbrev X (c : Dev nD) (b : Fin 2) (s : Fin 4096) (k : Fin 2048) : EReal := m ((c : Thread nD τ).loc main_arg0) (ix3 b s k)
abbrev G (c : Dev nD) (k : Fin 2048) : EReal := m ((c : Thread nD τ).loc main_arg1) (ix2 (0 : Fin 2) k)
abbrev W (c : Dev nD) (k : Fin 2048) (n : Fin 6144) : EReal := m ((c : Thread nD τ).loc main_arg2) (ix3 (0 : Fin 1) k n)
abbrev CW (c : Dev nD) (i : Fin 3) (j : Fin 1024) : EReal := m ((c : Thread nD τ).loc main_arg3) (ix3 (0 : Fin 1) i j)
abbrev WO (c : Dev nD) (k : Fin 2048) (n : Fin 2048) : EReal := m ((c : Thread nD τ).loc main_arg4) (ix3 (0 : Fin 1) k n)
abbrev WU (c : Dev nD) (k : Fin 2048) (n : Fin 5632) : EReal := m ((c : Thread nD τ).loc main_arg5) (ix3 (1 : Fin 2) k n)
abbrev WD (c : Dev nD) (k : Fin 5632) (n : Fin 2048) : EReal := m ((c : Thread nD τ).loc main_arg6) (ix3 (1 : Fin 2) k n)

/-- A token normed and projected at column `n`, what the convolution runs over, and its extension by two rows of zeros. -/
abbrev proj (c : Dev nD) (b : Fin 2) (s : Fin 4096) (n : Fin 6144) : EReal := vecMat (rms rowLen eps (X m c b s) (G m c)) (W m c) n
abbrev U (c : Dev nD) (b : Fin 2) (s : Fin 4096) (j : Fin 1024) : EReal :=
  proj m c b s ⟨4096 + j.val, by have := j.isLt; omega⟩ * proj m c b s ⟨5120 + j.val, by have := j.isLt; omega⟩
abbrev E (c : Dev nD) (b : Fin 2) (R : ℕ) (j : Fin 1024) : EReal := extend (fun _ : Fin 2 => (0 : EReal)) (fun i : Fin 4096 => U m c b i j) R

/-! ## What the region finds in the arrays the host prepares -/

set_option maxRecDepth 16384 in
theorem flat_apply (y : FVec Ideal S2x4096x2048 .f32) (R : Fin 8192) (k : Fin 2048) :
    shapeCast S8192x2048 y shapeCasts_S2x4096x2048_S8192x2048 (ix2 R k) = y (ix3 (bat R) (tok R) k) := by
  pointwise

theorem V_x (c : Dev nD) (R : Fin 8192) (k : Fin 2048) : V m c main_v0 (ix2 R k) = X m c (bat R) (tok R) k := by
  have e : V m c main_v0 = shapeCast S8192x2048 (m ((c : Thread nD τ).loc main_arg0) : FVec Ideal S2x4096x2048 .f32) shapeCasts_S2x4096x2048_S8192x2048 := by
    unfold V
    after_results
    rfl
  rw [e]
  exact flat_apply _ R k

set_option maxRecDepth 16384 in
theorem V_g (c : Dev nD) (k : Fin 2048) : V m c main_v3 (ix2 0 k) = G m c k := by
  have e : V m c main_v3 = shapeCast S1x2048 (shapeCast S2048 (extractStridedSlice S1x2048 ![0, 0] (m ((c : Thread nD τ).loc main_arg1)) slices_S2x2048_S1x2048_0_0) shapeCasts_S1x2048_S2048) shapeCasts_S2048_S1x2048 := by
    unfold V
    after_results
    rfl
  rw [e]
  pointwise

set_option maxRecDepth 16384 in
theorem V_w (c : Dev nD) (k : Fin 2048) (n : Fin 6144) : V m c main_v4 (ix3 0 k n) = W m c k n := by
  have e : V m c main_v4 = (truncf .bf16 (m ((c : Thread nD τ).loc main_arg2) : FVec Ideal S1x2048x6144 .f32) bitsLt_bf16_f32 : FVec Ideal S1x2048x6144 .bf16) := by
    unfold V
    after_results
  rw [e]
  pointwise

set_option maxRecDepth 16384 in
theorem cw_apply (y : FVec Ideal S1x3x1024 .f32) (i : Fin 3) (j : Fin 1024) :
    shapeCast S3x1024 y shapeCasts_S1x3x1024_S3x1024 (ix2 i j) = y (ix3 (0 : Fin 1) i j) := by
  pointwise

theorem V_cw (c : Dev nD) (i : Fin 3) (j : Fin 1024) : V m c main_v5 (ix2 i j) = CW m c i j := by
  have e : V m c main_v5 = shapeCast S3x1024 (m ((c : Thread nD τ).loc main_arg3)) shapeCasts_S1x3x1024_S3x1024 := by
    unfold V
    after_results
    rfl
  rw [e]
  exact cw_apply _ i j

theorem zeros_apply (i : S2x2x1024.Idx) : (broadcastInDim S2x2x1024 ![] bcast_S_S2x2x1024 (constant S_ .f32 0x00000000#32) : FVec Ideal S2x2x1024 .f32) i = 0 := by
  obtain ⟨a, b, d, rfl⟩ : ∃ (a b : Fin 2) (d : Fin 1024), i = ix3 a b d := ⟨i 0, i 1, i 2, eq_ix3 i⟩
  pointwise

theorem V_z (c : Dev nD) (i : S2x2x1024.Idx) : V m c main_v6 i = (0 : EReal) := by
  have e : V m c main_v6 = (broadcastInDim S2x2x1024 ![] bcast_S_S2x2x1024 (constant S_ .f32 0x00000000#32) : FVec Ideal S2x2x1024 .f32) := by
    unfold V
    after_results
  rw [e]
  exact zeros_apply i

/-! ## The blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 1 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx5 : ∀ t : Fin cfg0.N, win0_5.index t (0 : Fin 3) = 0 ∧ win0_5.index t (1 : Fin 3) = t.val ∧ win0_5.index t (2 : Fin 3) = 0 :=
  (by decide +kernel : ∀ t : Fin grid0.N, _)
theorem idx6 : ∀ t : Fin cfg0.N, win0_6.index t (0 : Fin 3) = 1 ∧ win0_6.index t (1 : Fin 3) = t.val ∧ win0_6.index t (2 : Fin 3) = 0 :=
  (by decide +kernel : ∀ t : Fin grid0.N, _)
theorem idx7 : ∀ t : Fin cfg0.N, win0_7.index t (0 : Fin 3) = 1 ∧ win0_7.index t (1 : Fin 3) = t.val ∧ win0_7.index t (2 : Fin 3) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 3) = t.val / 8 ∧ win0_9.index t (1 : Fin 3) = 0 ∧ win0_9.index t (2 : Fin 3) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

theorem N_lt (t : Fin cfg0.N) : t.val < 16 := lt_of_lt_of_eq t.isLt N_0
theorem row_lt (t : Fin cfg0.N) (r : Fin 512) : 512 * t.val + r.val < 8192 := by
  have := N_lt t; have := r.isLt; omega
/-- Row `r` of point `t`'s block. -/
abbrev rowOf (t : Fin cfg0.N) (r : Fin 512) : Fin 8192 := ⟨512 * t.val + r.val, row_lt t r⟩
theorem wrow_lt (t : Fin cfg0.N) (r : Fin 128) : 128 * t.val + r.val < 2048 := by
  have := N_lt t; have := r.isLt; omega
theorem drow_lt (t : Fin cfg0.N) (r : Fin 352) : 352 * t.val + r.val < 5632 := by
  have := N_lt t; have := r.isLt; omega

theorem blk0 (c : Dev nD) (t : Fin cfg0.N) (r : Fin 512) (k : Fin 2048) : (iblk m c 0 t : Vec Ideal S512x2048 .f32) (ix2 r k) = X m c (bat (rowOf t r)) (tok (rowOf t r)) k := by
  have hi := idx0 t
  unfold iblk
  rw [View.read_apply]
  refine Eq.trans ?_ (V_x m c (rowOf t r) k)
  show V m c main_v0 _ = V m c main_v0 _
  congr 1
  funext a
  apply Fin.ext
  match a with
  | ⟨0, _⟩ => show win0_0.index t 0 * 512 + 1 * r.val = 512 * t.val + r.val; rw [hi.1]; all_goals omega
  | ⟨1, _⟩ => show win0_0.index t 1 * 2048 + 1 * k.val = k.val; rw [hi.2]; all_goals omega

theorem blk1 (c : Dev nD) (t : Fin cfg0.N) (k : Fin 2048) : (iblk m c 1 t : Vec Ideal S1x2048 .f32) (ix2 0 k) = G m c k := by
  have hi := idx1 t
  unfold iblk
  rw [View.read_apply]
  refine Eq.trans ?_ (V_g m c k)
  show V m c main_v3 _ = V m c main_v3 _
  congr 1
  funext a
  apply Fin.ext
  match a with
  | ⟨0, _⟩ => show win0_1.index t 0 * 1 + 1 * 0 = 0; rw [hi.1]; all_goals omega
  | ⟨1, _⟩ => show win0_1.index t 1 * 2048 + 1 * k.val = k.val; rw [hi.2]; all_goals omega

theorem blk2 (c : Dev nD) (t : Fin cfg0.N) (k : Fin 2048) (n : Fin 3072) : (iblk m c 2 t : Vec Ideal S1x2048x3072 .bf16) (ix3 0 k n) = W m c k ⟨3072 + n.val, by have := n.isLt; omega⟩ := by
  have hi := idx2 t
  unfold iblk
  rw [View.read_apply]
  refine Eq.trans ?_ (V_w m c k ⟨3072 + n.val, by have := n.isLt; omega⟩)
  show V m c main_v4 _ = V m c main_v4 _
  congr 1
  funext a
  apply Fin.ext
  match a with
  | ⟨0, _⟩ => show win0_2.index t 0 * 1 + 1 * 0 = 0; rw [hi.1]; all_goals omega
  | ⟨1, _⟩ => show win0_2.index t 1 * 2048 + 1 * k.val = k.val; rw [hi.2.1]; all_goals omega
  | ⟨2, _⟩ => show win0_2.index t 2 * 3072 + 1 * n.val = 3072 + n.val; rw [hi.2.2]; all_goals omega

theorem blk3 (c : Dev nD) (t : Fin cfg0.N) (i : Fin 3) (j : Fin 1024) : (iblk m c 3 t : Vec Ideal S3x1024 .f32) (ix2 i j) = CW m c i j := by
  have hi := idx3 t
  unfold iblk
  rw [View.read_apply]
  refine Eq.trans ?_ (V_cw m c i j)
  show V m c main_v5 _ = V m c main_v5 _
  congr 1
  funext a
  apply Fin.ext
  match a with
  | ⟨0, _⟩ => show win0_3.index t 0 * 3 + 1 * i.val = i.val; rw [hi.1]; all_goals omega
  | ⟨1, _⟩ => show win0_3.index t 1 * 1024 + 1 * j.val = j.val; rw [hi.2]; all_goals omega

theorem blk4 (c : Dev nD) (t : Fin cfg0.N) (y : S1x2x1024.Idx) : (iblk m c 4 t : Vec Ideal S1x2x1024 .f32) y = (0 : EReal) := by
  unfold iblk
  rw [View.read_apply]
  exact V_z m c _

theorem blk5 (c : Dev nD) (t : Fin cfg0.N) (r : Fin 128) (n : Fin 2048) : (iblk m c 5 t : Vec Ideal S1x128x2048 .f32) (ix3 0 r n) = WO m c ⟨128 * t.val + r.val, wrow_lt t r⟩ n := by
  have hi := idx5 t
  unfold iblk
  rw [View.read_apply]
  refine Eq.trans ?_ (congrFun (V_main_arg4 m c) (ix3 (0 : Fin 1) (⟨128 * t.val + r.val, wrow_lt t r⟩ : Fin 2048) n))
  show V m c main_arg4 _ = V m c main_arg4 _
  congr 1
  funext a
  apply Fin.ext
  match a with
  | ⟨0, _⟩ => show win0_5.index t 0 * 1 + 1 * 0 = 0; rw [hi.1]; all_goals omega
  | ⟨1, _⟩ => show win0_5.index t 1 * 128 + 1 * r.val = 128 * t.val + r.val; rw [hi.2.1]; all_goals omega
  | ⟨2, _⟩ => show win0_5.index t 2 * 2048 + 1 * n.val = n.val; rw [hi.2.2]; all_goals omega

theorem blk6 (c : Dev nD) (t : Fin cfg0.N) (r : Fin 128) (n : Fin 5632) : (iblk m c 6 t : Vec Ideal S1x128x5632 .f32) (ix3 0 r n) = WU m c ⟨128 * t.val + r.val, wrow_lt t r⟩ n := by
  have hi := idx6 t
  unfold iblk
  rw [View.read_apply]
  refine Eq.trans ?_ (congrFun (V_main_arg5 m c) (ix3 (1 : Fin 2) (⟨128 * t.val + r.val, wrow_lt t r⟩ : Fin 2048) n))
  show V m c main_arg5 _ = V m c main_arg5 _
  congr 1
  funext a
  apply Fin.ext
  match a with
  | ⟨0, _⟩ => show win0_6.index t 0 * 1 + 1 * 0 = 1; rw [hi.1]; all_goals omega
  | ⟨1, _⟩ => show win0_6.index t 1 * 128 + 1 * r.val = 128 * t.val + r.val; rw [hi.2.1]; all_goals omega
  | ⟨2, _⟩ => show win0_6.index t 2 * 5632 + 1 * n.val = n.val; rw [hi.2.2]; all_goals omega

theorem blk7 (c : Dev nD) (t : Fin cfg0.N) (r : Fin 352) (n : Fin 2048) : (iblk m c 7 t : Vec Ideal S1x352x2048 .f32) (ix3 0 r n) = WD m c ⟨352 * t.val + r.val, drow_lt t r⟩ n := by
  have hi := idx7 t
  unfold iblk
  rw [View.read_apply]
  refine Eq.trans ?_ (congrFun (V_main_arg6 m c) (ix3 (1 : Fin 2) (⟨352 * t.val + r.val, drow_lt t r⟩ : Fin 5632) n))
  show V m c main_arg6 _ = V m c main_arg6 _
  congr 1
  funext a
  apply Fin.ext
  match a with
  | ⟨0, _⟩ => show win0_7.index t 0 * 1 + 1 * 0 = 1; rw [hi.1]; all_goals omega
  | ⟨1, _⟩ => show win0_7.index t 1 * 352 + 1 * r.val = 352 * t.val + r.val; rw [hi.2.1]; all_goals omega
  | ⟨2, _⟩ => show win0_7.index t 2 * 2048 + 1 * n.val = n.val; rw [hi.2.2]; all_goals omega

theorem blk_proj (c : Dev nD) (t : Fin cfg0.N) (r : Fin 512) (n : Fin 3072) :
    bproj (iblk m c 0 t) (iblk m c 1 t) (iblk m c 2 t) r n = proj m c (bat (rowOf t r)) (tok (rowOf t r)) ⟨3072 + n.val, by have := n.isLt; omega⟩ := by
  unfold bproj proj vecMat
  refine Finset.sum_congr rfl fun k _ => ?_
  exact congrArg₂ (· * ·) (rms_congr _ _ (fun l => blk0 m c t r l) (fun l => blk1 m c t l) k) (blk2 m c t k n)

theorem blk_u (c : Dev nD) (t : Fin cfg0.N) (r : Fin 512) (j : Fin 1024) :
    bu (iblk m c 0 t) (iblk m c 1 t) (iblk m c 2 t) r j = U m c (bat (rowOf t r)) (tok (rowOf t r)) j :=
  congrArg₂ (· * ·) ((blk_proj m c t r _).trans (congrArg (proj m c _ _) (Fin.ext (by show 3072 + (1024 + j.val) = 4096 + j.val; omega))))
    ((blk_proj m c t r _).trans (congrArg (proj m c _ _) (Fin.ext (by show 3072 + (2048 + j.val) = 5120 + j.val; omega))))

/-! ## The rows carried from point to point -/

/-- The last two rows of what the convolution ran over at a point are what the point leaves for the next. -/
theorem tail_apply (c : Dev nD) (t : Fin cfg0.N) (i : Fin 2) (j : Fin 1024) :
    (outs m c t.val t.isLt).2.2.2.2.2 (ix2 i j) = U m c (bat (rowOf t ⟨510 + i.val, by have := i.isLt; omega⟩)) (tok (rowOf t ⟨510 + i.val, by have := i.isLt; omega⟩)) j := by
  refine Eq.trans ?_ (blk_u m c t ⟨510 + i.val, by have := i.isLt; omega⟩ j)
  by_cases h0 : t.val % 8 = 0
  · rw [outs_A m c t h0]
    unfold leftA
    dsimp only
    exact tail_A ..
  · rw [outs_B m c t h0]
    unfold leftB
    dsimp only
    exact tail_B ..

theorem U_congr (c : Dev nD) {b b' : Fin 2} {s s' : Fin 4096} (j : Fin 1024) (hb : b.val = b'.val) (hs : s.val = s'.val) : U m c b s j = U m c b' s' j := by
  rw [Fin.ext hb, Fin.ext hs]

/-- At the first point of a sequence the history is the zeros before it; -/
theorem ext_A (c : Dev nD) (t : Fin cfg0.N) (h0 : t.val % 8 = 0) (R : ℕ) (hR : R < 514) (j : Fin 1024) :
    bext (iblk m c 0 t) (iblk m c 1 t) (iblk m c 2 t) (fun i j => (iblk m c 4 t : Vec Ideal S1x2x1024 .f32) (ix3 0 i j)) R j
      = E m c (bat (rowOf t 0)) (512 * (t.val % 8) + R) j := by
  have ht := N_lt t
  refine (extend_congr (fun i => blk4 m c t _) (fun i => blk_u m c t i j) R).trans ?_
  unfold E extend
  by_cases h : R < 2
  · rw [dif_pos h, dif_pos (show 512 * (t.val % 8) + R < 2 by omega)]
  · rw [dif_neg h, dif_neg (show ¬ 512 * (t.val % 8) + R < 2 by omega), dif_pos (show R - 2 < 512 by omega), dif_pos (show 512 * (t.val % 8) + R - 2 < 4096 by omega)]
    refine U_congr m c j ?_ ?_
    · show (512 * t.val + (R - 2)) / 4096 = (512 * t.val + 0) / 4096; omega
    · show (512 * t.val + (R - 2)) % 4096 = 512 * (t.val % 8) + R - 2; omega

/-- at a later one it is the sequence's two rows before the block. -/
theorem ext_B (c : Dev nD) (t : Fin cfg0.N) (h0 : ¬t.val % 8 = 0) (hp : t.val - 1 < cfg0.N) (R : ℕ) (hR : R < 514) (j : Fin 1024) :
    bext (iblk m c 0 t) (iblk m c 1 t) (iblk m c 2 t) (fun i j => View.ld (spread ((outs m c (t.val - 1) hp).2.2.2.2.2)) tailRect (ix2 i j)) R j
      = E m c (bat (rowOf t 0)) (512 * (t.val % 8) + R) j := by
  have ht := N_lt t
  refine (extend_congr (fun i => (congrFun (ld_spread _) (ix2 i j)).trans (tail_apply m c ⟨t.val - 1, hp⟩ i j)) (fun i => blk_u m c t i j) R).trans ?_
  unfold E extend
  by_cases h : R < 2
  · rw [dif_pos h, dif_neg (show ¬ 512 * (t.val % 8) + R < 2 by omega), dif_pos (show 512 * (t.val % 8) + R - 2 < 4096 by omega)]
    refine U_congr m c j ?_ ?_
    · show (512 * (t.val - 1) + (510 + R)) / 4096 = (512 * t.val + 0) / 4096; omega
    · show (512 * (t.val - 1) + (510 + R)) % 4096 = 512 * (t.val % 8) + R - 2; omega
  · rw [dif_neg h, dif_neg (show ¬ 512 * (t.val % 8) + R < 2 by omega), dif_pos (show R - 2 < 512 by omega), dif_pos (show 512 * (t.val % 8) + R - 2 < 4096 by omega)]
    refine U_congr m c j ?_ ?_
    · show (512 * t.val + (R - 2)) / 4096 = (512 * t.val + 0) / 4096; omega
    · show (512 * t.val + (R - 2)) % 4096 = 512 * (t.val % 8) + R - 2; omega

/-! ## What a point leaves in the outputs' buffers -/

theorem left8 (c : Dev nD) (t : Fin cfg0.N) (r : Fin 512) (j : Fin 1024) :
    (outs m c t.val t.isLt).1 (ix2 r j) = proj m c (bat (rowOf t r)) (tok (rowOf t r)) ⟨3072 + j.val, by have := j.isLt; omega⟩
      * (U m c (bat (rowOf t r)) (tok (rowOf t r)) j * CW m c 2 j + E m c (bat (rowOf t 0)) (512 * (t.val % 8) + r.val) j * CW m c 0 j + E m c (bat (rowOf t 0)) (512 * (t.val % 8) + (1 + r.val)) j * CW m c 1 j) := by
  have hr := r.isLt
  by_cases h0 : t.val % 8 = 0
  · rw [outs_A m c t h0]
    unfold leftA
    dsimp only
    refine (y_A ..).trans ?_
    rw [blk_proj, blk_u, ext_A m c t h0 _ (by omega), ext_A m c t h0 _ (by omega), blk3, blk3, blk3]
  · rw [outs_B m c t h0]
    unfold leftB
    dsimp only
    refine (y_B ..).trans ?_
    rw [blk_proj, blk_u, ext_B m c t h0 _ _ (by omega), ext_B m c t h0 _ _ (by omega), blk3, blk3, blk3]

theorem left9 (c : Dev nD) (t : Fin cfg0.N) (i : Fin 2) (j : Fin 1024) :
    (outs m c t.val t.isLt).2.1 (ix3 0 i j) = E m c (bat (rowOf t 0)) (512 * (t.val % 8) + (512 + i.val)) j := by
  have hr := i.isLt
  by_cases h0 : t.val % 8 = 0
  · rw [outs_A m c t h0]
    unfold leftA
    dsimp only
    refine (state_A ..).trans ?_
    exact ext_A m c t h0 _ (by omega) j
  · rw [outs_B m c t h0]
    unfold leftB
    dsimp only
    refine (state_B ..).trans ?_
    exact ext_B m c t h0 _ _ (by omega) j

theorem left10 (c : Dev nD) (t : Fin cfg0.N) (r : Fin 128) (n : Fin 2048) :
    (outs m c t.val t.isLt).2.2.1 (ix2 r n) = WO m c ⟨128 * t.val + r.val, wrow_lt t r⟩ n := by
  refine Eq.trans ?_ (blk5 m c t r n)
  by_cases h0 : t.val % 8 = 0
  · rw [outs_A m c t h0]
    unfold leftA
    dsimp only
    exact cast10_A ..
  · rw [outs_B m c t h0]
    unfold leftB
    dsimp only
    exact cast10_B ..

theorem left11 (c : Dev nD) (t : Fin cfg0.N) (r : Fin 128) (n : Fin 5632) :
    (outs m c t.val t.isLt).2.2.2.1 (ix2 r n) = WU m c ⟨128 * t.val + r.val, wrow_lt t r⟩ n := by
  refine Eq.trans ?_ (blk6 m c t r n)
  by_cases h0 : t.val % 8 = 0
  · rw [outs_A m c t h0]
    unfold leftA
    dsimp only
    exact cast11_A ..
  · rw [outs_B m c t h0]
    unfold leftB
    dsimp only
    exact cast11_B ..

theorem left12 (c : Dev nD) (t : Fin cfg0.N) (r : Fin 352) (n : Fin 2048) :
    (outs m c t.val t.isLt).2.2.2.2.1 (ix2 r n) = WD m c ⟨352 * t.val + r.val, drow_lt t r⟩ n := by
  refine Eq.trans ?_ (blk7 m c t r n)
  by_cases h0 : t.val % 8 = 0
  · rw [outs_A m c t h0]
    unfold leftA
    dsimp only
    exact cast12_A ..
  · rw [outs_B m c t h0]
    unfold leftB
    dsimp only
    exact cast12_B ..

/-! ## The result arrays -/

theorem flushed8 (c : Dev nD) (t : Fin cfg0.N) :
    (dats m 0 c).flushed 8 t = (cfg0.win 8).cut (grid0.coords t) ((outs m c t.val t.isLt).1) := by
  show (cfg0.win 8).cut (grid0.coords t) ((dats m 0 c).after 8 t) = _
  rw [after8]

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (Fin.ext ((idx8 t).1.symm.trans ((congrFun h 0).trans (idx8 t').1)))

theorem blocks8 (c : Dev nD) (t : Fin cfg0.N) (hf : (cfg0.win 8).flush t = true) :
    ((cfg0.win 8).blk t).view.read (Elt Ideal) ((dats m 0 c).arrAt 8 cfg0.N) = (dats m 0 c).flushed 8 t :=
  (dats m 0 c).read_blk_arrAt_eq_flushed 8 disjoint8 cfg0.N t t.isLt hf

theorem flushed9 (c : Dev nD) (t : Fin cfg0.N) :
    (dats m 0 c).flushed 9 t = (cfg0.win 9).cut (grid0.coords t) ((outs m c t.val t.isLt).2.1) := by
  show (cfg0.win 9).cut (grid0.coords t) ((dats m 0 c).after 9 t) = _
  rw [after9]

theorem disjoint9 : ∀ t t' : Fin cfg0.N, (cfg0.win 9).flush t = true → (cfg0.win 9).flush t' = true → t ≠ t' →
    Disjoint ((cfg0.win 9).blk t).view.set ((cfg0.win 9).blk t').view.set :=
  fun t t' hf hf' hne => (cfg0.win 9).disjoint_blk fun h => hne (Fin.ext (by
    have e : t.val / 8 = t'.val / 8 := (idx9 t).1.symm.trans ((congrFun h 0).trans (idx9 t').1)
    have a := (flush0_9 t).mp hf
    have b := (flush0_9 t').mp hf'
    omega))

theorem blocks9 (c : Dev nD) (t : Fin cfg0.N) (hf : (cfg0.win 9).flush t = true) :
    ((cfg0.win 9).blk t).view.read (Elt Ideal) ((dats m 0 c).arrAt 9 cfg0.N) = (dats m 0 c).flushed 9 t :=
  (dats m 0 c).read_blk_arrAt_eq_flushed 9 disjoint9 cfg0.N t t.isLt hf

theorem flushed10 (c : Dev nD) (t : Fin cfg0.N) :
    (dats m 0 c).flushed 10 t = (cfg0.win 10).cut (grid0.coords t) ((outs m c t.val t.isLt).2.2.1) := by
  show (cfg0.win 10).cut (grid0.coords t) ((dats m 0 c).after 10 t) = _
  rw [after10]

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (Fin.ext ((idx10 t).1.symm.trans ((congrFun h 0).trans (idx10 t').1)))

theorem blocks10 (c : Dev nD) (t : Fin cfg0.N) (hf : (cfg0.win 10).flush t = true) :
    ((cfg0.win 10).blk t).view.read (Elt Ideal) ((dats m 0 c).arrAt 10 cfg0.N) = (dats m 0 c).flushed 10 t :=
  (dats m 0 c).read_blk_arrAt_eq_flushed 10 disjoint10 cfg0.N t t.isLt hf

theorem flushed11 (c : Dev nD) (t : Fin cfg0.N) :
    (dats m 0 c).flushed 11 t = (cfg0.win 11).cut (grid0.coords t) ((outs m c t.val t.isLt).2.2.2.1) := by
  show (cfg0.win 11).cut (grid0.coords t) ((dats m 0 c).after 11 t) = _
  rw [after11]

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (Fin.ext ((idx11 t).1.symm.trans ((congrFun h 0).trans (idx11 t').1)))

theorem blocks11 (c : Dev nD) (t : Fin cfg0.N) (hf : (cfg0.win 11).flush t = true) :
    ((cfg0.win 11).blk t).view.read (Elt Ideal) ((dats m 0 c).arrAt 11 cfg0.N) = (dats m 0 c).flushed 11 t :=
  (dats m 0 c).read_blk_arrAt_eq_flushed 11 disjoint11 cfg0.N t t.isLt hf

theorem flushed12 (c : Dev nD) (t : Fin cfg0.N) :
    (dats m 0 c).flushed 12 t = (cfg0.win 12).cut (grid0.coords t) ((outs m c t.val t.isLt).2.2.2.2.1) := by
  show (cfg0.win 12).cut (grid0.coords t) ((dats m 0 c).after 12 t) = _
  rw [after12]

theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (Fin.ext ((idx12 t).1.symm.trans ((congrFun h 0).trans (idx12 t').1)))

theorem blocks12 (c : Dev nD) (t : Fin cfg0.N) (hf : (cfg0.win 12).flush t = true) :
    ((cfg0.win 12).blk t).view.read (Elt Ideal) ((dats m 0 c).arrAt 12 cfg0.N) = (dats m 0 c).flushed 12 t :=
  (dats m 0 c).read_blk_arrAt_eq_flushed 12 disjoint12 cfg0.N t t.isLt hf

theorem rows_split (R : Fin 8192) : ∃ (t : Fin cfg0.N) (r : Fin 512), R = rowOf t r :=
  ⟨⟨R.val / 512, lt_of_lt_of_eq (show R.val / 512 < 16 by have := R.isLt; omega) N_0.symm⟩, ⟨R.val % 512, Nat.mod_lt _ (by decide)⟩,
    Fin.ext (by show R.val = 512 * (R.val / 512) + R.val % 512; omega)⟩

theorem E_congr (c : Dev nD) {b b' : Fin 2} {R R' : ℕ} (j : Fin 1024) (hb : b.val = b'.val) (hR : R = R') : E m c b R j = E m c b' R' j := by
  rw [Fin.ext hb, hR]

theorem y_apply (c : Dev nD) (R : Fin 8192) (j : Fin 1024) :
    ((dats m 0 c).arrAt 8 cfg0.N : Vec Ideal S8192x1024 .bf16) (ix2 R j)
      = proj m c (bat R) (tok R) ⟨3072 + j.val, by have := j.isLt; omega⟩
        * (U m c (bat R) (tok R) j * CW m c 2 j + E m c (bat R) (R.val % 4096) j * CW m c 0 j + E m c (bat R) (1 + R.val % 4096) j * CW m c 1 j) := by
  obtain ⟨t, r, rfl⟩ := rows_split R
  have e := congrFun ((blocks8 m c t (flush0_8 t)).trans (flushed8 m c t)) (ix2 r j)
  rw [View.read_apply] at e
  have hi := idx8 t
  have hx : (((cfg0.win 8).blk t).view.emb (ix2 r j) : S8192x1024.Idx) = ix2 (rowOf t r) j := by
    funext a
    apply Fin.ext
    match a with
    | ⟨0, _⟩ => show win0_8.index t 0 * 512 + 1 * r.val = 512 * t.val + r.val; rw [hi.1]; omega
    | ⟨1, _⟩ => show win0_8.index t 1 * 1024 + 1 * j.val = j.val; rw [hi.2]; omega
  rw [← hx]
  refine e.trans ((left8 m c t r j).trans ?_)
  have hr := r.isLt
  refine congrArg₂ (fun a b => _ * (_ + a * _ + b * _)) (E_congr m c j ?_ ?_) (E_congr m c j ?_ ?_)
  · show (512 * t.val + 0) / 4096 = (512 * t.val + r.val) / 4096; omega
  · show 512 * (t.val % 8) + r.val = (512 * t.val + r.val) % 4096; omega
  · show (512 * t.val + 0) / 4096 = (512 * t.val + r.val) / 4096; omega
  · show 512 * (t.val % 8) + (1 + r.val) = 1 + (512 * t.val + r.val) % 4096; omega

theorem state_apply (c : Dev nD) (b : Fin 2) (i : Fin 2) (j : Fin 1024) :
    ((dats m 0 c).arrAt 9 cfg0.N : Vec Ideal S2x2x1024 .f32) (ix3 b i j) = E m c b (4096 + i.val) j := by
  have hb := b.isLt
  obtain ⟨t, ht⟩ : ∃ t : Fin cfg0.N, t.val = 8 * b.val + 7 := ⟨⟨8 * b.val + 7, lt_of_lt_of_eq (by omega) N_0.symm⟩, rfl⟩
  have e := congrFun ((blocks9 m c t ((flush0_9 t).mpr (by omega))).trans (flushed9 m c t)) (ix3 0 i j)
  rw [View.read_apply] at e
  have hi := idx9 t
  have hx : (((cfg0.win 9).blk t).view.emb (ix3 0 i j) : S2x2x1024.Idx) = ix3 b i j := by
    funext a
    apply Fin.ext
    match a with
    | ⟨0, _⟩ => show win0_9.index t 0 * 1 + 1 * 0 = b.val; rw [hi.1]; omega
    | ⟨1, _⟩ => show win0_9.index t 1 * 2 + 1 * i.val = i.val; rw [hi.2.1]; omega
    | ⟨2, _⟩ => show win0_9.index t 2 * 1024 + 1 * j.val = j.val; rw [hi.2.2]; omega
  rw [← hx]
  refine e.trans ((left9 m c t i j).trans (E_congr m c j ?_ ?_))
  · show (512 * t.val + 0) / 4096 = b.val; omega
  · omega

set_option maxRecDepth 16384 in
theorem wo_apply (c : Dev nD) (R : Fin 2048) (j : Fin 2048) :
    ((dats m 0 c).arrAt 10 cfg0.N : Vec Ideal S2048x2048 .bf16) (ix2 R j) = WO m c R j := by
  obtain ⟨t, r, rfl⟩ : ∃ (t : Fin cfg0.N) (r : Fin 128), R = ⟨128 * t.val + r.val, wrow_lt t r⟩ :=
    ⟨⟨R.val / 128, lt_of_lt_of_eq (show R.val / 128 < 16 by have := R.isLt; omega) N_0.symm⟩, ⟨R.val % 128, Nat.mod_lt _ (by decide)⟩,
      Fin.ext (by show R.val = 128 * (R.val / 128) + R.val % 128; omega)⟩
  have e := congrFun ((blocks10 m c t (flush0_10 t)).trans (flushed10 m c t)) (ix2 r j)
  rw [View.read_apply] at e
  have hi := idx10 t
  have hx : (((cfg0.win 10).blk t).view.emb (ix2 r j) : S2048x2048.Idx) = ix2 (⟨128 * t.val + r.val, wrow_lt t r⟩ : Fin 2048) j := by
    funext a
    apply Fin.ext
    match a with
    | ⟨0, _⟩ => show win0_10.index t 0 * 128 + 1 * r.val = 128 * t.val + r.val; rw [hi.1]; omega
    | ⟨1, _⟩ => show win0_10.index t 1 * 2048 + 1 * j.val = j.val; rw [hi.2]; omega
  rw [← hx]
  exact e.trans (left10 m c t r j)

set_option maxRecDepth 16384 in
theorem wu_apply (c : Dev nD) (R : Fin 2048) (j : Fin 5632) :
    ((dats m 0 c).arrAt 11 cfg0.N : Vec Ideal S2048x5632 .bf16) (ix2 R j) = WU m c R j := by
  obtain ⟨t, r, rfl⟩ : ∃ (t : Fin cfg0.N) (r : Fin 128), R = ⟨128 * t.val + r.val, wrow_lt t r⟩ :=
    ⟨⟨R.val / 128, lt_of_lt_of_eq (show R.val / 128 < 16 by have := R.isLt; omega) N_0.symm⟩, ⟨R.val % 128, Nat.mod_lt _ (by decide)⟩,
      Fin.ext (by show R.val = 128 * (R.val / 128) + R.val % 128; omega)⟩
  have e := congrFun ((blocks11 m c t (flush0_11 t)).trans (flushed11 m c t)) (ix2 r j)
  rw [View.read_apply] at e
  have hi := idx11 t
  have hx : (((cfg0.win 11).blk t).view.emb (ix2 r j) : S2048x5632.Idx) = ix2 (⟨128 * t.val + r.val, wrow_lt t r⟩ : Fin 2048) j := by
    funext a
    apply Fin.ext
    match a with
    | ⟨0, _⟩ => show win0_11.index t 0 * 128 + 1 * r.val = 128 * t.val + r.val; rw [hi.1]; omega
    | ⟨1, _⟩ => show win0_11.index t 1 * 5632 + 1 * j.val = j.val; rw [hi.2]; omega
  rw [← hx]
  exact e.trans (left11 m c t r j)

set_option maxRecDepth 16384 in
theorem wd_apply (c : Dev nD) (R : Fin 5632) (j : Fin 2048) :
    ((dats m 0 c).arrAt 12 cfg0.N : Vec Ideal S5632x2048 .bf16) (ix2 R j) = WD m c R j := by
  obtain ⟨t, r, rfl⟩ : ∃ (t : Fin cfg0.N) (r : Fin 352), R = ⟨352 * t.val + r.val, drow_lt t r⟩ :=
    ⟨⟨R.val / 352, lt_of_lt_of_eq (show R.val / 352 < 16 by have := R.isLt; omega) N_0.symm⟩, ⟨R.val % 352, Nat.mod_lt _ (by decide)⟩,
      Fin.ext (by show R.val = 352 * (R.val / 352) + R.val % 352; omega)⟩
  have e := congrFun ((blocks12 m c t (flush0_12 t)).trans (flushed12 m c t)) (ix2 r j)
  rw [View.read_apply] at e
  have hi := idx12 t
  have hx : (((cfg0.win 12).blk t).view.emb (ix2 r j) : S5632x2048.Idx) = ix2 (⟨352 * t.val + r.val, drow_lt t r⟩ : Fin 5632) j := by
    funext a
    apply Fin.ext
    match a with
    | ⟨0, _⟩ => show win0_12.index t 0 * 352 + 1 * r.val = 352 * t.val + r.val; rw [hi.1]; omega
    | ⟨1, _⟩ => show win0_12.index t 1 * 2048 + 1 * j.val = j.val; rw [hi.2]; omega
  rw [← hx]
  exact e.trans (left12 m c t r j)

/-- The run, its five results named and its arguments unchanged. -/
theorem run_blocks : θ_run defs (onTc (τ := τ) (main (F := Ideal))) ⟨m, fun _ => 0, ρ⟩ fun r => ∀ c : Dev nD,
      r.2.mem ((c : Thread nD τ).loc main_v7_0) = (dats m 0 c).arrAt 8 cfg0.N
      ∧ r.2.mem ((c : Thread nD τ).loc main_v7_1) = (dats m 0 c).arrAt 9 cfg0.N
      ∧ r.2.mem ((c : Thread nD τ).loc main_v7_2) = (dats m 0 c).arrAt 10 cfg0.N
      ∧ r.2.mem ((c : Thread nD τ).loc main_v7_3) = (dats m 0 c).arrAt 11 cfg0.N
      ∧ r.2.mem ((c : Thread nD τ).loc main_v7_4) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 8, (h c).1 9, (h c).1 10, (h c).1 11, (h c).1 12,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c)))⟩)
    (runs m ρ)

end Cert.GconvIdeal.Hand

end
-- ==== Proof.GconvRefVal.lean ====
module

public import proofs.«01_k».proof.Proof.Gen.GconvRefIdeal.Run
public import proofs.«01_k».proof.Proof.Gen.GconvRefIdeal.Read
public import proofs.«01_k».proof.Proof.Common
public import Idealize.ShloMosaic.Lib.Pointwise
public import Idealize.ShloMosaic.Lib.Tactic

@[expose] public section

noncomputable section

namespace Cert.GconvRefIdeal.Hand

open Cert.GconvRefIdeal Cert.GconvRefIdeal.Read Cert.Layer Idealize.ShloMosaic Idealize.ShloMosaic.TcCoe Idealize.SL.Sem

variable (x0 : FVec Ideal S2x4096x2048 .f32) (x1 : FVec Ideal S2x2048 .f32) (x2 : FVec Ideal S1x2048x6144 .f32) (x3 : FVec Ideal S1x3x1024 .f32)

abbrev rowLen : EReal := Ideal.ofBits .f32 1157627904#32
abbrev eps : EReal := Ideal.ofBits .f32 897988541#32

/-- The projection of a token of a sequence, at column `n`. -/
theorem proj_apply (b : Fin 2) (t : Fin 4096) (n : Fin 6144) : val_main_v18 (F := Ideal) x0 x1 x2 (ix3 b t n)
    = vecMat (rms rowLen eps (fun k => x0 (ix3 b t k)) fun k => x1 (ix2 (0 : Fin 2) k)) (fun k n => x2 (ix3 (0 : Fin 1) k n)) n := by
  pointwise [val_main_v18, val_main_v16, val_main_v14, val_main_v13, val_main_v12, val_main_v1, val_main_v0, val_main_v11, val_main_v10, val_main_v9, val_main_v8, val_main_v7, val_main_cst_1, val_main_v6, val_main_v5, val_main_cst_0, val_main_v4, val_main_v3, val_main_cst, val_main_v2]
  rfl

/-- What the convolution runs over. -/
abbrev u (b : Fin 2) (t : Fin 4096) (j : Fin 1024) : EReal :=
  val_main_v18 (F := Ideal) x0 x1 x2 (ix3 b t ⟨4096 + j.val, by have := j.isLt; omega⟩) * val_main_v18 (F := Ideal) x0 x1 x2 (ix3 b t ⟨5120 + j.val, by have := j.isLt; omega⟩)

set_option maxRecDepth 16384 in
/-- Row `s` of a sequence's two rows of zeros and its tokens. -/
theorem ext_apply (b : Fin 2) (s : Fin 4098) (j : Fin 1024) : val_main_v23 (F := Ideal) x0 x1 x2 (ix3 b s j)
    = extend (fun _ : Fin 2 => (0 : EReal)) (fun i : Fin 4096 => u x0 x1 x2 b i j) s.val := by
  have hs := s.isLt
  unfold extend
  pointwise [val_main_v23, val_main_v22, val_main_v21, val_main_v20, val_main_v15, val_main_cst_2]
  by_cases h : s.val < 2
  · refine (dif_pos h).trans ((dif_pos h).trans ?_).symm
    rfl
  · refine (dif_neg h).trans ((dif_neg h).trans ((dif_pos (show s.val - 2 < 4096 by omega)).trans ?_)).symm
    rfl

set_option maxRecDepth 16384 in
theorem y_apply (R : Fin 8192) (j : Fin 1024) : val_main_v47 (F := Ideal) x0 x1 x2 x3 (ix2 R j)
    = val_main_v18 (F := Ideal) x0 x1 x2 (ix3 (⟨R.val / 4096, by have := R.isLt; omega⟩ : Fin 2) (⟨R.val % 4096, Nat.mod_lt _ (by decide)⟩ : Fin 4096) ⟨3072 + j.val, by have := j.isLt; omega⟩)
      * (val_main_v23 (F := Ideal) x0 x1 x2 (ix3 (⟨R.val / 4096, by have := R.isLt; omega⟩ : Fin 2) (⟨R.val % 4096, by omega⟩ : Fin 4098) j) * x3 (ix3 (0 : Fin 1) (0 : Fin 3) j)
        + val_main_v23 (F := Ideal) x0 x1 x2 (ix3 (⟨R.val / 4096, by have := R.isLt; omega⟩ : Fin 2) (⟨1 + R.val % 4096, by omega⟩ : Fin 4098) j) * x3 (ix3 (0 : Fin 1) (1 : Fin 3) j)
        + val_main_v23 (F := Ideal) x0 x1 x2 (ix3 (⟨R.val / 4096, by have := R.isLt; omega⟩ : Fin 2) (⟨2 + R.val % 4096, by omega⟩ : Fin 4098) j) * x3 (ix3 (0 : Fin 1) (2 : Fin 3) j)) := by
  pointwise [val_main_v47, val_main_v46, val_main_v44, val_main_v43, val_main_v42, val_main_v41, val_main_v40, val_main_v39, val_main_v38, val_main_v17, val_main_v37, val_main_v36, val_main_v35, val_main_v34, val_main_v33, val_main_v32, val_main_v31, val_main_v30, val_main_v29, val_main_v28, val_main_v27, val_main_v26, val_main_v25, val_main_v24, val_main_v19]

set_option maxRecDepth 16384 in
theorem state_apply (b : Fin 2) (i : Fin 2) (j : Fin 1024) : val_main_v45 (F := Ideal) x0 x1 x2 (ix3 b i j)
    = val_main_v23 (F := Ideal) x0 x1 x2 (ix3 b (⟨4096 + i.val, by have := i.isLt; omega⟩ : Fin 4098) j) := by
  pointwise [val_main_v45]

set_option maxRecDepth 16384 in
theorem wo_apply (x4 : FVec Ideal S1x2048x2048 .f32) (R : Fin 2048) (j : Fin 2048) : val_main_v49 (F := Ideal) x4 (ix2 R j) = x4 (ix3 (0 : Fin 1) R j) := by
  pointwise [val_main_v49, val_main_v48]

set_option maxRecDepth 16384 in
theorem wu_apply (x5 : FVec Ideal S2x2048x5632 .f32) (R : Fin 2048) (j : Fin 5632) : val_main_v52 (F := Ideal) x5 (ix2 R j) = x5 (ix3 (1 : Fin 2) R j) := by
  pointwise [val_main_v52, val_main_v51, val_main_v50]

set_option maxRecDepth 16384 in
theorem wd_apply (x6 : FVec Ideal S2x5632x2048 .f32) (R : Fin 5632) (j : Fin 2048) : val_main_v55 (F := Ideal) x6 (ix2 R j) = x6 (ix3 (1 : Fin 2) R j) := by
  pointwise [val_main_v55, val_main_v54, val_main_v53]

end Cert.GconvRefIdeal.Hand

end
-- ==== Proof.GconvClaim.lean ====
module

public import proofs.«01_k».proof.Defs
public import proofs.«01_k».proof.Proof.GconvVal
public import proofs.«01_k».proof.Proof.GconvRefVal
public import proofs.«01_k».proof.Proof.Gen.GconvRefIdeal.Run
public import proofs.«01_k».proof.Proof.Gen.GconvRefIdeal.Read
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem quiescent_GconvRefIdeal : quiescent_GconvRefIdeal := fun m ρ _ =>
  (θ_run Cert.GconvRefIdeal.defs _ _).mono (fun r h => ⟨fun c => (h c).2.2.2.2.2, sem_eq_zero_of_no_sems (by decide) r.2⟩)
    (Cert.GconvRefIdeal.Value.run (F := Ideal) m ρ)

/-- The reference's zeros and tokens are the kernel's. -/
theorem ext_Gconv (m : (ℓ : Loc Cert.GconvIdeal.nD Cert.GconvIdeal.τ Cert.GconvIdeal.sig) → Buf (Elt Ideal) ℓ) (c : Dev Cert.GconvIdeal.nD) (b : Fin 2) (s : Fin 4098) (j : Fin 1024) :
    Cert.GconvRefIdeal.Read.val_main_v23 (F := Ideal) (m ((c : Thread Cert.GconvIdeal.nD Cert.GconvIdeal.τ).loc Cert.GconvIdeal.main_arg0)) (m ((c : Thread Cert.GconvIdeal.nD Cert.GconvIdeal.τ).loc Cert.GconvIdeal.main_arg1)) (m ((c : Thread Cert.GconvIdeal.nD Cert.GconvIdeal.τ).loc Cert.GconvIdeal.main_arg2)) (ix3 b s j)
      = Cert.GconvIdeal.Hand.E m c b s.val j :=
  (Cert.GconvRefIdeal.Hand.ext_apply _ _ _ b s j).trans (congrArg (fun f : Fin 4096 → EReal => Cert.Layer.extend (fun _ : Fin 2 => (0 : EReal)) f s.val)
    (funext fun i => congrArg₂ (· * ·) (Cert.GconvRefIdeal.Hand.proj_apply _ _ _ _ _ _) (Cert.GconvRefIdeal.Hand.proj_apply _ _ _ _ _ _)))

/-- The prompts' gated convolution, the state it leaves and the three weights it casts are the reference's once the arguments agree. -/
theorem algebraic_GconvIdeal_GconvRefIdeal : algebraic_GconvIdeal_GconvRefIdeal := by
  intro m ρ m' ρ' _ hagree
  refine ⟨_, _, _, _, _, Cert.GconvIdeal.Hand.run_blocks m ρ, ?_⟩
  refine (θ_run Cert.GconvRefIdeal.defs _ _).mono (fun _ h c => ⟨?_, ?_, ?_, ?_, ?_, (h c).2.2.2.2.2⟩) (Cert.GconvRefIdeal.Value.run (F := Ideal) m' ρ')
  · rw [(h c).1]
    obtain ⟨e0, e1, e2, e3, e4, e5, e6⟩ := hagree c
    rw [Cert.GconvRefIdeal.Read.val_main_v47_eq]
    funext i
    obtain ⟨R, j, rfl⟩ : ∃ (R : Fin 8192) (j : Fin 1024), i = ix2 R j := ⟨i 0, i 1, eq_ix2 i⟩
    have hR := R.isLt
    refine (Cert.GconvRefIdeal.Hand.y_apply _ _ _ _ R j).trans ?_
    refine Eq.trans ?_ (Cert.GconvIdeal.Hand.y_apply m c R j).symm
    rw [e0, e1, e2, e3]
    refine congrArg₂ (· * ·) (Cert.GconvRefIdeal.Hand.proj_apply _ _ _ _ _ _) ?_
    refine Eq.trans ?_ (add_rotate _ _ _).symm
    refine congrArg₂ (· + ·) (congrArg₂ (· + ·) (congrArg (· * _) ?_) (congrArg (· * _) ?_)) (congrArg (· * _) ?_)
    · exact ext_Gconv m c _ _ j
    · exact ext_Gconv m c _ _ j
    · refine (ext_Gconv m c _ _ j).trans ?_
      show Cert.Layer.extend _ _ _ = _
      unfold Cert.Layer.extend
      rw [dif_neg (show ¬ 2 + R.val % 4096 < 2 by omega), dif_pos (show 2 + R.val % 4096 - 2 < 4096 by omega)]
      exact congrArg (Cert.GconvIdeal.Hand.U m c _ · j) (Fin.ext (by show 2 + R.val % 4096 - 2 = R.val % 4096; omega))
  · rw [(h c).2.1]
    obtain ⟨e0, e1, e2, e3, e4, e5, e6⟩ := hagree c
    rw [Cert.GconvRefIdeal.Read.val_main_v45_eq]
    funext i
    obtain ⟨b, s, j, rfl⟩ : ∃ (b : Fin 2) (s : Fin 2) (j : Fin 1024), i = ix3 b s j := ⟨i 0, i 1, i 2, eq_ix3 i⟩
    refine (Cert.GconvRefIdeal.Hand.state_apply _ _ _ b s j).trans ?_
    refine Eq.trans ?_ (Cert.GconvIdeal.Hand.state_apply m c b s j).symm
    rw [e0, e1, e2]
    exact ext_Gconv m c b _ j
  · rw [(h c).2.2.1]
    obtain ⟨e0, e1, e2, e3, e4, e5, e6⟩ := hagree c
    rw [Cert.GconvRefIdeal.Read.val_main_v49_eq]
    funext i
    obtain ⟨R, j, rfl⟩ : ∃ (R : Fin 2048) (j : Fin 2048), i = ix2 R j := ⟨i 0, i 1, eq_ix2 i⟩
    refine (Cert.GconvRefIdeal.Hand.wo_apply _ R j).trans ?_
    refine Eq.trans ?_ (Cert.GconvIdeal.Hand.wo_apply m c R j).symm
    rw [e4]
  · rw [(h c).2.2.2.1]
    obtain ⟨e0, e1, e2, e3, e4, e5, e6⟩ := hagree c
    rw [Cert.GconvRefIdeal.Read.val_main_v52_eq]
    funext i
    obtain ⟨R, j, rfl⟩ : ∃ (R : Fin 2048) (j : Fin 5632), i = ix2 R j := ⟨i 0, i 1, eq_ix2 i⟩
    refine (Cert.GconvRefIdeal.Hand.wu_apply _ R j).trans ?_
    refine Eq.trans ?_ (Cert.GconvIdeal.Hand.wu_apply m c R j).symm
    rw [e5]
  · rw [(h c).2.2.2.2.1]
    obtain ⟨e0, e1, e2, e3, e4, e5, e6⟩ := hagree c
    rw [Cert.GconvRefIdeal.Read.val_main_v55_eq]
    funext i
    obtain ⟨R, j, rfl⟩ : ∃ (R : Fin 5632) (j : Fin 2048), i = ix2 R j := ⟨i 0, i 1, eq_ix2 i⟩
    refine (Cert.GconvRefIdeal.Hand.wd_apply _ R j).trans ?_
    refine Eq.trans ?_ (Cert.GconvIdeal.Hand.wd_apply m c R j).symm
    rw [e6]

end Cert.Proof

end
-- ==== Proof.PoolIdealRun.lean ====
module

public import proofs.«01_k».proof.Proof.Gen.PoolIdeal.Frame
public import proofs.«01_k».proof.Proof.Gen.PoolIdeal.Skeleton

@[expose] public section

set_option maxRecDepth 16384

noncomputable section

namespace Cert.PoolIdeal.Carry

open Cert.PoolIdeal Cert.PoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the very first, as the body computes it from its coordinate. -/
abbrev start (i : grid0.Coords) : Prop := (Scalar.cmpi .ne (Scalar.extui (Scalar.cmpi .eq (BitVec.ofNat 32 (i 0).val) 0#32)) 0#32) = 1#1

/-- The point is the first of its sequence, as the body computes it from its coordinate. -/
abbrev first (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1

/-- The point is a later one of its sequence, as the body computes it. -/
abbrev later (i : grid0.Coords) : Prop := (Scalar.cmpi .ne (Scalar.extui (Scalar.xori (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32) 1#1)) 0#32) = 1#1

theorem start_iff : ∀ t : Fin cfg0.N, start (grid0.coords t) ↔ t.val = 0 :=
  (by decide +kernel : ∀ t : Fin grid0.N, start (grid0.coords t) ↔ t.val = 0)

theorem first_iff : ∀ t : Fin cfg0.N, first (grid0.coords t) ↔ t.val % 8 = 0 :=
  (by decide +kernel : ∀ t : Fin grid0.N, first (grid0.coords t) ↔ t.val % 8 = 0)

theorem later_iff : ∀ t : Fin cfg0.N, later (grid0.coords t) ↔ ¬t.val % 8 = 0 :=
  (by decide +kernel : ∀ t : Fin grid0.N, later (grid0.coords t) ↔ ¬t.val % 8 = 0)

abbrev st0 (t : Fin cfg0.N) : Memref sig .tc .vmem S512x2048 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S1x2048 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x4x512x512 .bf16 := win0_2.stage (cfg0.slots t 2)
abbrev hst2 (t : Fin cfg0.N) : (st2 t).IsWhole := hstage0_2 ((cfg0.slots t 2).cast nbuf0_2)
abbrev st3 (t : Fin cfg0.N) : Memref sig .tc .vmem S1x2048 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S1x15x2048 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S512x2048 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S1x15x2048 .f32 := win0_6.stage (cfg0.slots t 6)
abbrev hst6 (t : Fin cfg0.N) : (st6 t).IsWhole := hstage0_6 ((cfg0.slots t 6).cast nbuf0_6)

/-- The scratch of normalised rows. -/
abbrev scr : Memref sig .tc .vmem S528x2048 .f32 := Memref.whole cc0_scratch0

/-- The scratch of band matrices. -/
abbrev bscr : Memref sig .tc .vmem S4x256x256 .bf16 := Memref.whole cc0_scratch1

/-- The rows of the scratch the next point reads. -/
abbrev tailRect : Rect S528x2048 := Rect.unit (s := S528x2048) ![513, 0] S15x2048.size inb_S528x2048_S15x2048_513_0

/-- Scratch contents whose tail rows are the given ones. -/
def spread (tl : Vec F S15x2048 .f32) : Vec F S528x2048 .f32 :=
  fun y => tl (fun | ⟨0, _⟩ => ⟨(y 0).val - 513, by have h : (y 0).val < 528 := (y 0).isLt; show _ < 15; omega⟩ | ⟨1, _⟩ => ⟨(y 1).val, (y 1).isLt⟩)

theorem ld_spread (tl : Vec F S15x2048 .f32) : View.ld (spread tl) tailRect = tl := by
  funext y
  show tl _ = tl y
  refine congrArg tl ?_
  funext a
  apply Fin.ext
  match a with
  | ⟨0, _⟩ => show 513 + 1 * (y 0).val - 513 = (y 0).val; omega
  | ⟨1, _⟩ => show 0 + 1 * (y 1).val = (y 1).val; omega

theorem inv_eq (c : Dev nD) :
    (Pipeline.ΦA spec0 c : sProp 𝕄)
      = iprop(iprop((∃ d, owns (c : Thread nD τ) scr fullShare d) ∗ (∃ d, owns (c : Thread nD τ) bscr fullShare d)) ∗ (∃ r, prngReg c r)) := by
  unfold Pipeline.ΦA; rw [scopedRest0_eq]; simp only [scr, bscr, owns_whole]; try rfl

section Runs

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x4x512x512 .bf16) (harg3 : arg3.IsWhole) (arg4 : Memref sig .tc .vmem S1x2048 .f32) (harg4 : arg4.IsWhole) (arg5 : Memref sig .tc .vmem S1x15x2048 .f32) (harg5 : arg5.IsWhole) (arg6 : Memref sig .tc .vmem S512x2048 .f32) (harg6 : arg6.IsWhole) (arg7 : Memref sig .tc .vmem S1x15x2048 .f32) (harg7 : arg7.IsWhole) (arg8 : Memref sig .tc .vmem S528x2048 .f32) (harg8 : arg8.IsWhole) (arg9 : Memref sig .tc .vmem S4x256x256 .bf16) (harg9 : arg9.IsWhole)

set_option maxHeartbeats 16000000 in
/-- What the body's stores leave in the outputs' buffers and in the scratches at a point that is the very first,
    as pieces (last first), and that the body, run on whole buffers, leaves these. -/
noncomputable def runZ (hz : start i) (h0 : first i) (h1 : ¬later i)
    (x0 : Vec F S512x2048 .f32) (x1 : Vec F S1x2048 .f32) (x2 : Vec F S1x4x512x512 .bf16) (x3 : Vec F S1x2048 .f32) (x4 : Vec F S1x15x2048 .f32) :
    Σ' (L5 : List (View.Piece (Elt F) S512x2048 .f32)), Σ' (L6 : List (View.Piece (Elt F) S1x15x2048 .f32)), Σ' (LB : List (View.Piece (Elt F) S4x256x256 .bf16)), { LS : List (View.Piece (Elt F) S528x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS) ∗ (∃ f, arg9.view.loc (c : Thread nD τ) ↦[arg9.view.set]{fullShare} arg9.view.writes (Elt F) f LB)) -∗ K ⟨⟩))
          ⊢ wp frame (wpE (defs₀ (F := F)) Variants.none c none) E (cc0_pool i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_pool_eq_skeleton]; unfold cc0_pool_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, ⟨%db, %fb, -, HB⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hz | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS]; · iexists _; iexact HS
    iexists _; iexact HB

set_option maxHeartbeats 16000000 in
/-- What the body's stores leave in the outputs' buffers and in the scratches at a point that is the first of the second sequence,
    as pieces (last first), and that the body, run on whole buffers, leaves these. -/
noncomputable def runA (hz : ¬start i) (h0 : first i) (h1 : ¬later i)
    (x0 : Vec F S512x2048 .f32) (x1 : Vec F S1x2048 .f32) (x2 : Vec F S1x4x512x512 .bf16) (x3 : Vec F S1x2048 .f32) (x4 : Vec F S1x15x2048 .f32) (xb : Vec F S4x256x256 .bf16) :
    Σ' (L5 : List (View.Piece (Elt F) S512x2048 .f32)), Σ' (L6 : List (View.Piece (Elt F) S1x15x2048 .f32)), { LS : List (View.Piece (Elt F) S528x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS) ∗ owns (c : Thread nD τ) arg9 fullShare xb) -∗ K ⟨⟩))
          ⊢ wp frame (wpE (defs₀ (F := F)) Variants.none c none) E (cc0_pool i arg1 harg1 arg2 harg2 arg3 harg3 arg4 harg4 arg5 harg5 arg6 harg6 arg7 harg7 arg8 harg8 arg9 harg9) K } := by
  refine ⟨?_, ?_, ?_, fun E K => ?run⟩
  case run =>
    simp only [cc0_pool_eq_skeleton]; unfold cc0_pool_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, ⟨%fb, %hfb, HB⟩, Hk⟩
    obtain rfl := harg1.eq_unread hf0; obtain rfl := harg2.eq_unread hf1; obtain rfl := harg3.eq_unread hf2; obtain rfl := harg4.eq_unread hf3; obtain rfl := harg5.eq_unread hf4
    obtain rfl := harg9.eq_unread hfb
    sl_exec (disch := first | sl_exact hz | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS]; · iexists _; iexact HS
    iexists _; isplitr; · ipureintro; exact harg9.read_unread _
    iexact HB

set_option maxHeartbeats 16000000 in
/-- What the body's stores leave in the outputs' buffers and in the scratches at a point that is a later one of its sequence,
    as pieces (last first), and that the body, run on whole buffers, leaves these. -/
noncomputable def runB (hz : ¬start i) (h0 : ¬first i) (h1 : later i)
    (x0 : Vec F S512x2048 .f32) (x1 : Vec F S1x2048 .f32) (x2 : Vec F S1x4x512x512 .bf16) (x3 : Vec F S1x2048 .f32) (x4 : Vec F S1x15x2048 .f32) (xb : Vec F S4x256x256 .bf16) (xs : Vec F S528x2048 .f32) :
    Σ' (L5 : List (View.Piece (Elt F) S512x2048 .f32)), Σ' (L6 : List (View.Piece (Elt F) S1x15x2048 .f32)), { LS : List (View.Piece (Elt F) S528x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs ∗ owns (c : Thread nD τ) arg9 fullShare xb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS) ∗ owns (c : Thread nD τ) arg9 fullShare xb) -∗ K ⟨⟩))
          ⊢ wp frame (wpE (defs₀ (F := F)) Variants.none c none) E (cc0_pool i arg1 harg1 arg2 harg2 arg3 harg3 arg4 harg4 arg5 harg5 arg6 harg6 arg7 harg7 arg8 harg8 arg9 harg9) K } := by
  refine ⟨?_, ?_, ?_, fun E K => ?run⟩
  case run =>
    simp only [cc0_pool_eq_skeleton]; unfold cc0_pool_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, ⟨%fb, %hfb, HB⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs
    obtain rfl := harg9.eq_unread hfb
    sl_exec (disch := first | sl_exact hz | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS]; · iexists _; iexact HS
    iexists _; isplitr; · ipureintro; exact harg9.read_unread _
    iexact HB

end Runs

end Cert.PoolIdeal.Carry

end
-- ==== Proof.PoolIdealFrame.lean ====
module

public import proofs.«01_k».proof.Proof.PoolIdealRun
public import Idealize.ShloMosaic.Lib.Claim
public import Idealize.ShloMosaic.Lib.Pipeline.Value

@[expose] public section

set_option maxRecDepth 16384

noncomputable section

namespace Cert.PoolIdeal.Carry

open Cert.PoolIdeal Cert.PoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Covers

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x4x512x512 .bf16) (harg3 : arg3.IsWhole) (arg4 : Memref sig .tc .vmem S1x2048 .f32) (harg4 : arg4.IsWhole) (arg5 : Memref sig .tc .vmem S1x15x2048 .f32) (harg5 : arg5.IsWhole) (arg6 : Memref sig .tc .vmem S512x2048 .f32) (harg6 : arg6.IsWhole) (arg7 : Memref sig .tc .vmem S1x15x2048 .f32) (harg7 : arg7.IsWhole) (arg8 : Memref sig .tc .vmem S528x2048 .f32) (harg8 : arg8.IsWhole) (arg9 : Memref sig .tc .vmem S4x256x256 .bf16) (harg9 : arg9.IsWhole)
variable (x0 : Vec F S512x2048 .f32) (x1 : Vec F S1x2048 .f32) (x2 : Vec F S1x4x512x512 .bf16) (x3 : Vec F S1x2048 .f32) (x4 : Vec F S1x15x2048 .f32)

theorem coverZ5 (hz : start i) (h0 : first i) (h1 : ¬later i) (y : S512x2048.Idx) : ∃ p ∈ (runZ c i _ harg1 _ harg2 _ harg3 _ harg4 _ harg5 _ harg6 _ harg7 _ harg8 _ harg9 hz h0 h1 x0 x1 x2 x3 x4).1, y ∈ p.1.set :=
  View.cover_of_tiledL (runZ c i _ harg1 _ harg2 _ harg3 _ harg4 _ harg5 _ harg6 _ harg7 _ harg8 _ harg9 hz h0 h1 x0 x1 x2 x3 x4).1 S256x512.size (by sl_kernel_rfl) y

theorem coverZ6 (hz : start i) (h0 : first i) (h1 : ¬later i) (y : S1x15x2048.Idx) : ∃ p ∈ (runZ c i _ harg1 _ harg2 _ harg3 _ harg4 _ harg5 _ harg6 _ harg7 _ harg8 _ harg9 hz h0 h1 x0 x1 x2 x3 x4).2.1, y ∈ p.1.set :=
  View.cover_of_tiledL (runZ c i _ harg1 _ harg2 _ harg3 _ harg4 _ harg5 _ harg6 _ harg7 _ harg8 _ harg9 hz h0 h1 x0 x1 x2 x3 x4).2.1 S1x15x2048.size (by sl_kernel_rfl) y

theorem coverBand (hz : start i) (h0 : first i) (h1 : ¬later i) (y : S4x256x256.Idx) : ∃ p ∈ (runZ c i _ harg1 _ harg2 _ harg3 _ harg4 _ harg5 _ harg6 _ harg7 _ harg8 _ harg9 hz h0 h1 x0 x1 x2 x3 x4).2.2.1, y ∈ p.1.set :=
  View.cover_of_tiledL (runZ c i _ harg1 _ harg2 _ harg3 _ harg4 _ harg5 _ harg6 _ harg7 _ harg8 _ harg9 hz h0 h1 x0 x1 x2 x3 x4).2.2.1 S1x256x256.size (by sl_kernel_rfl) y

/-- The rows the next point reads were stored. -/
theorem coverTailZ (hz : start i) (h0 : first i) (h1 : ¬later i) (j : S15x2048.Idx) : ∃ p ∈ (runZ c i _ harg1 _ harg2 _ harg3 _ harg4 _ harg5 _ harg6 _ harg7 _ harg8 _ harg9 hz h0 h1 x0 x1 x2 x3 x4).2.2.2.1, tailRect.idx j ∈ p.1.set := by
  unfold runZ; dsimp only
  refine ⟨_, List.mem_cons_self, (Rect.mem_set_unit (inb := inb_S528x2048_S512x2048_16_0)).mpr ?_⟩
  intro a
  match a with
  | ⟨0, _⟩ => exact ⟨(by have h : (j 0).val < 15 := (j 0).isLt; show 16 ≤ 513 + 1 * (j 0).val; omega), (by have h : (j 0).val < 15 := (j 0).isLt; show 513 + 1 * (j 0).val < 16 + 512; omega)⟩
  | ⟨1, _⟩ => exact ⟨Nat.zero_le _, (by have h : (j 1).val < 2048 := (j 1).isLt; show 0 + 1 * (j 1).val < 0 + 2048; omega)⟩

theorem coverA5 (hz : ¬start i) (h0 : first i) (h1 : ¬later i) (xb : Vec F S4x256x256 .bf16) (y : S512x2048.Idx) : ∃ p ∈ (runA c i _ harg1 _ harg2 _ harg3 _ harg4 _ harg5 _ harg6 _ harg7 _ harg8 _ harg9 hz h0 h1 x0 x1 x2 x3 x4 xb).1, y ∈ p.1.set :=
  View.cover_of_tiledL (runA c i _ harg1 _ harg2 _ harg3 _ harg4 _ harg5 _ harg6 _ harg7 _ harg8 _ harg9 hz h0 h1 x0 x1 x2 x3 x4 xb).1 S256x512.size (by sl_kernel_rfl) y

theorem coverA6 (hz : ¬start i) (h0 : first i) (h1 : ¬later i) (xb : Vec F S4x256x256 .bf16) (y : S1x15x2048.Idx) : ∃ p ∈ (runA c i _ harg1 _ harg2 _ harg3 _ harg4 _ harg5 _ harg6 _ harg7 _ harg8 _ harg9 hz h0 h1 x0 x1 x2 x3 x4 xb).2.1, y ∈ p.1.set :=
  View.cover_of_tiledL (runA c i _ harg1 _ harg2 _ harg3 _ harg4 _ harg5 _ harg6 _ harg7 _ harg8 _ harg9 hz h0 h1 x0 x1 x2 x3 x4 xb).2.1 S1x15x2048.size (by sl_kernel_rfl) y

/-- The rows the next point reads were stored. -/
theorem coverTailA (hz : ¬start i) (h0 : first i) (h1 : ¬later i) (xb : Vec F S4x256x256 .bf16) (j : S15x2048.Idx) : ∃ p ∈ (runA c i _ harg1 _ harg2 _ harg3 _ harg4 _ harg5 _ harg6 _ harg7 _ harg8 _ harg9 hz h0 h1 x0 x1 x2 x3 x4 xb).2.2.1, tailRect.idx j ∈ p.1.set := by
  unfold runA; dsimp only
  refine ⟨_, List.mem_cons_self, (Rect.mem_set_unit (inb := inb_S528x2048_S512x2048_16_0)).mpr ?_⟩
  intro a
  match a with
  | ⟨0, _⟩ => exact ⟨(by have h : (j 0).val < 15 := (j 0).isLt; show 16 ≤ 513 + 1 * (j 0).val; omega), (by have h : (j 0).val < 15 := (j 0).isLt; show 513 + 1 * (j 0).val < 16 + 512; omega)⟩
  | ⟨1, _⟩ => exact ⟨Nat.zero_le _, (by have h : (j 1).val < 2048 := (j 1).isLt; show 0 + 1 * (j 1).val < 0 + 2048; omega)⟩

theorem coverB5 (hz : ¬start i) (h0 : ¬first i) (h1 : later i) (xb : Vec F S4x256x256 .bf16) (xs : Vec F S528x2048 .f32) (y : S512x2048.Idx) : ∃ p ∈ (runB c i _ harg1 _ harg2 _ harg3 _ harg4 _ harg5 _ harg6 _ harg7 _ harg8 _ harg9 hz h0 h1 x0 x1 x2 x3 x4 xb xs).1, y ∈ p.1.set :=
  View.cover_of_tiledL (runB c i _ harg1 _ harg2 _ harg3 _ harg4 _ harg5 _ harg6 _ harg7 _ harg8 _ harg9 hz h0 h1 x0 x1 x2 x3 x4 xb xs).1 S256x512.size (by sl_kernel_rfl) y

theorem coverB6 (hz : ¬start i) (h0 : ¬first i) (h1 : later i) (xb : Vec F S4x256x256 .bf16) (xs : Vec F S528x2048 .f32) (y : S1x15x2048.Idx) : ∃ p ∈ (runB c i _ harg1 _ harg2 _ harg3 _ harg4 _ harg5 _ harg6 _ harg7 _ harg8 _ harg9 hz h0 h1 x0 x1 x2 x3 x4 xb xs).2.1, y ∈ p.1.set :=
  View.cover_of_tiledL (runB c i _ harg1 _ harg2 _ harg3 _ harg4 _ harg5 _ harg6 _ harg7 _ harg8 _ harg9 hz h0 h1 x0 x1 x2 x3 x4 xb xs).2.1 S1x15x2048.size (by sl_kernel_rfl) y

/-- The rows the next point reads were stored. -/
theorem coverTailB (hz : ¬start i) (h0 : ¬first i) (h1 : later i) (xb : Vec F S4x256x256 .bf16) (xs : Vec F S528x2048 .f32) (j : S15x2048.Idx) : ∃ p ∈ (runB c i _ harg1 _ harg2 _ harg3 _ harg4 _ harg5 _ harg6 _ harg7 _ harg8 _ harg9 hz h0 h1 x0 x1 x2 x3 x4 xb xs).2.2.1, tailRect.idx j ∈ p.1.set := by
  unfold runB; dsimp only
  refine ⟨_, List.mem_cons_self, (Rect.mem_set_unit (inb := inb_S528x2048_S512x2048_16_0)).mpr ?_⟩
  intro a
  match a with
  | ⟨0, _⟩ => exact ⟨(by have h : (j 0).val < 15 := (j 0).isLt; show 16 ≤ 513 + 1 * (j 0).val; omega), (by have h : (j 0).val < 15 := (j 0).isLt; show 513 + 1 * (j 0).val < 16 + 512; omega)⟩
  | ⟨1, _⟩ => exact ⟨Nat.zero_le _, (by have h : (j 1).val < 2048 := (j 1).isLt; show 0 + 1 * (j 1).val < 0 + 2048; omega)⟩

/-- Of the carried rows only the tail is read. -/
theorem runB_congr (hz : ¬start i) (h0 : ¬first i) (h1 : later i) (xb : Vec F S4x256x256 .bf16) (xs ys : Vec F S528x2048 .f32) (h : View.ld xs tailRect = View.ld ys tailRect) :
    let r := runB c i _ harg1 _ harg2 _ harg3 _ harg4 _ harg5 _ harg6 _ harg7 _ harg8 _ harg9 hz h0 h1 x0 x1 x2 x3 x4 xb
    (r xs).1 = (r ys).1 ∧ (r xs).2.1 = (r ys).2.1 ∧ (r xs).2.2.1 = (r ys).2.2.1 := by
  unfold runB; dsimp only
  sl_unfold_words
  simp only [View.readAt_eq_ld, harg8.read_unread]
  rw [h]
  repeat' apply And.intro
  all_goals first | trivial | rfl

end Covers

variable (m : (ℓ : Loc nD τ sig) → Buf (Elt F) ℓ) (ρ : Dev nD → PrngReg)

/-- What a point that is the very first leaves in the outputs' buffers, in the tail rows of the scratch and in the band matrices. -/
def leftZ (c : Dev nD) (t : Fin cfg0.N) (hz : t.val = 0) : Vec F S512x2048 .f32 × Vec F S1x15x2048 .f32 × Vec F S15x2048 .f32 × Vec F S4x256x256 .bf16 :=
  let r := runZ c (grid0.coords t) (st0 t) (hst0 t) (st1 t) (hst1 t) (st2 t) (hst2 t) (st3 t) (hst3 t) (st4 t) (hst4 t) (st5 t) (hst5 t) (st6 t) (hst6 t) scr (Memref.isWhole_whole _) bscr (Memref.isWhole_whole _) ((start_iff t).mpr hz) ((first_iff t).mpr (show t.val % 8 = 0 by rw [hz])) (fun h => (later_iff t).mp h (show t.val % 8 = 0 by rw [hz])) (iblk m c 0 t) (iblk m c 1 t) (iblk m c 2 t) (iblk m c 3 t) (iblk m c 4 t)
  (View.canon r.1,
    View.canon r.2.1,
    View.ld (View.canon r.2.2.2.1) tailRect, View.canon r.2.2.1)

/-- What a point that is the first of the second sequence leaves in the outputs' buffers, in the tail rows of the scratch and in the band matrices. -/
def leftA (c : Dev nD) (t : Fin cfg0.N) (hz : ¬t.val = 0) (h0 : t.val % 8 = 0) (xb : Vec F S4x256x256 .bf16) : Vec F S512x2048 .f32 × Vec F S1x15x2048 .f32 × Vec F S15x2048 .f32 × Vec F S4x256x256 .bf16 :=
  let r := runA c (grid0.coords t) (st0 t) (hst0 t) (st1 t) (hst1 t) (st2 t) (hst2 t) (st3 t) (hst3 t) (st4 t) (hst4 t) (st5 t) (hst5 t) (st6 t) (hst6 t) scr (Memref.isWhole_whole _) bscr (Memref.isWhole_whole _) (fun h => hz ((start_iff t).mp h)) ((first_iff t).mpr h0) (fun h => (later_iff t).mp h h0) (iblk m c 0 t) (iblk m c 1 t) (iblk m c 2 t) (iblk m c 3 t) (iblk m c 4 t) xb
  (View.canon r.1,
    View.canon r.2.1,
    View.ld (View.canon r.2.2.1) tailRect, xb)

/-- What a point that is a later one of its sequence leaves in the outputs' buffers, in the tail rows of the scratch and in the band matrices. -/
def leftB (c : Dev nD) (t : Fin cfg0.N) (h0 : ¬t.val % 8 = 0) (xb : Vec F S4x256x256 .bf16) (tl : Vec F S15x2048 .f32) : Vec F S512x2048 .f32 × Vec F S1x15x2048 .f32 × Vec F S15x2048 .f32 × Vec F S4x256x256 .bf16 :=
  let r := runB c (grid0.coords t) (st0 t) (hst0 t) (st1 t) (hst1 t) (st2 t) (hst2 t) (st3 t) (hst3 t) (st4 t) (hst4 t) (st5 t) (hst5 t) (st6 t) (hst6 t) scr (Memref.isWhole_whole _) bscr (Memref.isWhole_whole _) (fun h => h0 (by rw [(start_iff t).mp h])) (fun h => h0 ((first_iff t).mp h)) ((later_iff t).mpr h0) (iblk m c 0 t) (iblk m c 1 t) (iblk m c 2 t) (iblk m c 3 t) (iblk m c 4 t) xb (spread tl)
  (View.canon r.1,
    View.canon r.2.1,
    View.ld (View.canon r.2.2.1) tailRect, xb)

/-- What the points leave, one after the other. -/
def outs (c : Dev nD) : (n : ℕ) → n < cfg0.N → Vec F S512x2048 .f32 × Vec F S1x15x2048 .f32 × Vec F S15x2048 .f32 × Vec F S4x256x256 .bf16
  | 0, hn => leftZ m c ⟨0, hn⟩ rfl
  | n + 1, hn =>
    if h0 : (n + 1) % 8 = 0 then leftA m c ⟨n + 1, hn⟩ (Nat.succ_ne_zero n) h0 (outs c n (Nat.lt_of_succ_lt hn)).2.2.2
    else leftB m c ⟨n + 1, hn⟩ h0 (outs c n (Nat.lt_of_succ_lt hn)).2.2.2 (outs c n (Nat.lt_of_succ_lt hn)).2.2.1

theorem outs_Z (c : Dev nD) (t : Fin cfg0.N) (hz : t.val = 0) : outs m c t.val t.isLt = leftZ m c t hz := by
  obtain ⟨n, hn⟩ := t
  cases n with
  | zero => exact rfl
  | succ n => exact absurd hz (Nat.succ_ne_zero n)

theorem outs_A (c : Dev nD) (t : Fin cfg0.N) (hz : ¬t.val = 0) (h0 : t.val % 8 = 0) :
    outs m c t.val t.isLt = leftA m c t hz h0 (outs m c (t.val - 1) (Nat.lt_of_le_of_lt (Nat.sub_le _ _) t.isLt)).2.2.2 := by
  obtain ⟨n, hn⟩ := t
  cases n with
  | zero => exact absurd rfl hz
  | succ n => exact (dif_pos h0).trans rfl

theorem outs_B (c : Dev nD) (t : Fin cfg0.N) (h0 : ¬t.val % 8 = 0) :
    outs m c t.val t.isLt = leftB m c t h0 (outs m c (t.val - 1) (Nat.lt_of_le_of_lt (Nat.sub_le _ _) t.isLt)).2.2.2 (outs m c (t.val - 1) (Nat.lt_of_le_of_lt (Nat.sub_le _ _) t.isLt)).2.2.1 := by
  obtain ⟨n, hn⟩ := t
  cases n with
  | zero => exact absurd (Nat.zero_mod _) h0
  | succ n => exact (dif_neg h0).trans rfl

/-- Before the first point the scratches hold anything; after a point the tail rows and the band matrices are the ones it left. -/
def inv (c : Dev nD) : (n : ℕ) → n ≤ cfg0.N → sProp 𝕄
  | 0, _ => Pipeline.ΦA spec0 c
  | n + 1, hn => iprop(iprop((∃ xs, ⌜View.ld xs tailRect = (outs m c n hn).2.2.1⌝ ∗ owns (c : Thread nD τ) scr fullShare xs) ∗ owns (c : Thread nD τ) bscr fullShare (outs m c n hn).2.2.2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop((∃ xs, ⌜View.ld xs tailRect = (outs m c n hn).2.2.1⌝ ∗ owns (c : Thread nD τ) scr fullShare xs) ∗ owns (c : Thread nD τ) bscr fullShare (outs m c n hn).2.2.2) ∗ (∃ r, prngReg c r)) := rfl

theorem inv_pos (c : Dev nD) (n : ℕ) (h : n ≤ cfg0.N) (hz : n ≠ 0) :
    inv m c n h = iprop(iprop((∃ xs, ⌜View.ld xs tailRect = (outs m c (n - 1) (by omega)).2.2.1⌝ ∗ owns (c : Thread nD τ) scr fullShare xs) ∗ owns (c : Thread nD τ) bscr fullShare (outs m c (n - 1) (by omega)).2.2.2) ∗ (∃ r, prngReg c r)) := by
  cases n with
  | zero => exact absurd rfl hz
  | succ n => rfl

/-- The proof data: inputs' buffers at their blocks, outputs' at what the points leave, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t.val t.isLt).1
    | ⟨6, _⟩ => (outs m c t.val t.isLt).2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outs m c t.val t.isLt).1 := by dsimp only [dats]
theorem after6 (c : Dev nD) (t : Fin cfg0.N) : (dats m 0 c).after 6 t = (outs m c t.val t.isLt).2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

set_option maxHeartbeats 6400000 in
/-- The body at any point: the run of the point's case applies, over any scratch with the tail rows that the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, after6]
  rw [show (dats m 0 c).Φ t.succ = inv m c (t.val + 1) t.isLt from rfl, inv_succ]
  by_cases hz : t.val = 0
  · rw [inv_castSucc m c t, inv_zero m c _ _ hz, inv_eq]
    rw [outs_Z m c t hz]
    unfold leftZ; (try dsimp only)
    iintro ⟨⟨⟨⟨%ds, HS⟩, ⟨%db, HB⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runZ c (grid0.coords t) _ _ _ _ _ _ _ _ _ _ _ _ _ _ scr (Memref.isWhole_whole _) bscr (Memref.isWhole_whole _) ((start_iff t).mpr hz) ((first_iff t).mpr (show t.val % 8 = 0 by rw [hz])) (fun h => (later_iff t).mp h (show t.val % 8 = 0 by rw [hz])) (iblk m c 0 t) (iblk m c 1 t) (iblk m c 2 t) (iblk m c 3 t) (iblk m c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    isplitl [HB]; · iexists _; iexact HB
    iintro ⟨H0, H1, H2, H3, H4, ⟨%g5, H5⟩, ⟨%g6, H6⟩, ⟨%gs, HS⟩, ⟨%gb, HB⟩⟩
    isplitl [HS HB Hg]
    · isplitl [HS HB]
      · isplitl [HS]
        · iexists _; isplitr
          swap
          · unfold owns; iexists _; isplitr
            swap; · iexact HS
            ipureintro; rfl
          ipureintro; exact funext fun j => (View.read_writes_apply_eq_canon _ _ _ _ (coverTailZ _ _ _ _ _ _ _ _ _ _ _ _ _ _ _ _ _ _ _ _ _ _ _ _ _ _ _ _ j))
        unfold owns; iexists _; isplitr
        swap; · iexact HB
        ipureintro; exact View.read_writes_eq_canon _ _ _ (fun _ => coverBand ..)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (View.read_writes_eq_canon _ _ _ (fun _ => coverZ5 ..))
    unfold owns; iexists _; isplitr
    swap; · iexact H6
    ipureintro; exact (View.read_writes_eq_canon _ _ _ (fun _ => coverZ6 ..))
  · by_cases h0 : t.val % 8 = 0
    · rw [inv_castSucc m c t, inv_pos m c _ _ hz]
      rw [outs_A m c t hz h0]
      unfold leftA; (try dsimp only)
      iintro ⟨⟨⟨⟨%xs, %hx, HS⟩, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ scr (Memref.isWhole_whole _) bscr (Memref.isWhole_whole _) (fun h => hz ((start_iff t).mp h)) ((first_iff t).mpr h0) (fun h => (later_iff t).mp h h0) (iblk m c 0 t) (iblk m c 1 t) (iblk m c 2 t) (iblk m c 3 t) (iblk m c 4 t) (outs m c (t.val - 1) (Nat.lt_of_le_of_lt (Nat.sub_le _ _) t.isLt)).2.2.2).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexists _; iexact HS
      isplitl [HB]; · iexact HB
      iintro ⟨H0, H1, H2, H3, H4, ⟨%g5, H5⟩, ⟨%g6, H6⟩, ⟨%gs, HS⟩, HB⟩
      isplitl [HS HB Hg]
      · isplitl [HS HB]
        · isplitl [HS]
          · iexists _; isplitr
            swap
            · unfold owns; iexists _; isplitr
              swap; · iexact HS
              ipureintro; rfl
            ipureintro; exact funext fun j => (View.read_writes_apply_eq_canon _ _ _ _ (coverTailA _ _ _ _ _ _ _ _ _ _ _ _ _ _ _ _ _ _ _ _ _ _ _ _ _ _ _ _ _ j))
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_eq_canon _ _ _ (fun _ => coverA5 ..))
      unfold owns; iexists _; isplitr
      swap; · iexact H6
      ipureintro; exact (View.read_writes_eq_canon _ _ _ (fun _ => coverA6 ..))
    · rw [inv_castSucc m c t, inv_pos m c _ _ (fun hz => h0 (by rw [hz]))]
      rw [outs_B m c t h0]
      unfold leftB; (try dsimp only)
      iintro ⟨⟨⟨⟨%xs, %hx, HS⟩, HB⟩, Hg⟩, Ho, ⟨%d0, H0⟩, ⟨%d1, H1⟩, ⟨%d2, H2⟩, ⟨%d3, H3⟩, ⟨%d4, H4⟩, ⟨%d5, H5⟩, ⟨%d6, H6⟩⟩
      obtain ⟨e5, e6, es⟩ := runB_congr c (grid0.coords t) (st0 t) (hst0 t) (st1 t) (hst1 t) (st2 t) (hst2 t) (st3 t) (hst3 t) (st4 t) (hst4 t) (st5 t) (hst5 t) (st6 t) (hst6 t) scr (Memref.isWhole_whole _) bscr (Memref.isWhole_whole _) (iblk m c 0 t) (iblk m c 1 t) (iblk m c 2 t) (iblk m c 3 t) (iblk m c 4 t) (fun h => h0 (by rw [(start_iff t).mp h])) (fun h => h0 ((first_iff t).mp h)) ((later_iff t).mpr h0) (outs m c (t.val - 1) (Nat.lt_of_le_of_lt (Nat.sub_le _ _) t.isLt)).2.2.2 xs (spread (outs m c (t.val - 1) (Nat.lt_of_le_of_lt (Nat.sub_le _ _) t.isLt)).2.2.1) (hx.trans (ld_spread _).symm)
      iapply ((runB c (grid0.coords t) _ _ _ _ _ _ _ _ _ _ _ _ _ _ scr (Memref.isWhole_whole _) bscr (Memref.isWhole_whole _) (fun h => h0 (by rw [(start_iff t).mp h])) (fun h => h0 ((first_iff t).mp h)) ((later_iff t).mpr h0) (iblk m c 0 t) (iblk m c 1 t) (iblk m c 2 t) (iblk m c 3 t) (iblk m c 4 t) (outs m c (t.val - 1) (Nat.lt_of_le_of_lt (Nat.sub_le _ _) t.isLt)).2.2.2 xs).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      isplitl [HB]; · iexact HB
      iintro ⟨H0, H1, H2, H3, H4, ⟨%g5, H5⟩, ⟨%g6, H6⟩, ⟨%gs, HS⟩, HB⟩
      isplitl [HS HB Hg]
      · isplitl [HS HB]
        · isplitl [HS]
          · iexists _; isplitr
            swap
            · unfold owns; iexists _; isplitr
              swap; · iexact HS
              ipureintro; rfl
            ipureintro; exact funext fun j => (View.read_writes_apply_eq_canon _ _ _ _ (coverTailB _ _ _ _ _ _ _ _ _ _ _ _ _ _ _ _ _ _ _ _ _ _ _ _ _ _ _ _ _ _ j)).trans (congrFun (congrArg View.canon es) _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_eq_canon _ _ _ (fun _ => coverB5 ..)).trans (congrArg View.canon e5)
      unfold owns; iexists _; isplitr
      swap; · iexact H6
      ipureintro; exact (View.read_writes_eq_canon _ _ _ (fun _ => coverB6 ..)).trans (congrArg View.canon e6)

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  have hl : (Fin.last cfg0.N).val ≠ 0 := by rw [Fin.val_last]; have : cfg0.N = 16 := N_0; omega
  rw [show (dats m 0 c).Φ (Fin.last cfg0.N) = inv m c (Fin.last cfg0.N).val (Nat.le_of_lt_succ (Fin.last cfg0.N).isLt) from rfl, inv_pos m c _ _ hl, inv_eq]
  iintro ⟨⟨⟨%xs, %hx, HS⟩, HB⟩, Hg⟩
  isplitl [HS HB]
  · isplitl [HS]
    · iexists _; iexact HS
    iexists _; iexact HB
  iexact Hg

-- the launch theorem's implicit arguments are found by unification through plain definitions
set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- Every fair execution ends with the arrays as the proof data say. -/
theorem runs : θ_run defs (onTc (τ := τ) (main (F := F))) (s₀ m ρ) (Pipeline.FramePost cfgs (dats m) 0 (V m)) :=
  (θ_run defs _ _).mono (fun _ h => h.1) (run_quiescent m ρ)

/-- The arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (runs m ρ)) ((θ_run defs _ _).mono (fun _ h => h.2) (run_quiescent m ρ))

end Cert.PoolIdeal.Carry

end
-- ==== Proof.PoolGrp.lean ====
module

public import proofs.«01_k».proof.Proof.PoolIdealFrame
public import proofs.«01_k».proof.Proof.Rows
public import Idealize.ShloMosaic.Lib.Tactic
public import Idealize.ShloMosaic.Lib.Pointwise
public import Idealize.ShloMosaic.Lib.Pipeline.ValueKit
public import Idealize.ShloMosaic.Lib.IdealHost

@[expose] public section

set_option maxRecDepth 16384

noncomputable section

namespace Cert.PoolIdeal.Hand

open Cert.PoolIdeal Cert.PoolIdeal.Gen Cert.PoolIdeal.Carry Cert.Layer Idealize.ShloMosaic Idealize.ShloMosaic.TcCoe Idealize.SL.Sem

abbrev rowLen : EReal := Ideal.ofBits .f32 1157627904#32
abbrev eps : EReal := Ideal.ofBits .f32 897988541#32

/-! ## Band sums and divisors -/

/-- Sums over the last `w` of 256 rows, as a masked sum over all of them. -/
theorem masked (f : ℕ → EReal) (r : Fin 256) : ∀ n, n ≤ r.val →
    (∑ l : Fin 256, (if l.val ≤ r.val ∧ r.val < l.val + (n + 1) then (1 : EReal) else 0) * f l.val) = trail (fun i => f (r.val - i)) n := by
  have step : ∀ n, n ≤ r.val → (∑ l : Fin 256, if l.val = r.val - n then f l.val else 0) = f (r.val - n) := fun n hn => by
    have hr := r.isLt
    rw [Finset.sum_eq_single (⟨r.val - n, by omega⟩ : Fin 256) (fun b _ hb => if_neg fun h => hb (Fin.ext h)) (fun h => absurd (Finset.mem_univ _) h)]
    exact if_pos rfl
  intro n
  induction n with
  | zero =>
    intro hn
    refine Eq.trans (Finset.sum_congr rfl fun l _ => ?_) (step 0 hn)
    by_cases h : l.val = r.val - 0
    · rw [if_pos h, if_pos (by omega), one_mul]
    · rw [if_neg h, if_neg (by omega), zero_mul]
  | succ n ih =>
    intro hn
    show _ = trail _ n + f (r.val - (n + 1))
    rw [← ih (by omega), ← step (n + 1) hn, ← Finset.sum_add_distrib]
    refine Finset.sum_congr rfl fun l _ => ?_
    by_cases h : l.val = r.val - (n + 1)
    · rw [if_pos h, if_pos (by omega), if_neg (by omega), one_mul, zero_mul, zero_add]
    · rw [if_neg h, add_zero]
      by_cases h' : l.val ≤ r.val ∧ r.val < l.val + (n + 1)
      · rw [if_pos h', if_pos (by omega)]
      · rw [if_neg h', if_neg (by omega)]

theorem win_le (g : Fin 4) : win g ≤ 16 := by
  revert g; decide

theorem full (w : ℕ) (hw : w ≤ 16) (p : ℕ) (h : 16 ≤ p) (h' : p < 4096) :
    IntOp.minsi (IntOp.addi (BitVec.ofNat 32 p) 1#32) (BitVec.ofNat 32 w) = BitVec.ofNat 32 w := by
  unfold IntOp.minsi
  rw [if_neg]
  rw [BitVec.slt_iff_toInt_lt, show IntOp.addi (BitVec.ofNat 32 p) 1#32 = BitVec.ofNat 32 (p + 1) from (BitVec.ofNat_add p 1).symm,
    BitVec.toInt_eq_toNat_of_lt (by rw [BitVec.toNat_ofNat]; omega), BitVec.toInt_eq_toNat_of_lt (by rw [BitVec.toNat_ofNat]; omega),
    BitVec.toNat_ofNat, BitVec.toNat_ofNat]
  omega

/-- The reciprocal of a window's length. -/
abbrev rec' (g : Fin 4) : EReal := match g with
  | 0 => Ideal.ofBits .f32 0x3F000000#32
  | 1 => Ideal.ofBits .f32 0x3E800000#32
  | 2 => Ideal.ofBits .f32 0x3E000000#32
  | 3 => Ideal.ofBits .f32 0x3D800000#32

theorem rec_eq (g : Fin 4) (t : EReal) : t * rec' g = Ideal.div t (den g) := by
  have e : ∀ g : Fin 4, (BitVec.ofNat 32 (win g)).toInt = (2 : ℤ) ^ (g.val + 1) := by decide +kernel
  have hd : den g = (((2 : ℝ) ^ (g.val + 1) : ℝ) : EReal) := by
    show (((BitVec.ofNat 32 (win g)).toInt : ℝ) : EReal) = _
    rw [e g]; push_cast; rfl
  have hne : den g ≠ 0 := by
    rw [hd]; exact_mod_cast (by positivity : ((2 : ℝ) ^ (g.val + 1)) ≠ 0)
  unfold Ideal.div
  rw [if_neg hne, hd, ← EReal.coe_inv]
  congr 1
  fin_cases g
  all_goals
    unfold rec'
    simp [Ideal.ofBits, Ideal.ieee]
    rw [← EReal.coe_mul]
    norm_num [zpow_neg]

/-- A row past the first sixteen: the band product and its remainder, scaled, are the trailing mean. -/
theorem banded (g : Fin 4) (p : ℕ) (hp : p + 256 ≤ 4096) (r : Fin 256) (hr : 16 ≤ r.val) (f : ℕ → EReal) (hf : ∀ l : Fin 256, f (16 + l.val) ≠ ⊤ ∧ f (16 + l.val) ≠ ⊥)
    (b : Fin 256 → EReal) (hb : ∀ l, b l = if l.val ≤ r.val ∧ r.val < l.val + win g then 1 else 0) :
    (∑ l, b l * f (16 + l.val) + ∑ l, b l * (f (16 + l.val) - f (16 + l.val))) * rec' g = Ideal.div (trail (fun i => f (16 + r.val - i)) (win g - 1)) (denAt g (p + r.val)) := by
  have hw := win_le g
  have hw1 : 1 ≤ win g := Nat.one_le_two_pow
  have e0 : (∑ l, b l * (f (16 + l.val) - f (16 + l.val))) = 0 :=
    Finset.sum_eq_zero fun l _ => by rw [EReal.sub_self (hf l).1 (hf l).2, mul_zero]
  have e1 := masked (fun l => f (16 + l)) r (win g - 1) (by omega)
  rw [show win g - 1 + 1 = win g by omega] at e1
  rw [e0, add_zero, Finset.sum_congr rfl fun l _ => congrArg (· * f (16 + l.val)) (hb l), e1, rec_eq]
  unfold denAt
  rw [full _ hw _ (by omega) (by have := r.isLt; omega)]
  refine congrArg (Ideal.div · _) (trail_congr _ fun i hi => ?_)
  show f _ = f _
  congr 1; omega

/-- One row of a half, mixed: its first sixteen rows by direct sums, the others by a band product. -/
theorem blend (g : Fin 4) (p : ℕ) (hp : p + 256 ≤ 4096) (r : Fin 256) (E : ℕ → Fin 512 → EReal) (hf : ∀ (l : Fin 256) k, E (16 + l.val) k ≠ ⊤ ∧ E (16 + l.val) k ≠ ⊥)
    (b : Fin 256 → EReal) (hb : ∀ l : Fin 256, b l = if l.val ≤ r.val ∧ r.val < l.val + win g then 1 else 0) (W : Fin 512 → Fin 512 → EReal) (j : Fin 512) (xv sv : EReal)
    (D : Fin 512 → EReal) (h1 : r.val < 16 → ∀ k, D k = Ideal.div (trail (fun i => E (16 + r.val - i) k) (win g - 1)) (denAt g (p + r.val)) - E (16 + r.val) k)
    (h2 : 16 ≤ r.val → ∀ k, D k = (∑ l, b l * E (16 + l.val) k + ∑ l, b l * (E (16 + l.val) k - E (16 + l.val) k)) * rec' g - E (16 + r.val) k) :
    xv + (∑ k, D k * W k j) * sv = xv + mixed (fun i k => E (16 + r.val - i) k) (win g - 1) (denAt g (p + r.val)) W j * sv := by
  unfold mixed
  refine congrArg (fun z => xv + z * sv) (Finset.sum_congr rfl fun k _ => congrArg (· * W k j) ?_)
  by_cases h : r.val < 16
  · exact h1 h k
  · rw [h2 (by omega) k, banded g p hp r (by omega) (fun R => E R k) (fun l => hf l k) b hb]
    rfl

/-! ## A group of columns of a half -/

section Groups

variable {t : BitVec 32} {p : ℕ} (hp : p + 256 ≤ 4096) {a0 : Vec Ideal S256x512 .f32} {a1 a2 a3 a4 a5 a6 a7 a8 a9 a10 a11 a12 a13 a14 a15 : Vec Ideal S16x512 .f32}
variable {b : Vec Ideal S1x256x256 .bf16} {w : Vec Ideal S1x1x512x512 .bf16} {x : Vec Ideal S256x512 .f32} {s : Vec Ideal S1x512 .f32} {r : Fin 256} {j : Fin 512}
variable {E : ℕ → Fin 512 → EReal} (hf : ∀ (l : Fin 256) k, E (16 + l.val) k ≠ ⊤ ∧ E (16 + l.val) k ≠ ⊥) {W : Fin 512 → Fin 512 → EReal} {xv sv : EReal}

/-- The band of group `g`. -/
abbrev bandAt (g : Fin 4) (r l : Fin 256) : EReal := if l.val ≤ r.val ∧ r.val < l.val + win g then 1 else 0

include hp hf in
theorem group00 (hpos : ∀ r : Fin 16, k0_pay13 t (ix2 r 0) = BitVec.ofNat 32 (p + r.val)) (h0 : ∀ (r : Fin 256) k, a0 (ix2 r k) = E (16 + r.val) k) (h1 : ∀ (r : Fin 16) k, a1 (ix2 r k) = E (16 + r.val - 1) k)
    (hb : ∀ r l, b (ix3 0 r l) = bandAt 0 r l) (hw : ∀ k, w (ix4 0 0 k j) = W k j) (hx : x (ix2 r j) = xv) (hs : s (ix2 0 j) = sv) :
    k0_pay19 (F := Ideal) a0 (k0_pay14 t a0 a1) (k0_pay16 a0) (k0_pay17 b) (k0_pay18 a0 b) (constant S256x512 .f32 0x00000000#32) w x s (ix2 r j)
      = xv + mixed (fun i k => E (16 + r.val - i) k) (win 0 - 1) (denAt 0 (p + r.val)) W j * sv := by
  pointwise [k0_pay19, k0_pay14, k0_pay15, k0_pay16, k0_pay17, k0_pay18]
  rw [hx, hs]
  simp only [hw]
  refine blend 0 p hp r E hf (fun l => b (ix3 0 r l)) (hb r) W j xv sv _ (fun h k => ?_) (fun h k => ?_)
  · rw [dif_pos h]
    simp only [h0, h1, hpos]
    rfl
  · rw [dif_neg (by omega)]
    simp only [h0, show (⟨16 + (r.val - 16), by omega⟩ : Fin 256) = r from Fin.ext (by show 16 + (r.val - 16) = r.val; omega)]

include hp hf in
theorem group01 (hpos : ∀ r : Fin 16, k0_pay13 t (ix2 r 0) = BitVec.ofNat 32 (p + r.val)) (h0 : ∀ (r : Fin 256) k, a0 (ix2 r k) = E (16 + r.val) k) (h1 : ∀ (r : Fin 16) k, a1 (ix2 r k) = E (16 + r.val - 1) k) (h2 : ∀ (r : Fin 16) k, a2 (ix2 r k) = E (16 + r.val - 2) k) (h3 : ∀ (r : Fin 16) k, a3 (ix2 r k) = E (16 + r.val - 3) k)
    (hb : ∀ r l, b (ix3 0 r l) = bandAt 1 r l) (hw : ∀ k, w (ix4 0 0 k j) = W k j) (hx : x (ix2 r j) = xv) (hs : s (ix2 0 j) = sv) :
    k0_pay22 (F := Ideal) a0 (k0_pay20 (k0_pay13 t) a0 a1 a2 a3) (k0_pay21 a0) b w x s (ix2 r j)
      = xv + mixed (fun i k => E (16 + r.val - i) k) (win 1 - 1) (denAt 1 (p + r.val)) W j * sv := by
  pointwise [k0_pay22, k0_pay20, k0_pay21]
  rw [hx, hs]
  simp only [hw]
  refine blend 1 p hp r E hf (fun l => b (ix3 0 r l)) (hb r) W j xv sv _ (fun h k => ?_) (fun h k => ?_)
  · rw [dif_pos h]
    simp only [h0, h1, h2, h3, hpos]
    rfl
  · rw [dif_neg (by omega)]
    simp only [h0, show (⟨16 + (r.val - 16), by omega⟩ : Fin 256) = r from Fin.ext (by show 16 + (r.val - 16) = r.val; omega)]

include hp hf in
theorem group02 (hpos : ∀ r : Fin 16, k0_pay13 t (ix2 r 0) = BitVec.ofNat 32 (p + r.val)) (h0 : ∀ (r : Fin 256) k, a0 (ix2 r k) = E (16 + r.val) k) (h1 : ∀ (r : Fin 16) k, a1 (ix2 r k) = E (16 + r.val - 1) k) (h2 : ∀ (r : Fin 16) k, a2 (ix2 r k) = E (16 + r.val - 2) k) (h3 : ∀ (r : Fin 16) k, a3 (ix2 r k) = E (16 + r.val - 3) k) (h4 : ∀ (r : Fin 16) k, a4 (ix2 r k) = E (16 + r.val - 4) k) (h5 : ∀ (r : Fin 16) k, a5 (ix2 r k) = E (16 + r.val - 5) k) (h6 : ∀ (r : Fin 16) k, a6 (ix2 r k) = E (16 + r.val - 6) k) (h7 : ∀ (r : Fin 16) k, a7 (ix2 r k) = E (16 + r.val - 7) k)
    (hb : ∀ r l, b (ix3 0 r l) = bandAt 2 r l) (hw : ∀ k, w (ix4 0 0 k j) = W k j) (hx : x (ix2 r j) = xv) (hs : s (ix2 0 j) = sv) :
    k0_pay25 (F := Ideal) (k0_pay24 (k0_pay13 t) a0 (k0_pay23 a0 a1 a2 a3) a4 a5 a6 a7 b w) x s (ix2 r j)
      = xv + mixed (fun i k => E (16 + r.val - i) k) (win 2 - 1) (denAt 2 (p + r.val)) W j * sv := by
  pointwise [k0_pay25, k0_pay24, k0_pay23]
  rw [hx, hs]
  simp only [hw]
  refine blend 2 p hp r E hf (fun l => b (ix3 0 r l)) (hb r) W j xv sv _ (fun h k => ?_) (fun h k => ?_)
  · rw [dif_pos h]
    simp only [h0, h1, h2, h3, h4, h5, h6, h7, hpos]
    rfl
  · rw [dif_neg (by omega)]
    simp only [h0, show (⟨16 + (r.val - 16), by omega⟩ : Fin 256) = r from Fin.ext (by show 16 + (r.val - 16) = r.val; omega)]

include hp hf in
theorem group03 (hpos : ∀ r : Fin 16, k0_pay13 t (ix2 r 0) = BitVec.ofNat 32 (p + r.val)) (h0 : ∀ (r : Fin 256) k, a0 (ix2 r k) = E (16 + r.val) k) (h1 : ∀ (r : Fin 16) k, a1 (ix2 r k) = E (16 + r.val - 1) k) (h2 : ∀ (r : Fin 16) k, a2 (ix2 r k) = E (16 + r.val - 2) k) (h3 : ∀ (r : Fin 16) k, a3 (ix2 r k) = E (16 + r.val - 3) k) (h4 : ∀ (r : Fin 16) k, a4 (ix2 r k) = E (16 + r.val - 4) k) (h5 : ∀ (r : Fin 16) k, a5 (ix2 r k) = E (16 + r.val - 5) k) (h6 : ∀ (r : Fin 16) k, a6 (ix2 r k) = E (16 + r.val - 6) k) (h7 : ∀ (r : Fin 16) k, a7 (ix2 r k) = E (16 + r.val - 7) k) (h8 : ∀ (r : Fin 16) k, a8 (ix2 r k) = E (16 + r.val - 8) k) (h9 : ∀ (r : Fin 16) k, a9 (ix2 r k) = E (16 + r.val - 9) k) (h10 : ∀ (r : Fin 16) k, a10 (ix2 r k) = E (16 + r.val - 10) k) (h11 : ∀ (r : Fin 16) k, a11 (ix2 r k) = E (16 + r.val - 11) k) (h12 : ∀ (r : Fin 16) k, a12 (ix2 r k) = E (16 + r.val - 12) k) (h13 : ∀ (r : Fin 16) k, a13 (ix2 r k) = E (16 + r.val - 13) k) (h14 : ∀ (r : Fin 16) k, a14 (ix2 r k) = E (16 + r.val - 14) k) (h15 : ∀ (r : Fin 16) k, a15 (ix2 r k) = E (16 + r.val - 15) k)
    (hb : ∀ r l, b (ix3 0 r l) = bandAt 3 r l) (hw : ∀ k, w (ix4 0 0 k j) = W k j) (hx : x (ix2 r j) = xv) (hs : s (ix2 0 j) = sv) :
    k0_pay28 (F := Ideal) (k0_pay27 (k0_pay13 t) a0 (k0_pay26 a0 a1 a2 a3 a4 a5 a6 a7 a8 a9 a10 a11) a12 a13 a14 a15 b w) x s (ix2 r j)
      = xv + mixed (fun i k => E (16 + r.val - i) k) (win 3 - 1) (denAt 3 (p + r.val)) W j * sv := by
  pointwise [k0_pay28, k0_pay27, k0_pay26]
  rw [hx, hs]
  simp only [hw]
  refine blend 3 p hp r E hf (fun l => b (ix3 0 r l)) (hb r) W j xv sv _ (fun h k => ?_) (fun h k => ?_)
  · rw [dif_pos h]
    simp only [h0, h1, h2, h3, h4, h5, h6, h7, h8, h9, h10, h11, h12, h13, h14, h15, hpos]
    rfl
  · rw [dif_neg (by omega)]
    simp only [h0, show (⟨16 + (r.val - 16), by omega⟩ : Fin 256) = r from Fin.ext (by show 16 + (r.val - 16) = r.val; omega)]

include hp hf in
theorem group10 (hpos : ∀ r : Fin 16, k0_pay29 t (ix2 r 0) = BitVec.ofNat 32 (p + r.val)) (h0 : ∀ (r : Fin 256) k, a0 (ix2 r k) = E (16 + r.val) k) (h1 : ∀ (r : Fin 16) k, a1 (ix2 r k) = E (16 + r.val - 1) k)
    (hb : ∀ r l, b (ix3 0 r l) = bandAt 0 r l) (hw : ∀ k, w (ix4 0 0 k j) = W k j) (hx : x (ix2 r j) = xv) (hs : s (ix2 0 j) = sv) :
    k0_pay33 (F := Ideal) a0 (k0_pay30 t a0 a1) (k0_pay31 a0) (k0_pay32 a0) b w x s (ix2 r j)
      = xv + mixed (fun i k => E (16 + r.val - i) k) (win 0 - 1) (denAt 0 (p + r.val)) W j * sv := by
  pointwise [k0_pay33, k0_pay30, k0_pay31, k0_pay32]
  rw [hx, hs]
  simp only [hw]
  refine blend 0 p hp r E hf (fun l => b (ix3 0 r l)) (hb r) W j xv sv _ (fun h k => ?_) (fun h k => ?_)
  · rw [dif_pos h]
    simp only [h0, h1, hpos]
    rfl
  · rw [dif_neg (by omega)]
    simp only [h0, show (⟨16 + (r.val - 16), by omega⟩ : Fin 256) = r from Fin.ext (by show 16 + (r.val - 16) = r.val; omega)]

include hp hf in
theorem group11 (hpos : ∀ r : Fin 16, k0_pay29 t (ix2 r 0) = BitVec.ofNat 32 (p + r.val)) (h0 : ∀ (r : Fin 256) k, a0 (ix2 r k) = E (16 + r.val) k) (h1 : ∀ (r : Fin 16) k, a1 (ix2 r k) = E (16 + r.val - 1) k) (h2 : ∀ (r : Fin 16) k, a2 (ix2 r k) = E (16 + r.val - 2) k) (h3 : ∀ (r : Fin 16) k, a3 (ix2 r k) = E (16 + r.val - 3) k)
    (hb : ∀ r l, b (ix3 0 r l) = bandAt 1 r l) (hw : ∀ k, w (ix4 0 0 k j) = W k j) (hx : x (ix2 r j) = xv) (hs : s (ix2 0 j) = sv) :
    k0_pay36 (F := Ideal) a0 (k0_pay34 a0 a1 a2 a3) (k0_pay35 (k0_pay29 t)) b w x s (ix2 r j)
      = xv + mixed (fun i k => E (16 + r.val - i) k) (win 1 - 1) (denAt 1 (p + r.val)) W j * sv := by
  pointwise [k0_pay36, k0_pay34, k0_pay35]
  rw [hx, hs]
  simp only [hw]
  refine blend 1 p hp r E hf (fun l => b (ix3 0 r l)) (hb r) W j xv sv _ (fun h k => ?_) (fun h k => ?_)
  · rw [dif_pos h]
    simp only [h0, h1, h2, h3, hpos]
    rfl
  · rw [dif_neg (by omega)]
    simp only [h0, show (⟨16 + (r.val - 16), by omega⟩ : Fin 256) = r from Fin.ext (by show 16 + (r.val - 16) = r.val; omega)]

include hp hf in
theorem group12 (hpos : ∀ r : Fin 16, k0_pay29 t (ix2 r 0) = BitVec.ofNat 32 (p + r.val)) (h0 : ∀ (r : Fin 256) k, a0 (ix2 r k) = E (16 + r.val) k) (h1 : ∀ (r : Fin 16) k, a1 (ix2 r k) = E (16 + r.val - 1) k) (h2 : ∀ (r : Fin 16) k, a2 (ix2 r k) = E (16 + r.val - 2) k) (h3 : ∀ (r : Fin 16) k, a3 (ix2 r k) = E (16 + r.val - 3) k) (h4 : ∀ (r : Fin 16) k, a4 (ix2 r k) = E (16 + r.val - 4) k) (h5 : ∀ (r : Fin 16) k, a5 (ix2 r k) = E (16 + r.val - 5) k) (h6 : ∀ (r : Fin 16) k, a6 (ix2 r k) = E (16 + r.val - 6) k) (h7 : ∀ (r : Fin 16) k, a7 (ix2 r k) = E (16 + r.val - 7) k)
    (hb : ∀ r l, b (ix3 0 r l) = bandAt 2 r l) (hw : ∀ k, w (ix4 0 0 k j) = W k j) (hx : x (ix2 r j) = xv) (hs : s (ix2 0 j) = sv) :
    k0_pay40 (F := Ideal) (k0_pay38 (k0_pay29 t) a0 (k0_pay37 a0 a1) a2 a3 a4 a5 a6 a7 b) (k0_pay39 w) x s (ix2 r j)
      = xv + mixed (fun i k => E (16 + r.val - i) k) (win 2 - 1) (denAt 2 (p + r.val)) W j * sv := by
  pointwise [k0_pay40, k0_pay38, k0_pay37, k0_pay39]
  rw [hx, hs]
  simp only [hw]
  refine blend 2 p hp r E hf (fun l => b (ix3 0 r l)) (hb r) W j xv sv _ (fun h k => ?_) (fun h k => ?_)
  · rw [dif_pos h]
    simp only [h0, h1, h2, h3, h4, h5, h6, h7, hpos]
    rfl
  · rw [dif_neg (by omega)]
    simp only [h0, show (⟨16 + (r.val - 16), by omega⟩ : Fin 256) = r from Fin.ext (by show 16 + (r.val - 16) = r.val; omega)]

include hp hf in
theorem group13 (hpos : ∀ r : Fin 16, k0_pay29 t (ix2 r 0) = BitVec.ofNat 32 (p + r.val)) (h0 : ∀ (r : Fin 256) k, a0 (ix2 r k) = E (16 + r.val) k) (h1 : ∀ (r : Fin 16) k, a1 (ix2 r k) = E (16 + r.val - 1) k) (h2 : ∀ (r : Fin 16) k, a2 (ix2 r k) = E (16 + r.val - 2) k) (h3 : ∀ (r : Fin 16) k, a3 (ix2 r k) = E (16 + r.val - 3) k) (h4 : ∀ (r : Fin 16) k, a4 (ix2 r k) = E (16 + r.val - 4) k) (h5 : ∀ (r : Fin 16) k, a5 (ix2 r k) = E (16 + r.val - 5) k) (h6 : ∀ (r : Fin 16) k, a6 (ix2 r k) = E (16 + r.val - 6) k) (h7 : ∀ (r : Fin 16) k, a7 (ix2 r k) = E (16 + r.val - 7) k) (h8 : ∀ (r : Fin 16) k, a8 (ix2 r k) = E (16 + r.val - 8) k) (h9 : ∀ (r : Fin 16) k, a9 (ix2 r k) = E (16 + r.val - 9) k) (h10 : ∀ (r : Fin 16) k, a10 (ix2 r k) = E (16 + r.val - 10) k) (h11 : ∀ (r : Fin 16) k, a11 (ix2 r k) = E (16 + r.val - 11) k) (h12 : ∀ (r : Fin 16) k, a12 (ix2 r k) = E (16 + r.val - 12) k) (h13 : ∀ (r : Fin 16) k, a13 (ix2 r k) = E (16 + r.val - 13) k) (h14 : ∀ (r : Fin 16) k, a14 (ix2 r k) = E (16 + r.val - 14) k) (h15 : ∀ (r : Fin 16) k, a15 (ix2 r k) = E (16 + r.val - 15) k)
    (hb : ∀ r l, b (ix3 0 r l) = bandAt 3 r l) (hw : ∀ k, w (ix4 0 0 k j) = W k j) (hx : x (ix2 r j) = xv) (hs : s (ix2 0 j) = sv) :
    k0_pay1 (F := Ideal) (k0_pay42 (k0_pay29 t) a0 (k0_pay41 a0 a1 a2 a3 a4 a5 a6 a7 a8 a9 a10) a11 a12 a13 a14 a15 b) (k0_pay43 w) (constant S256x512 .f32 0x00000000#32) x s (ix2 r j)
      = xv + mixed (fun i k => E (16 + r.val - i) k) (win 3 - 1) (denAt 3 (p + r.val)) W j * sv := by
  pointwise [k0_pay1, k0_pay42, k0_pay41, k0_pay43]
  rw [hx, hs]
  simp only [hw]
  refine blend 3 p hp r E hf (fun l => b (ix3 0 r l)) (hb r) W j xv sv _ (fun h k => ?_) (fun h k => ?_)
  · rw [dif_pos h]
    simp only [h0, h1, h2, h3, h4, h5, h6, h7, h8, h9, h10, h11, h12, h13, h14, h15, hpos]
    rfl
  · rw [dif_neg (by omega)]
    simp only [h0, show (⟨16 + (r.val - 16), by omega⟩ : Fin 256) = r from Fin.ext (by show 16 + (r.val - 16) = r.val; omega)]

end Groups

/-! ## The band matrices -/

theorem word_iff (w : ℕ) (hw : w ≤ 16) (r l : Fin 256) :
    IntOp.andi (IntOp.cmpi .sge (IntOp.subi (BitVec.ofNat 32 r.val) (BitVec.ofNat 32 l.val)) 0#32) (IntOp.cmpi .slt (IntOp.subi (BitVec.ofNat 32 r.val) (BitVec.ofNat 32 l.val)) (BitVec.ofNat 32 w)) = 1#1
      ↔ l.val ≤ r.val ∧ r.val < l.val + w := by
  have hr := r.isLt
  have hl := l.isLt
  have e : ∀ a b : Bool, BitVec.ofBool a &&& BitVec.ofBool b = 1#1 ↔ a = true ∧ b = true := by decide
  have n : ∀ k, k < 257 → (BitVec.ofNat 32 k).toInt = k := fun k hk => by
    rw [BitVec.toInt_eq_toNat_of_lt (by rw [BitVec.toNat_ofNat]; omega), BitVec.toNat_ofNat, Nat.mod_eq_of_lt (by omega)]
  have d : (BitVec.ofNat 32 r.val - BitVec.ofNat 32 l.val).toInt = (r.val : ℤ) - l.val := by
    rw [BitVec.toInt_sub, n _ (by omega), n _ (by omega)]
    unfold Int.bmod
    dsimp only
    split <;> omega
  unfold IntOp.andi IntOp.cmpi IntOp.subi
  dsimp only
  rw [e, BitVec.sle_iff_toInt_le, BitVec.slt_iff_toInt_lt, d, n w (by omega), show (0#32).toInt = 0 from rfl]
  omega

theorem pay4_apply (r l : Fin 256) : k0_pay4 (F := Ideal) (ix3 0 r l) = bandAt 0 r l := by
  pointwise [k0_pay4, k0_pay3]
  exact if_congr (word_iff 2 (by decide) r l) rfl rfl

theorem pay5_apply (r l : Fin 256) : k0_pay5 (F := Ideal) (ix3 0 r l) = bandAt 1 r l := by
  pointwise [k0_pay5, k0_pay3]
  exact if_congr (word_iff 4 (by decide) r l) rfl rfl

theorem pay7_apply (r l : Fin 256) : k0_pay7 (F := Ideal) k0_pay6 (ix3 0 r l) = bandAt 2 r l := by
  pointwise [k0_pay7, k0_pay6, k0_pay3]
  exact if_congr (word_iff 8 (by decide) r l) rfl rfl

theorem pay8_apply (r l : Fin 256) : k0_pay8 (F := Ideal) k0_pay3 (ix3 0 r l) = bandAt 3 r l := by
  pointwise [k0_pay8, k0_pay3]
  exact if_congr (word_iff 16 (by decide) r l) rfl rfl

/-- A piece of the band scratch that was stored, read at its own group. -/
theorem band_hit {g : ℕ} (inb : ∀ a, (![g, 0, 0] : Fin 3 → Nat) a + (![1, 256, 256] : Fin 3 → Nat) a ≤ S4x256x256.size a) (w : S1x256x256.Idx → Elt Ideal .bf16)
    (L : List (View.Piece (Elt Ideal) S4x256x256 .bf16)) (G : Fin 4) (h : G.val = g) (r l : Fin 256) :
    View.canon ((⟨Rect.unit (s := S4x256x256) ![g, 0, 0] ![1, 256, 256] inb, w⟩ : View.Piece (Elt Ideal) S4x256x256 .bf16) :: L) (ix3 G r l) = w (ix3 0 r l) := by
  have hx : (Rect.unit (s := S4x256x256) ![g, 0, 0] ![1, 256, 256] inb).emb (ix3 0 r l : S1x256x256.Idx) = ix3 G r l := by
    funext a
    apply Fin.ext
    match a with
    | ⟨0, _⟩ => show g + 1 * 0 = G.val; omega
    | ⟨1, _⟩ => show 0 + 1 * r.val = r.val; omega
    | ⟨2, _⟩ => show 0 + 1 * l.val = l.val; omega
  exact (congrArg _ hx.symm).trans (View.canon_cons_emb (Rect.unit (s := S4x256x256) ![g, 0, 0] ![1, 256, 256] inb) w L (ix3 0 r l))

theorem band_miss {g : ℕ} (inb : ∀ a, (![g, 0, 0] : Fin 3 → Nat) a + (![1, 256, 256] : Fin 3 → Nat) a ≤ S4x256x256.size a) (w : S1x256x256.Idx → Elt Ideal .bf16)
    (L : List (View.Piece (Elt Ideal) S4x256x256 .bf16)) (G : Fin 4) (h : G.val ≠ g) (r l : Fin 256) :
    View.canon ((⟨Rect.unit (s := S4x256x256) ![g, 0, 0] ![1, 256, 256] inb, w⟩ : View.Piece (Elt Ideal) S4x256x256 .bf16) :: L) (ix3 G r l) = View.canon L (ix3 G r l) := by
  refine View.canon_cons_of_not_mem _ L fun hm => ?_
  have h0 := (Rect.mem_set_unit (inb := inb)).mp hm 0
  have a : g ≤ G.val := h0.1
  have b : G.val < g + 1 := h0.2
  omega

/-- The four stores of the first point leave the four bands. -/
theorem bands (i3 i2 i1 i0) (g : Fin 4) (r l : Fin 256) :
    View.canon ([⟨Rect.unit (s := S4x256x256) ![3, 0, 0] ![1, 256, 256] i3, k0_pay8 (F := Ideal) k0_pay3⟩, ⟨Rect.unit (s := S4x256x256) ![2, 0, 0] ![1, 256, 256] i2, k0_pay7 (F := Ideal) k0_pay6⟩,
      ⟨Rect.unit (s := S4x256x256) ![1, 0, 0] ![1, 256, 256] i1, k0_pay5 (F := Ideal)⟩, ⟨Rect.unit (s := S4x256x256) ![0, 0, 0] ![1, 256, 256] i0, k0_pay4 (F := Ideal)⟩] : List (View.Piece (Elt Ideal) S4x256x256 .bf16)) (ix3 g r l)
      = bandAt g r l := by
  match g with
  | 3 => exact (band_hit _ _ _ 3 rfl r l).trans (pay8_apply r l)
  | 2 => exact (band_miss _ _ _ 2 (by decide) r l).trans ((band_hit _ _ _ 2 rfl r l).trans (pay7_apply r l))
  | 1 => exact (band_miss _ _ _ 1 (by decide) r l).trans ((band_miss _ _ _ 1 (by decide) r l).trans ((band_hit _ _ _ 1 rfl r l).trans (pay5_apply r l)))
  | 0 => exact (band_miss _ _ _ 0 (by decide) r l).trans ((band_miss _ _ _ 0 (by decide) r l).trans ((band_miss _ _ _ 0 (by decide) r l).trans ((band_hit _ _ _ 0 rfl r l).trans (pay4_apply r l))))

/-- One band loaded from a scratch that holds the bands. -/
theorem ld_band (xb : Vec Ideal S4x256x256 .bf16) (hxb : ∀ g r l, xb (ix3 g r l) = bandAt g r l) (g : ℕ) (G : Fin 4) (h : G.val = g)
    (inb : ∀ a, (![g, 0, 0] : Fin 3 → Nat) a + (![1, 256, 256] : Fin 3 → Nat) a ≤ S4x256x256.size a) (r l : Fin 256) :
    View.ld xb (Rect.unit (s := S4x256x256) ![g, 0, 0] ![1, 256, 256] inb) (ix3 0 r l) = bandAt G r l := by
  refine Eq.trans ?_ (hxb G r l)
  show xb _ = xb _
  refine congrArg _ ?_
  funext a
  apply Fin.ext
  match a with
  | ⟨0, _⟩ => show g + 1 * 0 = G.val; omega
  | ⟨1, _⟩ => show 0 + 1 * r.val = r.val; omega
  | ⟨2, _⟩ => show 0 + 1 * l.val = l.val; omega

/-! ## Positions -/

theorem pos0 : ∀ (t : Fin 16) (r : Fin 16), k0_pay13 (BitVec.ofNat 32 t.val) (ix2 r (0 : Fin 1)) = BitVec.ofNat 32 (512 * (t.val % 8) + r.val) := by
  decide +kernel
theorem pos1 : ∀ (t : Fin 16) (r : Fin 16), k0_pay29 (BitVec.ofNat 32 t.val) (ix2 r (0 : Fin 1)) = BitVec.ofNat 32 (512 * (t.val % 8) + 256 + r.val) := by
  decide +kernel

/-! ## Loads of tiles -/

theorem ld_tile {M N l q : ℕ} {e : EltTy} {a b : ℕ} (x : (⟨2, ![M, N]⟩ : Shape).Idx → Elt Ideal e)
    (inbL : ∀ d, (![a, b] : Fin 2 → Nat) d + (![l, q] : Fin 2 → Nat) d ≤ (⟨2, ![M, N]⟩ : Shape).size d)
    (r : Fin l) (j : Fin q) (R : Fin M) (c : Fin N) (hR : R.val = a + r.val) (hc : c.val = b + j.val) :
    View.ld x (Rect.unit (s := (⟨2, ![M, N]⟩ : Shape)) ![a, b] ![l, q] inbL) (ix2 r j) = x (ix2 R c) := by
  show x _ = x _
  refine congrArg _ ?_
  funext d
  apply Fin.ext
  match d with
  | ⟨0, _⟩ => show a + 1 * r.val = R.val; omega
  | ⟨1, _⟩ => show b + 1 * j.val = c.val; omega

theorem ld_w {g : ℕ} (x : Vec Ideal S1x4x512x512 .bf16) (G : Fin 4) (h : G.val = g)
    (inb : ∀ a, (![0, g, 0, 0] : Fin 4 → Nat) a + (![1, 1, 512, 512] : Fin 4 → Nat) a ≤ S1x4x512x512.size a) (k j : Fin 512) :
    View.ld x (Rect.unit (s := S1x4x512x512) ![0, g, 0, 0] ![1, 1, 512, 512] inb) (ix4 0 0 k j) = x (ix4 0 G k j) := by
  show x _ = x _
  refine congrArg _ ?_
  funext a
  apply Fin.ext
  match a with
  | ⟨0, _⟩ => rfl
  | ⟨1, _⟩ => show g + 1 * 0 = G.val; omega
  | ⟨2, _⟩ => show 0 + 1 * k.val = k.val; omega
  | ⟨3, _⟩ => show 0 + 1 * j.val = j.val; omega

/-- One band loaded after the bands were stored. -/
theorem cov_band {sig : RefSig} {κ : Kind} {sp : Space} (vw : View sig κ sp S4x256x256 .bf16) (L : List (View.Piece (Elt Ideal) S4x256x256 .bf16))
    (hL : ∀ g r l, View.canon L (ix3 g r l) = bandAt g r l) {g : ℕ} (G : Fin 4) (h : G.val = g)
    (inb : ∀ a, (![g, 0, 0] : Fin 3 → Nat) a + (![1, 256, 256] : Fin 3 → Nat) a ≤ S4x256x256.size a) (r l : Fin 256) :
    vw.readCov L (Rect.unit (s := S4x256x256) ![g, 0, 0] ![1, 256, 256] inb).toLoadRect (ix3 0 r l) = bandAt G r l := by
  rw [View.readCov_eq_canon']
  refine Eq.trans (congrArg _ ?_) (hL G r l)
  funext a
  apply Fin.ext
  match a with
  | ⟨0, _⟩ => show g + 1 * 0 = G.val; omega
  | ⟨1, _⟩ => show 0 + 1 * r.val = r.val; omega
  | ⟨2, _⟩ => show 0 + 1 * l.val = l.val; omega

/-- An entry of the block lies in one tile. -/
theorem tile_at {H A : Fin 2} {G B : Fin 4} {r : Fin 256} {j : Fin 512} {x : S256x512.Idx} (h0 : 256 * H.val + r.val = 256 * A.val + (x 0).val)
    (h1 : 512 * G.val + j.val = 512 * B.val + (x 1).val) : H = A ∧ G = B ∧ x = ix2 r j := by
  have l0 : (x 0).val < 256 := (x 0).isLt
  have l1 : (x 1).val < 512 := (x 1).isLt
  have hr := r.isLt
  have hj := j.isLt
  refine ⟨Fin.ext (by omega), Fin.ext (by omega), ?_⟩
  funext a
  apply Fin.ext
  match a with
  | ⟨0, _⟩ => show (x 0).val = r.val; omega
  | ⟨1, _⟩ => show (x 1).val = j.val; omega

end Cert.PoolIdeal.Hand

end
-- ==== Proof.PoolBlk.lean ====
module

public import proofs.«01_k».proof.Proof.PoolGrp
public import proofs.«01_k».proof.Proof.Rows
public import Idealize.ShloMosaic.Lib.Tactic
public import Idealize.ShloMosaic.Lib.Pointwise
public import Idealize.ShloMosaic.Lib.Pipeline.ValueKit
public import Idealize.ShloMosaic.Lib.IdealHost

@[expose] public section

set_option maxRecDepth 16384

noncomputable section

namespace Cert.PoolIdeal.Hand

open Cert.PoolIdeal Cert.PoolIdeal.Gen Cert.PoolIdeal.Carry Cert.Layer Idealize.ShloMosaic Idealize.ShloMosaic.TcCoe Idealize.SL.Sem

/-! ## The block's results -/

section Block

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x4x512x512 .bf16) (harg3 : arg3.IsWhole) (arg4 : Memref sig .tc .vmem S1x2048 .f32) (harg4 : arg4.IsWhole) (arg5 : Memref sig .tc .vmem S1x15x2048 .f32) (harg5 : arg5.IsWhole) (arg6 : Memref sig .tc .vmem S512x2048 .f32) (harg6 : arg6.IsWhole) (arg7 : Memref sig .tc .vmem S1x15x2048 .f32) (harg7 : arg7.IsWhole) (arg8 : Memref sig .tc .vmem S528x2048 .f32) (harg8 : arg8.IsWhole) (arg9 : Memref sig .tc .vmem S4x256x256 .bf16) (harg9 : arg9.IsWhole)
variable (x0 : Vec Ideal S512x2048 .f32) (x1 : Vec Ideal S1x2048 .f32) (x2 : Vec Ideal S1x4x512x512 .bf16) (x3 : Vec Ideal S1x2048 .f32) (x4 : Vec Ideal S1x15x2048 .f32)

/-- Row `r` of the block, normed, and row `R` of the rows after a history of fifteen. -/
abbrev bh (r : Fin 512) (k : Fin 2048) : EReal := rms rowLen eps (fun k => x0 (ix2 r k)) (fun k => x1 (ix2 0 k)) k
abbrev bext (hist : Fin 15 → Fin 2048 → EReal) (R : ℕ) (k : Fin 2048) : EReal := extend (fun i => hist i k) (fun i : Fin 512 => bh x0 x1 i k) R

/-- Those rows from row `256 * A` of the block on (the first is the one at 1), in the columns of group `B`. -/
abbrev rowsAt (hist : Fin 15 → Fin 2048 → EReal) (A B : ℕ) (hB : B < 4 := by decide) (R : ℕ) (k : Fin 512) : EReal :=
  bext x0 x1 hist (256 * A + R - 1) ⟨512 * B + k.val, by omega⟩

theorem bext_new (hist : Fin 15 → Fin 2048 → EReal) (R : ℕ) (i : Fin 512) (h : R = 15 + i.val) (k : Fin 2048) : bext x0 x1 hist R k = bh x0 x1 i k := by
  have hi := i.isLt
  unfold bext extend
  rw [dif_neg (by omega), dif_pos (by omega)]
  exact congrArg (fun i => bh x0 x1 i k) (Fin.ext (by show R - 15 = i.val; omega))

theorem bext_fin (hist : Fin 15 → Fin 2048 → EReal) (hfin : ∀ i k, bh x0 x1 i k ≠ ⊤ ∧ bh x0 x1 i k ≠ ⊥) (H : Fin 2) (l : Fin 256) (k : Fin 2048) :
    bext x0 x1 hist (256 * H.val + (16 + l.val) - 1) k ≠ ⊤ ∧ bext x0 x1 hist (256 * H.val + (16 + l.val) - 1) k ≠ ⊥ := by
  have hH := H.isLt
  have hl := l.isLt
  rw [bext_new x0 x1 hist _ ⟨256 * H.val + l.val, by omega⟩ (by dsimp only; omega) k]
  exact hfin _ k

theorem pay11_apply (i01) (i02) (r : Fin 512) (k : Fin 2048) :
    k0_pay12 (F := Ideal) (k0_pay11 (View.ld x0 (Rect.unit ![0, 0] ![512, 2048] i01)) (View.ld x1 (Rect.unit ![0, 0] ![1, 2048] i02))) (ix2 r k) = bh x0 x1 r k := by
  pointwise [k0_pay12, k0_pay11]
  rfl

theorem pay9_apply (i01) (r : Fin 15) (k : Fin 2048) :
    k0_pay9 (F := Ideal) (View.ld x4 (Rect.unit ![0, 0, 0] ![1, 15, 2048] i01)) (ix2 r k) = x4 (ix3 0 r k) := by
  pointwise [k0_pay9]

theorem pay10_apply (s : Vec Ideal S15x2048 .f32) (r : Fin 15) (k : Fin 2048) : k0_pay10 (F := Ideal) s (ix2 r k) = s (ix2 r k) := by
  pointwise [k0_pay10]

theorem pay2_apply (s : Vec Ideal S15x2048 .f32) (r : Fin 15) (k : Fin 2048) : k0_pay2 (F := Ideal) s (ix3 0 r k) = s (ix2 r k) := by
  pointwise [k0_pay2]

theorem hz3 : (![0, 0, 0] : Fin 3 → Nat) = fun _ => 0 := by
  funext a; match a with | ⟨0, _⟩ => rfl | ⟨1, _⟩ => rfl | ⟨2, _⟩ => rfl

/-- The normed rows as they are stored. -/
abbrev stored := k0_pay12 (F := Ideal) (k0_pay11 (View.ld x0 (Rect.unit ![0, 0] ![512, 2048] inb_S512x2048_S512x2048_0_0)) (View.ld x1 (Rect.unit ![0, 0] ![1, 2048] inb_S1x2048_S1x2048_0_0)))

/-- A load of `l` rows from the stored rows after their history. -/
theorem rows_apply (v : (⟨2, ![15, 2048]⟩ : Shape).Idx → Elt Ideal .f32) (hist : Fin 15 → Fin 2048 → EReal) (hv : ∀ i k, v (ix2 i k) = hist i k) {l q t b : ℕ} (inbL) (r : Fin l) (k : Fin q) (R : ℕ) (cc : Fin 2048)
    (ht : 1 ≤ t) (ht' : t + l ≤ 528) (hc : cc.val = b + k.val) (hR : R = t - 1 + r.val) :
    arg8.view.readCov [(⟨Rect.unit (s := S528x2048) ![16, 0] ![512, 2048] inb_S528x2048_S512x2048_16_0, stored x0 x1⟩ : View.Piece (Elt Ideal) S528x2048 .f32),
        (⟨Rect.unit (s := S528x2048) ![1, 0] ![15, 2048] inb_S528x2048_S15x2048_1_0, v⟩ : View.Piece (Elt Ideal) S528x2048 .f32)]
        (Rect.unit (s := S528x2048) ![t, b] ![l, q] inbL).toLoadRect (ix2 r k) = bext x0 x1 hist R cc := by
  subst hR
  exact (load_extend_cols (l := l) (q := q) arg8.view 1 16 t b rfl ht ht' inb_S528x2048_S512x2048_16_0 inb_S528x2048_S15x2048_1_0 inbL _ _ [] r k cc hc).trans
    (extend_congr (fun i => hv i cc) (fun i => pay11_apply x0 x1 _ _ i cc) _)

/-- Row `r` of the kept rows of the scratch. -/
theorem tail_at (f : Vec Ideal S528x2048 .f32) (r : Fin 15) (k : Fin 2048) : View.ld f tailRect (ix2 r k) = f (ix2 (⟨513 + r.val, by omega⟩ : Fin 528) k) := by
  refine congrArg f ?_
  funext a
  apply Fin.ext
  match a with
  | ⟨0, _⟩ => show 513 + 1 * r.val = 513 + r.val; omega
  | ⟨1, _⟩ => show 0 + 1 * k.val = k.val; omega

set_option maxHeartbeats 1600000 in
theorem y_Z (hz : start i) (h0 : first i) (h1 : ¬later i) (t : Fin 16) (hi : (i 0).val = t.val) (hfin : ∀ i k, bh x0 x1 i k ≠ ⊤ ∧ bh x0 x1 i k ≠ ⊥) (H : Fin 2) (G : Fin 4) (r : Fin 256) (j : Fin 512) :
    View.canon (runZ c i _ harg1 _ harg2 _ harg3 _ harg4 _ harg5 _ harg6 _ harg7 _ harg8 _ harg9 hz h0 h1 x0 x1 x2 x3 x4).1 (ix2 (⟨256 * H.val + r.val, by omega⟩ : Fin 512) (⟨512 * G.val + j.val, by omega⟩ : Fin 2048))
      = x0 (ix2 (⟨256 * H.val + r.val, by omega⟩ : Fin 512) (⟨512 * G.val + j.val, by omega⟩ : Fin 2048))
        + mixed (fun i k => bext x0 x1 (fun i k => x4 (ix3 0 i k)) (256 * H.val + (16 + r.val - i) - 1) ⟨512 * G.val + k.val, by omega⟩) (win G - 1) (denAt G (512 * (t.val % 8) + 256 * H.val + r.val)) (fun k j => x2 (ix4 0 G k j)) j
          * x3 (ix2 0 (⟨512 * G.val + j.val, by omega⟩ : Fin 2048)) := by
  unfold runZ
  dsimp only
  sl_unfold_words
  simp only [View.readAt_eq_ld, harg1.read_unread, harg2.read_unread, harg3.read_unread, harg4.read_unread, harg5.read_unread]
  rw [hi]
  canon_tiles x h
  on_goal 8 => (obtain ⟨rfl, rfl, rfl⟩ := tile_at (A := 0) (B := 0) (h0.trans (Nat.zero_add _).symm) (h1.trans (Nat.zero_add _).symm); apply group00 (p := 512 * (t.val % 8) + 256 * 0) (E := rowsAt x0 x1 (fun i k => x4 (ix3 0 i k)) 0 0))
  on_goal 7 => (obtain ⟨rfl, rfl, rfl⟩ := tile_at (A := 0) (B := 1) (h0.trans (Nat.zero_add _).symm) h1; apply group01 (p := 512 * (t.val % 8) + 256 * 0) (E := rowsAt x0 x1 (fun i k => x4 (ix3 0 i k)) 0 1))
  on_goal 6 => (obtain ⟨rfl, rfl, rfl⟩ := tile_at (A := 0) (B := 2) (h0.trans (Nat.zero_add _).symm) h1; apply group02 (p := 512 * (t.val % 8) + 256 * 0) (E := rowsAt x0 x1 (fun i k => x4 (ix3 0 i k)) 0 2))
  on_goal 5 => (obtain ⟨rfl, rfl, rfl⟩ := tile_at (A := 0) (B := 3) (h0.trans (Nat.zero_add _).symm) h1; apply group03 (p := 512 * (t.val % 8) + 256 * 0) (E := rowsAt x0 x1 (fun i k => x4 (ix3 0 i k)) 0 3))
  on_goal 4 => (obtain ⟨rfl, rfl, rfl⟩ := tile_at (A := 1) (B := 0) h0 (h1.trans (Nat.zero_add _).symm); apply group10 (p := 512 * (t.val % 8) + 256 * 1) (E := rowsAt x0 x1 (fun i k => x4 (ix3 0 i k)) 1 0))
  on_goal 3 => (obtain ⟨rfl, rfl, rfl⟩ := tile_at (A := 1) (B := 1) h0 h1; apply group11 (p := 512 * (t.val % 8) + 256 * 1) (E := rowsAt x0 x1 (fun i k => x4 (ix3 0 i k)) 1 1))
  on_goal 2 => (obtain ⟨rfl, rfl, rfl⟩ := tile_at (A := 1) (B := 2) h0 h1; apply group12 (p := 512 * (t.val % 8) + 256 * 1) (E := rowsAt x0 x1 (fun i k => x4 (ix3 0 i k)) 1 2))
  on_goal 1 => (obtain ⟨rfl, rfl, rfl⟩ := tile_at (A := 1) (B := 3) h0 h1; apply group13 (p := 512 * (t.val % 8) + 256 * 1) (E := rowsAt x0 x1 (fun i k => x4 (ix3 0 i k)) 1 3))
  all_goals first
    | exact fun r l => cov_band _ _ (bands _ _ _ _) _ (by rfl) _ r l
    | exact fun r k => rows_apply arg8 x0 x1 _ _ (fun i k => pay9_apply x4 _ i k) _ r k _ _ (by omega) (by omega) (by dsimp only) (by omega)
    | omega
    | exact fun l k => bext_fin x0 x1 _ hfin 0 l _
    | exact fun l k => bext_fin x0 x1 _ hfin 1 l _
    | exact pos0 t
    | exact pos1 t
    | exact fun k => ld_w x2 _ (by rfl) _ k j
    | exact ld_tile x0 _ r j _ _ rfl rfl
    | exact ld_tile x3 _ 0 j _ _ rfl rfl

theorem state_Z (hz : start i) (h0 : first i) (h1 : ¬later i) (r : Fin 15) (k : Fin 2048) : View.canon (runZ c i _ harg1 _ harg2 _ harg3 _ harg4 _ harg5 _ harg6 _ harg7 _ harg8 _ harg9 hz h0 h1 x0 x1 x2 x3 x4).2.1 (ix3 0 r k) = bext x0 x1 (fun i k => x4 (ix3 0 i k)) (512 + r.val) k := by
  unfold runZ
  dsimp only
  sl_unfold_words
  simp only [View.readAt_eq_ld, harg1.read_unread, harg2.read_unread, harg3.read_unread, harg4.read_unread, harg5.read_unread]
  rw [View.canon_unit_zero (S := S1x15x2048) hz3]
  exact (pay2_apply _ r k).trans (rows_apply arg8 x0 x1 _ _ (fun i k => pay9_apply x4 _ i k) _ r k _ k (by omega) (by omega) (by omega) (by omega))

theorem tail_Z (hz : start i) (h0 : first i) (h1 : ¬later i) (r : Fin 15) (k : Fin 2048) : View.ld (View.canon (runZ c i _ harg1 _ harg2 _ harg3 _ harg4 _ harg5 _ harg6 _ harg7 _ harg8 _ harg9 hz h0 h1 x0 x1 x2 x3 x4).2.2.2.1) tailRect (ix2 r k) = bh x0 x1 ⟨497 + r.val, by omega⟩ k := by
  refine (tail_at _ r k).trans ?_
  unfold runZ
  dsimp only
  sl_unfold_words
  simp only [View.readAt_eq_ld, harg1.read_unread, harg2.read_unread, harg3.read_unread, harg4.read_unread, harg5.read_unread]
  exact (canon_rows_hit 16 inb_S528x2048_S512x2048_16_0 _ _ _ k ⟨497 + r.val, by omega⟩ (by show 513 + r.val = 16 + (497 + r.val); omega)).trans (pay11_apply x0 x1 _ _ _ k)

theorem band_Z (hz : start i) (h0 : first i) (h1 : ¬later i) (g : Fin 4) (r l : Fin 256) : View.canon (runZ c i _ harg1 _ harg2 _ harg3 _ harg4 _ harg5 _ harg6 _ harg7 _ harg8 _ harg9 hz h0 h1 x0 x1 x2 x3 x4).2.2.1 (ix3 g r l) = bandAt g r l := by
  unfold runZ
  dsimp only
  sl_unfold_words
  exact bands _ _ _ _ g r l

set_option maxHeartbeats 1600000 in
theorem y_A (hz : ¬start i) (h0 : first i) (h1 : ¬later i) (xb : Vec Ideal S4x256x256 .bf16) (hxb : ∀ g r l, xb (ix3 g r l) = bandAt g r l) (t : Fin 16) (hi : (i 0).val = t.val) (hfin : ∀ i k, bh x0 x1 i k ≠ ⊤ ∧ bh x0 x1 i k ≠ ⊥) (H : Fin 2) (G : Fin 4) (r : Fin 256) (j : Fin 512) :
    View.canon (runA c i _ harg1 _ harg2 _ harg3 _ harg4 _ harg5 _ harg6 _ harg7 _ harg8 _ harg9 hz h0 h1 x0 x1 x2 x3 x4 xb).1 (ix2 (⟨256 * H.val + r.val, by omega⟩ : Fin 512) (⟨512 * G.val + j.val, by omega⟩ : Fin 2048))
      = x0 (ix2 (⟨256 * H.val + r.val, by omega⟩ : Fin 512) (⟨512 * G.val + j.val, by omega⟩ : Fin 2048))
        + mixed (fun i k => bext x0 x1 (fun i k => x4 (ix3 0 i k)) (256 * H.val + (16 + r.val - i) - 1) ⟨512 * G.val + k.val, by omega⟩) (win G - 1) (denAt G (512 * (t.val % 8) + 256 * H.val + r.val)) (fun k j => x2 (ix4 0 G k j)) j
          * x3 (ix2 0 (⟨512 * G.val + j.val, by omega⟩ : Fin 2048)) := by
  unfold runA
  dsimp only
  sl_unfold_words
  simp only [View.readAt_eq_ld, harg1.read_unread, harg2.read_unread, harg3.read_unread, harg4.read_unread, harg5.read_unread, harg9.read_unread]
  rw [hi]
  canon_tiles x h
  on_goal 8 => (obtain ⟨rfl, rfl, rfl⟩ := tile_at (A := 0) (B := 0) (h0.trans (Nat.zero_add _).symm) (h1.trans (Nat.zero_add _).symm); apply group00 (p := 512 * (t.val % 8) + 256 * 0) (E := rowsAt x0 x1 (fun i k => x4 (ix3 0 i k)) 0 0))
  on_goal 7 => (obtain ⟨rfl, rfl, rfl⟩ := tile_at (A := 0) (B := 1) (h0.trans (Nat.zero_add _).symm) h1; apply group01 (p := 512 * (t.val % 8) + 256 * 0) (E := rowsAt x0 x1 (fun i k => x4 (ix3 0 i k)) 0 1))
  on_goal 6 => (obtain ⟨rfl, rfl, rfl⟩ := tile_at (A := 0) (B := 2) (h0.trans (Nat.zero_add _).symm) h1; apply group02 (p := 512 * (t.val % 8) + 256 * 0) (E := rowsAt x0 x1 (fun i k => x4 (ix3 0 i k)) 0 2))
  on_goal 5 => (obtain ⟨rfl, rfl, rfl⟩ := tile_at (A := 0) (B := 3) (h0.trans (Nat.zero_add _).symm) h1; apply group03 (p := 512 * (t.val % 8) + 256 * 0) (E := rowsAt x0 x1 (fun i k => x4 (ix3 0 i k)) 0 3))
  on_goal 4 => (obtain ⟨rfl, rfl, rfl⟩ := tile_at (A := 1) (B := 0) h0 (h1.trans (Nat.zero_add _).symm); apply group10 (p := 512 * (t.val % 8) + 256 * 1) (E := rowsAt x0 x1 (fun i k => x4 (ix3 0 i k)) 1 0))
  on_goal 3 => (obtain ⟨rfl, rfl, rfl⟩ := tile_at (A := 1) (B := 1) h0 h1; apply group11 (p := 512 * (t.val % 8) + 256 * 1) (E := rowsAt x0 x1 (fun i k => x4 (ix3 0 i k)) 1 1))
  on_goal 2 => (obtain ⟨rfl, rfl, rfl⟩ := tile_at (A := 1) (B := 2) h0 h1; apply group12 (p := 512 * (t.val % 8) + 256 * 1) (E := rowsAt x0 x1 (fun i k => x4 (ix3 0 i k)) 1 2))
  on_goal 1 => (obtain ⟨rfl, rfl, rfl⟩ := tile_at (A := 1) (B := 3) h0 h1; apply group13 (p := 512 * (t.val % 8) + 256 * 1) (E := rowsAt x0 x1 (fun i k => x4 (ix3 0 i k)) 1 3))
  all_goals first
    | exact fun r l => ld_band xb hxb _ _ (by rfl) _ r l
    | exact fun r k => rows_apply arg8 x0 x1 _ _ (fun i k => pay9_apply x4 _ i k) _ r k _ _ (by omega) (by omega) (by dsimp only) (by omega)
    | omega
    | exact fun l k => bext_fin x0 x1 _ hfin 0 l _
    | exact fun l k => bext_fin x0 x1 _ hfin 1 l _
    | exact pos0 t
    | exact pos1 t
    | exact fun k => ld_w x2 _ (by rfl) _ k j
    | exact ld_tile x0 _ r j _ _ rfl rfl
    | exact ld_tile x3 _ 0 j _ _ rfl rfl

theorem state_A (hz : ¬start i) (h0 : first i) (h1 : ¬later i) (xb : Vec Ideal S4x256x256 .bf16) (r : Fin 15) (k : Fin 2048) : View.canon (runA c i _ harg1 _ harg2 _ harg3 _ harg4 _ harg5 _ harg6 _ harg7 _ harg8 _ harg9 hz h0 h1 x0 x1 x2 x3 x4 xb).2.1 (ix3 0 r k) = bext x0 x1 (fun i k => x4 (ix3 0 i k)) (512 + r.val) k := by
  unfold runA
  dsimp only
  sl_unfold_words
  simp only [View.readAt_eq_ld, harg1.read_unread, harg2.read_unread, harg3.read_unread, harg4.read_unread, harg5.read_unread, harg9.read_unread]
  rw [View.canon_unit_zero (S := S1x15x2048) hz3]
  exact (pay2_apply _ r k).trans (rows_apply arg8 x0 x1 _ _ (fun i k => pay9_apply x4 _ i k) _ r k _ k (by omega) (by omega) (by omega) (by omega))

theorem tail_A (hz : ¬start i) (h0 : first i) (h1 : ¬later i) (xb : Vec Ideal S4x256x256 .bf16) (r : Fin 15) (k : Fin 2048) : View.ld (View.canon (runA c i _ harg1 _ harg2 _ harg3 _ harg4 _ harg5 _ harg6 _ harg7 _ harg8 _ harg9 hz h0 h1 x0 x1 x2 x3 x4 xb).2.2.1) tailRect (ix2 r k) = bh x0 x1 ⟨497 + r.val, by omega⟩ k := by
  refine (tail_at _ r k).trans ?_
  unfold runA
  dsimp only
  sl_unfold_words
  simp only [View.readAt_eq_ld, harg1.read_unread, harg2.read_unread, harg3.read_unread, harg4.read_unread, harg5.read_unread, harg9.read_unread]
  exact (canon_rows_hit 16 inb_S528x2048_S512x2048_16_0 _ _ _ k ⟨497 + r.val, by omega⟩ (by show 513 + r.val = 16 + (497 + r.val); omega)).trans (pay11_apply x0 x1 _ _ _ k)

set_option maxHeartbeats 1600000 in
theorem y_B (hz : ¬start i) (h0 : ¬first i) (h1 : later i) (xb : Vec Ideal S4x256x256 .bf16) (xs : Vec Ideal S528x2048 .f32) (hxb : ∀ g r l, xb (ix3 g r l) = bandAt g r l) (t : Fin 16) (hi : (i 0).val = t.val) (hfin : ∀ i k, bh x0 x1 i k ≠ ⊤ ∧ bh x0 x1 i k ≠ ⊥) (H : Fin 2) (G : Fin 4) (r : Fin 256) (j : Fin 512) :
    View.canon (runB c i _ harg1 _ harg2 _ harg3 _ harg4 _ harg5 _ harg6 _ harg7 _ harg8 _ harg9 hz h0 h1 x0 x1 x2 x3 x4 xb xs).1 (ix2 (⟨256 * H.val + r.val, by omega⟩ : Fin 512) (⟨512 * G.val + j.val, by omega⟩ : Fin 2048))
      = x0 (ix2 (⟨256 * H.val + r.val, by omega⟩ : Fin 512) (⟨512 * G.val + j.val, by omega⟩ : Fin 2048))
        + mixed (fun i k => bext x0 x1 (fun i k => View.ld xs tailRect (ix2 i k)) (256 * H.val + (16 + r.val - i) - 1) ⟨512 * G.val + k.val, by omega⟩) (win G - 1) (denAt G (512 * (t.val % 8) + 256 * H.val + r.val)) (fun k j => x2 (ix4 0 G k j)) j
          * x3 (ix2 0 (⟨512 * G.val + j.val, by omega⟩ : Fin 2048)) := by
  unfold runB
  dsimp only
  sl_unfold_words
  simp only [View.readAt_eq_ld, harg1.read_unread, harg2.read_unread, harg3.read_unread, harg4.read_unread, harg5.read_unread, harg8.read_unread, harg9.read_unread]
  rw [hi]
  canon_tiles x h
  on_goal 8 => (obtain ⟨rfl, rfl, rfl⟩ := tile_at (A := 0) (B := 0) (h0.trans (Nat.zero_add _).symm) (h1.trans (Nat.zero_add _).symm); apply group00 (p := 512 * (t.val % 8) + 256 * 0) (E := rowsAt x0 x1 (fun i k => View.ld xs tailRect (ix2 i k)) 0 0))
  on_goal 7 => (obtain ⟨rfl, rfl, rfl⟩ := tile_at (A := 0) (B := 1) (h0.trans (Nat.zero_add _).symm) h1; apply group01 (p := 512 * (t.val % 8) + 256 * 0) (E := rowsAt x0 x1 (fun i k => View.ld xs tailRect (ix2 i k)) 0 1))
  on_goal 6 => (obtain ⟨rfl, rfl, rfl⟩ := tile_at (A := 0) (B := 2) (h0.trans (Nat.zero_add _).symm) h1; apply group02 (p := 512 * (t.val % 8) + 256 * 0) (E := rowsAt x0 x1 (fun i k => View.ld xs tailRect (ix2 i k)) 0 2))
  on_goal 5 => (obtain ⟨rfl, rfl, rfl⟩ := tile_at (A := 0) (B := 3) (h0.trans (Nat.zero_add _).symm) h1; apply group03 (p := 512 * (t.val % 8) + 256 * 0) (E := rowsAt x0 x1 (fun i k => View.ld xs tailRect (ix2 i k)) 0 3))
  on_goal 4 => (obtain ⟨rfl, rfl, rfl⟩ := tile_at (A := 1) (B := 0) h0 (h1.trans (Nat.zero_add _).symm); apply group10 (p := 512 * (t.val % 8) + 256 * 1) (E := rowsAt x0 x1 (fun i k => View.ld xs tailRect (ix2 i k)) 1 0))
  on_goal 3 => (obtain ⟨rfl, rfl, rfl⟩ := tile_at (A := 1) (B := 1) h0 h1; apply group11 (p := 512 * (t.val % 8) + 256 * 1) (E := rowsAt x0 x1 (fun i k => View.ld xs tailRect (ix2 i k)) 1 1))
  on_goal 2 => (obtain ⟨rfl, rfl, rfl⟩ := tile_at (A := 1) (B := 2) h0 h1; apply group12 (p := 512 * (t.val % 8) + 256 * 1) (E := rowsAt x0 x1 (fun i k => View.ld xs tailRect (ix2 i k)) 1 2))
  on_goal 1 => (obtain ⟨rfl, rfl, rfl⟩ := tile_at (A := 1) (B := 3) h0 h1; apply group13 (p := 512 * (t.val % 8) + 256 * 1) (E := rowsAt x0 x1 (fun i k => View.ld xs tailRect (ix2 i k)) 1 3))
  all_goals first
    | exact fun r l => ld_band xb hxb _ _ (by rfl) _ r l
    | exact fun r k => rows_apply arg8 x0 x1 _ _ (fun i k => pay10_apply _ i k) _ r k _ _ (by omega) (by omega) (by dsimp only) (by omega)
    | omega
    | exact fun l k => bext_fin x0 x1 _ hfin 0 l _
    | exact fun l k => bext_fin x0 x1 _ hfin 1 l _
    | exact pos0 t
    | exact pos1 t
    | exact fun k => ld_w x2 _ (by rfl) _ k j
    | exact ld_tile x0 _ r j _ _ rfl rfl
    | exact ld_tile x3 _ 0 j _ _ rfl rfl

theorem state_B (hz : ¬start i) (h0 : ¬first i) (h1 : later i) (xb : Vec Ideal S4x256x256 .bf16) (xs : Vec Ideal S528x2048 .f32) (r : Fin 15) (k : Fin 2048) : View.canon (runB c i _ harg1 _ harg2 _ harg3 _ harg4 _ harg5 _ harg6 _ harg7 _ harg8 _ harg9 hz h0 h1 x0 x1 x2 x3 x4 xb xs).2.1 (ix3 0 r k) = bext x0 x1 (fun i k => View.ld xs tailRect (ix2 i k)) (512 + r.val) k := by
  unfold runB
  dsimp only
  sl_unfold_words
  simp only [View.readAt_eq_ld, harg1.read_unread, harg2.read_unread, harg3.read_unread, harg4.read_unread, harg5.read_unread, harg8.read_unread, harg9.read_unread]
  rw [View.canon_unit_zero (S := S1x15x2048) hz3]
  exact (pay2_apply _ r k).trans (rows_apply arg8 x0 x1 _ _ (fun i k => pay10_apply _ i k) _ r k _ k (by omega) (by omega) (by omega) (by omega))

theorem tail_B (hz : ¬start i) (h0 : ¬first i) (h1 : later i) (xb : Vec Ideal S4x256x256 .bf16) (xs : Vec Ideal S528x2048 .f32) (r : Fin 15) (k : Fin 2048) : View.ld (View.canon (runB c i _ harg1 _ harg2 _ harg3 _ harg4 _ harg5 _ harg6 _ harg7 _ harg8 _ harg9 hz h0 h1 x0 x1 x2 x3 x4 xb xs).2.2.1) tailRect (ix2 r k) = bh x0 x1 ⟨497 + r.val, by omega⟩ k := by
  refine (tail_at _ r k).trans ?_
  unfold runB
  dsimp only
  sl_unfold_words
  simp only [View.readAt_eq_ld, harg1.read_unread, harg2.read_unread, harg3.read_unread, harg4.read_unread, harg5.read_unread, harg8.read_unread, harg9.read_unread]
  exact (canon_rows_hit 16 inb_S528x2048_S512x2048_16_0 _ _ _ k ⟨497 + r.val, by omega⟩ (by show 513 + r.val = 16 + (497 + r.val); omega)).trans (pay11_apply x0 x1 _ _ _ k)

end Block

end Cert.PoolIdeal.Hand

end
-- ==== Proof.PoolVal.lean ====
module

public import proofs.«01_k».proof.Proof.PoolBlk

@[expose] public section

set_option maxRecDepth 16384

noncomputable section

namespace Cert.PoolIdeal.Hand

open Cert.PoolIdeal Cert.PoolIdeal.Gen Cert.PoolIdeal.Carry Cert.Layer Idealize.ShloMosaic Idealize.ShloMosaic.TcCoe Idealize.SL.Sem

/-! ## A norm with finite scales is finite -/

theorem rms_fin {n e : ℝ} (hn : 0 < n) (he : 0 < e) {k : ℕ} (x g : Fin k → EReal) (hg : ∀ j, g j ≠ ⊤ ∧ g j ≠ ⊥) (j : Fin k) :
    rms (n : EReal) (e : EReal) x g j ≠ ⊤ ∧ rms (n : EReal) (e : EReal) x g j ≠ ⊥ := by
  have nn : ∀ l, 0 ≤ x l * x l := fun l => by
    rcases le_total 0 (x l) with h | h
    · exact mul_nonneg h h
    · rw [← neg_mul_neg]
      exact mul_nonneg (EReal.neg_nonneg.mpr h) (EReal.neg_nonneg.mpr h)
  unfold rms
  rw [Ideal.div_coe (ne_of_gt hn)]
  have hS : 0 ≤ ∑ l, x l * x l := Finset.sum_nonneg fun l _ => nn l
  have hle : x j * x j ≤ ∑ l, x l * x l := Finset.single_le_sum (fun l _ => nn l) (Finset.mem_univ j)
  generalize ∑ l, x l * x l = S at hS hle
  induction S using EReal.rec with
  | bot => exact absurd hS (by simp)
  | top =>
    rw [EReal.top_mul_coe_of_pos (by positivity), EReal.top_add_coe, Ideal.rsqrt_top, mul_zero, zero_mul]
    exact ⟨EReal.zero_ne_top, EReal.zero_ne_bot⟩
  | coe s =>
    have hs : 0 ≤ s := EReal.coe_nonneg.mp hS
    have h1 : x j ≠ ⊤ := fun h => by rw [h, EReal.top_mul_top] at hle; exact absurd (top_le_iff.mp hle) (EReal.coe_ne_top s)
    have h2 : x j ≠ ⊥ := fun h => by rw [h, EReal.bot_mul_bot] at hle; exact absurd (top_le_iff.mp hle) (EReal.coe_ne_top s)
    have hp : 0 < s * (1 / n) + e := by positivity
    rw [← EReal.coe_toReal h1 h2, ← EReal.coe_toReal (hg j).1 (hg j).2, ← EReal.coe_mul, ← EReal.coe_add, Ideal.rsqrt_coe, if_neg (not_lt.mpr hp.le), if_neg hp.ne', ← EReal.coe_mul, ← EReal.coe_mul]
    exact ⟨EReal.coe_ne_top _, EReal.coe_ne_bot _⟩

theorem rowLen_eq : rowLen = ((2048 : ℝ) : EReal) := by
  simp [Ideal.ofBits, Ideal.ieee]
  rw [← EReal.coe_mul]
  norm_num [zpow_neg]

theorem eps_eq : ∃ e : ℝ, 0 < e ∧ eps = (e : EReal) := by
  refine ⟨(eps).toReal, ?_, ?_⟩
  all_goals
    simp [Ideal.ofBits, Ideal.ieee]
    rw [← EReal.coe_mul]
    first | (rw [EReal.toReal_coe]; positivity) | rw [EReal.toReal_coe]

variable (m : (ℓ : Loc nD τ sig) → Buf (Elt Ideal) ℓ) (ρ : Dev nD → PrngReg)

/-! ## The arguments, entry by entry -/

abbrev X (c : Dev nD) (R : Fin 8192) (k : Fin 2048) : EReal := m ((c : Thread nD τ).loc main_arg0) (ix2 R k)
abbrev G (c : Dev nD) (k : Fin 2048) : EReal := m ((c : Thread nD τ).loc main_arg1) (ix2 (1 : Fin 2) k)
abbrev W (c : Dev nD) (g : Fin 4) (k j : Fin 512) : EReal := m ((c : Thread nD τ).loc main_arg2) (ix4 (0 : Fin 1) g k j)
abbrev PS (c : Dev nD) (k : Fin 2048) : EReal := m ((c : Thread nD τ).loc main_arg3) (ix2 (0 : Fin 1) k)

/-- A token, normed, and the rows of sequence `b` after fifteen rows of zeros. -/
abbrev hat (c : Dev nD) (R : Fin 8192) (k : Fin 2048) : EReal := rms rowLen eps (X m c R) (G m c) k
abbrev E (c : Dev nD) (b : Fin 2) (R : ℕ) (k : Fin 2048) : EReal :=
  extend (fun _ : Fin 15 => (0 : EReal)) (fun i : Fin 4096 => hat m c ⟨b.val * 4096 + i.val, by omega⟩ k) R

theorem hat_fin (c : Dev nD) (hG : ∀ k, G m c k ≠ ⊤ ∧ G m c k ≠ ⊥) (R : Fin 8192) (k : Fin 2048) : hat m c R k ≠ ⊤ ∧ hat m c R k ≠ ⊥ := by
  obtain ⟨e, he, h⟩ := eps_eq
  unfold hat
  rw [rowLen_eq, h]
  exact rms_fin (by norm_num) he _ _ hG k

/-! ## What the region finds in the arrays the host prepares -/

theorem V_g (c : Dev nD) (k : Fin 2048) : V m c main_v2 (ix2 0 k) = G m c k := by
  have e : V m c main_v2 = shapeCast S1x2048 (shapeCast S2048 (extractStridedSlice S1x2048 ![1, 0] (m ((c : Thread nD τ).loc main_arg1)) slices_S2x2048_S1x2048_1_0) shapeCasts_S1x2048_S2048) shapeCasts_S2048_S1x2048 := by
    unfold V
    after_results
    rfl
  rw [e]
  pointwise

theorem V_w (c : Dev nD) (g : Fin 4) (k j : Fin 512) : V m c main_v3 (ix4 0 g k j) = W m c g k j := by
  have e : V m c main_v3 = (truncf .bf16 (m ((c : Thread nD τ).loc main_arg2) : FVec Ideal S1x4x512x512 .f32) bitsLt_bf16_f32 : FVec Ideal S1x4x512x512 .bf16) := by
    unfold V
    after_results
  rw [e]
  pointwise

theorem V_s (c : Dev nD) (k : Fin 2048) : V m c main_v5 (ix2 0 k) = PS m c k := by
  have e : V m c main_v5 = shapeCast S1x2048 (shapeCast S2048 (m ((c : Thread nD τ).loc main_arg3)) shapeCasts_S1x2048_S2048) shapeCasts_S2048_S1x2048 := by
    unfold V
    after_results
    rfl
  rw [e]
  pointwise

theorem zeros_apply (i : S2x15x2048.Idx) : (broadcastInDim S2x15x2048 ![] bcast_S_S2x15x2048 (constant S_ .f32 0x00000000#32) : FVec Ideal S2x15x2048 .f32) i = 0 := by
  obtain ⟨a, b, d, rfl⟩ : ∃ (a : Fin 2) (b : Fin 15) (d : Fin 2048), i = ix3 a b d := ⟨i 0, i 1, i 2, eq_ix3 i⟩
  pointwise

theorem V_z (c : Dev nD) (i : S2x15x2048.Idx) : V m c main_v6 i = (0 : EReal) := by
  have e : V m c main_v6 = (broadcastInDim S2x15x2048 ![] bcast_S_S2x15x2048 (constant S_ .f32 0x00000000#32) : FVec Ideal S2x15x2048 .f32) := by
    unfold V
    after_results
  rw [e]
  exact zeros_apply i

/-! ## The blocks -/

theorem N_lt (t : Fin cfg0.N) : t.val < 16 := lt_of_lt_of_eq t.isLt N_0
theorem row_lt (t : Fin cfg0.N) (r : Fin 512) : 512 * t.val + r.val < 8192 := by
  have := N_lt t; omega
/-- Row `r` of point `t`'s block, and the sequence of the block. -/
abbrev rowOf (t : Fin cfg0.N) (r : Fin 512) : Fin 8192 := ⟨512 * t.val + r.val, row_lt t r⟩
abbrev seqOf (t : Fin cfg0.N) : Fin 2 := ⟨t.val / 8, by have := N_lt t; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 3) = t.val / 8 ∧ win0_6.index t (1 : Fin 3) = 0 ∧ win0_6.index t (2 : Fin 3) = 0 :=
  (by decide +kernel : ∀ t : Fin grid0.N, _)
theorem coords_val : ∀ t : Fin cfg0.N, (grid0.coords t 0).val = t.val :=
  (by decide +kernel : ∀ t : Fin grid0.N, _)

theorem blk0 (c : Dev nD) (t : Fin cfg0.N) (r : Fin 512) (k : Fin 2048) : (iblk m c 0 t : Vec Ideal S512x2048 .f32) (ix2 r k) = X m c (rowOf t r) k := by
  have hi := idx0 t
  unfold iblk
  rw [View.read_apply]
  refine Eq.trans ?_ (congrFun (V_main_arg0 m c) (ix2 (rowOf t r) k))
  show V m c main_arg0 _ = V m c main_arg0 _
  congr 1
  funext a
  apply Fin.ext
  match a with
  | ⟨0, _⟩ => show win0_0.index t 0 * 512 + 1 * r.val = 512 * t.val + r.val; rw [hi.1]; all_goals omega
  | ⟨1, _⟩ => show win0_0.index t 1 * 2048 + 1 * k.val = k.val; rw [hi.2]; all_goals omega

theorem blk1 (c : Dev nD) (t : Fin cfg0.N) (k : Fin 2048) : (iblk m c 1 t : Vec Ideal S1x2048 .f32) (ix2 0 k) = G m c k := by
  have hi := idx1 t
  unfold iblk
  rw [View.read_apply]
  refine Eq.trans ?_ (V_g m c k)
  show V m c main_v2 _ = V m c main_v2 _
  congr 1
  funext a
  apply Fin.ext
  match a with
  | ⟨0, _⟩ => show win0_1.index t 0 * 1 + 1 * 0 = 0; rw [hi.1]; all_goals omega
  | ⟨1, _⟩ => show win0_1.index t 1 * 2048 + 1 * k.val = k.val; rw [hi.2]; all_goals omega

theorem blk2 (c : Dev nD) (t : Fin cfg0.N) (g : Fin 4) (k j : Fin 512) : (iblk m c 2 t : Vec Ideal S1x4x512x512 .bf16) (ix4 0 g k j) = W m c g k j := by
  have hi := idx2 t
  unfold iblk
  rw [View.read_apply]
  refine Eq.trans ?_ (V_w m c g k j)
  show V m c main_v3 _ = V m c main_v3 _
  congr 1
  funext a
  apply Fin.ext
  match a with
  | ⟨0, _⟩ => show win0_2.index t 0 * 1 + 1 * 0 = 0; rw [hi.1]; all_goals omega
  | ⟨1, _⟩ => show win0_2.index t 1 * 4 + 1 * g.val = g.val; rw [hi.2.1]; all_goals omega
  | ⟨2, _⟩ => show win0_2.index t 2 * 512 + 1 * k.val = k.val; rw [hi.2.2.1]; all_goals omega
  | ⟨3, _⟩ => show win0_2.index t 3 * 512 + 1 * j.val = j.val; rw [hi.2.2.2]; all_goals omega

theorem blk3 (c : Dev nD) (t : Fin cfg0.N) (k : Fin 2048) : (iblk m c 3 t : Vec Ideal S1x2048 .f32) (ix2 0 k) = PS m c k := by
  have hi := idx3 t
  unfold iblk
  rw [View.read_apply]
  refine Eq.trans ?_ (V_s m c k)
  show V m c main_v5 _ = V m c main_v5 _
  congr 1
  funext a
  apply Fin.ext
  match a with
  | ⟨0, _⟩ => show win0_3.index t 0 * 1 + 1 * 0 = 0; rw [hi.1]; all_goals omega
  | ⟨1, _⟩ => show win0_3.index t 1 * 2048 + 1 * k.val = k.val; rw [hi.2]; all_goals omega

theorem blk4 (c : Dev nD) (t : Fin cfg0.N) (y : S1x15x2048.Idx) : (iblk m c 4 t : Vec Ideal S1x15x2048 .f32) y = (0 : EReal) := by
  unfold iblk
  rw [View.read_apply]
  exact V_z m c _

theorem blk_h (c : Dev nD) (t : Fin cfg0.N) (r : Fin 512) (k : Fin 2048) : bh (iblk m c 0 t) (iblk m c 1 t) r k = hat m c (rowOf t r) k :=
  rms_congr _ _ (fun l => blk0 m c t r l) (fun l => blk1 m c t l) k

/-! ## What is carried from point to point -/

/-- The rows a point leaves for the next are the last fifteen of its block. -/
theorem tail_apply (c : Dev nD) (t : Fin cfg0.N) (i : Fin 15) (k : Fin 2048) :
    (outs m c t.val t.isLt).2.2.1 (ix2 i k) = hat m c (rowOf t ⟨497 + i.val, by omega⟩) k := by
  refine Eq.trans ?_ (blk_h m c t ⟨497 + i.val, by omega⟩ k)
  by_cases hz : t.val = 0
  · rw [outs_Z m c t hz]
    unfold leftZ
    dsimp only
    exact tail_Z ..
  · by_cases h0 : t.val % 8 = 0
    · rw [outs_A m c t hz h0]
      unfold leftA
      dsimp only
      exact tail_A ..
    · rw [outs_B m c t h0]
      unfold leftB
      dsimp only
      exact tail_B ..

/-- The band matrices stay what the first point made them. -/
theorem band_apply (c : Dev nD) (g : Fin 4) (r l : Fin 256) : ∀ (n : ℕ) (t : Fin cfg0.N), t.val = n → (outs m c t.val t.isLt).2.2.2 (ix3 g r l) = bandAt g r l := by
  intro n
  induction n with
  | zero =>
    intro t hz
    rw [outs_Z m c t hz]
    unfold leftZ
    dsimp only
    exact band_Z ..
  | succ n ih =>
    intro t ht
    have := ih ⟨t.val - 1, Nat.lt_of_le_of_lt (Nat.sub_le _ _) t.isLt⟩ (by show t.val - 1 = n; omega)
    by_cases h0 : t.val % 8 = 0
    · rw [outs_A m c t (by omega) h0]
      exact this
    · rw [outs_B m c t h0]
      exact this

theorem hat_congr (c : Dev nD) {R R' : Fin 8192} (k : Fin 2048) (h : R.val = R'.val) : hat m c R k = hat m c R' k := by
  rw [Fin.ext h]

/-- At the first point of a sequence the history is the zeros before it; -/
theorem ext_A (c : Dev nD) (t : Fin cfg0.N) (h0 : t.val % 8 = 0) (R : ℕ) (hR : R < 527) (k : Fin 2048) :
    bext (iblk m c 0 t) (iblk m c 1 t) (fun i k => (iblk m c 4 t : Vec Ideal S1x15x2048 .f32) (ix3 0 i k)) R k
      = E m c (seqOf t) (512 * (t.val % 8) + R) k := by
  have ht := N_lt t
  refine (extend_congr (fun i => blk4 m c t _) (fun i => blk_h m c t i k) R).trans ?_
  unfold E extend
  by_cases h : R < 15
  · rw [dif_pos h, dif_pos (show 512 * (t.val % 8) + R < 15 by omega)]
  · rw [dif_neg h, dif_neg (show ¬ 512 * (t.val % 8) + R < 15 by omega), dif_pos (show R - 15 < 512 by omega), dif_pos (show 512 * (t.val % 8) + R - 15 < 4096 by omega)]
    exact hat_congr m c k (by show 512 * t.val + (R - 15) = t.val / 8 * 4096 + (512 * (t.val % 8) + R - 15); omega)

/-- at a later one it is the sequence's fifteen rows before the block. -/
theorem ext_B (c : Dev nD) (t : Fin cfg0.N) (h0 : ¬t.val % 8 = 0) (hp : t.val - 1 < cfg0.N) (R : ℕ) (hR : R < 527) (k : Fin 2048) :
    bext (iblk m c 0 t) (iblk m c 1 t) (fun i k => View.ld (spread ((outs m c (t.val - 1) hp).2.2.1)) tailRect (ix2 i k)) R k
      = E m c (seqOf t) (512 * (t.val % 8) + R) k := by
  have ht := N_lt t
  refine (extend_congr (fun i => (congrFun (ld_spread _) (ix2 i k)).trans (tail_apply m c ⟨t.val - 1, hp⟩ i k)) (fun i => blk_h m c t i k) R).trans ?_
  unfold E extend
  by_cases h : R < 15
  · rw [dif_pos h, dif_neg (show ¬ 512 * (t.val % 8) + R < 15 by omega), dif_pos (show 512 * (t.val % 8) + R - 15 < 4096 by omega)]
    exact hat_congr m c k (by show 512 * (t.val - 1) + (497 + R) = t.val / 8 * 4096 + (512 * (t.val % 8) + R - 15); omega)
  · rw [dif_neg h, dif_neg (show ¬ 512 * (t.val % 8) + R < 15 by omega), dif_pos (show R - 15 < 512 by omega), dif_pos (show 512 * (t.val % 8) + R - 15 < 4096 by omega)]
    exact hat_congr m c k (by show 512 * t.val + (R - 15) = t.val / 8 * 4096 + (512 * (t.val % 8) + R - 15); omega)

/-! ## What a point leaves in the outputs' buffers -/

/-- The mixed rows of a block, once its rows after their history are the sequence's. -/
theorem block_eq (c : Dev nD) (t : Fin cfg0.N) (x0 : Vec Ideal S512x2048 .f32) (x1 : Vec Ideal S1x2048 .f32) (x2 : Vec Ideal S1x4x512x512 .bf16) (x3 : Vec Ideal S1x2048 .f32) (e0 : ∀ r k, x0 (ix2 r k) = X m c (rowOf t r) k)
    (e2 : ∀ g k j, x2 (ix4 0 g k j) = W m c g k j) (e3 : ∀ k, x3 (ix2 0 k) = PS m c k) (hist : Fin 15 → Fin 2048 → EReal)
    (hE : ∀ R, R < 527 → ∀ k, bext x0 x1 hist R k = E m c (seqOf t) (512 * (t.val % 8) + R) k) (H : Fin 2) (g : Fin 4) (r : Fin 256) (j : Fin 512) :
    x0 (ix2 (⟨256 * H.val + r.val, by omega⟩ : Fin 512) (⟨512 * g.val + j.val, by omega⟩ : Fin 2048))
        + mixed (fun i k => bext x0 x1 hist (256 * H.val + (16 + r.val - i) - 1) ⟨512 * g.val + k.val, by omega⟩) (win g - 1) (denAt g (512 * (t.val % 8) + 256 * H.val + r.val)) (fun k j => x2 (ix4 0 g k j)) j
          * x3 (ix2 0 (⟨512 * g.val + j.val, by omega⟩ : Fin 2048))
      = X m c (rowOf t ⟨256 * H.val + r.val, by omega⟩) ⟨512 * g.val + j.val, by omega⟩
        + mixed (fun i k => E m c (seqOf t) (512 * (t.val % 8) + (256 * H.val + (16 + r.val - i) - 1)) ⟨512 * g.val + k.val, by omega⟩) (win g - 1) (denAt g (512 * (t.val % 8) + 256 * H.val + r.val)) (W m c g) j
          * PS m c ⟨512 * g.val + j.val, by omega⟩ := by
  rw [e0, e3]
  refine congrArg (fun z : EReal => _ + z * _) (mixed_congr j (fun i hi k => hE _ (by omega) _) (fun k => e2 g k j))

theorem left5 (c : Dev nD) (hG : ∀ k, G m c k ≠ ⊤ ∧ G m c k ≠ ⊥) (t : Fin cfg0.N) (H : Fin 2) (g : Fin 4) (r : Fin 256) (j : Fin 512) :
    (outs m c t.val t.isLt).1 (ix2 (⟨256 * H.val + r.val, by omega⟩ : Fin 512) (⟨512 * g.val + j.val, by omega⟩ : Fin 2048))
      = X m c (rowOf t ⟨256 * H.val + r.val, by omega⟩) ⟨512 * g.val + j.val, by omega⟩
        + mixed (fun i k => E m c (seqOf t) (512 * (t.val % 8) + (256 * H.val + (16 + r.val - i) - 1)) ⟨512 * g.val + k.val, by omega⟩) (win g - 1) (denAt g (512 * (t.val % 8) + 256 * H.val + r.val)) (W m c g) j
          * PS m c ⟨512 * g.val + j.val, by omega⟩ := by
  have hf : ∀ i k, bh (iblk m c 0 t) (iblk m c 1 t) i k ≠ ⊤ ∧ bh (iblk m c 0 t) (iblk m c 1 t) i k ≠ ⊥ := fun i k => by
    rw [blk_h]; exact hat_fin m c hG _ k
  have hp : t.val - 1 < cfg0.N := Nat.lt_of_le_of_lt (Nat.sub_le _ _) t.isLt
  have hb := fun g r l => band_apply m c g r l _ ⟨t.val - 1, hp⟩ rfl
  by_cases hz : t.val = 0
  · rw [outs_Z m c t hz]
    unfold leftZ
    dsimp only
    exact (y_Z (t := ⟨t.val, N_lt t⟩) (hi := coords_val t) (hfin := hf) (H := H) (G := g) (r := r) (j := j) ..).trans (block_eq m c t _ _ _ _ (blk0 m c t) (blk2 m c t) (blk3 m c t) _ (fun R hR k => ext_A m c t (by rw [hz]) R hR k) H g r j)
  · by_cases h0 : t.val % 8 = 0
    · rw [outs_A m c t hz h0]
      unfold leftA
      dsimp only
      exact (y_A (hxb := hb) (t := ⟨t.val, N_lt t⟩) (hi := coords_val t) (hfin := hf) (H := H) (G := g) (r := r) (j := j) ..).trans (block_eq m c t _ _ _ _ (blk0 m c t) (blk2 m c t) (blk3 m c t) _ (fun R hR k => ext_A m c t h0 R hR k) H g r j)
    · rw [outs_B m c t h0]
      unfold leftB
      dsimp only
      exact (y_B (hxb := hb) (t := ⟨t.val, N_lt t⟩) (hi := coords_val t) (hfin := hf) (H := H) (G := g) (r := r) (j := j) ..).trans (block_eq m c t _ _ _ _ (blk0 m c t) (blk2 m c t) (blk3 m c t) _ (fun R hR k => ext_B m c t h0 hp R hR k) H g r j)

theorem left6 (c : Dev nD) (t : Fin cfg0.N) (i : Fin 15) (k : Fin 2048) :
    (outs m c t.val t.isLt).2.1 (ix3 0 i k) = E m c (seqOf t) (512 * (t.val % 8) + (512 + i.val)) k := by
  by_cases hz : t.val = 0
  · rw [outs_Z m c t hz]
    unfold leftZ
    dsimp only
    exact (state_Z ..).trans (ext_A m c t (by rw [hz]) _ (by omega) k)
  · by_cases h0 : t.val % 8 = 0
    · rw [outs_A m c t hz h0]
      unfold leftA
      dsimp only
      exact (state_A ..).trans (ext_A m c t h0 _ (by omega) k)
    · rw [outs_B m c t h0]
      unfold leftB
      dsimp only
      exact (state_B ..).trans (ext_B m c t h0 _ _ (by omega) k)

/-! ## The result arrays -/

theorem flushed5 (c : Dev nD) (t : Fin cfg0.N) :
    (dats m 0 c).flushed 5 t = (cfg0.win 5).cut (grid0.coords t) ((outs m c t.val t.isLt).1) := by
  show (cfg0.win 5).cut (grid0.coords t) ((dats m 0 c).after 5 t) = _
  rw [after5]

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext ((idx5 t).1.symm.trans ((congrFun h 0).trans (idx5 t').1)))

theorem blocks5 (c : Dev nD) (t : Fin cfg0.N) (hf : (cfg0.win 5).flush t = true) :
    ((cfg0.win 5).blk t).view.read (Elt Ideal) ((dats m 0 c).arrAt 5 cfg0.N) = (dats m 0 c).flushed 5 t :=
  (dats m 0 c).read_blk_arrAt_eq_flushed 5 disjoint5 cfg0.N t t.isLt hf

theorem flushed6 (c : Dev nD) (t : Fin cfg0.N) :
    (dats m 0 c).flushed 6 t = (cfg0.win 6).cut (grid0.coords t) ((outs m c t.val t.isLt).2.1) := by
  show (cfg0.win 6).cut (grid0.coords t) ((dats m 0 c).after 6 t) = _
  rw [after6]

theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (Fin.ext (by
    have e : t.val / 8 = t'.val / 8 := (idx6 t).1.symm.trans ((congrFun h 0).trans (idx6 t').1)
    have a := (flush0_6 t).mp hf
    have b := (flush0_6 t').mp hf'
    omega))

theorem blocks6 (c : Dev nD) (t : Fin cfg0.N) (hf : (cfg0.win 6).flush t = true) :
    ((cfg0.win 6).blk t).view.read (Elt Ideal) ((dats m 0 c).arrAt 6 cfg0.N) = (dats m 0 c).flushed 6 t :=
  (dats m 0 c).read_blk_arrAt_eq_flushed 6 disjoint6 cfg0.N t t.isLt hf

theorem rows_split (R : Fin 8192) : ∃ (t : Fin cfg0.N) (H : Fin 2) (r : Fin 256), R = rowOf t ⟨256 * H.val + r.val, by omega⟩ :=
  ⟨⟨R.val / 512, lt_of_lt_of_eq (show R.val / 512 < 16 by omega) N_0.symm⟩, ⟨R.val % 512 / 256, by omega⟩, ⟨R.val % 256, Nat.mod_lt _ (by decide)⟩,
    Fin.ext (by show R.val = 512 * (R.val / 512) + (256 * (R.val % 512 / 256) + R.val % 256); omega)⟩

theorem E_congr (c : Dev nD) {b b' : Fin 2} {R R' : ℕ} (k : Fin 2048) (hb : b.val = b'.val) (hR : R = R') : E m c b R k = E m c b' R' k := by
  rw [Fin.ext hb, hR]

theorem y_apply (c : Dev nD) (hG : ∀ k, G m c k ≠ ⊤ ∧ G m c k ≠ ⊥) (R : Fin 8192) (g : Fin 4) (j : Fin 512) :
    ((dats m 0 c).arrAt 5 cfg0.N : Vec Ideal S8192x2048 .f32) (ix2 R (⟨512 * g.val + j.val, by omega⟩ : Fin 2048))
      = X m c R ⟨512 * g.val + j.val, by omega⟩
        + mixed (fun i k => E m c ⟨R.val / 4096, by omega⟩ (15 + R.val % 4096 - i) ⟨512 * g.val + k.val, by omega⟩) (win g - 1) (denAt g (R.val % 4096)) (W m c g) j
          * PS m c ⟨512 * g.val + j.val, by omega⟩ := by
  obtain ⟨t, H, r, rfl⟩ := rows_split R
  have ht := N_lt t
  have hw := win_le g
  have e := congrFun ((blocks5 m c t (flush0_5 t)).trans (flushed5 m c t)) (ix2 (⟨256 * H.val + r.val, by omega⟩ : Fin 512) (⟨512 * g.val + j.val, by omega⟩ : Fin 2048))
  rw [View.read_apply] at e
  have hi := idx5 t
  have hx : (((cfg0.win 5).blk t).view.emb (ix2 (⟨256 * H.val + r.val, by omega⟩ : Fin 512) (⟨512 * g.val + j.val, by omega⟩ : Fin 2048)) : S8192x2048.Idx) = ix2 (rowOf t ⟨256 * H.val + r.val, by omega⟩) ⟨512 * g.val + j.val, by omega⟩ := by
    funext a
    apply Fin.ext
    match a with
    | ⟨0, _⟩ => show win0_5.index t 0 * 512 + 1 * (256 * H.val + r.val) = 512 * t.val + (256 * H.val + r.val); rw [hi.1]; omega
    | ⟨1, _⟩ => show win0_5.index t 1 * 2048 + 1 * (512 * g.val + j.val) = 512 * g.val + j.val; rw [hi.2]; omega
  have hd : 512 * (t.val % 8) + 256 * H.val + r.val = (512 * t.val + (256 * H.val + r.val)) % 4096 := by omega
  rw [← hx]
  refine e.trans ((left5 m c hG t H g r j).trans ?_)
  rw [hd]
  refine congrArg (fun z : EReal => _ + z * _) (mixed_congr j (fun i hi k => E_congr m c _ ?_ ?_) (fun _ => rfl))
  · show t.val / 8 = (512 * t.val + (256 * H.val + r.val)) / 4096; omega
  · show 512 * (t.val % 8) + (256 * H.val + (16 + r.val - i) - 1) = 15 + (512 * t.val + (256 * H.val + r.val)) % 4096 - i; omega

theorem state_apply (c : Dev nD) (b : Fin 2) (i : Fin 15) (k : Fin 2048) :
    ((dats m 0 c).arrAt 6 cfg0.N : Vec Ideal S2x15x2048 .f32) (ix3 b i k) = E m c b (4096 + i.val) k := by
  obtain ⟨t, ht⟩ : ∃ t : Fin cfg0.N, t.val = 8 * b.val + 7 := ⟨⟨8 * b.val + 7, lt_of_lt_of_eq (by omega) N_0.symm⟩, rfl⟩
  have e := congrFun ((blocks6 m c t ((flush0_6 t).mpr (by omega))).trans (flushed6 m c t)) (ix3 0 i k)
  rw [View.read_apply] at e
  have hi := idx6 t
  have hx : (((cfg0.win 6).blk t).view.emb (ix3 0 i k) : S2x15x2048.Idx) = ix3 b i k := by
    funext a
    apply Fin.ext
    match a with
    | ⟨0, _⟩ => show win0_6.index t 0 * 1 + 1 * 0 = b.val; rw [hi.1]; omega
    | ⟨1, _⟩ => show win0_6.index t 1 * 15 + 1 * i.val = i.val; rw [hi.2.1]; omega
    | ⟨2, _⟩ => show win0_6.index t 2 * 2048 + 1 * k.val = k.val; rw [hi.2.2]; omega
  rw [← hx]
  refine e.trans ((left6 m c t i k).trans (E_congr m c k ?_ ?_))
  · show t.val / 8 = b.val; omega
  · omega

theorem run_blocks : θ_run defs (onTc (τ := τ) (main (F := Ideal))) ⟨m, fun _ => 0, ρ⟩ fun r => ∀ c : Dev nD,
      r.2.mem ((c : Thread nD τ).loc main_v7_0) = (dats m 0 c).arrAt 5 cfg0.N
      ∧ r.2.mem ((c : Thread nD τ).loc main_v7_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 5, (h c).1 6,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (runs m ρ)

end Cert.PoolIdeal.Hand

end
-- ==== Proof.PoolRefVal.lean ====
module

public import proofs.«01_k».proof.Proof.Gen.PoolRefIdeal.Read
public import proofs.«01_k».proof.Proof.Rows
public import Idealize.ShloMosaic.Lib.Pointwise
public import Idealize.ShloMosaic.Lib.Tactic

@[expose] public section

noncomputable section

namespace Cert.PoolRefIdeal.Hand

open Cert.PoolRefIdeal Cert.PoolRefIdeal.Read Cert.Layer Idealize.ShloMosaic Idealize.ShloMosaic.TcCoe Idealize.SL.Sem

variable (x0 : FVec Ideal S8192x2048 .f32) (x1 : FVec Ideal S2x2048 .f32) (x2 : FVec Ideal S1x4x512x512 .f32) (x3 : FVec Ideal S1x2048 .f32)

abbrev rowLen : EReal := Ideal.ofBits .f32 1157627904#32
abbrev eps : EReal := Ideal.ofBits .f32 897988541#32

/-- Row `R` of the zeros and the tokens of sequence `b`. -/
abbrev ext (b : Fin 2) (R : ℕ) (h : R < 4111) (k : Fin 2048) : EReal := val_main_v20 (F := Ideal) x0 x1 (ix3 b (⟨R, h⟩ : Fin 4111) k)

set_option maxRecDepth 16384 in
/-- A token of a sequence, normed. -/
theorem norm_apply (b : Fin 2) (t : Fin 4096) (k : Fin 2048) : val_main_v16 (F := Ideal) x0 x1 (ix3 b t k)
    = rms rowLen eps (fun k => x0 (ix2 (⟨b.val * 4096 + t.val, by omega⟩ : Fin 8192) k)) (fun k => x1 (ix2 (1 : Fin 2) k)) k := by
  have e : ∀ b : Fin 2, ∀ k, val_main_v0 (F := Ideal) x0 (ix3 b t k) = x0 (ix2 (⟨b.val * 4096 + t.val, by omega⟩ : Fin 8192) k) := fun b k => by
    pointwise [val_main_v0]
  pointwise [val_main_v16, val_main_v15, val_main_v14, val_main_v13, val_main_v12, val_main_v11, val_main_v10, val_main_v9, val_main_cst_1, val_main_v8, val_main_v7, val_main_cst_0, val_main_v6, val_main_v5, val_main_cst, val_main_v4, val_main_v3, val_main_v2, val_main_v1]
  simp only [e]
  rfl

/-- The zeros before a sequence and its tokens. -/
theorem ext_apply (b : Fin 2) (s : Fin 4111) (k : Fin 2048) : val_main_v20 (F := Ideal) x0 x1 (ix3 b s k)
    = extend (fun _ : Fin 15 => (0 : EReal)) (fun i : Fin 4096 => val_main_v16 (F := Ideal) x0 x1 (ix3 b i k)) s.val := by
  have hs := s.isLt
  unfold extend
  pointwise [val_main_v20, val_main_v17, val_main_cst_2]
  by_cases h : s.val < 15
  · refine (dif_pos h).trans ((dif_pos h).trans ?_).symm
    rfl
  · refine (dif_neg h).trans ((dif_neg h).trans ((dif_pos (show s.val - 15 < 4096 by omega)).trans ?_)).symm
    rfl

theorem cur_apply (b : Fin 2) (t : Fin 4096) (k : Fin 2048) : val_main_v16 (F := Ideal) x0 x1 (ix3 b t k)
    = val_main_v20 (F := Ideal) x0 x1 (ix3 b (⟨15 + t.val - 0, by omega⟩ : Fin 4111) k) := by
  rw [ext_apply]
  unfold extend
  rw [dif_neg (by dsimp only; omega), dif_pos (by dsimp only; omega)]
  exact congrArg (fun s : Fin 4096 => val_main_v16 (F := Ideal) x0 x1 (ix3 b s k)) (Fin.ext (by show t.val = 15 + t.val - 0 - 15; omega))

theorem group0 (b : Fin 2) (t : Fin 4096) (j : Fin 512) : val_main_v36 (F := Ideal) x0 x1 x2 (ix3 b t j)
    = mixed (fun i k => ext x0 x1 b (15 + t.val - i) (by omega) ⟨512 * 0 + k.val, by omega⟩) 1 (denAt 0 t.val) (fun k j => x2 (ix4 (0 : Fin 1) (0 : Fin 4) k j)) j := by
  pointwise [val_main_v36, val_main_v35, val_main_v34, val_main_v33, val_main_v32, val_main_v31, val_main_v30, val_main_v29, val_main_v28, val_main_v27, val_main_v26, val_main_c_3, val_main_v25, val_main_v24, val_main_c, val_main_v23, val_main_v22, val_main_v21, val_main_v18, val_main_v1]
  unfold mixed
  refine Finset.sum_congr rfl fun k _ => ?_
  refine congrArg₂ (· * ·) (congrArg₂ (· - ·) (congrArg (Ideal.div · _) ?_) ?_) rfl
  · simp only [trail]
    repeat' refine congrArg₂ (· + ·) ?_ ?_
    all_goals
      refine congrArg₂ (fun q n => val_main_v20 (F := Ideal) x0 x1 (ix3 b q n)) (Fin.ext ?_) (Fin.ext ?_)
      all_goals first | rfl | (dsimp only; omega)
  · refine (cur_apply x0 x1 b t _).trans ?_
    refine congrArg₂ (fun q n => val_main_v20 (F := Ideal) x0 x1 (ix3 b q n)) (Fin.ext ?_) (Fin.ext ?_)
    all_goals first | rfl | (dsimp only; omega)

theorem group1 (b : Fin 2) (t : Fin 4096) (j : Fin 512) : val_main_v56 (F := Ideal) x0 x1 x2 (ix3 b t j)
    = mixed (fun i k => ext x0 x1 b (15 + t.val - i) (by omega) ⟨512 * 1 + k.val, by omega⟩) 3 (denAt 1 t.val) (fun k j => x2 (ix4 (0 : Fin 1) (1 : Fin 4) k j)) j := by
  pointwise [val_main_v56, val_main_v55, val_main_v54, val_main_v53, val_main_v52, val_main_v51, val_main_v50, val_main_v49, val_main_v48, val_main_v47, val_main_v46, val_main_c_5, val_main_v45, val_main_v44, val_main_c_4, val_main_v43, val_main_v42, val_main_v41, val_main_v40, val_main_v39, val_main_v38, val_main_v37, val_main_v18, val_main_v1]
  unfold mixed
  refine Finset.sum_congr rfl fun k _ => ?_
  refine congrArg₂ (· * ·) (congrArg₂ (· - ·) (congrArg (Ideal.div · _) ?_) ?_) rfl
  · simp only [trail]
    repeat' refine congrArg₂ (· + ·) ?_ ?_
    all_goals
      refine congrArg₂ (fun q n => val_main_v20 (F := Ideal) x0 x1 (ix3 b q n)) (Fin.ext ?_) (Fin.ext ?_)
      all_goals first | rfl | (dsimp only; omega)
  · refine (cur_apply x0 x1 b t _).trans ?_
    refine congrArg₂ (fun q n => val_main_v20 (F := Ideal) x0 x1 (ix3 b q n)) (Fin.ext ?_) (Fin.ext ?_)
    all_goals first | rfl | (dsimp only; omega)

theorem group2 (b : Fin 2) (t : Fin 4096) (j : Fin 512) : val_main_v84 (F := Ideal) x0 x1 x2 (ix3 b t j)
    = mixed (fun i k => ext x0 x1 b (15 + t.val - i) (by omega) ⟨512 * 2 + k.val, by omega⟩) 7 (denAt 2 t.val) (fun k j => x2 (ix4 (0 : Fin 1) (2 : Fin 4) k j)) j := by
  pointwise [val_main_v84, val_main_v83, val_main_v82, val_main_v81, val_main_v80, val_main_v79, val_main_v78, val_main_v77, val_main_v76, val_main_v75, val_main_v74, val_main_c_7, val_main_v73, val_main_v72, val_main_c_6, val_main_v71, val_main_v70, val_main_v69, val_main_v68, val_main_v67, val_main_v66, val_main_v65, val_main_v64, val_main_v63, val_main_v62, val_main_v61, val_main_v60, val_main_v59, val_main_v58, val_main_v57, val_main_v18, val_main_v1]
  unfold mixed
  refine Finset.sum_congr rfl fun k _ => ?_
  refine congrArg₂ (· * ·) (congrArg₂ (· - ·) (congrArg (Ideal.div · _) ?_) ?_) rfl
  · simp only [trail]
    repeat' refine congrArg₂ (· + ·) ?_ ?_
    all_goals
      refine congrArg₂ (fun q n => val_main_v20 (F := Ideal) x0 x1 (ix3 b q n)) (Fin.ext ?_) (Fin.ext ?_)
      all_goals first | rfl | (dsimp only; omega)
  · refine (cur_apply x0 x1 b t _).trans ?_
    refine congrArg₂ (fun q n => val_main_v20 (F := Ideal) x0 x1 (ix3 b q n)) (Fin.ext ?_) (Fin.ext ?_)
    all_goals first | rfl | (dsimp only; omega)

theorem group3 (b : Fin 2) (t : Fin 4096) (j : Fin 512) : val_main_v128 (F := Ideal) x0 x1 x2 (ix3 b t j)
    = mixed (fun i k => ext x0 x1 b (15 + t.val - i) (by omega) ⟨512 * 3 + k.val, by omega⟩) 15 (denAt 3 t.val) (fun k j => x2 (ix4 (0 : Fin 1) (3 : Fin 4) k j)) j := by
  pointwise [val_main_v128, val_main_v127, val_main_v126, val_main_v125, val_main_v124, val_main_v123, val_main_v122, val_main_v121, val_main_v120, val_main_v119, val_main_v118, val_main_c_9, val_main_v117, val_main_v116, val_main_c_8, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v18, val_main_v1]
  unfold mixed
  refine Finset.sum_congr rfl fun k _ => ?_
  refine congrArg₂ (· * ·) (congrArg₂ (· - ·) (congrArg (Ideal.div · _) ?_) ?_) rfl
  · simp only [trail]
    repeat' refine congrArg₂ (· + ·) ?_ ?_
    all_goals
      refine congrArg₂ (fun q n => val_main_v20 (F := Ideal) x0 x1 (ix3 b q n)) (Fin.ext ?_) (Fin.ext ?_)
      all_goals first | rfl | (dsimp only; omega)
  · refine (cur_apply x0 x1 b t _).trans ?_
    refine congrArg₂ (fun q n => val_main_v20 (F := Ideal) x0 x1 (ix3 b q n)) (Fin.ext ?_) (Fin.ext ?_)
    all_goals first | rfl | (dsimp only; omega)

/-- The groups side by side. -/
theorem groups_apply (g : Fin 4) (b : Fin 2) (t : Fin 4096) (j : Fin 512) : val_main_v129 (F := Ideal) x0 x1 x2 (ix3 b t (⟨512 * g.val + j.val, by omega⟩ : Fin 2048))
    = mixed (fun i k => ext x0 x1 b (15 + t.val - i) (by omega) ⟨512 * g.val + k.val, by omega⟩) (win g - 1) (denAt g t.val) (fun k j => x2 (ix4 (0 : Fin 1) g k j)) j := by
  have hj := j.isLt
  match g with
  | ⟨0, _⟩ =>
    refine Eq.trans ?_ (group0 x0 x1 x2 b t j)
    pointwise [val_main_v129]
  | ⟨1, _⟩ =>
    refine Eq.trans ?_ (group1 x0 x1 x2 b t j)
    pointwise [val_main_v129]
  | ⟨2, _⟩ =>
    refine Eq.trans ?_ (group2 x0 x1 x2 b t j)
    pointwise [val_main_v129]
    rw [dif_neg (by omega), dif_neg (by omega), dif_pos (by omega)]
    exact congrArg (fun q => val_main_v84 (F := Ideal) x0 x1 x2 (ix3 b t q)) (Fin.ext (by dsimp only; omega))
  | ⟨3, _⟩ =>
    refine Eq.trans ?_ (group3 x0 x1 x2 b t j)
    pointwise [val_main_v129]
    rw [dif_neg (by omega), dif_neg (by omega), dif_neg (by omega)]
    exact congrArg (fun q => val_main_v128 (F := Ideal) x0 x1 x2 (ix3 b t q)) (Fin.ext (by dsimp only; omega))

set_option maxRecDepth 16384 in
theorem y_apply (R : Fin 8192) (n : Fin 2048) : val_main_v135 (F := Ideal) x0 x1 x2 x3 (ix2 R n)
    = x0 (ix2 R n) + val_main_v129 (F := Ideal) x0 x1 x2 (ix3 (⟨R.val / 4096, by omega⟩ : Fin 2) (⟨R.val % 4096, Nat.mod_lt _ (by decide)⟩ : Fin 4096) n) * x3 (ix2 (0 : Fin 1) n) := by
  have hR := R.isLt
  pointwise [val_main_v135, val_main_v134, val_main_v132, val_main_v131, val_main_v130, val_main_v19, val_main_v0]

set_option maxRecDepth 16384 in
theorem state_apply (b : Fin 2) (i : Fin 15) (k : Fin 2048) : val_main_v133 (F := Ideal) x0 x1 (ix3 b i k) = ext x0 x1 b (4096 + i.val) (by omega) k := by
  pointwise [val_main_v133]

end Cert.PoolRefIdeal.Hand

end
-- ==== Proof.PoolClaim.lean ====
module

public import proofs.«01_k».proof.Defs
public import proofs.«01_k».proof.Proof.PoolVal
public import proofs.«01_k».proof.Proof.PoolRefVal
public import proofs.«01_k».proof.Proof.Gen.PoolRefIdeal.Run
public import proofs.«01_k».proof.Proof.Gen.PoolRefIdeal.Read
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem norm_finite_facts : Cert.Pre_norm_finite.Facts where
  slices_S2x2048_S1x2048_1_0 := by decide
  shapeCasts_S1x2048_S2048 := by decide
  bcast_S_S2048 := by decide

theorem quiescent_PoolRefIdeal : quiescent_PoolRefIdeal := fun m ρ _ =>
  (θ_run Cert.PoolRefIdeal.defs _ _).mono (fun r h => ⟨fun c => (h c).2.2, sem_eq_zero_of_no_sems (by decide) r.2⟩)
    (Cert.PoolRefIdeal.Value.run (F := Ideal) m ρ)

theorem inf_eq : Ideal.ofBits .f32 0x7F800000#32 = ⊤ := by
  simp [Ideal.ofBits, Ideal.ieee]

set_option maxRecDepth 16384 in
/-- Where the precondition holds, the norm's scales are finite. -/
theorem norm_finite_apply [Cert.Pre_norm_finite.Facts] (x0 : FVec Ideal Cert.Pre_norm_finite.S8192x2048 .f32) (x1 : FVec Ideal Cert.Pre_norm_finite.S2x2048 .f32) (x2 : FVec Ideal Cert.Pre_norm_finite.S1x4x512x512 .f32) (x3 : FVec Ideal Cert.Pre_norm_finite.S1x2048 .f32) (k : Fin 2048)
    (h : Cert.Pre_norm_finite.fn (F := Ideal) x0 x1 x2 x3 (ix1 k) = 1#1) : x1 (ix2 (1 : Fin 2) k) ≠ ⊤ ∧ x1 (ix2 (1 : Fin 2) k) ≠ ⊥ := by
  have e : Cert.Pre_norm_finite.fn (F := Ideal) x0 x1 x2 x3 (ix1 k) = FloatOps.cmpf (F := Ideal) (φ := .f32) .olt (max (x1 (ix2 (1 : Fin 2) k)) (-x1 (ix2 (1 : Fin 2) k)) : EReal) (Ideal.ofBits .f32 0x7F800000#32) := by
    pointwise [Cert.Pre_norm_finite.fn]
    rfl
  rw [e, inf_eq] at h
  generalize x1 (ix2 (1 : Fin 2) k) = g at h
  refine ⟨fun hg => ?_, fun hg => ?_⟩
  all_goals
    subst hg
    revert h
    simp [FloatOps.cmpf, Ideal.cmp]

/-- The reference's zeros and tokens are the kernel's. -/
theorem ext_Pool (m : (ℓ : Loc Cert.PoolIdeal.nD Cert.PoolIdeal.τ Cert.PoolIdeal.sig) → Buf (Elt Ideal) ℓ) (c : Dev Cert.PoolIdeal.nD) (b : Fin 2) (R : ℕ) (h : R < 4111) (k : Fin 2048) :
    Cert.PoolRefIdeal.Hand.ext (m ((c : Thread Cert.PoolIdeal.nD Cert.PoolIdeal.τ).loc Cert.PoolIdeal.main_arg0)) (m ((c : Thread Cert.PoolIdeal.nD Cert.PoolIdeal.τ).loc Cert.PoolIdeal.main_arg1)) b R h k = Cert.PoolIdeal.Hand.E m c b R k :=
  (Cert.PoolRefIdeal.Hand.ext_apply _ _ b ⟨R, h⟩ k).trans (Cert.Layer.extend_congr (fun _ => rfl) (fun i => Cert.PoolRefIdeal.Hand.norm_apply _ _ b i k) R)

/-- The prompts' pooling mix, and the state it leaves, are the reference's once the arguments agree and the norm's scales are finite. -/
theorem algebraic_PoolIdeal_PoolRefIdeal_pre_norm_finite : algebraic_PoolIdeal_PoolRefIdeal_pre_norm_finite (hPre_norm_finite := norm_finite_facts) := by
  letI := norm_finite_facts
  intro m ρ m' ρ' hpre hagree
  refine ⟨_, _, Cert.PoolIdeal.Hand.run_blocks m ρ, ?_⟩
  refine (θ_run Cert.PoolRefIdeal.defs _ _).mono (fun _ h c => ⟨?_, ?_, (h c).2.2⟩) (Cert.PoolRefIdeal.Value.run (F := Ideal) m' ρ')
  · rw [(h c).1]
    have hG : ∀ k, Cert.PoolIdeal.Hand.G m c k ≠ ⊤ ∧ Cert.PoolIdeal.Hand.G m c k ≠ ⊥ := fun k => norm_finite_apply _ _ _ _ k (congrFun (hpre c) (ix1 k))
    obtain ⟨e0, e1, e2, e3⟩ := hagree c
    rw [Cert.PoolRefIdeal.Read.val_main_v135_eq]
    funext i
    obtain ⟨R, n, rfl⟩ : ∃ (R : Fin 8192) (n : Fin 2048), i = ix2 R n := ⟨i 0, i 1, eq_ix2 i⟩
    obtain ⟨g, j, rfl⟩ : ∃ (g : Fin 4) (j : Fin 512), n = ⟨512 * g.val + j.val, by omega⟩ :=
      ⟨⟨n.val / 512, by omega⟩, ⟨n.val % 512, Nat.mod_lt _ (by decide)⟩, Fin.ext (by show n.val = 512 * (n.val / 512) + n.val % 512; omega)⟩
    refine (Cert.PoolRefIdeal.Hand.y_apply _ _ _ _ R _).trans ?_
    refine Eq.trans ?_ (Cert.PoolIdeal.Hand.y_apply m c hG R g j).symm
    rw [e0, e1, e2, e3]
    refine congrArg (fun z : EReal => _ + z * _) ((Cert.PoolRefIdeal.Hand.groups_apply _ _ _ g _ _ j).trans ?_)
    exact Cert.Layer.mixed_congr j (fun i hi k => ext_Pool m c _ _ _ _) (fun _ => rfl)
  · rw [(h c).2.1]
    obtain ⟨e0, e1, e2, e3⟩ := hagree c
    rw [Cert.PoolRefIdeal.Read.val_main_v133_eq]
    funext i
    obtain ⟨b, s, k, rfl⟩ : ∃ (b : Fin 2) (s : Fin 15) (k : Fin 2048), i = ix3 b s k := ⟨i 0, i 1, i 2, eq_ix3 i⟩
    refine (Cert.PoolRefIdeal.Hand.state_apply _ _ b s k).trans ?_
    refine Eq.trans ?_ (Cert.PoolIdeal.Hand.state_apply m c b s k).symm
    rw [e0, e1]
    exact ext_Pool m c b _ _ k

end Cert.Proof

end
-- ==== Proof.lean ====
module

public import proofs.«01_k».proof.Defs
public import proofs.«01_k».proof.Proof.FfnClaim
public import proofs.«01_k».proof.Proof.Gen.Ffn.Frame
public import proofs.«01_k».proof.Proof.FfnMidClaim
public import proofs.«01_k».proof.Proof.Gen.FfnMid.Frame
public import proofs.«01_k».proof.Proof.FfnSClaim
public import proofs.«01_k».proof.Proof.Gen.FfnS.Frame
public import proofs.«01_k».proof.Proof.FfnMidSClaim
public import proofs.«01_k».proof.Proof.Gen.FfnMidS.Frame
public import proofs.«01_k».proof.Proof.OutprojClaim
public import proofs.«01_k».proof.Proof.Gen.Outproj.Frame
public import proofs.«01_k».proof.Proof.OutprojSClaim
public import proofs.«01_k».proof.Proof.Gen.OutprojS.Frame
public import proofs.«01_k».proof.Proof.QkvClaim
public import proofs.«01_k».proof.Proof.Gen.Qkv.Frame
public import proofs.«01_k».proof.Proof.QkvSClaim
public import proofs.«01_k».proof.Proof.Gen.QkvS.Frame
public import proofs.«01_k».proof.Proof.GconvSClaim
public import proofs.«01_k».proof.Proof.Gen.GconvS.Frame
public import proofs.«01_k».proof.Proof.PoolSClaim
public import proofs.«01_k».proof.Proof.Gen.PoolS.Frame
public import proofs.«01_k».proof.Proof.GconvClaim
public import proofs.«01_k».proof.Proof.GconvFrame
public import proofs.«01_k».proof.Proof.PoolClaim
public import proofs.«01_k».proof.Proof.PoolFrame

@[expose] public section

noncomputable section

namespace Cert.Proof

open Idealize.ShloMosaic Idealize.SL.Sem

/-- The claims of every program, in the order they are stated. -/
theorem claim : Cert.Claim := ⟨Cert.Ffn.Gen.facts, Cert.FfnIdeal.Gen.facts, Cert.FfnRefIdeal.Gen.facts, Cert.FfnMid.Gen.facts, Cert.FfnMidIdeal.Gen.facts, Cert.FfnMidRefIdeal.Gen.facts, Cert.FfnS.Gen.facts, Cert.FfnSIdeal.Gen.facts, Cert.FfnSRefIdeal.Gen.facts, Cert.FfnMidS.Gen.facts, Cert.FfnMidSIdeal.Gen.facts, Cert.FfnMidSRefIdeal.Gen.facts, Cert.Outproj.Gen.facts, Cert.OutprojIdeal.Gen.facts, Cert.OutprojRefIdeal.Gen.facts, Cert.OutprojS.Gen.facts, Cert.OutprojSIdeal.Gen.facts, Cert.OutprojSRefIdeal.Gen.facts, Cert.Qkv.Gen.facts, Cert.QkvIdeal.Gen.facts, Cert.QkvRefIdeal.Gen.facts, Cert.QkvS.Gen.facts, Cert.QkvSIdeal.Gen.facts, Cert.QkvSRefIdeal.Gen.facts, Cert.GconvS.Gen.facts, Cert.GconvSIdeal.Gen.facts, Cert.GconvSRefIdeal.Gen.facts, Cert.PoolS.Gen.facts, Cert.PoolSIdeal.Gen.facts, Cert.PoolSRefIdeal.Gen.facts, Cert.Gconv.Gen.facts, Cert.GconvIdeal.Gen.facts, Cert.GconvRefIdeal.Gen.facts, Cert.Pool.Gen.facts, Cert.PoolIdeal.Gen.facts, Cert.PoolRefIdeal.Gen.facts, norm_finite_facts,
  fun m ρ _ => Cert.Ffn.Gen.frame m ρ, fun m ρ _ => Cert.FfnIdeal.Gen.frame m ρ, quiescent_FfnRefIdeal,
  fun m ρ _ => Cert.FfnMid.Gen.frame m ρ, fun m ρ _ => Cert.FfnMidIdeal.Gen.frame m ρ, quiescent_FfnMidRefIdeal,
  fun m ρ _ => Cert.FfnS.Gen.frame m ρ, fun m ρ _ => Cert.FfnSIdeal.Gen.frame m ρ, quiescent_FfnSRefIdeal,
  fun m ρ _ => Cert.FfnMidS.Gen.frame m ρ, fun m ρ _ => Cert.FfnMidSIdeal.Gen.frame m ρ, quiescent_FfnMidSRefIdeal,
  fun m ρ _ => Cert.Outproj.Gen.frame m ρ, fun m ρ _ => Cert.OutprojIdeal.Gen.frame m ρ, quiescent_OutprojRefIdeal,
  fun m ρ _ => Cert.OutprojS.Gen.frame m ρ, fun m ρ _ => Cert.OutprojSIdeal.Gen.frame m ρ, quiescent_OutprojSRefIdeal,
  fun m ρ _ => Cert.Qkv.Gen.frame m ρ, fun m ρ _ => Cert.QkvIdeal.Gen.frame m ρ, quiescent_QkvRefIdeal,
  fun m ρ _ => Cert.QkvS.Gen.frame m ρ, fun m ρ _ => Cert.QkvSIdeal.Gen.frame m ρ, quiescent_QkvSRefIdeal,
  fun m ρ _ => Cert.GconvS.Gen.frame m ρ, fun m ρ _ => Cert.GconvSIdeal.Gen.frame m ρ, quiescent_GconvSRefIdeal,
  fun m ρ _ => Cert.PoolS.Gen.frame m ρ, fun m ρ _ => Cert.PoolSIdeal.Gen.frame m ρ, quiescent_PoolSRefIdeal,
  fun m ρ _ => Cert.Gconv.Carry.frame m ρ, fun m ρ _ => Cert.GconvIdeal.Carry.frame m ρ, quiescent_GconvRefIdeal,
  fun m ρ _ => Cert.Pool.Carry.frame m ρ, fun m ρ _ => Cert.PoolIdeal.Carry.frame m ρ, fun m ρ _ => Cert.PoolIdeal.Carry.frame m ρ, quiescent_PoolRefIdeal, fun m ρ _ => quiescent_PoolRefIdeal m ρ trivial,
  (trivial : preserves_Ffn_FfnIdeal), algebraic_FfnIdeal_FfnRefIdeal,
  (trivial : preserves_FfnMid_FfnMidIdeal), algebraic_FfnMidIdeal_FfnMidRefIdeal,
  (trivial : preserves_FfnS_FfnSIdeal), algebraic_FfnSIdeal_FfnSRefIdeal,
  (trivial : preserves_FfnMidS_FfnMidSIdeal), algebraic_FfnMidSIdeal_FfnMidSRefIdeal,
  (trivial : preserves_Outproj_OutprojIdeal), algebraic_OutprojIdeal_OutprojRefIdeal,
  (trivial : preserves_OutprojS_OutprojSIdeal), algebraic_OutprojSIdeal_OutprojSRefIdeal,
  (trivial : preserves_Qkv_QkvIdeal), algebraic_QkvIdeal_QkvRefIdeal,
  (trivial : preserves_QkvS_QkvSIdeal), algebraic_QkvSIdeal_QkvSRefIdeal,
  (trivial : preserves_GconvS_GconvSIdeal), algebraic_GconvSIdeal_GconvSRefIdeal,
  (trivial : preserves_PoolS_PoolSIdeal), algebraic_PoolSIdeal_PoolSRefIdeal,
  (trivial : preserves_Gconv_GconvIdeal), algebraic_GconvIdeal_GconvRefIdeal,
  (trivial : preserves_Pool_PoolIdeal), algebraic_PoolIdeal_PoolRefIdeal_pre_norm_finite⟩

end Cert.Proof

end
